-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_pool_finite [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1)) (m ((c.tc : Thread Cert.PoolKernelIdeal.nD Cert.PoolKernelIdeal.τ).loc Cert.PoolKernelIdeal.main_arg2)) (m ((c.tc : Thread Cert.PoolKernelIdeal.nD Cert.PoolKernelIdeal.τ).loc Cert.PoolKernelIdeal.main_arg3)) (m ((c.tc : Thread Cert.PoolKernelIdeal.nD Cert.PoolKernelIdeal.τ).loc Cert.PoolKernelIdeal.main_arg4))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_pool_finite [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2)) (m ((c.tc : Thread Cert.PoolReferenceIdeal.nD Cert.PoolReferenceIdeal.τ).loc Cert.PoolReferenceIdeal.main_arg3)) (m ((c.tc : Thread Cert.PoolReferenceIdeal.nD Cert.PoolReferenceIdeal.τ).loc Cert.PoolReferenceIdeal.main_arg4))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_merge_finite [hPre_merge_finite : Cert.Pre_merge_finite.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9)) (m ((c.tc : Thread Cert.MergeKernelIdeal.nD Cert.MergeKernelIdeal.τ).loc Cert.MergeKernelIdeal.main_arg10))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10))) = (fun _ => 1#1)

def Pre_GlaKernel (m : (ℓ : Loc Cert.GlaKernel.nD Cert.GlaKernel.τ Cert.GlaKernel.sig) → Buf (Elt Bits) ℓ) : Prop :=
  True

def Pre_GlaKernelIdeal (m : (ℓ : Loc Cert.GlaKernelIdeal.nD Cert.GlaKernelIdeal.τ Cert.GlaKernelIdeal.sig) → Buf (Elt Ideal) ℓ) : Prop :=
  True

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_PoolFwdKernel (m : (ℓ : Loc Cert.PoolFwdKernel.nD Cert.PoolFwdKernel.τ Cert.PoolFwdKernel.sig) → Buf (Elt Bits) ℓ) : Prop :=
  True

def Pre_PoolFwdKernelIdeal (m : (ℓ : Loc Cert.PoolFwdKernelIdeal.nD Cert.PoolFwdKernelIdeal.τ Cert.PoolFwdKernelIdeal.sig) → Buf (Elt Ideal) ℓ) : Prop :=
  True

def Pre_PoolFwdKernelIdeal_projection_finite [hPre_projection_finite : Cert.Pre_projection_finite.Facts] (m : (ℓ : Loc Cert.PoolFwdKernelIdeal.nD Cert.PoolFwdKernelIdeal.τ Cert.PoolFwdKernelIdeal.sig) → Buf (Elt Ideal) ℓ) : Prop :=
  ∀ c : Dev Cert.PoolFwdKernelIdeal.nD,
    (Cert.Pre_projection_finite.fn (F := Ideal) (m ((c.tc : Thread Cert.PoolFwdKernelIdeal.nD Cert.PoolFwdKernelIdeal.τ).loc Cert.PoolFwdKernelIdeal.main_arg0)) (m ((c.tc : Thread Cert.PoolFwdKernelIdeal.nD Cert.PoolFwdKernelIdeal.τ).loc Cert.PoolFwdKernelIdeal.main_arg1)) (m ((c.tc : Thread Cert.PoolFwdKernelIdeal.nD Cert.PoolFwdKernelIdeal.τ).loc Cert.PoolFwdKernelIdeal.main_arg2))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_projection_finite [hPre_projection_finite : Cert.Pre_projection_finite.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_projection_finite.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_gates_finite [hPre_gates_finite : Cert.Pre_gates_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_gates_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_gates_finite [hPre_gates_finite : Cert.Pre_gates_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_gates_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InBwdKernel (m : (ℓ : Loc Cert.InBwdKernel.nD Cert.InBwdKernel.τ Cert.InBwdKernel.sig) → Buf (Elt Bits) ℓ) : Prop :=
  True

def Pre_InBwdKernelIdeal (m : (ℓ : Loc Cert.InBwdKernelIdeal.nD Cert.InBwdKernelIdeal.τ Cert.InBwdKernelIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3)
      ∧ r.2.mem ((c.tc : Thread Cert.PoolKernel.nD Cert.PoolKernel.τ).loc Cert.PoolKernel.main_arg4) = m ((c.tc : Thread Cert.PoolKernel.nD Cert.PoolKernel.τ).loc Cert.PoolKernel.main_arg4))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolKernelIdeal_pre_pool_finite [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_pool_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
      ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_PoolReferenceIdeal_pre_pool_finite [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_pool_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ r.2.sem = fun _ => 0)

def quiescent_MergeKernelIdeal_pre_merge_finite [hMergeKernelIdeal : Cert.MergeKernelIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_merge_finite m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_GlaKernel [hGlaKernel : Cert.GlaKernel.Facts] : Prop :=
  ∀ (m : (ℓ : Loc Cert.GlaKernel.nD Cert.GlaKernel.τ Cert.GlaKernel.sig) → Buf (Elt Bits) ℓ) (g : Dev Cert.GlaKernel.nD → PrngReg), Pre_GlaKernel m →
    θ_run (Cert.GlaKernel.defs (F := Bits)) (onTc (τ := Cert.GlaKernel.τ) (Cert.GlaKernel.main (F := Bits))) ⟨m, fun _ => 0, g⟩ (fun r => (∀ c : Dev Cert.GlaKernel.nD,
      r.2.mem ((c.tc : Thread Cert.GlaKernel.nD Cert.GlaKernel.τ).loc Cert.GlaKernel.main_arg0) = m ((c.tc : Thread Cert.GlaKernel.nD Cert.GlaKernel.τ).loc Cert.GlaKernel.main_arg0)
      ∧ r.2.mem ((c.tc : Thread Cert.GlaKernel.nD Cert.GlaKernel.τ).loc Cert.GlaKernel.main_arg1) = m ((c.tc : Thread Cert.GlaKernel.nD Cert.GlaKernel.τ).loc Cert.GlaKernel.main_arg1)
      ∧ r.2.mem ((c.tc : Thread Cert.GlaKernel.nD Cert.GlaKernel.τ).loc Cert.GlaKernel.main_arg2) = m ((c.tc : Thread Cert.GlaKernel.nD Cert.GlaKernel.τ).loc Cert.GlaKernel.main_arg2)
      ∧ r.2.mem ((c.tc : Thread Cert.GlaKernel.nD Cert.GlaKernel.τ).loc Cert.GlaKernel.main_arg3) = m ((c.tc : Thread Cert.GlaKernel.nD Cert.GlaKernel.τ).loc Cert.GlaKernel.main_arg3)
      ∧ r.2.mem ((c.tc : Thread Cert.GlaKernel.nD Cert.GlaKernel.τ).loc Cert.GlaKernel.main_arg4) = m ((c.tc : Thread Cert.GlaKernel.nD Cert.GlaKernel.τ).loc Cert.GlaKernel.main_arg4)
      ∧ r.2.mem ((c.tc : Thread Cert.GlaKernel.nD Cert.GlaKernel.τ).loc Cert.GlaKernel.main_arg5) = m ((c.tc : Thread Cert.GlaKernel.nD Cert.GlaKernel.τ).loc Cert.GlaKernel.main_arg5)
      ∧ r.2.mem ((c.tc : Thread Cert.GlaKernel.nD Cert.GlaKernel.τ).loc Cert.GlaKernel.main_arg6) = m ((c.tc : Thread Cert.GlaKernel.nD Cert.GlaKernel.τ).loc Cert.GlaKernel.main_arg6)
      ∧ r.2.mem ((c.tc : Thread Cert.GlaKernel.nD Cert.GlaKernel.τ).loc Cert.GlaKernel.main_arg7) = m ((c.tc : Thread Cert.GlaKernel.nD Cert.GlaKernel.τ).loc Cert.GlaKernel.main_arg7))
      ∧ r.2.sem = fun _ => 0)

def quiescent_GlaKernelIdeal [hGlaKernelIdeal : Cert.GlaKernelIdeal.Facts] : Prop :=
  ∀ (m : (ℓ : Loc Cert.GlaKernelIdeal.nD Cert.GlaKernelIdeal.τ Cert.GlaKernelIdeal.sig) → Buf (Elt Ideal) ℓ) (g : Dev Cert.GlaKernelIdeal.nD → PrngReg), Pre_GlaKernelIdeal m →
    θ_run (Cert.GlaKernelIdeal.defs (F := Ideal)) (onTc (τ := Cert.GlaKernelIdeal.τ) (Cert.GlaKernelIdeal.main (F := Ideal))) ⟨m, fun _ => 0, g⟩ (fun r => (∀ c : Dev Cert.GlaKernelIdeal.nD,
      r.2.mem ((c.tc : Thread Cert.GlaKernelIdeal.nD Cert.GlaKernelIdeal.τ).loc Cert.GlaKernelIdeal.main_arg0) = m ((c.tc : Thread Cert.GlaKernelIdeal.nD Cert.GlaKernelIdeal.τ).loc Cert.GlaKernelIdeal.main_arg0)
      ∧ r.2.mem ((c.tc : Thread Cert.GlaKernelIdeal.nD Cert.GlaKernelIdeal.τ).loc Cert.GlaKernelIdeal.main_arg1) = m ((c.tc : Thread Cert.GlaKernelIdeal.nD Cert.GlaKernelIdeal.τ).loc Cert.GlaKernelIdeal.main_arg1)
      ∧ r.2.mem ((c.tc : Thread Cert.GlaKernelIdeal.nD Cert.GlaKernelIdeal.τ).loc Cert.GlaKernelIdeal.main_arg2) = m ((c.tc : Thread Cert.GlaKernelIdeal.nD Cert.GlaKernelIdeal.τ).loc Cert.GlaKernelIdeal.main_arg2)
      ∧ r.2.mem ((c.tc : Thread Cert.GlaKernelIdeal.nD Cert.GlaKernelIdeal.τ).loc Cert.GlaKernelIdeal.main_arg3) = m ((c.tc : Thread Cert.GlaKernelIdeal.nD Cert.GlaKernelIdeal.τ).loc Cert.GlaKernelIdeal.main_arg3)
      ∧ r.2.mem ((c.tc : Thread Cert.GlaKernelIdeal.nD Cert.GlaKernelIdeal.τ).loc Cert.GlaKernelIdeal.main_arg4) = m ((c.tc : Thread Cert.GlaKernelIdeal.nD Cert.GlaKernelIdeal.τ).loc Cert.GlaKernelIdeal.main_arg4)
      ∧ r.2.mem ((c.tc : Thread Cert.GlaKernelIdeal.nD Cert.GlaKernelIdeal.τ).loc Cert.GlaKernelIdeal.main_arg5) = m ((c.tc : Thread Cert.GlaKernelIdeal.nD Cert.GlaKernelIdeal.τ).loc Cert.GlaKernelIdeal.main_arg5)
      ∧ r.2.mem ((c.tc : Thread Cert.GlaKernelIdeal.nD Cert.GlaKernelIdeal.τ).loc Cert.GlaKernelIdeal.main_arg6) = m ((c.tc : Thread Cert.GlaKernelIdeal.nD Cert.GlaKernelIdeal.τ).loc Cert.GlaKernelIdeal.main_arg6)
      ∧ r.2.mem ((c.tc : Thread Cert.GlaKernelIdeal.nD Cert.GlaKernelIdeal.τ).loc Cert.GlaKernelIdeal.main_arg7) = m ((c.tc : Thread Cert.GlaKernelIdeal.nD Cert.GlaKernelIdeal.τ).loc Cert.GlaKernelIdeal.main_arg7))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2)
      ∧ r.2.mem ((c.tc : Thread Cert.MergeFwdKernel.nD Cert.MergeFwdKernel.τ).loc Cert.MergeFwdKernel.main_arg3) = m ((c.tc : Thread Cert.MergeFwdKernel.nD Cert.MergeFwdKernel.τ).loc Cert.MergeFwdKernel.main_arg3)
      ∧ r.2.mem ((c.tc : Thread Cert.MergeFwdKernel.nD Cert.MergeFwdKernel.τ).loc Cert.MergeFwdKernel.main_arg4) = m ((c.tc : Thread Cert.MergeFwdKernel.nD Cert.MergeFwdKernel.τ).loc Cert.MergeFwdKernel.main_arg4)
      ∧ r.2.mem ((c.tc : Thread Cert.MergeFwdKernel.nD Cert.MergeFwdKernel.τ).loc Cert.MergeFwdKernel.main_arg5) = m ((c.tc : Thread Cert.MergeFwdKernel.nD Cert.MergeFwdKernel.τ).loc Cert.MergeFwdKernel.main_arg5)
      ∧ r.2.mem ((c.tc : Thread Cert.MergeFwdKernel.nD Cert.MergeFwdKernel.τ).loc Cert.MergeFwdKernel.main_arg6) = m ((c.tc : Thread Cert.MergeFwdKernel.nD Cert.MergeFwdKernel.τ).loc Cert.MergeFwdKernel.main_arg6)
      ∧ r.2.mem ((c.tc : Thread Cert.MergeFwdKernel.nD Cert.MergeFwdKernel.τ).loc Cert.MergeFwdKernel.main_arg7) = m ((c.tc : Thread Cert.MergeFwdKernel.nD Cert.MergeFwdKernel.τ).loc Cert.MergeFwdKernel.main_arg7)
      ∧ r.2.mem ((c.tc : Thread Cert.MergeFwdKernel.nD Cert.MergeFwdKernel.τ).loc Cert.MergeFwdKernel.main_arg8) = m ((c.tc : Thread Cert.MergeFwdKernel.nD Cert.MergeFwdKernel.τ).loc Cert.MergeFwdKernel.main_arg8)
      ∧ r.2.mem ((c.tc : Thread Cert.MergeFwdKernel.nD Cert.MergeFwdKernel.τ).loc Cert.MergeFwdKernel.main_arg9) = m ((c.tc : Thread Cert.MergeFwdKernel.nD Cert.MergeFwdKernel.τ).loc Cert.MergeFwdKernel.main_arg9))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
      ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
      ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
      ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
      ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
      ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7)
      ∧ r.2.mem ((c.tc : Thread Cert.MergeFwdKernelIdeal.nD Cert.MergeFwdKernelIdeal.τ).loc Cert.MergeFwdKernelIdeal.main_arg8) = m ((c.tc : Thread Cert.MergeFwdKernelIdeal.nD Cert.MergeFwdKernelIdeal.τ).loc Cert.MergeFwdKernelIdeal.main_arg8)
      ∧ r.2.mem ((c.tc : Thread Cert.MergeFwdKernelIdeal.nD Cert.MergeFwdKernelIdeal.τ).loc Cert.MergeFwdKernelIdeal.main_arg9) = m ((c.tc : Thread Cert.MergeFwdKernelIdeal.nD Cert.MergeFwdKernelIdeal.τ).loc Cert.MergeFwdKernelIdeal.main_arg9))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7)
      ∧ r.2.mem ((c.tc : Thread Cert.MergeFwdReferenceIdeal.nD Cert.MergeFwdReferenceIdeal.τ).loc Cert.MergeFwdReferenceIdeal.main_arg8) = m ((c.tc : Thread Cert.MergeFwdReferenceIdeal.nD Cert.MergeFwdReferenceIdeal.τ).loc Cert.MergeFwdReferenceIdeal.main_arg8)
      ∧ r.2.mem ((c.tc : Thread Cert.MergeFwdReferenceIdeal.nD Cert.MergeFwdReferenceIdeal.τ).loc Cert.MergeFwdReferenceIdeal.main_arg9) = m ((c.tc : Thread Cert.MergeFwdReferenceIdeal.nD Cert.MergeFwdReferenceIdeal.τ).loc Cert.MergeFwdReferenceIdeal.main_arg9))
      ∧ r.2.sem = fun _ => 0)

def quiescent_PoolFwdKernel [hPoolFwdKernel : Cert.PoolFwdKernel.Facts] : Prop :=
  ∀ (m : (ℓ : Loc Cert.PoolFwdKernel.nD Cert.PoolFwdKernel.τ Cert.PoolFwdKernel.sig) → Buf (Elt Bits) ℓ) (g : Dev Cert.PoolFwdKernel.nD → PrngReg), Pre_PoolFwdKernel m →
    θ_run (Cert.PoolFwdKernel.defs (F := Bits)) (onTc (τ := Cert.PoolFwdKernel.τ) (Cert.PoolFwdKernel.main (F := Bits))) ⟨m, fun _ => 0, g⟩ (fun r => (∀ c : Dev Cert.PoolFwdKernel.nD,
      r.2.mem ((c.tc : Thread Cert.PoolFwdKernel.nD Cert.PoolFwdKernel.τ).loc Cert.PoolFwdKernel.main_arg0) = m ((c.tc : Thread Cert.PoolFwdKernel.nD Cert.PoolFwdKernel.τ).loc Cert.PoolFwdKernel.main_arg0)
      ∧ r.2.mem ((c.tc : Thread Cert.PoolFwdKernel.nD Cert.PoolFwdKernel.τ).loc Cert.PoolFwdKernel.main_arg1) = m ((c.tc : Thread Cert.PoolFwdKernel.nD Cert.PoolFwdKernel.τ).loc Cert.PoolFwdKernel.main_arg1)
      ∧ r.2.mem ((c.tc : Thread Cert.PoolFwdKernel.nD Cert.PoolFwdKernel.τ).loc Cert.PoolFwdKernel.main_arg2) = m ((c.tc : Thread Cert.PoolFwdKernel.nD Cert.PoolFwdKernel.τ).loc Cert.PoolFwdKernel.main_arg2))
      ∧ r.2.sem = fun _ => 0)

def quiescent_PoolFwdKernelIdeal [hPoolFwdKernelIdeal : Cert.PoolFwdKernelIdeal.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdKernelIdeal_pre_projection_finite [hPoolFwdKernelIdeal : Cert.PoolFwdKernelIdeal.Facts] [hPre_projection_finite : Cert.Pre_projection_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal_projection_finite m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_PoolFwdReferenceIdeal_pre_projection_finite [hPoolFwdReferenceIdeal : Cert.PoolFwdReferenceIdeal.Facts] [hPre_projection_finite : Cert.Pre_projection_finite.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_projection_finite m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_gates_finite [hAttnKernelIdeal : Cert.AttnKernelIdeal.Facts] [hPre_gates_finite : Cert.Pre_gates_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_gates_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_gates_finite [hAttnReferenceIdeal : Cert.AttnReferenceIdeal.Facts] [hPre_gates_finite : Cert.Pre_gates_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_gates_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InBwdKernel [hInBwdKernel : Cert.InBwdKernel.Facts] : Prop :=
  ∀ (m : (ℓ : Loc Cert.InBwdKernel.nD Cert.InBwdKernel.τ Cert.InBwdKernel.sig) → Buf (Elt Bits) ℓ) (g : Dev Cert.InBwdKernel.nD → PrngReg), Pre_InBwdKernel m →
    θ_run (Cert.InBwdKernel.defs (F := Bits)) (onTc (τ := Cert.InBwdKernel.τ) (Cert.InBwdKernel.main (F := Bits))) ⟨m, fun _ => 0, g⟩ (fun r => (∀ c : Dev Cert.InBwdKernel.nD,
      r.2.mem ((c.tc : Thread Cert.InBwdKernel.nD Cert.InBwdKernel.τ).loc Cert.InBwdKernel.main_arg0) = m ((c.tc : Thread Cert.InBwdKernel.nD Cert.InBwdKernel.τ).loc Cert.InBwdKernel.main_arg0)
      ∧ r.2.mem ((c.tc : Thread Cert.InBwdKernel.nD Cert.InBwdKernel.τ).loc Cert.InBwdKernel.main_arg1) = m ((c.tc : Thread Cert.InBwdKernel.nD Cert.InBwdKernel.τ).loc Cert.InBwdKernel.main_arg1)
      ∧ r.2.mem ((c.tc : Thread Cert.InBwdKernel.nD Cert.InBwdKernel.τ).loc Cert.InBwdKernel.main_arg2) = m ((c.tc : Thread Cert.InBwdKernel.nD Cert.InBwdKernel.τ).loc Cert.InBwdKernel.main_arg2)
      ∧ r.2.mem ((c.tc : Thread Cert.InBwdKernel.nD Cert.InBwdKernel.τ).loc Cert.InBwdKernel.main_arg3) = m ((c.tc : Thread Cert.InBwdKernel.nD Cert.InBwdKernel.τ).loc Cert.InBwdKernel.main_arg3))
      ∧ r.2.sem = fun _ => 0)

def quiescent_InBwdKernelIdeal [hInBwdKernelIdeal : Cert.InBwdKernelIdeal.Facts] : Prop :=
  ∀ (m : (ℓ : Loc Cert.InBwdKernelIdeal.nD Cert.InBwdKernelIdeal.τ Cert.InBwdKernelIdeal.sig) → Buf (Elt Ideal) ℓ) (g : Dev Cert.InBwdKernelIdeal.nD → PrngReg), Pre_InBwdKernelIdeal m →
    θ_run (Cert.InBwdKernelIdeal.defs (F := Ideal)) (onTc (τ := Cert.InBwdKernelIdeal.τ) (Cert.InBwdKernelIdeal.main (F := Ideal))) ⟨m, fun _ => 0, g⟩ (fun r => (∀ c : Dev Cert.InBwdKernelIdeal.nD,
      r.2.mem ((c.tc : Thread Cert.InBwdKernelIdeal.nD Cert.InBwdKernelIdeal.τ).loc Cert.InBwdKernelIdeal.main_arg0) = m ((c.tc : Thread Cert.InBwdKernelIdeal.nD Cert.InBwdKernelIdeal.τ).loc Cert.InBwdKernelIdeal.main_arg0)
      ∧ r.2.mem ((c.tc : Thread Cert.InBwdKernelIdeal.nD Cert.InBwdKernelIdeal.τ).loc Cert.InBwdKernelIdeal.main_arg1) = m ((c.tc : Thread Cert.InBwdKernelIdeal.nD Cert.InBwdKernelIdeal.τ).loc Cert.InBwdKernelIdeal.main_arg1)
      ∧ r.2.mem ((c.tc : Thread Cert.InBwdKernelIdeal.nD Cert.InBwdKernelIdeal.τ).loc Cert.InBwdKernelIdeal.main_arg2) = m ((c.tc : Thread Cert.InBwdKernelIdeal.nD Cert.InBwdKernelIdeal.τ).loc Cert.InBwdKernelIdeal.main_arg2)
      ∧ r.2.mem ((c.tc : Thread Cert.InBwdKernelIdeal.nD Cert.InBwdKernelIdeal.τ).loc Cert.InBwdKernelIdeal.main_arg3) = m ((c.tc : Thread Cert.InBwdKernelIdeal.nD Cert.InBwdKernelIdeal.τ).loc Cert.InBwdKernelIdeal.main_arg3))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_PoolKernel_PoolKernelIdeal : Prop :=
  True

def algebraic_PoolKernelIdeal_PoolReferenceIdeal_pre_pool_finite [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_pool_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)
      ∧ m' ((c.tc : Thread Cert.PoolReferenceIdeal.nD Cert.PoolReferenceIdeal.τ).loc Cert.PoolReferenceIdeal.main_arg4) = m ((c.tc : Thread Cert.PoolKernelIdeal.nD Cert.PoolKernelIdeal.τ).loc Cert.PoolKernelIdeal.main_arg4)) →
    ∃ (v0 : (c : Dev Cert.PoolKernelIdeal.nD) → Buf (Elt Ideal) ((c.tc : Thread Cert.PoolKernelIdeal.nD Cert.PoolKernelIdeal.τ).loc Cert.PoolKernelIdeal.main_v86_0)) (v1 : (c : Dev Cert.PoolKernelIdeal.nD) → Buf (Elt Ideal) ((c.tc : Thread Cert.PoolKernelIdeal.nD Cert.PoolKernelIdeal.τ).loc Cert.PoolKernelIdeal.main_v86_1)) (v2 : (c : Dev Cert.PoolKernelIdeal.nD) → Buf (Elt Ideal) ((c.tc : Thread Cert.PoolKernelIdeal.nD Cert.PoolKernelIdeal.τ).loc Cert.PoolKernelIdeal.main_v86_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v86_0) = v0 c
          ∧ r.2.mem ((c.tc : Thread Cert.PoolKernelIdeal.nD Cert.PoolKernelIdeal.τ).loc Cert.PoolKernelIdeal.main_v86_1) = v1 c
          ∧ r.2.mem ((c.tc : Thread Cert.PoolKernelIdeal.nD Cert.PoolKernelIdeal.τ).loc Cert.PoolKernelIdeal.main_v86_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3)
          ∧ r.2.mem ((c.tc : Thread Cert.PoolKernelIdeal.nD Cert.PoolKernelIdeal.τ).loc Cert.PoolKernelIdeal.main_arg4) = m ((c.tc : Thread Cert.PoolKernelIdeal.nD Cert.PoolKernelIdeal.τ).loc Cert.PoolKernelIdeal.main_arg4))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v142) = v0 c
          ∧ r.2.mem ((c.tc : Thread Cert.PoolReferenceIdeal.nD Cert.PoolReferenceIdeal.τ).loc Cert.PoolReferenceIdeal.main_v87) = v1 c
          ∧ r.2.mem ((c.tc : Thread Cert.PoolReferenceIdeal.nD Cert.PoolReferenceIdeal.τ).loc Cert.PoolReferenceIdeal.main_v143) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4))

def preserves_MergeKernel_MergeKernelIdeal : Prop :=
  True

def algebraic_MergeKernelIdeal_MergeReferenceIdeal_pre_merge_finite [hMergeKernelIdeal : Cert.MergeKernelIdeal.Facts] [hMergeReferenceIdeal : Cert.MergeReferenceIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_merge_finite m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)) →
    ∃ (v0 : (c : Dev Cert.MergeKernelIdeal.nD) → Buf (Elt Ideal) ((c.tc : Thread Cert.MergeKernelIdeal.nD Cert.MergeKernelIdeal.τ).loc Cert.MergeKernelIdeal.main_v51)) (v1 : (c : Dev Cert.MergeKernelIdeal.nD) → Buf (Elt Ideal) ((c.tc : Thread Cert.MergeKernelIdeal.nD Cert.MergeKernelIdeal.τ).loc Cert.MergeKernelIdeal.main_v50_1)) (v2 : (c : Dev Cert.MergeKernelIdeal.nD) → Buf (Elt Ideal) ((c.tc : Thread Cert.MergeKernelIdeal.nD Cert.MergeKernelIdeal.τ).loc Cert.MergeKernelIdeal.main_v50_2)) (v3 : (c : Dev Cert.MergeKernelIdeal.nD) → Buf (Elt Ideal) ((c.tc : Thread Cert.MergeKernelIdeal.nD Cert.MergeKernelIdeal.τ).loc Cert.MergeKernelIdeal.main_v50_3)) (v4 : (c : Dev Cert.MergeKernelIdeal.nD) → Buf (Elt Ideal) ((c.tc : Thread Cert.MergeKernelIdeal.nD Cert.MergeKernelIdeal.τ).loc Cert.MergeKernelIdeal.main_v50_4)) (v5 : (c : Dev Cert.MergeKernelIdeal.nD) → Buf (Elt Ideal) ((c.tc : Thread Cert.MergeKernelIdeal.nD Cert.MergeKernelIdeal.τ).loc Cert.MergeKernelIdeal.main_v50_5)) (v6 : (c : Dev Cert.MergeKernelIdeal.nD) → Buf (Elt Ideal) ((c.tc : Thread Cert.MergeKernelIdeal.nD Cert.MergeKernelIdeal.τ).loc Cert.MergeKernelIdeal.main_v50_6)) (v7 : (c : Dev Cert.MergeKernelIdeal.nD) → Buf (Elt Ideal) ((c.tc : Thread Cert.MergeKernelIdeal.nD Cert.MergeKernelIdeal.τ).loc Cert.MergeKernelIdeal.main_v50_7)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v51) = v0 c
          ∧ r.2.mem ((c.tc : Thread Cert.MergeKernelIdeal.nD Cert.MergeKernelIdeal.τ).loc Cert.MergeKernelIdeal.main_v50_1) = v1 c
          ∧ r.2.mem ((c.tc : Thread Cert.MergeKernelIdeal.nD Cert.MergeKernelIdeal.τ).loc Cert.MergeKernelIdeal.main_v50_2) = v2 c
          ∧ r.2.mem ((c.tc : Thread Cert.MergeKernelIdeal.nD Cert.MergeKernelIdeal.τ).loc Cert.MergeKernelIdeal.main_v50_3) = v3 c
          ∧ r.2.mem ((c.tc : Thread Cert.MergeKernelIdeal.nD Cert.MergeKernelIdeal.τ).loc Cert.MergeKernelIdeal.main_v50_4) = v4 c
          ∧ r.2.mem ((c.tc : Thread Cert.MergeKernelIdeal.nD Cert.MergeKernelIdeal.τ).loc Cert.MergeKernelIdeal.main_v50_5) = v5 c
          ∧ r.2.mem ((c.tc : Thread Cert.MergeKernelIdeal.nD Cert.MergeKernelIdeal.τ).loc Cert.MergeKernelIdeal.main_v50_6) = v6 c
          ∧ r.2.mem ((c.tc : Thread Cert.MergeKernelIdeal.nD Cert.MergeKernelIdeal.τ).loc Cert.MergeKernelIdeal.main_v50_7) = v7 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v119) = v0 c
          ∧ r.2.mem ((c.tc : Thread Cert.MergeReferenceIdeal.nD Cert.MergeReferenceIdeal.τ).loc Cert.MergeReferenceIdeal.main_v83) = v1 c
          ∧ r.2.mem ((c.tc : Thread Cert.MergeReferenceIdeal.nD Cert.MergeReferenceIdeal.τ).loc Cert.MergeReferenceIdeal.main_v120) = v2 c
          ∧ r.2.mem ((c.tc : Thread Cert.MergeReferenceIdeal.nD Cert.MergeReferenceIdeal.τ).loc Cert.MergeReferenceIdeal.main_v121) = v3 c
          ∧ r.2.mem ((c.tc : Thread Cert.MergeReferenceIdeal.nD Cert.MergeReferenceIdeal.τ).loc Cert.MergeReferenceIdeal.main_v106) = v4 c
          ∧ r.2.mem ((c.tc : Thread Cert.MergeReferenceIdeal.nD Cert.MergeReferenceIdeal.τ).loc Cert.MergeReferenceIdeal.main_v122) = v5 c
          ∧ r.2.mem ((c.tc : Thread Cert.MergeReferenceIdeal.nD Cert.MergeReferenceIdeal.τ).loc Cert.MergeReferenceIdeal.main_v123) = v6 c
          ∧ r.2.mem ((c.tc : Thread Cert.MergeReferenceIdeal.nD Cert.MergeReferenceIdeal.τ).loc Cert.MergeReferenceIdeal.main_v124) = v7 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_GlaKernel_GlaKernelIdeal : Prop :=
  True

def preserves_MergeFwdKernel_MergeFwdKernelIdeal : Prop :=
  True

def algebraic_MergeFwdKernelIdeal_MergeFwdReferenceIdeal [hMergeFwdKernelIdeal : Cert.MergeFwdKernelIdeal.Facts] [hMergeFwdReferenceIdeal : Cert.MergeFwdReferenceIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdKernelIdeal m →
    (∀ c : Dev Cert.MergeFwdKernelIdeal.nD,
      m' ((c.tc : Thread Cert.MergeFwdReferenceIdeal.nD Cert.MergeFwdReferenceIdeal.τ).loc Cert.MergeFwdReferenceIdeal.main_arg0) = m ((c.tc : Thread Cert.MergeFwdKernelIdeal.nD Cert.MergeFwdKernelIdeal.τ).loc Cert.MergeFwdKernelIdeal.main_arg0)
      ∧ m' ((c.tc : Thread Cert.MergeFwdReferenceIdeal.nD Cert.MergeFwdReferenceIdeal.τ).loc Cert.MergeFwdReferenceIdeal.main_arg1) = m ((c.tc : Thread Cert.MergeFwdKernelIdeal.nD Cert.MergeFwdKernelIdeal.τ).loc Cert.MergeFwdKernelIdeal.main_arg1)
      ∧ m' ((c.tc : Thread Cert.MergeFwdReferenceIdeal.nD Cert.MergeFwdReferenceIdeal.τ).loc Cert.MergeFwdReferenceIdeal.main_arg2) = m ((c.tc : Thread Cert.MergeFwdKernelIdeal.nD Cert.MergeFwdKernelIdeal.τ).loc Cert.MergeFwdKernelIdeal.main_arg2)
      ∧ m' ((c.tc : Thread Cert.MergeFwdReferenceIdeal.nD Cert.MergeFwdReferenceIdeal.τ).loc Cert.MergeFwdReferenceIdeal.main_arg3) = m ((c.tc : Thread Cert.MergeFwdKernelIdeal.nD Cert.MergeFwdKernelIdeal.τ).loc Cert.MergeFwdKernelIdeal.main_arg3)
      ∧ m' ((c.tc : Thread Cert.MergeFwdReferenceIdeal.nD Cert.MergeFwdReferenceIdeal.τ).loc Cert.MergeFwdReferenceIdeal.main_arg4) = m ((c.tc : Thread Cert.MergeFwdKernelIdeal.nD Cert.MergeFwdKernelIdeal.τ).loc Cert.MergeFwdKernelIdeal.main_arg4)
      ∧ m' ((c.tc : Thread Cert.MergeFwdReferenceIdeal.nD Cert.MergeFwdReferenceIdeal.τ).loc Cert.MergeFwdReferenceIdeal.main_arg5) = m ((c.tc : Thread Cert.MergeFwdKernelIdeal.nD Cert.MergeFwdKernelIdeal.τ).loc Cert.MergeFwdKernelIdeal.main_arg5)
      ∧ m' ((c.tc : Thread Cert.MergeFwdReferenceIdeal.nD Cert.MergeFwdReferenceIdeal.τ).loc Cert.MergeFwdReferenceIdeal.main_arg6) = m ((c.tc : Thread Cert.MergeFwdKernelIdeal.nD Cert.MergeFwdKernelIdeal.τ).loc Cert.MergeFwdKernelIdeal.main_arg6)
      ∧ m' ((c.tc : Thread Cert.MergeFwdReferenceIdeal.nD Cert.MergeFwdReferenceIdeal.τ).loc Cert.MergeFwdReferenceIdeal.main_arg7) = m ((c.tc : Thread Cert.MergeFwdKernelIdeal.nD Cert.MergeFwdKernelIdeal.τ).loc Cert.MergeFwdKernelIdeal.main_arg7)
      ∧ m' ((c.tc : Thread Cert.MergeFwdReferenceIdeal.nD Cert.MergeFwdReferenceIdeal.τ).loc Cert.MergeFwdReferenceIdeal.main_arg8) = m ((c.tc : Thread Cert.MergeFwdKernelIdeal.nD Cert.MergeFwdKernelIdeal.τ).loc Cert.MergeFwdKernelIdeal.main_arg8)
      ∧ m' ((c.tc : Thread Cert.MergeFwdReferenceIdeal.nD Cert.MergeFwdReferenceIdeal.τ).loc Cert.MergeFwdReferenceIdeal.main_arg9) = m ((c.tc : Thread Cert.MergeFwdKernelIdeal.nD Cert.MergeFwdKernelIdeal.τ).loc Cert.MergeFwdKernelIdeal.main_arg9)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v30_0)) (v1 : (c : Dev Cert.MergeFwdKernelIdeal.nD) → Buf (Elt Ideal) ((c.tc : Thread Cert.MergeFwdKernelIdeal.nD Cert.MergeFwdKernelIdeal.τ).loc Cert.MergeFwdKernelIdeal.main_v30_1)) (v2 : (c : Dev Cert.MergeFwdKernelIdeal.nD) → Buf (Elt Ideal) ((c.tc : Thread Cert.MergeFwdKernelIdeal.nD Cert.MergeFwdKernelIdeal.τ).loc Cert.MergeFwdKernelIdeal.main_v30_2)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v30_0) = v0 c
          ∧ r.2.mem ((c.tc : Thread Cert.MergeFwdKernelIdeal.nD Cert.MergeFwdKernelIdeal.τ).loc Cert.MergeFwdKernelIdeal.main_v30_1) = v1 c
          ∧ r.2.mem ((c.tc : Thread Cert.MergeFwdKernelIdeal.nD Cert.MergeFwdKernelIdeal.τ).loc Cert.MergeFwdKernelIdeal.main_v30_2) = v2 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
          ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
          ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
          ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
          ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
          ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7)
          ∧ r.2.mem ((c.tc : Thread Cert.MergeFwdKernelIdeal.nD Cert.MergeFwdKernelIdeal.τ).loc Cert.MergeFwdKernelIdeal.main_arg8) = m ((c.tc : Thread Cert.MergeFwdKernelIdeal.nD Cert.MergeFwdKernelIdeal.τ).loc Cert.MergeFwdKernelIdeal.main_arg8)
          ∧ r.2.mem ((c.tc : Thread Cert.MergeFwdKernelIdeal.nD Cert.MergeFwdKernelIdeal.τ).loc Cert.MergeFwdKernelIdeal.main_arg9) = m ((c.tc : Thread Cert.MergeFwdKernelIdeal.nD Cert.MergeFwdKernelIdeal.τ).loc Cert.MergeFwdKernelIdeal.main_arg9))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v20) = v0 c
          ∧ r.2.mem ((c.tc : Thread Cert.MergeFwdReferenceIdeal.nD Cert.MergeFwdReferenceIdeal.τ).loc Cert.MergeFwdReferenceIdeal.main_v44) = v1 c
          ∧ r.2.mem ((c.tc : Thread Cert.MergeFwdReferenceIdeal.nD Cert.MergeFwdReferenceIdeal.τ).loc Cert.MergeFwdReferenceIdeal.main_v45) = v2 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7)
          ∧ r.2.mem ((c.tc : Thread Cert.MergeFwdReferenceIdeal.nD Cert.MergeFwdReferenceIdeal.τ).loc Cert.MergeFwdReferenceIdeal.main_arg8) = m' ((c.tc : Thread Cert.MergeFwdReferenceIdeal.nD Cert.MergeFwdReferenceIdeal.τ).loc Cert.MergeFwdReferenceIdeal.main_arg8)
          ∧ r.2.mem ((c.tc : Thread Cert.MergeFwdReferenceIdeal.nD Cert.MergeFwdReferenceIdeal.τ).loc Cert.MergeFwdReferenceIdeal.main_arg9) = m' ((c.tc : Thread Cert.MergeFwdReferenceIdeal.nD Cert.MergeFwdReferenceIdeal.τ).loc Cert.MergeFwdReferenceIdeal.main_arg9))

def preserves_PoolFwdKernel_PoolFwdKernelIdeal : Prop :=
  True

def algebraic_PoolFwdKernelIdeal_PoolFwdReferenceIdeal_pre_projection_finite [hPoolFwdKernelIdeal : Cert.PoolFwdKernelIdeal.Facts] [hPoolFwdReferenceIdeal : Cert.PoolFwdReferenceIdeal.Facts] [hPre_projection_finite : Cert.Pre_projection_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdKernelIdeal_projection_finite m →
    (∀ c : Dev Cert.PoolFwdKernelIdeal.nD,
      m' ((c.tc : Thread Cert.PoolFwdReferenceIdeal.nD Cert.PoolFwdReferenceIdeal.τ).loc Cert.PoolFwdReferenceIdeal.main_arg0) = m ((c.tc : Thread Cert.PoolFwdKernelIdeal.nD Cert.PoolFwdKernelIdeal.τ).loc Cert.PoolFwdKernelIdeal.main_arg0)
      ∧ m' ((c.tc : Thread Cert.PoolFwdReferenceIdeal.nD Cert.PoolFwdReferenceIdeal.τ).loc Cert.PoolFwdReferenceIdeal.main_arg1) = m ((c.tc : Thread Cert.PoolFwdKernelIdeal.nD Cert.PoolFwdKernelIdeal.τ).loc Cert.PoolFwdKernelIdeal.main_arg1)
      ∧ m' ((c.tc : Thread Cert.PoolFwdReferenceIdeal.nD Cert.PoolFwdReferenceIdeal.τ).loc Cert.PoolFwdReferenceIdeal.main_arg2) = m ((c.tc : Thread Cert.PoolFwdKernelIdeal.nD Cert.PoolFwdKernelIdeal.τ).loc Cert.PoolFwdKernelIdeal.main_arg2)) →
    ∃ (v0 : (c : Dev Cert.PoolFwdKernelIdeal.nD) → Buf (Elt Ideal) ((c.tc : Thread Cert.PoolFwdKernelIdeal.nD Cert.PoolFwdKernelIdeal.τ).loc Cert.PoolFwdKernelIdeal.main_v24_0)) (v1 : (c : Dev Cert.PoolFwdKernelIdeal.nD) → Buf (Elt Ideal) ((c.tc : Thread Cert.PoolFwdKernelIdeal.nD Cert.PoolFwdKernelIdeal.τ).loc Cert.PoolFwdKernelIdeal.main_v24_1)),
      θ_run (Cert.PoolFwdKernelIdeal.defs (F := Ideal)) (onTc (τ := Cert.PoolFwdKernelIdeal.τ) (Cert.PoolFwdKernelIdeal.main (F := Ideal))) ⟨m, fun _ => 0, g⟩ (fun r => ∀ c : Dev Cert.PoolFwdKernelIdeal.nD,
          r.2.mem ((c.tc : Thread Cert.PoolFwdKernelIdeal.nD Cert.PoolFwdKernelIdeal.τ).loc Cert.PoolFwdKernelIdeal.main_v24_0) = v0 c
          ∧ r.2.mem ((c.tc : Thread Cert.PoolFwdKernelIdeal.nD Cert.PoolFwdKernelIdeal.τ).loc Cert.PoolFwdKernelIdeal.main_v24_1) = v1 c
          ∧ r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
          ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
          ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v61) = v0 c
          ∧ r.2.mem ((c.tc : Thread Cert.PoolFwdReferenceIdeal.nD Cert.PoolFwdReferenceIdeal.τ).loc Cert.PoolFwdReferenceIdeal.main_v130) = v1 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2))

def preserves_AttnKernel_AttnKernelIdeal : Prop :=
  True

def algebraic_AttnKernelIdeal_AttnReferenceIdeal_pre_gates_finite [hAttnKernelIdeal : Cert.AttnKernelIdeal.Facts] [hAttnReferenceIdeal : Cert.AttnReferenceIdeal.Facts] [hPre_gates_finite : Cert.Pre_gates_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_gates_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v27_0)) (v1 : (c : Dev Cert.AttnKernelIdeal.nD) → Buf (Elt Ideal) ((c.tc : Thread Cert.AttnKernelIdeal.nD Cert.AttnKernelIdeal.τ).loc Cert.AttnKernelIdeal.main_v27_1)) (v2 : (c : Dev Cert.AttnKernelIdeal.nD) → Buf (Elt Ideal) ((c.tc : Thread Cert.AttnKernelIdeal.nD Cert.AttnKernelIdeal.τ).loc Cert.AttnKernelIdeal.main_v27_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v27_0) = v0 c
          ∧ r.2.mem ((c.tc : Thread Cert.AttnKernelIdeal.nD Cert.AttnKernelIdeal.τ).loc Cert.AttnKernelIdeal.main_v27_1) = v1 c
          ∧ r.2.mem ((c.tc : Thread Cert.AttnKernelIdeal.nD Cert.AttnKernelIdeal.τ).loc Cert.AttnKernelIdeal.main_v27_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v32) = v0 c
          ∧ r.2.mem ((c.tc : Thread Cert.AttnReferenceIdeal.nD Cert.AttnReferenceIdeal.τ).loc Cert.AttnReferenceIdeal.main_v49) = v1 c
          ∧ r.2.mem ((c.tc : Thread Cert.AttnReferenceIdeal.nD Cert.AttnReferenceIdeal.τ).loc Cert.AttnReferenceIdeal.main_v50) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v6_0)) (v1 : (c : Dev Cert.ProjKernelIdeal.nD) → Buf (Elt Ideal) ((c.tc : Thread Cert.ProjKernelIdeal.nD Cert.ProjKernelIdeal.τ).loc Cert.ProjKernelIdeal.main_v6_1)) (v2 : (c : Dev Cert.ProjKernelIdeal.nD) → Buf (Elt Ideal) ((c.tc : Thread Cert.ProjKernelIdeal.nD Cert.ProjKernelIdeal.τ).loc Cert.ProjKernelIdeal.main_v6_2)) (v3 : (c : Dev Cert.ProjKernelIdeal.nD) → Buf (Elt Ideal) ((c.tc : Thread Cert.ProjKernelIdeal.nD Cert.ProjKernelIdeal.τ).loc Cert.ProjKernelIdeal.main_v6_3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v6_0) = v0 c
          ∧ r.2.mem ((c.tc : Thread Cert.ProjKernelIdeal.nD Cert.ProjKernelIdeal.τ).loc Cert.ProjKernelIdeal.main_v6_1) = v1 c
          ∧ r.2.mem ((c.tc : Thread Cert.ProjKernelIdeal.nD Cert.ProjKernelIdeal.τ).loc Cert.ProjKernelIdeal.main_v6_2) = v2 c
          ∧ r.2.mem ((c.tc : Thread Cert.ProjKernelIdeal.nD Cert.ProjKernelIdeal.τ).loc Cert.ProjKernelIdeal.main_v6_3) = v3 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v7) = v0 c
          ∧ r.2.mem ((c.tc : Thread Cert.ProjReferenceIdeal.nD Cert.ProjReferenceIdeal.τ).loc Cert.ProjReferenceIdeal.main_v4) = v1 c
          ∧ r.2.mem ((c.tc : Thread Cert.ProjReferenceIdeal.nD Cert.ProjReferenceIdeal.τ).loc Cert.ProjReferenceIdeal.main_v6) = v2 c
          ∧ r.2.mem ((c.tc : Thread Cert.ProjReferenceIdeal.nD Cert.ProjReferenceIdeal.τ).loc Cert.ProjReferenceIdeal.main_v3) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v3)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v3) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InBwdKernel_InBwdKernelIdeal : Prop :=
  True

def algebraic_InBwdKernelIdeal_InBwdReferenceIdeal [hInBwdKernelIdeal : Cert.InBwdKernelIdeal.Facts] [hInBwdReferenceIdeal : Cert.InBwdReferenceIdeal.Facts] : Prop :=
  ∀ (m : (ℓ : Loc Cert.InBwdKernelIdeal.nD Cert.InBwdKernelIdeal.τ Cert.InBwdKernelIdeal.sig) → Buf (Elt Ideal) ℓ) (g : Dev Cert.InBwdKernelIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdKernelIdeal m →
    (∀ c : Dev Cert.InBwdKernelIdeal.nD,
      m' ((c.tc : Thread Cert.InBwdReferenceIdeal.nD Cert.InBwdReferenceIdeal.τ).loc Cert.InBwdReferenceIdeal.main_arg0) = m ((c.tc : Thread Cert.InBwdKernelIdeal.nD Cert.InBwdKernelIdeal.τ).loc Cert.InBwdKernelIdeal.main_arg0)
      ∧ m' ((c.tc : Thread Cert.InBwdReferenceIdeal.nD Cert.InBwdReferenceIdeal.τ).loc Cert.InBwdReferenceIdeal.main_arg1) = m ((c.tc : Thread Cert.InBwdKernelIdeal.nD Cert.InBwdKernelIdeal.τ).loc Cert.InBwdKernelIdeal.main_arg1)
      ∧ m' ((c.tc : Thread Cert.InBwdReferenceIdeal.nD Cert.InBwdReferenceIdeal.τ).loc Cert.InBwdReferenceIdeal.main_arg2) = m ((c.tc : Thread Cert.InBwdKernelIdeal.nD Cert.InBwdKernelIdeal.τ).loc Cert.InBwdKernelIdeal.main_arg2)
      ∧ m' ((c.tc : Thread Cert.InBwdReferenceIdeal.nD Cert.InBwdReferenceIdeal.τ).loc Cert.InBwdReferenceIdeal.main_arg3) = m ((c.tc : Thread Cert.InBwdKernelIdeal.nD Cert.InBwdKernelIdeal.τ).loc Cert.InBwdKernelIdeal.main_arg3)) →
    ∃ (v0 : (c : Dev Cert.InBwdKernelIdeal.nD) → Buf (Elt Ideal) ((c.tc : Thread Cert.InBwdKernelIdeal.nD Cert.InBwdKernelIdeal.τ).loc Cert.InBwdKernelIdeal.main_v3)),
      θ_run (Cert.InBwdKernelIdeal.defs (F := Ideal)) (onTc (τ := Cert.InBwdKernelIdeal.τ) (Cert.InBwdKernelIdeal.main (F := Ideal))) ⟨m, fun _ => 0, g⟩ (fun r => ∀ c : Dev Cert.InBwdKernelIdeal.nD,
          r.2.mem ((c.tc : Thread Cert.InBwdKernelIdeal.nD Cert.InBwdKernelIdeal.τ).loc Cert.InBwdKernelIdeal.main_v3) = v0 c
          ∧ r.2.mem ((c.tc : Thread Cert.InBwdKernelIdeal.nD Cert.InBwdKernelIdeal.τ).loc Cert.InBwdKernelIdeal.main_arg0) = m ((c.tc : Thread Cert.InBwdKernelIdeal.nD Cert.InBwdKernelIdeal.τ).loc Cert.InBwdKernelIdeal.main_arg0)
          ∧ r.2.mem ((c.tc : Thread Cert.InBwdKernelIdeal.nD Cert.InBwdKernelIdeal.τ).loc Cert.InBwdKernelIdeal.main_arg1) = m ((c.tc : Thread Cert.InBwdKernelIdeal.nD Cert.InBwdKernelIdeal.τ).loc Cert.InBwdKernelIdeal.main_arg1)
          ∧ r.2.mem ((c.tc : Thread Cert.InBwdKernelIdeal.nD Cert.InBwdKernelIdeal.τ).loc Cert.InBwdKernelIdeal.main_arg2) = m ((c.tc : Thread Cert.InBwdKernelIdeal.nD Cert.InBwdKernelIdeal.τ).loc Cert.InBwdKernelIdeal.main_arg2)
          ∧ r.2.mem ((c.tc : Thread Cert.InBwdKernelIdeal.nD Cert.InBwdKernelIdeal.τ).loc Cert.InBwdKernelIdeal.main_arg3) = m ((c.tc : Thread Cert.InBwdKernelIdeal.nD Cert.InBwdKernelIdeal.τ).loc Cert.InBwdKernelIdeal.main_arg3))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v6) = v0 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3))

def Claim : Prop :=
  ∃ (hLossKernel : Cert.LossKernel.Facts) (hLossKernelIdeal : Cert.LossKernelIdeal.Facts) (hLossReferenceIdeal : Cert.LossReferenceIdeal.Facts) (hPoolKernel : Cert.PoolKernel.Facts) (hPoolKernelIdeal : Cert.PoolKernelIdeal.Facts) (hPoolReferenceIdeal : Cert.PoolReferenceIdeal.Facts) (hMergeKernel : Cert.MergeKernel.Facts) (hMergeKernelIdeal : Cert.MergeKernelIdeal.Facts) (hMergeReferenceIdeal : Cert.MergeReferenceIdeal.Facts) (hGlaKernel : Cert.GlaKernel.Facts) (hGlaKernelIdeal : Cert.GlaKernelIdeal.Facts) (hMergeFwdKernel : Cert.MergeFwdKernel.Facts) (hMergeFwdKernelIdeal : Cert.MergeFwdKernelIdeal.Facts) (hMergeFwdReferenceIdeal : Cert.MergeFwdReferenceIdeal.Facts) (hPoolFwdKernel : Cert.PoolFwdKernel.Facts) (hPoolFwdKernelIdeal : Cert.PoolFwdKernelIdeal.Facts) (hPoolFwdReferenceIdeal : Cert.PoolFwdReferenceIdeal.Facts) (hAttnKernel : Cert.AttnKernel.Facts) (hAttnKernelIdeal : Cert.AttnKernelIdeal.Facts) (hAttnReferenceIdeal : Cert.AttnReferenceIdeal.Facts) (hProjKernel : Cert.ProjKernel.Facts) (hProjKernelIdeal : Cert.ProjKernelIdeal.Facts) (hProjReferenceIdeal : Cert.ProjReferenceIdeal.Facts) (hInKernel : Cert.InKernel.Facts) (hInKernelIdeal : Cert.InKernelIdeal.Facts) (hInReferenceIdeal : Cert.InReferenceIdeal.Facts) (hInBwdKernel : Cert.InBwdKernel.Facts) (hInBwdKernelIdeal : Cert.InBwdKernelIdeal.Facts) (hInBwdReferenceIdeal : Cert.InBwdReferenceIdeal.Facts) (hPre_pool_finite : Cert.Pre_pool_finite.Facts) (hPre_merge_finite : Cert.Pre_merge_finite.Facts) (hPre_projection_finite : Cert.Pre_projection_finite.Facts) (hPre_gates_finite : Cert.Pre_gates_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_PoolKernel (hPoolKernel := hPoolKernel)
    ∧ quiescent_PoolKernelIdeal (hPoolKernelIdeal := hPoolKernelIdeal)
    ∧ quiescent_PoolKernelIdeal_pre_pool_finite (hPoolKernelIdeal := hPoolKernelIdeal) (hPre_pool_finite := hPre_pool_finite)
    ∧ quiescent_PoolReferenceIdeal (hPoolReferenceIdeal := hPoolReferenceIdeal)
    ∧ quiescent_PoolReferenceIdeal_pre_pool_finite (hPoolReferenceIdeal := hPoolReferenceIdeal) (hPre_pool_finite := hPre_pool_finite)
    ∧ quiescent_MergeKernel (hMergeKernel := hMergeKernel)
    ∧ quiescent_MergeKernelIdeal (hMergeKernelIdeal := hMergeKernelIdeal)
    ∧ quiescent_MergeKernelIdeal_pre_merge_finite (hMergeKernelIdeal := hMergeKernelIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_GlaKernel (hGlaKernel := hGlaKernel)
    ∧ quiescent_GlaKernelIdeal (hGlaKernelIdeal := hGlaKernelIdeal)
    ∧ quiescent_MergeFwdKernel (hMergeFwdKernel := hMergeFwdKernel)
    ∧ quiescent_MergeFwdKernelIdeal (hMergeFwdKernelIdeal := hMergeFwdKernelIdeal)
    ∧ quiescent_MergeFwdReferenceIdeal (hMergeFwdReferenceIdeal := hMergeFwdReferenceIdeal)
    ∧ quiescent_PoolFwdKernel (hPoolFwdKernel := hPoolFwdKernel)
    ∧ quiescent_PoolFwdKernelIdeal (hPoolFwdKernelIdeal := hPoolFwdKernelIdeal)
    ∧ quiescent_PoolFwdKernelIdeal_pre_projection_finite (hPoolFwdKernelIdeal := hPoolFwdKernelIdeal) (hPre_projection_finite := hPre_projection_finite)
    ∧ quiescent_PoolFwdReferenceIdeal (hPoolFwdReferenceIdeal := hPoolFwdReferenceIdeal)
    ∧ quiescent_PoolFwdReferenceIdeal_pre_projection_finite (hPoolFwdReferenceIdeal := hPoolFwdReferenceIdeal) (hPre_projection_finite := hPre_projection_finite)
    ∧ quiescent_AttnKernel (hAttnKernel := hAttnKernel)
    ∧ quiescent_AttnKernelIdeal (hAttnKernelIdeal := hAttnKernelIdeal)
    ∧ quiescent_AttnKernelIdeal_pre_gates_finite (hAttnKernelIdeal := hAttnKernelIdeal) (hPre_gates_finite := hPre_gates_finite)
    ∧ quiescent_AttnReferenceIdeal (hAttnReferenceIdeal := hAttnReferenceIdeal)
    ∧ quiescent_AttnReferenceIdeal_pre_gates_finite (hAttnReferenceIdeal := hAttnReferenceIdeal) (hPre_gates_finite := hPre_gates_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_InBwdKernel (hInBwdKernel := hInBwdKernel)
    ∧ quiescent_InBwdKernelIdeal (hInBwdKernelIdeal := hInBwdKernelIdeal)
    ∧ quiescent_InBwdReferenceIdeal (hInBwdReferenceIdeal := hInBwdReferenceIdeal)
    ∧ preserves_LossKernel_LossKernelIdeal
    ∧ algebraic_LossKernelIdeal_LossReferenceIdeal (hLossKernelIdeal := hLossKernelIdeal) (hLossReferenceIdeal := hLossReferenceIdeal)
    ∧ preserves_PoolKernel_PoolKernelIdeal
    ∧ algebraic_PoolKernelIdeal_PoolReferenceIdeal_pre_pool_finite (hPoolKernelIdeal := hPoolKernelIdeal) (hPoolReferenceIdeal := hPoolReferenceIdeal) (hPre_pool_finite := hPre_pool_finite)
    ∧ preserves_MergeKernel_MergeKernelIdeal
    ∧ algebraic_MergeKernelIdeal_MergeReferenceIdeal_pre_merge_finite (hMergeKernelIdeal := hMergeKernelIdeal) (hMergeReferenceIdeal := hMergeReferenceIdeal) (hPre_merge_finite := hPre_merge_finite)
    ∧ preserves_GlaKernel_GlaKernelIdeal
    ∧ preserves_MergeFwdKernel_MergeFwdKernelIdeal
    ∧ algebraic_MergeFwdKernelIdeal_MergeFwdReferenceIdeal (hMergeFwdKernelIdeal := hMergeFwdKernelIdeal) (hMergeFwdReferenceIdeal := hMergeFwdReferenceIdeal)
    ∧ preserves_PoolFwdKernel_PoolFwdKernelIdeal
    ∧ algebraic_PoolFwdKernelIdeal_PoolFwdReferenceIdeal_pre_projection_finite (hPoolFwdKernelIdeal := hPoolFwdKernelIdeal) (hPoolFwdReferenceIdeal := hPoolFwdReferenceIdeal) (hPre_projection_finite := hPre_projection_finite)
    ∧ preserves_AttnKernel_AttnKernelIdeal
    ∧ algebraic_AttnKernelIdeal_AttnReferenceIdeal_pre_gates_finite (hAttnKernelIdeal := hAttnKernelIdeal) (hAttnReferenceIdeal := hAttnReferenceIdeal) (hPre_gates_finite := hPre_gates_finite)
    ∧ preserves_ProjKernel_ProjKernelIdeal
    ∧ algebraic_ProjKernelIdeal_ProjReferenceIdeal (hProjKernelIdeal := hProjKernelIdeal) (hProjReferenceIdeal := hProjReferenceIdeal)
    ∧ preserves_InKernel_InKernelIdeal
    ∧ algebraic_InKernelIdeal_InReferenceIdeal (hInKernelIdeal := hInKernelIdeal) (hInReferenceIdeal := hInReferenceIdeal)
    ∧ preserves_InBwdKernel_InBwdKernelIdeal
    ∧ algebraic_InBwdKernelIdeal_InBwdReferenceIdeal (hInBwdKernelIdeal := hInBwdKernelIdeal) (hInBwdReferenceIdeal := hInBwdReferenceIdeal)
-- ==== Pre_gates_finite.lean ====
abbrev S8192x7184 : Shape := ⟨2, ![8192, 7184]⟩
abbrev S16x512 : Shape := ⟨2, ![16, 512]⟩
abbrev S512 : Shape := ⟨1, ![512]⟩
abbrev S4x256 : Shape := ⟨2, ![4, 256]⟩
abbrev S8192x16 : Shape := ⟨2, ![8192, 16]⟩
abbrev S_ : Shape := ⟨0, ![]⟩

class Facts : Prop where
  slices_S8192x7184_S8192x16_0_3072 : S8192x7184.Slices ![0, 3072] S8192x16
  bcast_S_S8192x16 : S_.BroadcastsInDim S8192x16 (![] : Fin 0 → Fin S8192x16.rank)
  reducesTo_S8192x16_S_d0_1 : S8192x16.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8192x7184 .f32) (main_arg1 : FVec F S16x512 .f32) (main_arg2 : FVec F S512 .f32) (main_arg3 : FVec F S4x256 .f32) : IVec S_ 1 :=
  let main_v0 : FVec F S8192x16 .f32 := (extractStridedSlice S8192x16 ![0, 3072] · slices_S8192x7184_S8192x16_0_3072) main_arg0
  let main_v1 : FVec F S8192x16 .f32 := Host.absf main_v0
  let main_cst : FVec F S_ .f32 := constant S_ .f32 0x7F800000#32
  let main_v2 : FVec F S8192x16 .f32 := broadcastInDim S8192x16 ![] bcast_S_S8192x16 main_cst
  let main_v3 : IVec S8192x16 1 := cmpf .olt main_v1 main_v2
  let main_c : IVec S_ 1 := constantI S_ 1 1#1
  let main_v4 : IVec S_ 1 := (fun x v => Host.reduce IntOp.andi x v reducesTo_S8192x16_S_d0_1 h_S_) main_v3 main_c
  let main_v5 : FVec F S16x512 .f32 := Host.absf main_arg1
  let main_cst_0 : FVec F S_ .f32 := constant S_ .f32 0x7F800000#32
  let main_v6 : FVec F S16x512 .f32 := broadcastInDim S16x512 ![] bcast_S_S16x512 main_cst_0
  let main_v7 : IVec S16x512 1 := cmpf .olt main_v5 main_v6
  let main_c_1 : IVec S_ 1 := constantI S_ 1 1#1
  let main_v8 : IVec S_ 1 := (fun x v => Host.reduce IntOp.andi x v reducesTo_S16x512_S_d0_1 h_S_) main_v7 main_c_1
  let main_v9 : IVec S_ 1 := andi main_v4 main_v8
  let main_v10 : FVec F S512 .f32 := Host.absf main_arg2
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_c_3 : IVec S_ 1 := constantI S_ 1 1#1
  let main_v13 : IVec S_ 1 := (fun x v => Host.reduce IntOp.andi x v reducesTo_S512_S_d0 h_S_) main_v12 main_c_3
  let main_v14 : IVec S_ 1 := andi main_v9 main_v13
  main_v14
-- ==== Pre_merge_finite.lean ====
abbrev S8192x7184 : Shape := ⟨2, ![8192, 7184]⟩
abbrev S8192x1024 : Shape := ⟨2, ![8192, 1024]⟩
abbrev S1024x1024 : Shape := ⟨2, ![1024, 1024]⟩
abbrev S2048 : Shape := ⟨1, ![2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg9 : FVec F S1024 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg5 : FVec F S1024x1024 .f32) (main_arg6 : FVec F S1024x1024 .f32) (main_arg7 : FVec F S1024x1024 .f32) (main_arg9 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg9 main_v33

def fn {F : FTy → Type} [FloatOps F] (main_arg0 : FVec F S8192x7184 .f32) (main_arg1 : FVec F S8192x1024 .f32) (main_arg2 : FVec F S8192x1024 .f32) (main_arg3 : FVec F S8192x1024 .f32) (main_arg4 : FVec F S8192x1024 .f32) (main_arg5 : FVec F S1024x1024 .f32) (main_arg6 : FVec F S1024x1024 .f32) (main_arg7 : FVec F S1024x1024 .f32) (main_arg8 : FVec F S2048 .f32) (main_arg9 : FVec F S1024 .f32) (main_arg10 : FVec F S1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_arg7 main_arg9 main_v13 main_v16
-- ==== Pre_pool_finite.lean ====
abbrev S8192x7184 : Shape := ⟨2, ![8192, 7184]⟩
abbrev S4x256x256 : Shape := ⟨3, ![4, 256, 256]⟩
abbrev S1024 : Shape := ⟨1, ![1024]⟩
abbrev S8192x1024 : Shape := ⟨2, ![8192, 1024]⟩
abbrev S8192x7680 : Shape := ⟨2, ![8192, 7680]⟩
abbrev S_ : Shape := ⟨0, ![]⟩

class Facts : Prop where
  bcast_S_S8192x7184 : S_.BroadcastsInDim S8192x7184 (![] : Fin 0 → Fin S8192x7184.rank)
  reducesTo_S8192x7184_S_d0_1 : S8192x7184.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x7184 .f32) (main_arg1 : FVec F S4x256x256 .f32) (main_arg2 : FVec F S1024 .f32) (main_arg3 : FVec F S8192x1024 .f32) (main_arg4 : FVec F S8192x7680 .bf16) : IVec S_ 1 :=
  let main_v0 : FVec F S8192x7184 .f32 := Host.absf main_arg0
  let main_cst : FVec F S_ .f32 := constant S_ .f32 0x7F800000#32
  let main_v1 : FVec F S8192x7184 .f32 := broadcastInDim S8192x7184 ![] bcast_S_S8192x7184 main_cst
  let main_v2 : IVec S8192x7184 1 := cmpf .olt main_v0 main_v1
  let main_c : IVec S_ 1 := constantI S_ 1 1#1
  let main_v3 : IVec S_ 1 := (fun x v => Host.reduce IntOp.andi x v reducesTo_S8192x7184_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_projection_finite.lean ====
abbrev S8192x7184 : Shape := ⟨2, ![8192, 7184]⟩
abbrev S4x256x256 : Shape := ⟨3, ![4, 256, 256]⟩
abbrev S1024 : Shape := ⟨1, ![1024]⟩
abbrev S_ : Shape := ⟨0, ![]⟩

class Facts : Prop where
  bcast_S_S8192x7184 : S_.BroadcastsInDim S8192x7184 (![] : Fin 0 → Fin S8192x7184.rank)
  reducesTo_S8192x7184_S_d0_1 : S8192x7184.ReducesTo [0, 1] S_
  h_S_ : 0 < S_.numel

variable [Facts]

def fn {F : FTy → Type} [FloatOps F] (main_arg0 : FVec F S8192x7184 .f32) (main_arg1 : FVec F S4x256x256 .f32) (main_arg2 : FVec F S1024 .f32) : IVec S_ 1 :=
  let main_v0 : FVec F S8192x7184 .f32 := Host.absf main_arg0
  let main_cst : FVec F S_ .f32 := constant S_ .f32 0x7F800000#32
  let main_v1 : FVec F S8192x7184 .f32 := broadcastInDim S8192x7184 ![] bcast_S_S8192x7184 main_cst
  let main_v2 : IVec S8192x7184 1 := cmpf .olt main_v0 main_v1
  let main_c : IVec S_ 1 := constantI S_ 1 1#1
  let main_v3 : IVec S_ 1 := (fun x v => Host.reduce IntOp.andi x v reducesTo_S8192x7184_S_d0_1 h_S_) main_v2 main_c
  main_v3
-- ==== LossKernel.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== PoolKernel.lean ====
abbrev S8192x7184 : Shape := ⟨2, ![8192, 7184]⟩
abbrev S4x256x256 : Shape := ⟨3, ![4, 256, 256]⟩
abbrev S1024 : Shape := ⟨1, ![1024]⟩
abbrev S8192x1024 : Shape := ⟨2, ![8192, 1024]⟩
abbrev S8192x7680 : Shape := ⟨2, ![8192, 7680]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S8192x4096 : Shape := ⟨2, ![8192, 4096]⟩
abbrev S8192x16 : Shape := ⟨2, ![8192, 16]⟩
abbrev S8192x496 : Shape := ⟨2, ![8192, 496]⟩
abbrev S8192x128 : Shape := ⟨2, ![8192, 128]⟩
abbrev S8192x7040 : Shape := ⟨2, ![8192, 7040]⟩
abbrev S8192x640 : Shape := ⟨2, ![8192, 640]⟩
abbrev S1x1024 : Shape := ⟨2, ![1, 1024]⟩
abbrev S1024x1024 : Shape := ⟨2, ![1024, 1024]⟩
abbrev S1024x2048 : Shape := ⟨2, ![1024, 2048]⟩
abbrev S16x1024 : Shape := ⟨2, ![16, 1024]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1040x256 : Shape := ⟨2, ![1040, 256]⟩

abbrev nBuf : Space → Nat
  | .hbm => 106
  | .vmem => 13
  | .smem => 0
  | _ => 0

abbrev bufTy : (tb : Table) → Fin (tcTables nBuf tb) → BufTy
  | .hbm, ⟨0, _⟩ => ⟨S8192x7184, .f32⟩
  | .hbm, ⟨1, _⟩ => ⟨S4x256x256, .f32⟩
  | .hbm, ⟨2, _⟩ => ⟨S1024, .f32⟩
  | .hbm, ⟨3, _⟩ => ⟨S8192x1024, .f32⟩
  | .hbm, ⟨4, _⟩ => ⟨S8192x7680, .bf16⟩
  | .hbm, ⟨5, _⟩ => ⟨S8192x1024, .f32⟩
  | .hbm, ⟨6, _⟩ => ⟨S8192x4x256, .f32⟩
  | .hbm, ⟨7, _⟩ => ⟨S_, .f32⟩
  | .hbm, ⟨8, _⟩ => ⟨S_, .f32⟩
  | .hbm, ⟨9, _⟩ => ⟨S8192x4x256, .f32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192x1x256, .f32⟩
  | .hbm, ⟨15, _⟩ => ⟨S8192x256, .f32⟩
  | .hbm, ⟨16, _⟩ => ⟨S_, .f32⟩
  | .hbm, ⟨17, _⟩ => ⟨S2x256, .f32⟩
  | .hbm, ⟨18, _⟩ => ⟨S8190x256, .f32⟩
  | .hbm, ⟨19, _⟩ => ⟨S8192x256, .f32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .f32⟩
  | .hbm, ⟨24, _⟩ => ⟨S8192x256, .f32⟩
  | .hbm, ⟨25, _⟩ => ⟨S8192x1, .f32⟩
  | .hbm, ⟨26, _⟩ => ⟨S8192x256, .f32⟩
  | .hbm, ⟨27, _⟩ => ⟨S8192x256, .f32⟩
  | .hbm, ⟨28, _⟩ => ⟨S8192x1x256, .f32⟩
  | .hbm, ⟨29, _⟩ => ⟨S8192x256, .f32⟩
  | .hbm, ⟨30, _⟩ => ⟨S_, .f32⟩
  | .hbm, ⟨31, _⟩ => ⟨S4x256, .f32⟩
  | .hbm, ⟨32, _⟩ => ⟨S8188x256, .f32⟩
  | .hbm, ⟨33, _⟩ => ⟨S8192x256, .f32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .f32⟩
  | .hbm, ⟨38, _⟩ => ⟨S8192x256, .f32⟩
  | .hbm, ⟨39, _⟩ => ⟨S8192x1, .f32⟩
  | .hbm, ⟨40, _⟩ => ⟨S8192x256, .f32⟩
  | .hbm, ⟨41, _⟩ => ⟨S8192x256, .f32⟩
  | .hbm, ⟨42, _⟩ => ⟨S8192x1x256, .f32⟩
  | .hbm, ⟨43, _⟩ => ⟨S8192x256, .f32⟩
  | .hbm, ⟨44, _⟩ => ⟨S_, .f32⟩
  | .hbm, ⟨45, _⟩ => ⟨S8x256, .f32⟩
  | .hbm, ⟨46, _⟩ => ⟨S8184x256, .f32⟩
  | .hbm, ⟨47, _⟩ => ⟨S8192x256, .f32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .f32⟩
  | .hbm, ⟨52, _⟩ => ⟨S8192x256, .f32⟩
  | .hbm, ⟨53, _⟩ => ⟨S8192x1, .f32⟩
  | .hbm, ⟨54, _⟩ => ⟨S8192x256, .f32⟩
  | .hbm, ⟨55, _⟩ => ⟨S8192x256, .f32⟩
  | .hbm, ⟨56, _⟩ => ⟨S8192x1x256, .f32⟩
  | .hbm, ⟨57, _⟩ => ⟨S8192x256, .f32⟩
  | .hbm, ⟨58, _⟩ => ⟨S_, .f32⟩
  | .hbm, ⟨59, _⟩ => ⟨S16x256, .f32⟩
  | .hbm, ⟨60, _⟩ => ⟨S8176x256, .f32⟩
  | .hbm, ⟨61, _⟩ => ⟨S8192x256, .f32⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .f32⟩
  | .hbm, ⟨66, _⟩ => ⟨S8192x256, .f32⟩
  | .hbm, ⟨67, _⟩ => ⟨S8192x1, .f32⟩
  | .hbm, ⟨68, _⟩ => ⟨S8192x256, .f32⟩
  | .hbm, ⟨69, _⟩ => ⟨S8192x256, .f32⟩
  | .hbm, ⟨70, _⟩ => ⟨S8192x1x256, .f32⟩
  | .hbm, ⟨71, _⟩ => ⟨S8192x1x256, .f32⟩
  | .hbm, ⟨72, _⟩ => ⟨S8192x1x256, .f32⟩
  | .hbm, ⟨73, _⟩ => ⟨S8192x1x256, .f32⟩
  | .hbm, ⟨74, _⟩ => ⟨S8192x4x256, .f32⟩
  | .hbm, ⟨75, _⟩ => ⟨S8192x4x256, .f32⟩
  | .hbm, ⟨76, _⟩ => ⟨S8192x1024, .f32⟩
  | .hbm, ⟨77, _⟩ => ⟨S8192x1024, .bf16⟩
  | .hbm, ⟨78, _⟩ => ⟨S8192x4096, .f32⟩
  | .hbm, ⟨79, _⟩ => ⟨S8192x16, .f32⟩
  | .hbm, ⟨80, _⟩ => ⟨S_, .f32⟩
  | .hbm, ⟨81, _⟩ => ⟨S8192x496, .f32⟩
  | .hbm, ⟨82, _⟩ => ⟨S8192x128, .f32⟩
  | .hbm, ⟨83, _⟩ => ⟨S8192x128, .f32⟩
  | .hbm, ⟨84, _⟩ => ⟨S8192x256, .f32⟩
  | .hbm, ⟨85, _⟩ => ⟨S8192x256, .f32⟩
  | .hbm, ⟨86, _⟩ => ⟨S8192x128, .f32⟩
  | .hbm, ⟨87, _⟩ => ⟨S8192x128, .f32⟩
  | .hbm, ⟨88, _⟩ => ⟨S8192x256, .f32⟩
  | .hbm, ⟨89, _⟩ => ⟨S8192x256, .f32⟩
  | .hbm, ⟨90, _⟩ => ⟨S8192x128, .f32⟩
  | .hbm, ⟨91, _⟩ => ⟨S8192x128, .f32⟩
  | .hbm, ⟨92, _⟩ => ⟨S8192x256, .f32⟩
  | .hbm, ⟨93, _⟩ => ⟨S8192x256, .f32⟩
  | .hbm, ⟨94, _⟩ => ⟨S8192x128, .f32⟩
  | .hbm, ⟨95, _⟩ => ⟨S8192x128, .f32⟩
  | .hbm, ⟨96, _⟩ => ⟨S8192x256, .f32⟩
  | .hbm, ⟨97, _⟩ => ⟨S8192x256, .f32⟩
  | .hbm, ⟨98, _⟩ => ⟨S8192x7040, .f32⟩
  | .hbm, ⟨99, _⟩ => ⟨S8192x640, .f32⟩
  | .hbm, ⟨100, _⟩ => ⟨S8192x7680, .f32⟩
  | .hbm, ⟨101, _⟩ => ⟨S4x256x256, .bf16⟩
  | .hbm, ⟨102, _⟩ => ⟨S1x1024, .f32⟩
  | .hbm, ⟨103, _⟩ => ⟨S8192x7680, .bf16⟩
  | .hbm, ⟨104, _⟩ => ⟨S4x256x256, .f32⟩
  | .hbm, ⟨105, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S4x256x256, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S4x256x256, .f32⟩
  | .local _ .vmem, ⟨11, _⟩ => ⟨S1x1024, .f32⟩
  | .local _ .vmem, ⟨12, _⟩ => ⟨S16x1024, .f32⟩
  | _, _ => ⟨S8192x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86_0 : Ref sig .tc := ⟨.hbm, 103, rfl⟩
abbrev main_v86_1 : Ref sig .tc := ⟨.hbm, 104, rfl⟩
abbrev main_v86_2 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolReferenceIdeal.lean ====
abbrev S8192x7184 : Shape := ⟨2, ![8192, 7184]⟩
abbrev S4x256x256 : Shape := ⟨3, ![4, 256, 256]⟩
abbrev S1024 : Shape := ⟨1, ![1024]⟩
abbrev S8192x1024 : Shape := ⟨2, ![8192, 1024]⟩
abbrev S8192x7680 : Shape := ⟨2, ![8192, 7680]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S4x256x8192 : Shape := ⟨3, ![4, 256, 8192]⟩
abbrev S1x1024 : Shape := ⟨2, ![1, 1024]⟩
abbrev S4x8192x256 : Shape := ⟨3, ![4, 8192, 256]⟩
abbrev S8192x5632 : Shape := ⟨2, ![8192, 5632]⟩

abbrev nBuf : Space → Nat
  | .hbm => 191
  | .vmem => 0
  | .smem => 0
  | _ => 0

abbrev hbmTy0_0 (i : Nat) : BufTy := match i % 128 with
  | 0 => ⟨S8192x7184, .f32⟩
  | 1 => ⟨S4x256x256, .f32⟩
  | 2 => ⟨S1024, .f32⟩
  | 3 => ⟨S8192x1024, .f32⟩
  | 4 => ⟨S8192x7680, .bf16⟩
  | 5 => ⟨S8192x1024, .f32⟩
  | 6 => ⟨S8192x1024, .f32⟩
  | 7 => ⟨S8192x4x256, .f32⟩
  | 8 => ⟨S_, .f32⟩
  | 9 => ⟨S_, .f32⟩
  | 10 => ⟨S8192x4x256, .f32⟩
  | 11 => ⟨S8192, .i32⟩
  | 12 => ⟨S_, .i32⟩
  | 13 => ⟨S8192, .i32⟩
  | 14 => ⟨S8192, .i32⟩
  | 15 => ⟨S8192x1x256, .f32⟩
  | 16 => ⟨S8192x256, .f32⟩
  | 17 => ⟨S_, .f32⟩
  | 18 => ⟨S2x256, .f32⟩
  | 19 => ⟨S8190x256, .f32⟩
  | 20 => ⟨S8192x256, .f32⟩
  | 21 => ⟨S_, .f32⟩
  | 22 => ⟨S2x256, .f32⟩
  | 23 => ⟨S_, .i32⟩
  | 24 => ⟨S8192, .i32⟩
  | 25 => ⟨S8192, .i32⟩
  | 26 => ⟨S8192, .f32⟩
  | 27 => ⟨S8192x256, .f32⟩
  | 28 => ⟨S8192x1, .f32⟩
  | 29 => ⟨S8192x256, .f32⟩
  | 30 => ⟨S8192x256, .f32⟩
  | 31 => ⟨S8192x1x256, .f32⟩
  | 32 => ⟨S8192x256, .f32⟩
  | 33 => ⟨S_, .f32⟩
  | 34 => ⟨S4x256, .f32⟩
  | 35 => ⟨S8188x256, .f32⟩
  | 36 => ⟨S8192x256, .f32⟩
  | 37 => ⟨S_, .f32⟩
  | 38 => ⟨S4x256, .f32⟩
  | 39 => ⟨S_, .i32⟩
  | 40 => ⟨S8192, .i32⟩
  | 41 => ⟨S8192, .i32⟩
  | 42 => ⟨S8192, .f32⟩
  | 43 => ⟨S8192x256, .f32⟩
  | 44 => ⟨S8192x1, .f32⟩
  | 45 => ⟨S8192x256, .f32⟩
  | 46 => ⟨S8192x256, .f32⟩
  | 47 => ⟨S8192x1x256, .f32⟩
  | 48 => ⟨S8192x256, .f32⟩
  | 49 => ⟨S_, .f32⟩
  | 50 => ⟨S8x256, .f32⟩
  | 51 => ⟨S8184x256, .f32⟩
  | 52 => ⟨S8192x256, .f32⟩
  | 53 => ⟨S_, .f32⟩
  | 54 => ⟨S8x256, .f32⟩
  | 55 => ⟨S_, .i32⟩
  | 56 => ⟨S8192, .i32⟩
  | 57 => ⟨S8192, .i32⟩
  | 58 => ⟨S8192, .f32⟩
  | 59 => ⟨S8192x256, .f32⟩
  | 60 => ⟨S8192x1, .f32⟩
  | 61 => ⟨S8192x256, .f32⟩
  | 62 => ⟨S8192x256, .f32⟩
  | 63 => ⟨S8192x1x256, .f32⟩
  | 64 => ⟨S8192x256, .f32⟩
  | 65 => ⟨S_, .f32⟩
  | 66 => ⟨S16x256, .f32⟩
  | 67 => ⟨S8176x256, .f32⟩
  | 68 => ⟨S8192x256, .f32⟩
  | 69 => ⟨S_, .f32⟩
  | 70 => ⟨S16x256, .f32⟩
  | 71 => ⟨S_, .i32⟩
  | 72 => ⟨S8192, .i32⟩
  | 73 => ⟨S8192, .i32⟩
  | 74 => ⟨S8192, .f32⟩
  | 75 => ⟨S8192x256, .f32⟩
  | 76 => ⟨S8192x1, .f32⟩
  | 77 => ⟨S8192x256, .f32⟩
  | 78 => ⟨S8192x256, .f32⟩
  | 79 => ⟨S8192x1x256, .f32⟩
  | 80 => ⟨S8192x1x256, .f32⟩
  | 81 => ⟨S8192x1x256, .f32⟩
  | 82 => ⟨S8192x1x256, .f32⟩
  | 83 => ⟨S8192x4x256, .f32⟩
  | 84 => ⟨S8192x4x256, .f32⟩
  | 85 => ⟨S4x256x8192, .f32⟩
  | 86 => ⟨S8192x4x256, .f32⟩
  | 87 => ⟨S8192x1024, .f32⟩
  | 88 => ⟨S1x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x4x256, .f32⟩
  | 120 => ⟨S4x256x8192, .f32⟩
  | 121 => ⟨S4x8192x256, .f32⟩
  | 122 => ⟨S8192x4x256, .f32⟩
  | 123 => ⟨S4x256x256, .f32⟩
  | 124 => ⟨S4x256x256, .f32⟩
  | 125 => ⟨S8192x4x256, .f32⟩
  | 126 => ⟨S8192x1x256, .f32⟩
  | 127 => ⟨S8192x256, .f32⟩
  | _ => ⟨S8192x7184, .f32⟩

abbrev hbmTy0_1 (i : Nat) : BufTy := match i % 128 with
  | 0 => ⟨S8192x1x256, .f32⟩
  | 1 => ⟨S8192x256, .f32⟩
  | 2 => ⟨S8192x1x256, .f32⟩
  | 3 => ⟨S8192x256, .f32⟩
  | 4 => ⟨S8192x1x256, .f32⟩
  | 5 => ⟨S8192x256, .f32⟩
  | 6 => ⟨S8192x256, .f32⟩
  | 7 => ⟨S8192x256, .f32⟩
  | 8 => ⟨S8192x256, .f32⟩
  | 9 => ⟨S16x256, .f32⟩
  | 10 => ⟨S8176x256, .f32⟩
  | 11 => ⟨S_, .f32⟩
  | 12 => ⟨S8192x256, .f32⟩
  | 13 => ⟨S8192x256, .f32⟩
  | 14 => ⟨S8192x1x256, .f32⟩
  | 15 => ⟨S_, .f32⟩
  | 16 => ⟨S8192x4x256, .f32⟩
  | 17 => ⟨S8192x256, .f32⟩
  | 18 => ⟨S8192x256, .f32⟩
  | 19 => ⟨S8192x256, .f32⟩
  | 20 => ⟨S8x256, .f32⟩
  | 21 => ⟨S8184x256, .f32⟩
  | 22 => ⟨S_, .f32⟩
  | 23 => ⟨S8192x256, .f32⟩
  | 24 => ⟨S8192x256, .f32⟩
  | 25 => ⟨S8192x1x256, .f32⟩
  | 26 => ⟨S_, .f32⟩
  | 27 => ⟨S8192x4x256, .f32⟩
  | 28 => ⟨S8192x4x256, .f32⟩
  | 29 => ⟨S8192x256, .f32⟩
  | 30 => ⟨S8192x256, .f32⟩
  | 31 => ⟨S8192x256, .f32⟩
  | 32 => ⟨S4x256, .f32⟩
  | 33 => ⟨S8188x256, .f32⟩
  | 34 => ⟨S_, .f32⟩
  | 35 => ⟨S8192x256, .f32⟩
  | 36 => ⟨S8192x256, .f32⟩
  | 37 => ⟨S8192x1x256, .f32⟩
  | 38 => ⟨S_, .f32⟩
  | 39 => ⟨S8192x4x256, .f32⟩
  | 40 => ⟨S8192x4x256, .f32⟩
  | 41 => ⟨S8192x256, .f32⟩
  | 42 => ⟨S8192x256, .f32⟩
  | 43 => ⟨S8192x256, .f32⟩
  | 44 => ⟨S2x256, .f32⟩
  | 45 => ⟨S8190x256, .f32⟩
  | 46 => ⟨S_, .f32⟩
  | 47 => ⟨S8192x256, .f32⟩
  | 48 => ⟨S8192x256, .f32⟩
  | 49 => ⟨S8192x1x256, .f32⟩
  | 50 => ⟨S_, .f32⟩
  | 51 => ⟨S8192x4x256, .f32⟩
  | 52 => ⟨S8192x4x256, .f32⟩
  | 53 => ⟨S_, .f32⟩
  | 54 => ⟨S_, .f32⟩
  | 55 => ⟨S8192x4x256, .f32⟩
  | 56 => ⟨S8192x4x256, .f32⟩
  | 57 => ⟨S8192x1024, .f32⟩
  | 58 => ⟨S8192x1024, .bf16⟩
  | 59 => ⟨S8192x1024, .bf16⟩
  | 60 => ⟨S8192x5632, .bf16⟩
  | 61 => ⟨S8192x7680, .bf16⟩
  | 62 => ⟨S1x1024, .f32⟩
  | _ => ⟨S8192x7184, .f32⟩

abbrev hbmTy (i : Nat) : BufTy := match i / 128 with
  | 0 => hbmTy0_0 i
  | 1 => hbmTy0_1 i
  | _ => ⟨S8192x7184, .f32⟩

abbrev bufTy : (tb : Table) → Fin (tcTables nBuf tb) → BufTy
  | .hbm, ⟨i, _⟩ => hbmTy i
  | _, _ => ⟨S8192x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_c_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_v71_2 : Ref sig .tc := ⟨.hbm, 98, rfl⟩
abbrev main_call1_cst_1 : Ref sig .tc := ⟨.hbm, 99, rfl⟩
abbrev main_call1_v6 : Ref sig .tc := ⟨.hbm, 100, rfl⟩
abbrev main_call1_v7 : Ref sig .tc := ⟨.hbm, 101, rfl⟩
abbrev main_v71_1 : Ref sig .tc := ⟨.hbm, 102, rfl⟩
abbrev main_v71_0 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v75 : Ref sig .tc := ⟨.hbm, 110, rfl⟩
abbrev main_v76 : Ref sig .tc := ⟨.hbm, 111, rfl⟩
abbrev main_cst_11 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_12 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_13 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_14 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_15 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_16 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_17 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_18 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_19 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_20 : Ref sig .tc := ⟨.hbm, 178, rfl⟩
abbrev main_v134 : Ref sig .tc := ⟨.hbm, 179, rfl⟩
abbrev main_v135 : Ref sig .tc := ⟨.hbm, 180, rfl⟩
abbrev main_call3_call0_cst : Ref sig .tc := ⟨.hbm, 181, rfl⟩
abbrev main_call3_call0_v0 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩

abbrev nD : Nat := 1
abbrev τ : Topo := Topo.v7x

variable {F : FTy → Type} [FloatOps F]
-- ==== MergeKernel.lean ====
abbrev S8192x7184 : Shape := ⟨2, ![8192, 7184]⟩
abbrev S8192x1024 : Shape := ⟨2, ![8192, 1024]⟩
abbrev S1024x1024 : Shape := ⟨2, ![1024, 1024]⟩
abbrev S2048 : Shape := ⟨1, ![2048]⟩
abbrev S1024 : Shape := ⟨1, ![1024]⟩
abbrev S_ : Shape := ⟨0, ![]⟩
abbrev S8192x2048 : Shape := ⟨2, ![8192, 2048]⟩
abbrev S1x2048 : Shape := ⟨2, ![1, 2048]⟩
abbrev S8192x4096 : Shape := ⟨2, ![8192, 4096]⟩
abbrev S8192x16 : Shape := ⟨2, ![8192, 16]⟩
abbrev S8192x496 : Shape := ⟨2, ![8192, 496]⟩
abbrev S8192x128 : Shape := ⟨2, ![8192, 128]⟩
abbrev S8192x256 : Shape := ⟨2, ![8192, 256]⟩
abbrev S8192x7040 : Shape := ⟨2, ![8192, 7040]⟩
abbrev S8192x640 : Shape := ⟨2, ![8192, 640]⟩
abbrev S8192x7680 : Shape := ⟨2, ![8192, 7680]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 74
  | .vmem => 27
  | .smem => 0
  | _ => 0

abbrev bufTy : (tb : Table) → Fin (tcTables nBuf tb) → BufTy
  | .hbm, ⟨0, _⟩ => ⟨S8192x7184, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2048, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x4096, .f32⟩
  | .hbm, ⟨36, _⟩ => ⟨S8192x16, .f32⟩
  | .hbm, ⟨37, _⟩ => ⟨S_, .f32⟩
  | .hbm, ⟨38, _⟩ => ⟨S8192x496, .f32⟩
  | .hbm, ⟨39, _⟩ => ⟨S8192x128, .f32⟩
  | .hbm, ⟨40, _⟩ => ⟨S8192x128, .f32⟩
  | .hbm, ⟨41, _⟩ => ⟨S8192x256, .f32⟩
  | .hbm, ⟨42, _⟩ => ⟨S8192x256, .f32⟩
  | .hbm, ⟨43, _⟩ => ⟨S8192x128, .f32⟩
  | .hbm, ⟨44, _⟩ => ⟨S8192x128, .f32⟩
  | .hbm, ⟨45, _⟩ => ⟨S8192x256, .f32⟩
  | .hbm, ⟨46, _⟩ => ⟨S8192x256, .f32⟩
  | .hbm, ⟨47, _⟩ => ⟨S8192x128, .f32⟩
  | .hbm, ⟨48, _⟩ => ⟨S8192x128, .f32⟩
  | .hbm, ⟨49, _⟩ => ⟨S8192x256, .f32⟩
  | .hbm, ⟨50, _⟩ => ⟨S8192x256, .f32⟩
  | .hbm, ⟨51, _⟩ => ⟨S8192x128, .f32⟩
  | .hbm, ⟨52, _⟩ => ⟨S8192x128, .f32⟩
  | .hbm, ⟨53, _⟩ => ⟨S8192x256, .f32⟩
  | .hbm, ⟨54, _⟩ => ⟨S8192x256, .f32⟩
  | .hbm, ⟨55, _⟩ => ⟨S8192x7040, .f32⟩
  | .hbm, ⟨56, _⟩ => ⟨S8192x640, .f32⟩
  | .hbm, ⟨57, _⟩ => ⟨S8192x7680, .f32⟩
  | .hbm, ⟨58, _⟩ => ⟨S8192x1024, .bf16⟩
  | .hbm, ⟨59, _⟩ => ⟨S8192x1024, .bf16⟩
  | .hbm, ⟨60, _⟩ => ⟨S1024x1024, .bf16⟩
  | .hbm, ⟨61, _⟩ => ⟨S1024x1024, .bf16⟩
  | .hbm, ⟨62, _⟩ => ⟨S1024x1024, .bf16⟩
  | .hbm, ⟨63, _⟩ => ⟨S1x2048, .f32⟩
  | .hbm, ⟨64, _⟩ => ⟨S1x1024, .f32⟩
  | .hbm, ⟨65, _⟩ => ⟨S8192x7680, .bf16⟩
  | .hbm, ⟨66, _⟩ => ⟨S8192x1024, .f32⟩
  | .hbm, ⟨67, _⟩ => ⟨S8192x1024, .bf16⟩
  | .hbm, ⟨68, _⟩ => ⟨S8192x1024, .bf16⟩
  | .hbm, ⟨69, _⟩ => ⟨S1024x1024, .f32⟩
  | .hbm, ⟨70, _⟩ => ⟨S1x1024, .f32⟩
  | .hbm, ⟨71, _⟩ => ⟨S1x1024, .f32⟩
  | .hbm, ⟨72, _⟩ => ⟨S1x2048, .f32⟩
  | .hbm, ⟨73, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x2048, .f32⟩
  | .local _ .vmem, ⟨14, _⟩ => ⟨S1x1024, .f32⟩
  | .local _ .vmem, ⟨15, _⟩ => ⟨S256x2048, .bf16⟩
  | .local _ .vmem, ⟨16, _⟩ => ⟨S256x2048, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1024x1024, .f32⟩
  | .local _ .vmem, ⟨24, _⟩ => ⟨S1x1024, .f32⟩
  | .local _ .vmem, ⟨25, _⟩ => ⟨S1x1024, .f32⟩
  | .local _ .vmem, ⟨26, _⟩ => ⟨S1x2048, .f32⟩
  | _, _ => ⟨S8192x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev main_v50_3 : Ref sig .tc := ⟨.hbm, 68, rfl⟩
abbrev main_v50_4 : Ref sig .tc := ⟨.hbm, 69, rfl⟩
abbrev main_v50_5 : Ref sig .tc := ⟨.hbm, 70, rfl⟩
abbrev main_v50_6 : Ref sig .tc := ⟨.hbm, 71, rfl⟩
abbrev main_v50_7 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeReferenceIdeal.lean ====
abbrev S8192x7184 : Shape := ⟨2, ![8192, 7184]⟩
abbrev S8192x1024 : Shape := ⟨2, ![8192, 1024]⟩
abbrev S1024x1024 : Shape := ⟨2, ![1024, 1024]⟩
abbrev S2048 : Shape := ⟨1, ![2048]⟩
abbrev S1024 : Shape := ⟨1, ![1024]⟩
abbrev S_ : Shape := ⟨0, ![]⟩
abbrev S8192x2048 : Shape := ⟨2, ![8192, 2048]⟩
abbrev S1x2048 : Shape := ⟨2, ![1, 2048]⟩
abbrev S8192 : Shape := ⟨1, ![8192]⟩
abbrev S8192x1 : Shape := ⟨2, ![8192, 1]⟩
abbrev S1x1024 : Shape := ⟨2, ![1, 1024]⟩

abbrev nBuf : Space → Nat
  | .hbm => 164
  | .vmem => 0
  | .smem => 0
  | _ => 0

abbrev hbmTy0_0 (i : Nat) : BufTy := match i % 128 with
  | 0 => ⟨S8192x7184, .f32⟩
  | 1 => ⟨S8192x1024, .f32⟩
  | 2 => ⟨S8192x1024, .f32⟩
  | 3 => ⟨S8192x1024, .f32⟩
  | 4 => ⟨S8192x1024, .f32⟩
  | 5 => ⟨S1024x1024, .f32⟩
  | 6 => ⟨S1024x1024, .f32⟩
  | 7 => ⟨S1024x1024, .f32⟩
  | 8 => ⟨S2048, .f32⟩
  | 9 => ⟨S1024, .f32⟩
  | 10 => ⟨S1024, .f32⟩
  | 11 => ⟨S_, .f32⟩
  | 12 => ⟨S8192x1024, .f32⟩
  | 13 => ⟨S8192x1024, .f32⟩
  | 14 => ⟨S8192x2048, .f32⟩
  | 15 => ⟨S8192x1024, .f32⟩
  | 16 => ⟨S8192x1024, .f32⟩
  | 17 => ⟨S1x2048, .f32⟩
  | 18 => ⟨S8192x2048, .f32⟩
  | 19 => ⟨S8192x2048, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S_, .f32⟩
  | 26 => ⟨S8192x2048, .f32⟩
  | 27 => ⟨S8192x2048, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S8192x1024, .f32⟩
  | 78 => ⟨S_, .f32⟩
  | 79 => ⟨S1024, .f32⟩
  | 80 => ⟨S1x1024, .f32⟩
  | 81 => ⟨S8192x1024, .f32⟩
  | 82 => ⟨S8192x1024, .f32⟩
  | 83 => ⟨S_, .f32⟩
  | 84 => ⟨S1024, .f32⟩
  | 85 => ⟨S8192x1024, .f32⟩
  | 86 => ⟨S_, .f32⟩
  | 87 => ⟨S8192, .f32⟩
  | 88 => ⟨S8192x1, .f32⟩
  | 89 => ⟨S8192x1024, .f32⟩
  | 90 => ⟨S8192x1024, .f32⟩
  | 91 => ⟨S8192x1, .f32⟩
  | 92 => ⟨S8192x1024, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x1024, .f32⟩
  | 102 => ⟨S8192x1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x2048, .f32⟩
  | 117 => ⟨S8192x1024, .f32⟩
  | 118 => ⟨S8192x1024, .f32⟩
  | 119 => ⟨S1x2048, .f32⟩
  | 120 => ⟨S8192x2048, .f32⟩
  | 121 => ⟨S8192x2048, .f32⟩
  | 122 => ⟨S8192x2048, .f32⟩
  | 123 => ⟨S8192x2048, .f32⟩
  | 124 => ⟨S_, .f32⟩
  | 125 => ⟨S8192x2048, .f32⟩
  | 126 => ⟨S8192x2048, .f32⟩
  | 127 => ⟨S_, .f32⟩
  | _ => ⟨S8192x7184, .f32⟩

abbrev hbmTy0_1 (i : Nat) : BufTy := match i % 128 with
  | 0 => ⟨S8192x2048, .f32⟩
  | 1 => ⟨S8192x2048, .f32⟩
  | 2 => ⟨S_, .f32⟩
  | 3 => ⟨S8192x2048, .f32⟩
  | 4 => ⟨S8192x2048, .f32⟩
  | 5 => ⟨S8192x2048, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S1024x1024, .f32⟩
  | 13 => ⟨S1024x1024, .f32⟩
  | 14 => ⟨S8192x1024, .f32⟩
  | 15 => ⟨S8192x1024, .f32⟩
  | 16 => ⟨S8192x1024, .f32⟩
  | 17 => ⟨S_, .f32⟩
  | 18 => ⟨S8192x2048, .f32⟩
  | 19 => ⟨S8192x1024, .f32⟩
  | 20 => ⟨S8192x1024, .f32⟩
  | 21 => ⟨S_, .f32⟩
  | 22 => ⟨S8192x2048, .f32⟩
  | 23 => ⟨S8192x2048, .f32⟩
  | 24 => ⟨S8192x2048, .f32⟩
  | 25 => ⟨S_, .f32⟩
  | 26 => ⟨S2048, .f32⟩
  | 27 => ⟨S1x2048, .f32⟩
  | 28 => ⟨S_, .f32⟩
  | 29 => ⟨S2048, .f32⟩
  | 30 => ⟨S8192x2048, .bf16⟩
  | 31 => ⟨S8192x1024, .bf16⟩
  | 32 => ⟨S8192x1024, .bf16⟩
  | 33 => ⟨S1x1024, .f32⟩
  | 34 => ⟨S1x1024, .f32⟩
  | 35 => ⟨S1x2048, .f32⟩
  | _ => ⟨S8192x7184, .f32⟩

abbrev hbmTy (i : Nat) : BufTy := match i / 128 with
  | 0 => hbmTy0_0 i
  | 1 => hbmTy0_1 i
  | _ => ⟨S8192x7184, .f32⟩

abbrev bufTy : (tb : Table) → Fin (tcTables nBuf tb) → BufTy
  | .hbm, ⟨i, _⟩ => hbmTy i
  | _, _ => ⟨S8192x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_cst_22 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_23 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_24 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_25 : Ref sig .tc := ⟨.hbm, 153, rfl⟩
abbrev main_v116 : Ref sig .tc := ⟨.hbm, 154, rfl⟩
abbrev main_v117 : Ref sig .tc := ⟨.hbm, 155, rfl⟩
abbrev main_cst_26 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩

abbrev nD : Nat := 1
abbrev τ : Topo := Topo.v7x

variable {F : FTy → Type} [FloatOps F]
-- ==== GlaKernel.lean ====
abbrev S8192x7184 : Shape := ⟨2, ![8192, 7184]⟩
abbrev S16x512 : Shape := ⟨2, ![16, 512]⟩
abbrev S512 : Shape := ⟨1, ![512]⟩
abbrev S4x256 : Shape := ⟨2, ![4, 256]⟩
abbrev S8192x1024 : Shape := ⟨2, ![8192, 1024]⟩
abbrev S4x128x256x128 : Shape := ⟨4, ![4, 128, 256, 128]⟩
abbrev S8192x7680 : Shape := ⟨2, ![8192, 7680]⟩
abbrev S8192x4096 : Shape := ⟨2, ![8192, 4096]⟩
abbrev S8192x16 : Shape := ⟨2, ![8192, 16]⟩
abbrev S_ : Shape := ⟨0, ![]⟩
abbrev S8192x496 : Shape := ⟨2, ![8192, 496]⟩
abbrev S8192x128 : Shape := ⟨2, ![8192, 128]⟩
abbrev S8192x256 : Shape := ⟨2, ![8192, 256]⟩
abbrev S8192x7040 : Shape := ⟨2, ![8192, 7040]⟩
abbrev S8192x640 : Shape := ⟨2, ![8192, 640]⟩
abbrev S496x512 : Shape := ⟨2, ![496, 512]⟩
abbrev S512x512 : Shape := ⟨2, ![512, 512]⟩
abbrev S1x512 : Shape := ⟨2, ![1, 512]⟩
abbrev S1x1024 : Shape := ⟨2, ![1, 1024]⟩
abbrev S8192x512 : Shape := ⟨2, ![8192, 512]⟩
abbrev S4x1x256 : Shape := ⟨3, ![4, 1, 256]⟩
abbrev S4x1x128 : Shape := ⟨3, ![4, 1, 128]⟩
abbrev S1024x1536 : Shape := ⟨2, ![1024, 1536]⟩
abbrev S1024x128 : Shape := ⟨2, ![1024, 128]⟩
abbrev S128x256 : Shape := ⟨2, ![128, 256]⟩
abbrev S1x256 : Shape := ⟨2, ![1, 256]⟩
abbrev S1024x512 : Shape := ⟨2, ![1024, 512]⟩
abbrev S2x16x256x128 : Shape := ⟨4, ![2, 16, 256, 128]⟩
abbrev S1024x256 : Shape := ⟨2, ![1024, 256]⟩
abbrev S2x1x256 : Shape := ⟨3, ![2, 1, 256]⟩
abbrev S2x1x128 : Shape := ⟨3, ![2, 1, 128]⟩
abbrev S2x256x128 : Shape := ⟨3, ![2, 256, 128]⟩
abbrev S6x1024x256 : Shape := ⟨3, ![6, 1024, 256]⟩
abbrev S4x1024x256 : Shape := ⟨3, ![4, 1024, 256]⟩
abbrev S16x256 : Shape := ⟨2, ![16, 256]⟩
abbrev S64x64 : Shape := ⟨2, ![64, 64]⟩
abbrev S64x512 : Shape := ⟨2, ![64, 512]⟩
abbrev S64x256 : Shape := ⟨2, ![64, 256]⟩
abbrev S1x1024x256 : Shape := ⟨3, ![1, 1024, 256]⟩
abbrev S1x1024x128 : Shape := ⟨3, ![1, 1024, 128]⟩
abbrev S1024 : Shape := ⟨1, ![1024]⟩
abbrev S1024x1 : Shape := ⟨2, ![1024, 1]⟩
abbrev S1x1x256 : Shape := ⟨3, ![1, 1, 256]⟩
abbrev S256 : Shape := ⟨1, ![256]⟩
abbrev S1x1x256x128 : Shape := ⟨4, ![1, 1, 256, 128]⟩
abbrev S256x128 : Shape := ⟨2, ![256, 128]⟩
abbrev S1x256x128 : Shape := ⟨3, ![1, 256, 128]⟩
abbrev S1x128 : Shape := ⟨2, ![1, 128]⟩
abbrev S1x64x128 : Shape := ⟨3, ![1, 64, 128]⟩
abbrev S64x128 : Shape := ⟨2, ![64, 128]⟩
abbrev S128 : Shape := ⟨1, ![128]⟩
abbrev S1x1x128 : Shape := ⟨3, ![1, 1, 128]⟩

abbrev nBuf : Space → Nat
  | .hbm => 41
  | .vmem => 32
  | .smem => 0
  | _ => 0

abbrev bufTy : (tb : Table) → Fin (tcTables nBuf tb) → BufTy
  | .hbm, ⟨0, _⟩ => ⟨S8192x7184, .f32⟩
  | .hbm, ⟨1, _⟩ => ⟨S16x512, .f32⟩
  | .hbm, ⟨2, _⟩ => ⟨S512, .f32⟩
  | .hbm, ⟨3, _⟩ => ⟨S4x256, .f32⟩
  | .hbm, ⟨4, _⟩ => ⟨S8192x1024, .f32⟩
  | .hbm, ⟨5, _⟩ => ⟨S4x128x256x128, .f32⟩
  | .hbm, ⟨6, _⟩ => ⟨S8192x1024, .f32⟩
  | .hbm, ⟨7, _⟩ => ⟨S8192x7680, .bf16⟩
  | .hbm, ⟨8, _⟩ => ⟨S8192x4096, .f32⟩
  | .hbm, ⟨9, _⟩ => ⟨S8192x16, .f32⟩
  | .hbm, ⟨10, _⟩ => ⟨S_, .f32⟩
  | .hbm, ⟨11, _⟩ => ⟨S8192x496, .f32⟩
  | .hbm, ⟨12, _⟩ => ⟨S8192x128, .f32⟩
  | .hbm, ⟨13, _⟩ => ⟨S8192x128, .f32⟩
  | .hbm, ⟨14, _⟩ => ⟨S8192x256, .f32⟩
  | .hbm, ⟨15, _⟩ => ⟨S8192x256, .f32⟩
  | .hbm, ⟨16, _⟩ => ⟨S8192x128, .f32⟩
  | .hbm, ⟨17, _⟩ => ⟨S8192x128, .f32⟩
  | .hbm, ⟨18, _⟩ => ⟨S8192x256, .f32⟩
  | .hbm, ⟨19, _⟩ => ⟨S8192x256, .f32⟩
  | .hbm, ⟨20, _⟩ => ⟨S8192x128, .f32⟩
  | .hbm, ⟨21, _⟩ => ⟨S8192x128, .f32⟩
  | .hbm, ⟨22, _⟩ => ⟨S8192x256, .f32⟩
  | .hbm, ⟨23, _⟩ => ⟨S8192x256, .f32⟩
  | .hbm, ⟨24, _⟩ => ⟨S8192x128, .f32⟩
  | .hbm, ⟨25, _⟩ => ⟨S8192x128, .f32⟩
  | .hbm, ⟨26, _⟩ => ⟨S8192x256, .f32⟩
  | .hbm, ⟨27, _⟩ => ⟨S8192x256, .f32⟩
  | .hbm, ⟨28, _⟩ => ⟨S8192x7040, .f32⟩
  | .hbm, ⟨29, _⟩ => ⟨S8192x640, .f32⟩
  | .hbm, ⟨30, _⟩ => ⟨S8192x7680, .f32⟩
  | .hbm, ⟨31, _⟩ => ⟨S_, .f32⟩
  | .hbm, ⟨32, _⟩ => ⟨S496x512, .f32⟩
  | .hbm, ⟨33, _⟩ => ⟨S512x512, .f32⟩
  | .hbm, ⟨34, _⟩ => ⟨S512x512, .bf16⟩
  | .hbm, ⟨35, _⟩ => ⟨S1x512, .f32⟩
  | .hbm, ⟨36, _⟩ => ⟨S1x1024, .f32⟩
  | .hbm, ⟨37, _⟩ => ⟨S8192x7680, .bf16⟩
  | .hbm, ⟨38, _⟩ => ⟨S8192x512, .bf16⟩
  | .hbm, ⟨39, _⟩ => ⟨S4x1x256, .f32⟩
  | .hbm, ⟨40, _⟩ => ⟨S4x1x128, .f32⟩
  | .local _ .vmem, ⟨0, _⟩ => ⟨S1024x1536, .f32⟩
  | .local _ .vmem, ⟨1, _⟩ => ⟨S1024x1536, .f32⟩
  | .local _ .vmem, ⟨2, _⟩ => ⟨S1024x128, .f32⟩
  | .local _ .vmem, ⟨3, _⟩ => ⟨S1024x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S1x256, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S2x16x256x128, .f32⟩
  | .local _ .vmem, ⟨13, _⟩ => ⟨S2x16x256x128, .f32⟩
  | .local _ .vmem, ⟨14, _⟩ => ⟨S1024x512, .f32⟩
  | .local _ .vmem, ⟨15, _⟩ => ⟨S1024x512, .f32⟩
  | .local _ .vmem, ⟨16, _⟩ => ⟨S1024x1536, .bf16⟩
  | .local _ .vmem, ⟨17, _⟩ => ⟨S1024x1536, .bf16⟩
  | .local _ .vmem, ⟨18, _⟩ => ⟨S1024x256, .bf16⟩
  | .local _ .vmem, ⟨19, _⟩ => ⟨S1024x256, .bf16⟩
  | .local _ .vmem, ⟨20, _⟩ => ⟨S2x1x256, .f32⟩
  | .local _ .vmem, ⟨21, _⟩ => ⟨S2x1x256, .f32⟩
  | .local _ .vmem, ⟨22, _⟩ => ⟨S2x1x128, .f32⟩
  | .local _ .vmem, ⟨23, _⟩ => ⟨S2x1x128, .f32⟩
  | .local _ .vmem, ⟨24, _⟩ => ⟨S2x256x128, .f32⟩
  | .local _ .vmem, ⟨25, _⟩ => ⟨S1024x256, .f32⟩
  | .local _ .vmem, ⟨26, _⟩ => ⟨S1024x256, .f32⟩
  | .local _ .vmem, ⟨27, _⟩ => ⟨S1024x512, .f32⟩
  | .local _ .vmem, ⟨28, _⟩ => ⟨S6x1024x256, .bf16⟩
  | .local _ .vmem, ⟨29, _⟩ => ⟨S4x1024x256, .f32⟩
  | .local _ .vmem, ⟨30, _⟩ => ⟨S6x1024x256, .f32⟩
  | .local _ .vmem, ⟨31, _⟩ => ⟨S16x256, .f32⟩
  | _, _ => ⟨S8192x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.addi c3_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let c0_i32 : BitVec 32 := 0#32
  ![v0.toNat, c32_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_6 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.addi c3_i32 arg0
  let c0_i32 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x16x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MergeFwdKernel.lean ====
abbrev S8192x7184 : Shape := ⟨2, ![8192, 7184]⟩
abbrev S8192x1024 : Shape := ⟨2, ![8192, 1024]⟩
abbrev S1024x1024 : Shape := ⟨2, ![1024, 1024]⟩
abbrev S2048 : Shape := ⟨1, ![2048]⟩
abbrev S1024 : Shape := ⟨1, ![1024]⟩
abbrev S8192x4096 : Shape := ⟨2, ![8192, 4096]⟩
abbrev S8192x16 : Shape := ⟨2, ![8192, 16]⟩
abbrev S_ : Shape := ⟨0, ![]⟩
abbrev S8192x496 : Shape := ⟨2, ![8192, 496]⟩
abbrev S8192x128 : Shape := ⟨2, ![8192, 128]⟩
abbrev S8192x256 : Shape := ⟨2, ![8192, 256]⟩
abbrev S8192x7040 : Shape := ⟨2, ![8192, 7040]⟩
abbrev S8192x640 : Shape := ⟨2, ![8192, 640]⟩
abbrev S8192x7680 : Shape := ⟨2, ![8192, 7680]⟩
abbrev S1x2048 : Shape := ⟨2, ![1, 2048]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 44
  | .vmem => 20
  | .smem => 0
  | _ => 0

abbrev bufTy : (tb : Table) → Fin (tcTables nBuf tb) → BufTy
  | .hbm, ⟨0, _⟩ => ⟨S8192x7184, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2048, .f32⟩
  | .hbm, ⟨8, _⟩ => ⟨S1024, .f32⟩
  | .hbm, ⟨9, _⟩ => ⟨S1024, .f32⟩
  | .hbm, ⟨10, _⟩ => ⟨S8192x4096, .f32⟩
  | .hbm, ⟨11, _⟩ => ⟨S8192x16, .f32⟩
  | .hbm, ⟨12, _⟩ => ⟨S_, .f32⟩
  | .hbm, ⟨13, _⟩ => ⟨S8192x496, .f32⟩
  | .hbm, ⟨14, _⟩ => ⟨S8192x128, .f32⟩
  | .hbm, ⟨15, _⟩ => ⟨S8192x128, .f32⟩
  | .hbm, ⟨16, _⟩ => ⟨S8192x256, .f32⟩
  | .hbm, ⟨17, _⟩ => ⟨S8192x256, .f32⟩
  | .hbm, ⟨18, _⟩ => ⟨S8192x128, .f32⟩
  | .hbm, ⟨19, _⟩ => ⟨S8192x128, .f32⟩
  | .hbm, ⟨20, _⟩ => ⟨S8192x256, .f32⟩
  | .hbm, ⟨21, _⟩ => ⟨S8192x256, .f32⟩
  | .hbm, ⟨22, _⟩ => ⟨S8192x128, .f32⟩
  | .hbm, ⟨23, _⟩ => ⟨S8192x128, .f32⟩
  | .hbm, ⟨24, _⟩ => ⟨S8192x256, .f32⟩
  | .hbm, ⟨25, _⟩ => ⟨S8192x256, .f32⟩
  | .hbm, ⟨26, _⟩ => ⟨S8192x128, .f32⟩
  | .hbm, ⟨27, _⟩ => ⟨S8192x128, .f32⟩
  | .hbm, ⟨28, _⟩ => ⟨S8192x256, .f32⟩
  | .hbm, ⟨29, _⟩ => ⟨S8192x256, .f32⟩
  | .hbm, ⟨30, _⟩ => ⟨S8192x7040, .f32⟩
  | .hbm, ⟨31, _⟩ => ⟨S8192x640, .f32⟩
  | .hbm, ⟨32, _⟩ => ⟨S8192x7680, .f32⟩
  | .hbm, ⟨33, _⟩ => ⟨S8192x1024, .bf16⟩
  | .hbm, ⟨34, _⟩ => ⟨S8192x1024, .bf16⟩
  | .hbm, ⟨35, _⟩ => ⟨S1024x1024, .bf16⟩
  | .hbm, ⟨36, _⟩ => ⟨S1024x1024, .bf16⟩
  | .hbm, ⟨37, _⟩ => ⟨S1024x1024, .bf16⟩
  | .hbm, ⟨38, _⟩ => ⟨S1x2048, .f32⟩
  | .hbm, ⟨39, _⟩ => ⟨S1x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x2048, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8192x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeFwdReferenceIdeal.lean ====
abbrev S8192x7184 : Shape := ⟨2, ![8192, 7184]⟩
abbrev S8192x1024 : Shape := ⟨2, ![8192, 1024]⟩
abbrev S1024x1024 : Shape := ⟨2, ![1024, 1024]⟩
abbrev S2048 : Shape := ⟨1, ![2048]⟩
abbrev S1024 : Shape := ⟨1, ![1024]⟩
abbrev S_ : Shape := ⟨0, ![]⟩
abbrev S8192x2048 : Shape := ⟨2, ![8192, 2048]⟩
abbrev S1x2048 : Shape := ⟨2, ![1, 2048]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x7184, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2048, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | _, _ => ⟨S8192x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== PoolFwdKernel.lean ====
abbrev S8192x7184 : Shape := ⟨2, ![8192, 7184]⟩
abbrev S4x256x256 : Shape := ⟨3, ![4, 256, 256]⟩
abbrev S1024 : Shape := ⟨1, ![1024]⟩
abbrev S8192x4096 : Shape := ⟨2, ![8192, 4096]⟩
abbrev S8192x16 : Shape := ⟨2, ![8192, 16]⟩
abbrev S_ : Shape := ⟨0, ![]⟩
abbrev S8192x496 : Shape := ⟨2, ![8192, 496]⟩
abbrev S8192x128 : Shape := ⟨2, ![8192, 128]⟩
abbrev S8192x256 : Shape := ⟨2, ![8192, 256]⟩
abbrev S8192x7040 : Shape := ⟨2, ![8192, 7040]⟩
abbrev S8192x640 : Shape := ⟨2, ![8192, 640]⟩
abbrev S8192x7680 : Shape := ⟨2, ![8192, 7680]⟩
abbrev S1x1024 : Shape := ⟨2, ![1, 1024]⟩
abbrev S8192x1024 : Shape := ⟨2, ![8192, 1024]⟩
abbrev S1024x2048 : Shape := ⟨2, ![1024, 2048]⟩
abbrev S1024x1024 : Shape := ⟨2, ![1024, 1024]⟩
abbrev S16x1024 : Shape := ⟨2, ![16, 1024]⟩
abbrev S1024x256 : Shape := ⟨2, ![1024, 256]⟩
abbrev S16x256 : Shape := ⟨2, ![16, 256]⟩
abbrev S1040x256 : Shape := ⟨2, ![1040, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 30
  | .vmem => 9
  | .smem => 0
  | _ => 0

abbrev bufTy : (tb : Table) → Fin (tcTables nBuf tb) → BufTy
  | .hbm, ⟨0, _⟩ => ⟨S8192x7184, .f32⟩
  | .hbm, ⟨1, _⟩ => ⟨S4x256x256, .f32⟩
  | .hbm, ⟨2, _⟩ => ⟨S1024, .f32⟩
  | .hbm, ⟨3, _⟩ => ⟨S8192x4096, .f32⟩
  | .hbm, ⟨4, _⟩ => ⟨S8192x16, .f32⟩
  | .hbm, ⟨5, _⟩ => ⟨S_, .f32⟩
  | .hbm, ⟨6, _⟩ => ⟨S8192x496, .f32⟩
  | .hbm, ⟨7, _⟩ => ⟨S8192x128, .f32⟩
  | .hbm, ⟨8, _⟩ => ⟨S8192x128, .f32⟩
  | .hbm, ⟨9, _⟩ => ⟨S8192x256, .f32⟩
  | .hbm, ⟨10, _⟩ => ⟨S8192x256, .f32⟩
  | .hbm, ⟨11, _⟩ => ⟨S8192x128, .f32⟩
  | .hbm, ⟨12, _⟩ => ⟨S8192x128, .f32⟩
  | .hbm, ⟨13, _⟩ => ⟨S8192x256, .f32⟩
  | .hbm, ⟨14, _⟩ => ⟨S8192x256, .f32⟩
  | .hbm, ⟨15, _⟩ => ⟨S8192x128, .f32⟩
  | .hbm, ⟨16, _⟩ => ⟨S8192x128, .f32⟩
  | .hbm, ⟨17, _⟩ => ⟨S8192x256, .f32⟩
  | .hbm, ⟨18, _⟩ => ⟨S8192x256, .f32⟩
  | .hbm, ⟨19, _⟩ => ⟨S8192x128, .f32⟩
  | .hbm, ⟨20, _⟩ => ⟨S8192x128, .f32⟩
  | .hbm, ⟨21, _⟩ => ⟨S8192x256, .f32⟩
  | .hbm, ⟨22, _⟩ => ⟨S8192x256, .f32⟩
  | .hbm, ⟨23, _⟩ => ⟨S8192x7040, .f32⟩
  | .hbm, ⟨24, _⟩ => ⟨S8192x640, .f32⟩
  | .hbm, ⟨25, _⟩ => ⟨S8192x7680, .f32⟩
  | .hbm, ⟨26, _⟩ => ⟨S4x256x256, .bf16⟩
  | .hbm, ⟨27, _⟩ => ⟨S1x1024, .f32⟩
  | .hbm, ⟨28, _⟩ => ⟨S8192x1024, .bf16⟩
  | .hbm, ⟨29, _⟩ => ⟨S8192x1024, .bf16⟩
  | .local _ .vmem, ⟨0, _⟩ => ⟨S1024x2048, .f32⟩
  | .local _ .vmem, ⟨1, _⟩ => ⟨S1024x2048, .f32⟩
  | .local _ .vmem, ⟨2, _⟩ => ⟨S4x256x256, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S16x1024, .f32⟩
  | _, _ => ⟨S8192x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24_0 : Ref sig .tc := ⟨.hbm, 28, rfl⟩
abbrev main_v24_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdReferenceIdeal.lean ====
abbrev S8192x7184 : Shape := ⟨2, ![8192, 7184]⟩
abbrev S4x256x256 : Shape := ⟨3, ![4, 256, 256]⟩
abbrev S1024 : Shape := ⟨1, ![1024]⟩
abbrev S8192x1024 : Shape := ⟨2, ![8192, 1024]⟩
abbrev S8192x4x256 : Shape := ⟨3, ![8192, 4, 256]⟩
abbrev S_ : Shape := ⟨0, ![]⟩
abbrev S8192 : Shape := ⟨1, ![8192]⟩
abbrev S8192x1x256 : Shape := ⟨3, ![8192, 1, 256]⟩
abbrev S8192x256 : Shape := ⟨2, ![8192, 256]⟩
abbrev S2x256 : Shape := ⟨2, ![2, 256]⟩
abbrev S8190x256 : Shape := ⟨2, ![8190, 256]⟩
abbrev S8192x1 : Shape := ⟨2, ![8192, 1]⟩
abbrev S4x256 : Shape := ⟨2, ![4, 256]⟩
abbrev S8188x256 : Shape := ⟨2, ![8188, 256]⟩
abbrev S8x256 : Shape := ⟨2, ![8, 256]⟩
abbrev S8184x256 : Shape := ⟨2, ![8184, 256]⟩
abbrev S16x256 : Shape := ⟨2, ![16, 256]⟩
abbrev S8176x256 : Shape := ⟨2, ![8176, 256]⟩
abbrev S4x256x8192 : Shape := ⟨3, ![4, 256, 8192]⟩
abbrev S1x1024 : Shape := ⟨2, ![1, 1024]⟩

abbrev nBuf : Space → Nat
  | .hbm => 164
  | .vmem => 0
  | .smem => 0
  | _ => 0

abbrev hbmTy0_0 (i : Nat) : BufTy := match i % 128 with
  | 0 => ⟨S8192x7184, .f32⟩
  | 1 => ⟨S4x256x256, .f32⟩
  | 2 => ⟨S1024, .f32⟩
  | 3 => ⟨S8192x1024, .f32⟩
  | 4 => ⟨S8192x4x256, .f32⟩
  | 5 => ⟨S_, .f32⟩
  | 6 => ⟨S_, .f32⟩
  | 7 => ⟨S8192x4x256, .f32⟩
  | 8 => ⟨S8192, .i32⟩
  | 9 => ⟨S_, .i32⟩
  | 10 => ⟨S8192, .i32⟩
  | 11 => ⟨S8192, .i32⟩
  | 12 => ⟨S8192x1x256, .f32⟩
  | 13 => ⟨S8192x256, .f32⟩
  | 14 => ⟨S_, .f32⟩
  | 15 => ⟨S2x256, .f32⟩
  | 16 => ⟨S8190x256, .f32⟩
  | 17 => ⟨S8192x256, .f32⟩
  | 18 => ⟨S_, .i32⟩
  | 19 => ⟨S8192, .i32⟩
  | 20 => ⟨S8192, .i32⟩
  | 21 => ⟨S8192, .f32⟩
  | 22 => ⟨S8192x256, .f32⟩
  | 23 => ⟨S8192x1, .f32⟩
  | 24 => ⟨S8192x256, .f32⟩
  | 25 => ⟨S8192x256, .f32⟩
  | 26 => ⟨S8192x1x256, .f32⟩
  | 27 => ⟨S8192x256, .f32⟩
  | 28 => ⟨S_, .f32⟩
  | 29 => ⟨S4x256, .f32⟩
  | 30 => ⟨S8188x256, .f32⟩
  | 31 => ⟨S8192x256, .f32⟩
  | 32 => ⟨S_, .i32⟩
  | 33 => ⟨S8192, .i32⟩
  | 34 => ⟨S8192, .i32⟩
  | 35 => ⟨S8192, .f32⟩
  | 36 => ⟨S8192x256, .f32⟩
  | 37 => ⟨S8192x1, .f32⟩
  | 38 => ⟨S8192x256, .f32⟩
  | 39 => ⟨S8192x256, .f32⟩
  | 40 => ⟨S8192x1x256, .f32⟩
  | 41 => ⟨S8192x256, .f32⟩
  | 42 => ⟨S_, .f32⟩
  | 43 => ⟨S8x256, .f32⟩
  | 44 => ⟨S8184x256, .f32⟩
  | 45 => ⟨S8192x256, .f32⟩
  | 46 => ⟨S_, .i32⟩
  | 47 => ⟨S8192, .i32⟩
  | 48 => ⟨S8192, .i32⟩
  | 49 => ⟨S8192, .f32⟩
  | 50 => ⟨S8192x256, .f32⟩
  | 51 => ⟨S8192x1, .f32⟩
  | 52 => ⟨S8192x256, .f32⟩
  | 53 => ⟨S8192x256, .f32⟩
  | 54 => ⟨S8192x1x256, .f32⟩
  | 55 => ⟨S8192x256, .f32⟩
  | 56 => ⟨S_, .f32⟩
  | 57 => ⟨S16x256, .f32⟩
  | 58 => ⟨S8176x256, .f32⟩
  | 59 => ⟨S8192x256, .f32⟩
  | 60 => ⟨S_, .i32⟩
  | 61 => ⟨S8192, .i32⟩
  | 62 => ⟨S8192, .i32⟩
  | 63 => ⟨S8192, .f32⟩
  | 64 => ⟨S8192x256, .f32⟩
  | 65 => ⟨S8192x1, .f32⟩
  | 66 => ⟨S8192x256, .f32⟩
  | 67 => ⟨S8192x256, .f32⟩
  | 68 => ⟨S8192x1x256, .f32⟩
  | 69 => ⟨S8192x1x256, .f32⟩
  | 70 => ⟨S8192x1x256, .f32⟩
  | 71 => ⟨S8192x1x256, .f32⟩
  | 72 => ⟨S8192x4x256, .f32⟩
  | 73 => ⟨S8192x4x256, .f32⟩
  | 74 => ⟨S8192x1024, .f32⟩
  | 75 => ⟨S8192x1024, .bf16⟩
  | 76 => ⟨S8192x1024, .f32⟩
  | 77 => ⟨S8192x4x256, .f32⟩
  | 78 => ⟨S_, .f32⟩
  | 79 => ⟨S_, .f32⟩
  | 80 => ⟨S8192x4x256, .f32⟩
  | 81 => ⟨S8192, .i32⟩
  | 82 => ⟨S_, .i32⟩
  | 83 => ⟨S8192, .i32⟩
  | 84 => ⟨S8192, .i32⟩
  | 85 => ⟨S8192x1x256, .f32⟩
  | 86 => ⟨S8192x256, .f32⟩
  | 87 => ⟨S_, .f32⟩
  | 88 => ⟨S2x256, .f32⟩
  | 89 => ⟨S8190x256, .f32⟩
  | 90 => ⟨S8192x256, .f32⟩
  | 91 => ⟨S_, .i32⟩
  | 92 => ⟨S8192, .i32⟩
  | 93 => ⟨S8192, .i32⟩
  | 94 => ⟨S8192, .f32⟩
  | 95 => ⟨S8192x256, .f32⟩
  | 96 => ⟨S8192x1, .f32⟩
  | 97 => ⟨S8192x256, .f32⟩
  | 98 => ⟨S8192x256, .f32⟩
  | 99 => ⟨S8192x1x256, .f32⟩
  | 100 => ⟨S8192x256, .f32⟩
  | 101 => ⟨S_, .f32⟩
  | 102 => ⟨S4x256, .f32⟩
  | 103 => ⟨S8188x256, .f32⟩
  | 104 => ⟨S8192x256, .f32⟩
  | 105 => ⟨S_, .i32⟩
  | 106 => ⟨S8192, .i32⟩
  | 107 => ⟨S8192, .i32⟩
  | 108 => ⟨S8192, .f32⟩
  | 109 => ⟨S8192x256, .f32⟩
  | 110 => ⟨S8192x1, .f32⟩
  | 111 => ⟨S8192x256, .f32⟩
  | 112 => ⟨S8192x256, .f32⟩
  | 113 => ⟨S8192x1x256, .f32⟩
  | 114 => ⟨S8192x256, .f32⟩
  | 115 => ⟨S_, .f32⟩
  | 116 => ⟨S8x256, .f32⟩
  | 117 => ⟨S8184x256, .f32⟩
  | 118 => ⟨S8192x256, .f32⟩
  | 119 => ⟨S_, .i32⟩
  | 120 => ⟨S8192, .i32⟩
  | 121 => ⟨S8192, .i32⟩
  | 122 => ⟨S8192, .f32⟩
  | 123 => ⟨S8192x256, .f32⟩
  | 124 => ⟨S8192x1, .f32⟩
  | 125 => ⟨S8192x256, .f32⟩
  | 126 => ⟨S8192x256, .f32⟩
  | 127 => ⟨S8192x1x256, .f32⟩
  | _ => ⟨S8192x7184, .f32⟩

abbrev hbmTy0_1 (i : Nat) : BufTy := match i % 128 with
  | 0 => ⟨S8192x256, .f32⟩
  | 1 => ⟨S_, .f32⟩
  | 2 => ⟨S16x256, .f32⟩
  | 3 => ⟨S8176x256, .f32⟩
  | 4 => ⟨S8192x256, .f32⟩
  | 5 => ⟨S_, .i32⟩
  | 6 => ⟨S8192, .i32⟩
  | 7 => ⟨S8192, .i32⟩
  | 8 => ⟨S8192, .f32⟩
  | 9 => ⟨S8192x256, .f32⟩
  | 10 => ⟨S8192x1, .f32⟩
  | 11 => ⟨S8192x256, .f32⟩
  | 12 => ⟨S8192x256, .f32⟩
  | 13 => ⟨S8192x1x256, .f32⟩
  | 14 => ⟨S8192x1x256, .f32⟩
  | 15 => ⟨S8192x1x256, .f32⟩
  | 16 => ⟨S8192x1x256, .f32⟩
  | 17 => ⟨S8192x4x256, .f32⟩
  | 18 => ⟨S8192x4x256, .f32⟩
  | 19 => ⟨S4x256x8192, .f32⟩
  | 20 => ⟨S8192x4x256, .f32⟩
  | 21 => ⟨S8192x1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S8192x1024, .f32⟩
  | 35 => ⟨S8192x1024, .bf16⟩
  | _ => ⟨S8192x7184, .f32⟩

abbrev hbmTy (i : Nat) : BufTy := match i / 128 with
  | 0 => hbmTy0_0 i
  | 1 => hbmTy0_1 i
  | _ => ⟨S8192x7184, .f32⟩

abbrev bufTy : (tb : Table) → Fin (tcTables nBuf tb) → BufTy
  | .hbm, ⟨i, _⟩ => hbmTy i
  | _, _ => ⟨S8192x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call1_call0_cst : Ref sig .tc := ⟨.hbm, 78, rfl⟩
abbrev main_call1_call0_v0 : Ref sig .tc := ⟨.hbm, 79, rfl⟩
abbrev main_v64 : Ref sig .tc := ⟨.hbm, 80, rfl⟩
abbrev main_v65 : Ref sig .tc := ⟨.hbm, 81, rfl⟩
abbrev main_c_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_11 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_12 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_c_13 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_14 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_c_15 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_call2_v0 : Ref sig .tc := ⟨.hbm, 153, rfl⟩
abbrev main_call2_v1 : Ref sig .tc := ⟨.hbm, 154, rfl⟩
abbrev main_call2_cst : Ref sig .tc := ⟨.hbm, 155, rfl⟩
abbrev main_call2_v2 : Ref sig .tc := ⟨.hbm, 156, rfl⟩
abbrev main_call2_v3 : Ref sig .tc := ⟨.hbm, 157, rfl⟩
abbrev main_call2_cst_0 : Ref sig .tc := ⟨.hbm, 158, rfl⟩
abbrev main_call2_v4 : Ref sig .tc := ⟨.hbm, 159, rfl⟩
abbrev main_call2_v5 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩

abbrev nD : Nat := 1
abbrev τ : Topo := Topo.v7x

variable {F : FTy → Type} [FloatOps F]
-- ==== AttnKernel.lean ====
abbrev S8192x7184 : Shape := ⟨2, ![8192, 7184]⟩
abbrev S16x512 : Shape := ⟨2, ![16, 512]⟩
abbrev S512 : Shape := ⟨1, ![512]⟩
abbrev S4x256 : Shape := ⟨2, ![4, 256]⟩
abbrev S8192x4096 : Shape := ⟨2, ![8192, 4096]⟩
abbrev S8192x16 : Shape := ⟨2, ![8192, 16]⟩
abbrev S_ : Shape := ⟨0, ![]⟩
abbrev S8192x496 : Shape := ⟨2, ![8192, 496]⟩
abbrev S8192x128 : Shape := ⟨2, ![8192, 128]⟩
abbrev S8192x256 : Shape := ⟨2, ![8192, 256]⟩
abbrev S8192x7040 : Shape := ⟨2, ![8192, 7040]⟩
abbrev S8192x640 : Shape := ⟨2, ![8192, 640]⟩
abbrev S8192x7680 : Shape := ⟨2, ![8192, 7680]⟩
abbrev S496x512 : Shape := ⟨2, ![496, 512]⟩
abbrev S512x512 : Shape := ⟨2, ![512, 512]⟩
abbrev S1x512 : Shape := ⟨2, ![1, 512]⟩
abbrev S1x1024 : Shape := ⟨2, ![1, 1024]⟩
abbrev S8192x1024 : Shape := ⟨2, ![8192, 1024]⟩
abbrev S4x128x256x128 : Shape := ⟨4, ![4, 128, 256, 128]⟩
abbrev S1024x1536 : Shape := ⟨2, ![1024, 1536]⟩
abbrev S1024x128 : Shape := ⟨2, ![1024, 128]⟩
abbrev S128x256 : Shape := ⟨2, ![128, 256]⟩
abbrev S1x256 : Shape := ⟨2, ![1, 256]⟩
abbrev S1024x512 : Shape := ⟨2, ![1024, 512]⟩
abbrev S2x16x256x128 : Shape := ⟨4, ![2, 16, 256, 128]⟩
abbrev S2x256x128 : Shape := ⟨3, ![2, 256, 128]⟩
abbrev S1024x256 : Shape := ⟨2, ![1024, 256]⟩
abbrev S6x1024x256 : Shape := ⟨3, ![6, 1024, 256]⟩
abbrev S64x64 : Shape := ⟨2, ![64, 64]⟩
abbrev S64x512 : Shape := ⟨2, ![64, 512]⟩
abbrev S64x256 : Shape := ⟨2, ![64, 256]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩
abbrev S1x128 : Shape := ⟨2, ![1, 128]⟩
abbrev S1x64x128 : Shape := ⟨3, ![1, 64, 128]⟩
abbrev S64x128 : Shape := ⟨2, ![64, 128]⟩
abbrev S1024 : Shape := ⟨1, ![1024]⟩
abbrev S1024x1 : Shape := ⟨2, ![1024, 1]⟩

abbrev nBuf : Space → Nat
  | .hbm => 36
  | .vmem => 19
  | .smem => 0
  | _ => 0

abbrev bufTy : (tb : Table) → Fin (tcTables nBuf tb) → BufTy
  | .hbm, ⟨0, _⟩ => ⟨S8192x7184, .f32⟩
  | .hbm, ⟨1, _⟩ => ⟨S16x512, .f32⟩
  | .hbm, ⟨2, _⟩ => ⟨S512, .f32⟩
  | .hbm, ⟨3, _⟩ => ⟨S4x256, .f32⟩
  | .hbm, ⟨4, _⟩ => ⟨S8192x4096, .f32⟩
  | .hbm, ⟨5, _⟩ => ⟨S8192x16, .f32⟩
  | .hbm, ⟨6, _⟩ => ⟨S_, .f32⟩
  | .hbm, ⟨7, _⟩ => ⟨S8192x496, .f32⟩
  | .hbm, ⟨8, _⟩ => ⟨S8192x128, .f32⟩
  | .hbm, ⟨9, _⟩ => ⟨S8192x128, .f32⟩
  | .hbm, ⟨10, _⟩ => ⟨S8192x256, .f32⟩
  | .hbm, ⟨11, _⟩ => ⟨S8192x256, .f32⟩
  | .hbm, ⟨12, _⟩ => ⟨S8192x128, .f32⟩
  | .hbm, ⟨13, _⟩ => ⟨S8192x128, .f32⟩
  | .hbm, ⟨14, _⟩ => ⟨S8192x256, .f32⟩
  | .hbm, ⟨15, _⟩ => ⟨S8192x256, .f32⟩
  | .hbm, ⟨16, _⟩ => ⟨S8192x128, .f32⟩
  | .hbm, ⟨17, _⟩ => ⟨S8192x128, .f32⟩
  | .hbm, ⟨18, _⟩ => ⟨S8192x256, .f32⟩
  | .hbm, ⟨19, _⟩ => ⟨S8192x256, .f32⟩
  | .hbm, ⟨20, _⟩ => ⟨S8192x128, .f32⟩
  | .hbm, ⟨21, _⟩ => ⟨S8192x128, .f32⟩
  | .hbm, ⟨22, _⟩ => ⟨S8192x256, .f32⟩
  | .hbm, ⟨23, _⟩ => ⟨S8192x256, .f32⟩
  | .hbm, ⟨24, _⟩ => ⟨S8192x7040, .f32⟩
  | .hbm, ⟨25, _⟩ => ⟨S8192x640, .f32⟩
  | .hbm, ⟨26, _⟩ => ⟨S8192x7680, .f32⟩
  | .hbm, ⟨27, _⟩ => ⟨S_, .f32⟩
  | .hbm, ⟨28, _⟩ => ⟨S496x512, .f32⟩
  | .hbm, ⟨29, _⟩ => ⟨S512x512, .f32⟩
  | .hbm, ⟨30, _⟩ => ⟨S512x512, .bf16⟩
  | .hbm, ⟨31, _⟩ => ⟨S1x512, .f32⟩
  | .hbm, ⟨32, _⟩ => ⟨S1x1024, .f32⟩
  | .hbm, ⟨33, _⟩ => ⟨S8192x1024, .f32⟩
  | .hbm, ⟨34, _⟩ => ⟨S8192x1024, .bf16⟩
  | .hbm, ⟨35, _⟩ => ⟨S4x128x256x128, .f32⟩
  | .local _ .vmem, ⟨0, _⟩ => ⟨S1024x1536, .f32⟩
  | .local _ .vmem, ⟨1, _⟩ => ⟨S1024x1536, .f32⟩
  | .local _ .vmem, ⟨2, _⟩ => ⟨S1024x128, .f32⟩
  | .local _ .vmem, ⟨3, _⟩ => ⟨S1024x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S1x256, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S2x16x256x128, .f32⟩
  | .local _ .vmem, ⟨15, _⟩ => ⟨S2x16x256x128, .f32⟩
  | .local _ .vmem, ⟨16, _⟩ => ⟨S2x256x128, .f32⟩
  | .local _ .vmem, ⟨17, _⟩ => ⟨S1024x256, .f32⟩
  | .local _ .vmem, ⟨18, _⟩ => ⟨S6x1024x256, .bf16⟩
  | _, _ => ⟨S8192x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let c0_i32 : BitVec 32 := 0#32
  ![arg1.toNat, c32_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x16x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnReferenceIdeal.lean ====
abbrev S8192x7184 : Shape := ⟨2, ![8192, 7184]⟩
abbrev S16x512 : Shape := ⟨2, ![16, 512]⟩
abbrev S512 : Shape := ⟨1, ![512]⟩
abbrev S4x256 : Shape := ⟨2, ![4, 256]⟩
abbrev S8192x512 : Shape := ⟨2, ![8192, 512]⟩
abbrev S8192x1024 : Shape := ⟨2, ![8192, 1024]⟩
abbrev S8192x16 : Shape := ⟨2, ![8192, 16]⟩
abbrev S1x512 : Shape := ⟨2, ![1, 512]⟩
abbrev S_ : Shape := ⟨0, ![]⟩
abbrev S8192x4x128 : Shape := ⟨3, ![8192, 4, 128]⟩
abbrev S8192x4x256 : Shape := ⟨3, ![8192, 4, 256]⟩
abbrev S4x128x256 : Shape := ⟨3, ![4, 128, 256]⟩
abbrev S128x64x4x128 : Shape := ⟨4, ![128, 64, 4, 128]⟩
abbrev S128x4x64x128 : Shape := ⟨4, ![128, 4, 64, 128]⟩
abbrev S128x64x4x256 : Shape := ⟨4, ![128, 64, 4, 256]⟩
abbrev S128x4x64x256 : Shape := ⟨4, ![128, 4, 64, 256]⟩
abbrev S128x4x128x256 : Shape := ⟨4, ![128, 4, 128, 256]⟩
abbrev S1x4x64x128 : Shape := ⟨4, ![1, 4, 64, 128]⟩
abbrev S4x64x128 : Shape := ⟨3, ![4, 64, 128]⟩
abbrev S1x4x64x256 : Shape := ⟨4, ![1, 4, 64, 256]⟩
abbrev S4x64x256 : Shape := ⟨3, ![4, 64, 256]⟩
abbrev S4x64x1x128 : Shape := ⟨4, ![4, 64, 1, 128]⟩
abbrev S4x1x64x128 : Shape := ⟨4, ![4, 1, 64, 128]⟩
abbrev S4x64x64x128 : Shape := ⟨4, ![4, 64, 64, 128]⟩
abbrev S4x64x64 : Shape := ⟨3, ![4, 64, 64]⟩
abbrev S4x1x128 : Shape := ⟨3, ![4, 1, 128]⟩
abbrev S4x128 : Shape := ⟨2, ![4, 128]⟩
abbrev S4x128x1 : Shape := ⟨3, ![4, 128, 1]⟩
abbrev S1x4x128x256 : Shape := ⟨4, ![1, 4, 128, 256]⟩
abbrev S8192x4 : Shape := ⟨2, ![8192, 4]⟩
abbrev S8192x4x1 : Shape := ⟨3, ![8192, 4, 1]⟩
abbrev S1x4x256 : Shape := ⟨3, ![1, 4, 256]⟩
abbrev S4x128x256x128 : Shape := ⟨4, ![4, 128, 256, 128]⟩

abbrev nBuf : Space → Nat
  | .hbm => 164
  | .vmem => 0
  | .smem => 0
  | _ => 0

abbrev hbmTy0_0 (i : Nat) : BufTy := match i % 128 with
  | 0 => ⟨S8192x7184, .f32⟩
  | 1 => ⟨S16x512, .f32⟩
  | 2 => ⟨S512, .f32⟩
  | 3 => ⟨S4x256, .f32⟩
  | 4 => ⟨S8192x512, .f32⟩
  | 5 => ⟨S8192x512, .f32⟩
  | 6 => ⟨S8192x1024, .f32⟩
  | 7 => ⟨S8192x16, .f32⟩
  | 8 => ⟨S8192x1024, .f32⟩
  | 9 => ⟨S8192x512, .f32⟩
  | 10 => ⟨S1x512, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S8192x512, .f32⟩
  | 19 => ⟨S8192x512, .i1⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S8192x4x128, .f32⟩
  | 33 => ⟨S_, .f32⟩
  | 34 => ⟨S8192x4x128, .f32⟩
  | 35 => ⟨S8192x4x128, .f32⟩
  | 36 => ⟨S8192x4x128, .f32⟩
  | 37 => ⟨S8192x4x256, .f32⟩
  | 38 => ⟨S8192x4x128, .f32⟩
  | 39 => ⟨S_, .f32⟩
  | 40 => ⟨S4x128x256, .f32⟩
  | 41 => ⟨S128x64x4x128, .f32⟩
  | 42 => ⟨S128x4x64x128, .f32⟩
  | 43 => ⟨S128x64x4x128, .f32⟩
  | 44 => ⟨S128x4x64x128, .f32⟩
  | 45 => ⟨S128x64x4x256, .f32⟩
  | 46 => ⟨S128x4x64x256, .f32⟩
  | 47 => ⟨S128x64x4x128, .f32⟩
  | 48 => ⟨S128x4x64x128, .f32⟩
  | 49 => ⟨S_, .f32⟩
  | 50 => ⟨S128x4x64x256, .f32⟩
  | 51 => ⟨S_, .f32⟩
  | 52 => ⟨S128x4x128x256, .f32⟩
  | 53 => ⟨S_, .i32⟩
  | 54 => ⟨S128x4x64x128, .f32⟩
  | 55 => ⟨S128x4x64x128, .f32⟩
  | 56 => ⟨S128x4x64x256, .f32⟩
  | 57 => ⟨S128x4x64x128, .f32⟩
  | 58 => ⟨S_, .i32⟩
  | 59 => ⟨S4x128x256, .f32⟩
  | 60 => ⟨S128x4x64x256, .f32⟩
  | 61 => ⟨S128x4x128x256, .f32⟩
  | 62 => ⟨S_, .i32⟩
  | 63 => ⟨S_, .i1⟩
  | 64 => ⟨S_, .i32⟩
  | 65 => ⟨S_, .i32⟩
  | 66 => ⟨S_, .i32⟩
  | 67 => ⟨S1x4x64x128, .f32⟩
  | 68 => ⟨S4x64x128, .f32⟩
  | 69 => ⟨S_, .i32⟩
  | 70 => ⟨S_, .i32⟩
  | 71 => ⟨S_, .i32⟩
  | 72 => ⟨S1x4x64x128, .f32⟩
  | 73 => ⟨S4x64x128, .f32⟩
  | 74 => ⟨S_, .i32⟩
  | 75 => ⟨S_, .i32⟩
  | 76 => ⟨S_, .i32⟩
  | 77 => ⟨S1x4x64x256, .f32⟩
  | 78 => ⟨S4x64x256, .f32⟩
  | 79 => ⟨S_, .i32⟩
  | 80 => ⟨S_, .i32⟩
  | 81 => ⟨S_, .i32⟩
  | 82 => ⟨S1x4x64x128, .f32⟩
  | 83 => ⟨S4x64x128, .f32⟩
  | 84 => ⟨S_, .f32⟩
  | 85 => ⟨S_, .f32⟩
  | 86 => ⟨S4x64x128, .f32⟩
  | 87 => ⟨S4x64x1x128, .f32⟩
  | 88 => ⟨S4x1x64x128, .f32⟩
  | 89 => ⟨S4x64x64x128, .f32⟩
  | 90 => ⟨S4x64x64x128, .f32⟩
  | 91 => ⟨S4x64x64x128, .f32⟩
  | 92 => ⟨S4x64x64x128, .f32⟩
  | 93 => ⟨S4x64x64x128, .f32⟩
  | 94 => ⟨S4x64x64x128, .f32⟩
  | 95 => ⟨S4x64x1x128, .f32⟩
  | 96 => ⟨S4x1x64x128, .f32⟩
  | 97 => ⟨S4x64x64x128, .f32⟩
  | 98 => ⟨S4x64x64x128, .f32⟩
  | 99 => ⟨S4x64x64x128, .f32⟩
  | 100 => ⟨S4x64x64x128, .f32⟩
  | 101 => ⟨S_, .f32⟩
  | 102 => ⟨S4x64x64, .f32⟩
  | 103 => ⟨S4x64x256, .f32⟩
  | 104 => ⟨S4x64x128, .f32⟩
  | 105 => ⟨S4x64x128, .f32⟩
  | 106 => ⟨S4x64x256, .f32⟩
  | 107 => ⟨S4x1x128, .f32⟩
  | 108 => ⟨S4x1x128, .f32⟩
  | 109 => ⟨S4x128, .f32⟩
  | 110 => ⟨S4x128x1, .f32⟩
  | 111 => ⟨S4x128x256, .f32⟩
  | 112 => ⟨S4x128x256, .f32⟩
  | 113 => ⟨S4x64x128, .f32⟩
  | 114 => ⟨S4x64x128, .f32⟩
  | 115 => ⟨S4x64x128, .f32⟩
  | 116 => ⟨S4x64x128, .f32⟩
  | 117 => ⟨S4x128x256, .f32⟩
  | 118 => ⟨S4x128x256, .f32⟩
  | 119 => ⟨S4x64x256, .f32⟩
  | 120 => ⟨S1x4x64x256, .f32⟩
  | 121 => ⟨S_, .i32⟩
  | 122 => ⟨S_, .i32⟩
  | 123 => ⟨S_, .i32⟩
  | 124 => ⟨S128x4x64x256, .f32⟩
  | 125 => ⟨S1x4x128x256, .f32⟩
  | 126 => ⟨S_, .i32⟩
  | 127 => ⟨S_, .i32⟩
  | _ => ⟨S8192x7184, .f32⟩

abbrev hbmTy0_1 (i : Nat) : BufTy := match i % 128 with
  | 0 => ⟨S_, .i32⟩
  | 1 => ⟨S128x4x128x256, .f32⟩
  | 2 => ⟨S_, .i32⟩
  | 3 => ⟨S_, .i32⟩
  | 4 => ⟨S128x64x4x256, .f32⟩
  | 5 => ⟨S8192x4x256, .f32⟩
  | 6 => ⟨S8192x1024, .f32⟩
  | 7 => ⟨S8192x4x256, .f32⟩
  | 8 => ⟨S_, .f32⟩
  | 9 => ⟨S8192x4, .f32⟩
  | 10 => ⟨S8192x4x1, .f32⟩
  | 11 => ⟨S_, .f32⟩
  | 12 => ⟨S8192x4x1, .f32⟩
  | 13 => ⟨S8192x4x1, .f32⟩
  | 14 => ⟨S_, .f32⟩
  | 15 => ⟨S8192x4x1, .f32⟩
  | 16 => ⟨S8192x4x1, .f32⟩
  | 17 => ⟨S8192x4x1, .f32⟩
  | 18 => ⟨S8192x4x256, .f32⟩
  | 19 => ⟨S8192x4x256, .f32⟩
  | 20 => ⟨S1x4x256, .f32⟩
  | 21 => ⟨S8192x4x256, .f32⟩
  | 22 => ⟨S8192x4x256, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S8192x1024, .f32⟩
  | 34 => ⟨S8192x1024, .bf16⟩
  | 35 => ⟨S4x128x256x128, .f32⟩
  | _ => ⟨S8192x7184, .f32⟩

abbrev hbmTy (i : Nat) : BufTy := match i / 128 with
  | 0 => hbmTy0_0 i
  | 1 => hbmTy0_1 i
  | _ => ⟨S8192x7184, .f32⟩

abbrev bufTy : (tb : Table) → Fin (tcTables nBuf tb) → BufTy
  | .hbm, ⟨i, _⟩ => hbmTy i
  | _, _ => ⟨S8192x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_c : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev main_v29_3 : Ref sig .tc := ⟨.hbm, 57, rfl⟩
abbrev main_v29_4 : Ref sig .tc := ⟨.hbm, 58, rfl⟩
abbrev main_v29_5 : Ref sig .tc := ⟨.hbm, 59, rfl⟩
abbrev main_v29_6 : Ref sig .tc := ⟨.hbm, 60, rfl⟩
abbrev main_v29_7 : Ref sig .tc := ⟨.hbm, 61, rfl⟩
abbrev main_while0c_c_14 : Ref sig .tc := ⟨.hbm, 62, rfl⟩
abbrev main_while0c_v51 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_v0 : Ref sig .tc := ⟨.hbm, 67, rfl⟩
abbrev main_while0b_v51 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_v0 : Ref sig .tc := ⟨.hbm, 72, rfl⟩
abbrev main_while0b_v52 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_v0 : Ref sig .tc := ⟨.hbm, 77, rfl⟩
abbrev main_while0b_v53 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v54 : Ref sig .tc := ⟨.hbm, 83, rfl⟩
abbrev main_while0b_call5_call0_cst : Ref sig .tc := ⟨.hbm, 84, rfl⟩
abbrev main_while0b_call5_call0_v0 : Ref sig .tc := ⟨.hbm, 85, rfl⟩
abbrev main_while0b_v55 : Ref sig .tc := ⟨.hbm, 86, rfl⟩
abbrev main_while0b_v56 : Ref sig .tc := ⟨.hbm, 87, rfl⟩
abbrev main_while0b_v57 : Ref sig .tc := ⟨.hbm, 88, rfl⟩
abbrev main_while0b_v58 : Ref sig .tc := ⟨.hbm, 89, rfl⟩
abbrev main_while0b_v59 : Ref sig .tc := ⟨.hbm, 90, rfl⟩
abbrev main_while0b_v60 : Ref sig .tc := ⟨.hbm, 91, rfl⟩
abbrev main_while0b_v61 : Ref sig .tc := ⟨.hbm, 92, rfl⟩
abbrev main_while0b_v62 : Ref sig .tc := ⟨.hbm, 93, rfl⟩
abbrev main_while0b_v63 : Ref sig .tc := ⟨.hbm, 94, rfl⟩
abbrev main_while0b_v64 : Ref sig .tc := ⟨.hbm, 95, rfl⟩
abbrev main_while0b_v65 : Ref sig .tc := ⟨.hbm, 96, rfl⟩
abbrev main_while0b_v66 : Ref sig .tc := ⟨.hbm, 97, rfl⟩
abbrev main_while0b_v67 : Ref sig .tc := ⟨.hbm, 98, rfl⟩
abbrev main_while0b_v68 : Ref sig .tc := ⟨.hbm, 99, rfl⟩
abbrev main_while0b_v69 : Ref sig .tc := ⟨.hbm, 100, rfl⟩
abbrev main_while0b_cst_14 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_call6_v0 : Ref sig .tc := ⟨.hbm, 120, rfl⟩
abbrev main_while0b_call6_c : Ref sig .tc := ⟨.hbm, 121, rfl⟩
abbrev main_while0b_call6_c_0 : Ref sig .tc := ⟨.hbm, 122, rfl⟩
abbrev main_while0b_call6_c_1 : Ref sig .tc := ⟨.hbm, 123, rfl⟩
abbrev main_while0b_v88 : Ref sig .tc := ⟨.hbm, 124, rfl⟩
abbrev main_while0b_call7_v0 : Ref sig .tc := ⟨.hbm, 125, rfl⟩
abbrev main_while0b_call7_c : Ref sig .tc := ⟨.hbm, 126, rfl⟩
abbrev main_while0b_call7_c_0 : Ref sig .tc := ⟨.hbm, 127, rfl⟩
abbrev main_while0b_call7_c_1 : Ref sig .tc := ⟨.hbm, 128, rfl⟩
abbrev main_while0b_v89 : Ref sig .tc := ⟨.hbm, 129, rfl⟩
abbrev main_while0b_c_15 : Ref sig .tc := ⟨.hbm, 130, rfl⟩
abbrev main_while0b_v90 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_cst_4 : Ref sig .tc := ⟨.hbm, 136, rfl⟩
abbrev main_v34 : Ref sig .tc := ⟨.hbm, 137, rfl⟩
abbrev main_v35 : Ref sig .tc := ⟨.hbm, 138, rfl⟩
abbrev main_cst_5 : Ref sig .tc := ⟨.hbm, 139, rfl⟩
abbrev main_v36 : Ref sig .tc := ⟨.hbm, 140, rfl⟩
abbrev main_v37 : Ref sig .tc := ⟨.hbm, 141, rfl⟩
abbrev main_cst_6 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_call8_v0 : Ref sig .tc := ⟨.hbm, 152, rfl⟩
abbrev main_call8_v1 : Ref sig .tc := ⟨.hbm, 153, rfl⟩
abbrev main_call8_cst : Ref sig .tc := ⟨.hbm, 154, rfl⟩
abbrev main_call8_v2 : Ref sig .tc := ⟨.hbm, 155, rfl⟩
abbrev main_call8_v3 : Ref sig .tc := ⟨.hbm, 156, rfl⟩
abbrev main_call8_cst_0 : Ref sig .tc := ⟨.hbm, 157, rfl⟩
abbrev main_call8_v4 : Ref sig .tc := ⟨.hbm, 158, rfl⟩
abbrev main_call8_v5 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_v50 : Ref sig .tc := ⟨.hbm, 163, rfl⟩

abbrev nD : Nat := 1
abbrev τ : Topo := Topo.v7x

variable {F : FTy → Type} [FloatOps F]

abbrev main_while0_count : Scf.Loop 32 := ⟨0#32, 128#32, 1#32⟩
-- ==== ProjKernel.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S1024x1024, .bf16⟩
  | .hbm, ⟨11, _⟩ => ⟨S1024x1024, .bf16⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ProjReferenceIdeal.lean ====
abbrev S8192x1024 : Shape := ⟨2, ![8192, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== InKernel.lean ====
abbrev S8192x1024 : Shape := ⟨2, ![8192, 1024]⟩
abbrev S1024x7680 : Shape := ⟨2, ![1024, 7680]⟩
abbrev S7680x1024 : Shape := ⟨2, ![7680, 1024]⟩
abbrev S8192x7680 : Shape := ⟨2, ![8192, 7680]⟩
abbrev S1024x1024 : Shape := ⟨2, ![1024, 1024]⟩
abbrev S2560x1024 : Shape := ⟨2, ![2560, 1024]⟩
abbrev S1024x2560 : Shape := ⟨2, ![1024, 2560]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x7680, .f32⟩
  | .hbm, ⟨2, _⟩ => ⟨S8192x1024, .bf16⟩
  | .hbm, ⟨3, _⟩ => ⟨S7680x1024, .f32⟩
  | .hbm, ⟨4, _⟩ => ⟨S7680x1024, .bf16⟩
  | .hbm, ⟨5, _⟩ => ⟨S8192x7680, .f32⟩
  | .local _ .vmem, ⟨0, _⟩ => ⟨S1024x1024, .bf16⟩
  | .local _ .vmem, ⟨1, _⟩ => ⟨S1024x1024, .bf16⟩
  | .local _ .vmem, ⟨2, _⟩ => ⟨S2560x1024, .bf16⟩
  | .local _ .vmem, ⟨3, _⟩ => ⟨S2560x1024, .bf16⟩
  | .local _ .vmem, ⟨4, _⟩ => ⟨S1024x2560, .f32⟩
  | .local _ .vmem, ⟨5, _⟩ => ⟨S1024x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S8192x1024 : Shape := ⟨2, ![8192, 1024]⟩
abbrev S1024x7680 : Shape := ⟨2, ![1024, 7680]⟩
abbrev S8192x7680 : Shape := ⟨2, ![8192, 7680]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7680, .f32⟩
  | .hbm, ⟨2, _⟩ => ⟨S8192x7680, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InBwdKernel.lean ====
abbrev S8192x1024 : Shape := ⟨2, ![8192, 1024]⟩
abbrev S1024x7680 : Shape := ⟨2, ![1024, 7680]⟩
abbrev S8192x7680 : Shape := ⟨2, ![8192, 7680]⟩
abbrev S7680x1024 : Shape := ⟨2, ![7680, 1024]⟩
abbrev S256x7680 : Shape := ⟨2, ![256, 7680]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x7680, .f32⟩
  | .hbm, ⟨2, _⟩ => ⟨S8192x7680, .f32⟩
  | .hbm, ⟨3, _⟩ => ⟨S8192x1024, .f32⟩
  | .hbm, ⟨4, _⟩ => ⟨S8192x7680, .bf16⟩
  | .hbm, ⟨5, _⟩ => ⟨S7680x1024, .f32⟩
  | .hbm, ⟨6, _⟩ => ⟨S7680x1024, .bf16⟩
  | .hbm, ⟨7, _⟩ => ⟨S8192x1024, .f32⟩
  | .local _ .vmem, ⟨0, _⟩ => ⟨S256x7680, .bf16⟩
  | .local _ .vmem, ⟨1, _⟩ => ⟨S256x7680, .bf16⟩
  | .local _ .vmem, ⟨2, _⟩ => ⟨S7680x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7680x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InBwdReferenceIdeal.lean ====
abbrev S8192x1024 : Shape := ⟨2, ![8192, 1024]⟩
abbrev S1024x7680 : Shape := ⟨2, ![1024, 7680]⟩
abbrev S8192x7680 : Shape := ⟨2, ![8192, 7680]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x7680, .f32⟩
  | .hbm, ⟨2, _⟩ => ⟨S8192x7680, .f32⟩
  | .hbm, ⟨3, _⟩ => ⟨S8192x1024, .f32⟩
  | .hbm, ⟨4, _⟩ => ⟨S8192x7680, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Loss.Kernel.lean ====
/-
  The loss head, `0.5 * Σ_rows mean((y - t)²)` and its gradient `(y - t) / 1024`, read off the pipelined kernel: the
  loss accumulates over the sixteen row blocks in one word, the gradient is written block by block.
-/
module

public import proofs.«01_k».proof.Proof.Gen.LossKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LossKernelIdeal.Closed

open Cert.LossKernelIdeal Cert.LossKernelIdeal.Gen

variable (m : (ℓ : Loc nD τ sig) → Buf (Elt Ideal) ℓ) (ρ : Dev nD → PrngReg)

/-- The output of the network and the target, read as arrays of extended reals. -/
abbrev out (c : Dev nD) : S8192x1024.Idx → EReal := m ((c : Thread nD τ).loc main_arg0)
abbrev target (c : Dev nD) : S8192x1024.Idx → EReal := m ((c : Thread nD τ).loc main_arg1)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx3 : ∀ t : Fin cfg0.N, win0_3.index t = ![t.val, 0] :=
  (by decide +kernel : ∀ t : Fin grid0.N, win0_3.index t = ![t.val, 0])

/-- The gradient array after the run. -/
theorem grad_eq (c : Dev nD) : (dats m 0 c).arrAt 3 cfg0.N
    = fun i => (out m c i - target m c i) * Ideal.ofBits .f32 0x3A800000#32 := by
  refine (dats m 0 c).arrAt_eq_of_covers 3 _ (by decide +kernel) fun t hf y => ?_
  blk_simp
  rw [after0_3]
  by_cases h0 : t.val % 16 = 0
  · rw [outsAt0_A m c t h0]
    frame_out
    pointwise [k0_pay3, k0_pay2]
    blk_point [iblk, V, idx0 t, idx1 t, idx3 t]
  · rw [outsAt0_B m c t h0]
    frame_out
    pointwise [k0_pay3, k0_pay2]
    blk_point [iblk, V, idx0 t, idx1 t, idx3 t]

/-- Row `r` of block `p`. -/
abbrev row (p : Fin cfg0.N) (r : Fin 512) : Fin 8192 :=
  ⟨p.val * 512 + r.val, by have := p.isLt; have : cfg0.N = 16 := N_0; omega⟩

theorem read0 (c : Dev nD) (t : Fin cfg0.N) (r : Fin 512) (k : Fin 1024) :
    iblk m c 0 t (ix2 r k) = out m c (ix2 (row t r) k) := by
  blk_ext [iblk, V, idx0 t]

theorem read1 (c : Dev nD) (t : Fin cfg0.N) (r : Fin 512) (k : Fin 1024) :
    iblk m c 1 t (ix2 r k) = target m c (ix2 (row t r) k) := by
  blk_ext [iblk, V, idx1 t]

/-- Row block `p`'s addend of the loss. -/
abbrev addend (c : Dev nD) (p : Fin cfg0.N) : EReal :=
  Ideal.ofBits .f32 0x3F000000#32 * ∑ r : Fin 512, Ideal.div (∑ k : Fin 1024,
    (out m c (ix2 (row p r) k)
      - target m c (ix2 (row p r) k))
    * (out m c (ix2 (row p r) k)
      - target m c (ix2 (row p r) k)))
    (Ideal.ofBits .f32 0x44800000#32)

/-- The loss after the run. -/
theorem loss_eq (c : Dev nD) : (dats m 0 c).arrAt 2 cfg0.N = fun _ => ∑ p : Fin cfg0.N, addend m c p := by
  refine (dats m 0 c).arrAt_eq_of_after_last 2 t0_15 (by decide +kernel) _ fun j => ?_
  blk_simp
  rw [after0_2]
  refine (Pipeline.eq_sum_fin_of_reset_step_apply_last (fun n h => (outsAt0 m c n h).1) 16
    (fun _ => 0) (fun p _ => addend m c p) ?_ ?_ (le_of_eq N_0) t0_15 rfl _).trans ?_
  · intro t h j
    rw [outsAt0_A m c t h]
    frame_out
    pointwise [k0_pay4, k0_pay2, k0_pay1]
    simp only [read0, read1]
  · intro t h j
    rw [outsAt0_B m c t h]
    frame_out
    pointwise [k0_pay4, k0_pay2]
    refine congrArg _ ?_
    simp only [read0, read1]
  · simp

end Cert.LossKernelIdeal.Closed

end
-- ==== Proof.Common.Scalars.lean ====
/-
  Facts about extended reals that the value proofs share: the float constants as reals, quotients by a nonzero real,
  and a real factor through a finite sum.
-/
module

public import Idealize.ShloMosaic.Lib.IdealHost
public import Idealize.ShloMosaic.Lib.Pointwise

@[expose] public section

noncomputable section

open Idealize.ShloMosaic

namespace Cert.Scalars

theorem half_f32 : Ideal.ofBits .f32 0x3F000000#32 = ((1 / 2 : ℝ) : EReal) := by
  simp [Ideal.ofBits, Ideal.ieee, ← EReal.coe_mul]; norm_num
theorem two_f32 : Ideal.ofBits .f32 0x40000000#32 = ((2 : ℝ) : EReal) := by
  simp [Ideal.ofBits, Ideal.ieee, ← EReal.coe_mul]; norm_num
theorem thousand_f32 : Ideal.ofBits .f32 0x44800000#32 = ((1024 : ℝ) : EReal) := by
  simp [Ideal.ofBits, Ideal.ieee, ← EReal.coe_mul]; norm_num
theorem thousandth_f32 : Ideal.ofBits .f32 0x3A800000#32 = ((1 / 1024 : ℝ) : EReal) := by
  simp [Ideal.ofBits, Ideal.ieee, ← EReal.coe_mul]; norm_num

/-- A nonnegative real factor goes through a finite sum, infinite terms included. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

end Cert.Scalars

end
-- ==== Proof.Loss.Algebra.lean ====
/-
  The loss head against its reference: sixteen blocks of 512 rows are the 8192 rows, a factor `1/2` of nonnegative
  terms goes through the sum, and `(1/2 · 1) / 1024 · (2 · e) = e · 2⁻¹⁰`.
-/
module

public import proofs.«01_k».proof.Defs
public import proofs.«01_k».proof.Proof.Loss.Kernel
public import proofs.«01_k».proof.Proof.Gen.LossReferenceIdeal.Run
public import proofs.«01_k».proof.Proof.Common.Scalars

@[expose] public section

set_option maxRecDepth 16384

noncomputable section

open Idealize.ShloMosaic Idealize.ShloMosaic.TcCoe Idealize.SL.Sem

namespace Cert.Proof.Loss

/-- The idealized kernel and the reference agree on the loss and on its gradient. -/
theorem algebraic : Cert.algebraic_LossKernelIdeal_LossReferenceIdeal := by
  intro m g m' g' _ hagree
  refine ⟨fun c => (Cert.LossKernelIdeal.Gen.dats m 0 c).arrAt 2 Cert.LossKernelIdeal.cfg0.N,
    fun c => (Cert.LossKernelIdeal.Gen.dats m 0 c).arrAt 3 Cert.LossKernelIdeal.cfg0.N,
    Cert.LossKernelIdeal.Value.run_blocks m g, ?_⟩
  refine (θ_run Cert.LossReferenceIdeal.defs _ _).mono (fun r h c => ⟨?_, ?_, (h c).2.2.1, (h c).2.2.2⟩)
    (Cert.LossReferenceIdeal.Value.run (F := Ideal) m' g')
  · rw [(h c).1, (hagree c).1, (hagree c).2]
    refine Eq.trans ?_ (Cert.LossKernelIdeal.Closed.loss_eq m c).symm
    funext j
    pointwise
    rw [Scalars.half_f32, Scalars.coe_mul_sum _ (by norm_num)]
    have hN : Cert.LossKernelIdeal.cfg0.N = 16 := Cert.LossKernelIdeal.Gen.N_0
    simp only [Cert.LossKernelIdeal.Closed.addend, Scalars.half_f32]
    simp only [Scalars.coe_mul_sum _ (show (0 : ℝ) ≤ 1 / 2 by norm_num)]
    exact (Fin.sum_mul_add_congr (S := 16) (n := 512) fun s k _ => rfl).symm
  · rw [(h c).2.1, (hagree c).1, (hagree c).2]
    refine Eq.trans ?_ (Cert.LossKernelIdeal.Closed.grad_eq m c).symm
    funext j
    pointwise
    rw [Scalars.half_f32, Scalars.thousand_f32, Scalars.two_f32, Scalars.thousandth_f32,
      Ideal.div_coe (by norm_num), ← mul_assoc, mul_comm (_ - _)]
    congr 1
    norm_cast
    norm_num

end Cert.Proof.Loss

end
-- ==== Proof.Common.Pieces.lean ====
/-
  Stores a block holds below others; the first piece of a concatenation; the two spellings of the sigmoid.
-/
module

public import Idealize.ShloMosaic.Lib.Ring
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Pieces

/-- Stores below others that cover an index leave nothing there. -/
theorem canon_drop {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by
    obtain ⟨p, hp, _⟩ := hy
    simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩

/-- A store at the bottom leaves nothing where those above it cover. -/
theorem canon_dropLast {S : Shape} {e : EltTy} (L : List (View.Piece (Elt Ideal) S e)) (y : S.Idx) (size : Fin S.rank → ℕ) (hL : L ≠ [])
    (h : View.Piece.tiledL L.dropLast size = true) : View.canon L y = View.canon L.dropLast y := by
  conv_lhs => rw [← List.dropLast_append_getLast hL]
  exact canon_drop _ _ _ (View.cover_of_tiledL _ size h y)

/-- The first piece of a concatenation along the columns, read where it stands. -/
theorem concatenate_first {α : Type} {n p q : ℕ} (x : (⟨2, ![n, p]⟩ : Shape).Idx → α)
    (xs : List ((s : Shape) × (s.Idx → α)))
    (hc : Shape.Concatenates (((⟨⟨2, ![n, p]⟩, x⟩ :: xs : List ((s : Shape) × (s.Idx → α)))).map (·.1)) ⟨2, ![n, q]⟩ 1)
    (r : Fin n) (j : Fin p) (hj : j.val < q) :
    concatenate (⟨2, ![n, q]⟩ : Shape) 1 (⟨⟨2, ![n, p]⟩, x⟩ :: xs) hc (ix2 r ⟨j.val, hj⟩) = x (ix2 r j) :=
  concatenate_apply_piece 1 _ hc _ 0 (Nat.succ_pos _) _ x rfl rfl 0 rfl (ix2 r j)
    (Fin.forall_fin_two.2 ⟨fun _ => rfl, fun h => absurd rfl h⟩) (Nat.zero_add _)

theorem sigmoid_eq (x : EReal) : Ideal.div 1 (1 + Ideal.exp (0 - x)) = Ideal.logistic x := by
  rw [zero_sub]
  rfl

end Cert.Pieces

end
-- ==== Proof.Pool.Host.lean ====
/-
  The arrays the pooling branch's backward kernel is launched on, read off the host operations that prepare them.
-/
module

public import proofs.«01_k».proof.Proof.Common.Pieces
public import proofs.«01_k».proof.Proof.Gen.PoolKernelIdeal.Value
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.Pieces

variable (m : (ℓ : Loc nD τ sig) → Buf (Elt Ideal) ℓ) (ρ : Dev nD → PrngReg)

/-- The arguments, read as arrays of extended reals: the projection, the mixing weights, the scale, the cotangent. -/
abbrev h (c : Dev nD) : S8192x7184.Idx → EReal := m ((c : Thread nD τ).loc main_arg0)
abbrev w (c : Dev nD) : S4x256x256.Idx → EReal := m ((c : Thread nD τ).loc main_arg1)
abbrev scale (c : Dev nD) : S1024.Idx → EReal := m ((c : Thread nD τ).loc main_arg2)
abbrev dy (c : Dev nD) : S8192x1024.Idx → EReal := m ((c : Thread nD τ).loc main_arg3)

theorem V_eq (c : Dev nD) (b : Ref sig .tc) : V m c b
    = StableHlo.after hostOps0_2 (StableHlo.after hostOps0_1 (StableHlo.after hostOps0 fun b => m (c, b)))
        (Proc.devRef .tc b) := by
  simp only [V, List.flatten_cons, List.flatten_nil, List.append_nil, StableHlo.after_append]

theorem V_w (c : Dev nD) : V m c main_v84 = w m c := by
  rw [V_eq]
  after_reads_simp
  rfl

theorem V_scale (c : Dev nD) (j : Fin 1024) : V m c main_v85 (ix2 0 j) = scale m c (ix1 j) := by
  rw [V_eq]
  after_reads_at

theorem V_gate (c : Dev nD) (r : Fin 8192) (j : Fin 1024) :
    V m c main_v83 (ix2 r ⟨1024 + j.val, by omega⟩) = h m c (ix2 r ⟨4112 + j.val, by omega⟩) := by
  rw [V_eq]
  simp only [StableHlo.readAfter, StableHlo.binary_result']
  refine (concatenate_first (n := 8192) (p := 7040) (q := 7680) _ _ _ r ⟨1024 + j.val, by omega⟩ (by omega)).trans ?_
  simp only [StableHlo.readUpto, StableHlo.nary_result']
  refine (concatenate_first (n := 8192) (p := 4096) (q := 7040) _ _ _ r ⟨1024 + j.val, by omega⟩ (by omega)).trans ?_
  erw [StableHlo.unary_result']
  after_reads_at
  exact congrArg (fun k => h m c (ix2 r k)) (Fin.ext (by show 3088 + (1024 + j.val) = 4112 + j.val; omega))

end Cert.PoolKernelIdeal.Closed

end
-- ==== Proof.Common.Real.lean ====
/-
  Extended reals that are real numbers, and the operations that keep them so.
-/
module

public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.Reals

/-- The extended real is a real number. -/
def IsReal (x : EReal) : Prop := ∃ r : ℝ, x = (r : EReal)

theorem coe (r : ℝ) : IsReal (r : EReal) := ⟨r, rfl⟩
theorem zero : IsReal 0 := ⟨0, rfl⟩
theorem one : IsReal 1 := ⟨1, rfl⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.add {x y : EReal} : IsReal x → IsReal y → IsReal (x + y) := by
  rintro ⟨a, rfl⟩ ⟨b, rfl⟩
  exact ⟨a + b, (EReal.coe_add a b).symm⟩

theorem IsReal.neg {x : EReal} : IsReal x → IsReal (-x) := by
  rintro ⟨a, rfl⟩
  exact ⟨-a, (EReal.coe_neg a).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.div {x : EReal} {r : ℝ} (hr : r ≠ 0) : IsReal x → IsReal (Ideal.div x (r : EReal)) := by
  intro hx
  rw [Ideal.div_coe hr]
  exact hx.mul (coe _)

theorem IsReal.sum {ι : Type*} (s : Finset ι) {f : ι → EReal} (hf : ∀ i ∈ s, IsReal (f i)) : IsReal (∑ i ∈ s, f i) :=
  Finset.sum_induction f IsReal (fun _ _ => IsReal.add) zero hf

theorem IsReal.ite {p : Prop} [Decidable p] {x y : EReal} (hx : IsReal x) (hy : IsReal y) : IsReal (if p then x else y) := by
  split
  · exact hx
  · exact hy

/-- The sigmoid of a real number is real. -/
theorem IsReal.logistic {x : EReal} : IsReal x → IsReal (Ideal.logistic x) := by
  rintro ⟨a, rfl⟩
  exact ⟨_, Ideal.logistic_coe a⟩

theorem IsReal.of_ne {x : EReal} (ht : x ≠ ⊤) (hb : x ≠ ⊥) : IsReal x := ⟨x.toReal, (EReal.coe_toReal ht hb).symm⟩

/-- A magnitude below infinity makes the entry a real number. -/
theorem IsReal.of_abs_lt {x : EReal} (h : max x (-x) < ⊤) : IsReal x :=
  IsReal.of_ne (fun e => by subst e; simp at h) (fun e => by subst e; simp at h)

end Cert.Reals

end
-- ==== Proof.Pool.Sums.lean ====
/-
  Running sums over a window, and the two ways of taking one: by cumulative sums and by doubling rotations.
-/
module

public import Idealize.ShloMosaic.Lib.IdealHost
public import Idealize.ShloMosaic.Lib.Pointwise
public import Idealize.ShloMosaic.Lib.WordArith
public import Idealize.ShloMosaic.Lib.KernelVsHost
public import proofs.«01_k».proof.Proof.Common.Real

@[expose] public section

set_option maxRecDepth 16384

noncomputable section

open Idealize.ShloMosaic Idealize.ShloMosaic.TcCoe Idealize.SL.Sem

namespace Cert.Sums

open Cert.Reals

theorem foldl_add_eq {ι : Type*} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A window sum down the first axis: entry `t` adds what the window of `N` entries from `t - lo` holds. -/
theorem window_apply {N A B lo hi : ℕ} (x : (⟨3, ![N, A, B]⟩ : Shape).Idx → EReal) (init : (⟨0, ![]⟩ : Shape).Idx → EReal)
    (hinit : ∀ i, init i = 0)
    (h : (⟨3, ![N, A, B]⟩ : Shape).ReduceWindows (![N, 1, 1] : Fin 3 → ℕ) ![1, 1, 1] ![lo, 0, 0] ![hi, 0, 0] ⟨3, ![N, A, B]⟩)
    (hu : 0 < (⟨0, ![]⟩ : Shape).numel) (t : Fin N) (g : Fin A) (k : Fin B) :
    Host.reduceWindowAdd (F := Ideal) (φ := .f32) ![N, 1, 1] ![1, 1, 1] ![lo, 0, 0] ![hi, 0, 0] x init h hu (ix3 t g k)
      = ∑ n : Fin N, if hin : lo ≤ t.val + n.val ∧ t.val + n.val - lo < N
          then x (ix3 ⟨t.val + n.val - lo, hin.2⟩ g k) else 0 := by
  show Host.reduceWindow (u := ⟨0, ![]⟩) (· + ·) _ _ _ _ x (fun _ => init _) h hu (ix3 t g k) = _
  unfold Host.reduceWindow
  dsimp only
  rw [hinit]
  refine (foldl_add_eq _ _ _).trans ?_
  rw [zero_add, ← List.ofFn_eq_map, List.sum_ofFn]
  refine (Finset.sum_congr rfl fun i _ => by congr).trans (Equiv.sum_comp ((⟨3, ![N, 1, 1]⟩ : Shape).rowMajor.symm) (fun i : (⟨3, ![N, 1, 1]⟩ : Shape).Idx =>
    if hin : ∀ a : Fin 3, (![lo, 0, 0] : Fin 3 → ℕ) a ≤ ((ix3 t g k) a).val * (![1, 1, 1] : Fin 3 → ℕ) a + (i a).val
        ∧ ((ix3 t g k) a).val * (![1, 1, 1] : Fin 3 → ℕ) a + (i a).val - (![lo, 0, 0] : Fin 3 → ℕ) a < (![N, A, B] : Fin 3 → ℕ) a
      then x (fun a => ⟨_, (hin a).2⟩) else 0)) |>.trans ?_
  rw [sum_idx3]
  refine Finset.sum_congr rfl fun n _ => ?_
  rw [Fin.sum_univ_one, Fin.sum_univ_one]
  by_cases hin : lo ≤ t.val + n.val ∧ t.val + n.val - lo < N
  · rw [dif_pos hin, dif_pos (fun a => by
      match a with
      | ⟨0, _⟩ => exact ⟨by simpa using hin.1, by simpa using hin.2⟩
      | ⟨1, _⟩ => exact ⟨Nat.zero_le _, by simp⟩
      | ⟨2, _⟩ => exact ⟨Nat.zero_le _, by simp⟩)]
    refine congrArg x (funext fun a => Fin.ext ?_)
    match a with
    | ⟨0, _⟩ => simp
    | ⟨1, _⟩ => simp
    | ⟨2, _⟩ => simp
  · rw [dif_neg hin, dif_neg]
    exact fun hall => hin ⟨by simpa using (hall 0).1, by simpa using (hall 0).2⟩

/-- The window sum of the differences of a sequence at distance `w`: what is left is the sum of `w` terms. -/
theorem window_telescope (N : ℕ) (e : ℕ → EReal) (he : ∀ s, IsReal (e s)) (hz : ∀ s, N ≤ s → e s = 0) (t w : ℕ) (hw : w ≤ N) :
    ∑ n : Fin N, (if t + n.val < N then e (t + n.val) + -e (t + n.val + w) else 0) = ∑ d ∈ Finset.range w, e (t + d) := by
  choose f hf using he
  have hz' : ∀ s, N ≤ s → f s = 0 := fun s hs => by
    have := hz s hs
    rw [hf] at this
    exact_mod_cast this
  have hterm : ∀ n : ℕ, (if t + n < N then e (t + n) + -e (t + n + w) else 0) = ((f (t + n) - f (t + w + n) : ℝ) : EReal) := fun n => by
    split
    · rw [hf, hf, ← EReal.coe_neg, ← EReal.coe_add, ← sub_eq_add_neg, show t + n + w = t + w + n by omega]
    · rw [hz' (t + n) (by omega), hz' (t + w + n) (by omega), sub_zero, EReal.coe_zero]
  rw [Finset.sum_congr rfl fun (n : Fin N) _ => hterm n.val,
    Fin.sum_univ_eq_sum_range (fun n => ((f (t + n) - f (t + w + n) : ℝ) : EReal)) N,
    Finset.sum_congr rfl fun d _ => hf (t + d)]
  rw [coe_sum, coe_sum]
  refine congrArg _ ?_
  rw [Finset.sum_sub_distrib]
  obtain ⟨q, rfl⟩ : ∃ q, N = w + q := ⟨N - w, by omega⟩
  have h1 : ∑ n ∈ Finset.range (w + q), f (t + n) = ∑ d ∈ Finset.range w, f (t + d) + ∑ n ∈ Finset.range q, f (t + w + n) := by
    rw [Finset.sum_range_add]
    simp only [Nat.add_assoc]
  have h2 : ∑ n ∈ Finset.range (w + q), f (t + w + n) = ∑ n ∈ Finset.range q, f (t + w + n) := by
    rw [Nat.add_comm w q, Finset.sum_range_add, add_eq_left]
    exact Finset.sum_eq_zero fun n _ => hz' _ (by omega)
  rw [h1, h2, add_sub_cancel_right]

/-- One doubling: a window sum plus itself a window further on is the sum over twice the window. -/
theorem double_apply {n p : ℕ} (x : (⟨2, ![n, p]⟩ : Shape).Idx → EReal) (f : ℕ → EReal) (k : Fin p) (w : ℕ) (s : BitVec 32)
    (hs : s.toNat + w = n) (hw : 0 < w) (h : (⟨2, ![n, p]⟩ : Shape).Rotates 0 none)
    (hx : ∀ r : Fin n, r.val + w ≤ n → x (ix2 r k) = ∑ d ∈ Finset.range w, f (r.val + d)) (r : Fin n) (hr : r.val + 2 * w ≤ n) :
    addf (F := Ideal) (φ := .f32) x (dynamicRotate 0 s none x h) (ix2 r k) = ∑ d ∈ Finset.range (2 * w), f (r.val + d) := by
  have hrot : dynamicRotate 0 s none x h (ix2 r k) = x (ix2 ⟨r.val + w, by omega⟩ k) :=
    dynamicRotate_apply 0 s x h (ix2 r k) (ix2 ⟨r.val + w, by omega⟩ k) (Fin.forall_fin_two.2 ⟨by
      show r.val + w = if _ then (r.val + n - s.toNat % n) % n else _
      rw [if_pos rfl, Nat.mod_eq_of_lt (by omega : s.toNat < n), show r.val + n - s.toNat = r.val + w by omega,
        Nat.mod_eq_of_lt (by omega)], by
      show k.val = if (1 : Fin 2) = 0 then _ else k.val
      rw [if_neg one_ne_zero]⟩)
  show x (ix2 r k) + dynamicRotate 0 s none x h (ix2 r k) = _
  rw [hrot, hx r (by omega), hx ⟨r.val + w, by omega⟩ (by show r.val + w + w ≤ n; omega), two_mul, Finset.sum_range_add]
  simp only [Nat.add_assoc]

/-- The number of entries a window of `w` holds at position `n`, counted in words. -/
theorem count_apply (a b : BitVec 32) (n w : ℕ) (ha : a.toNat = n) (hb : b.toNat = w) (hn : n < 2 ^ 31) (hw : w < 2 ^ 31) :
    (((IntOp.minsi a b).toInt : ℝ) : EReal) = ((min n w : ℕ) : ℝ) := by
  have h := WordArith.toNat_minsi_of_lt a b (by omega) (by omega)
  have e := BitVec.toInt_eq_toNat_cond (IntOp.minsi a b)
  rw [if_pos (by omega)] at e
  rw [e, h, ha, hb]
  norm_cast

end Cert.Sums

end
-- ==== Proof.Pool.Form.lean ====
/-
  The pooling branch and its gradients, entry by entry: four groups of 256 columns, group `g` averaging over `2 ^ (g + 1)` rows.
-/
module

public import proofs.«01_k».proof.Proof.Pool.Sums

@[expose] public section

set_option maxRecDepth 16384

noncomputable section

open Idealize.ShloMosaic Idealize.ShloMosaic.TcCoe Idealize.SL.Sem

namespace Cert.PoolForm

open Cert.Reals

/-- Column `o` of group `g`. -/
def col (g : Fin 4) (o : Fin 256) : Fin 1024 := ⟨256 * g.val + o.val, by omega⟩

/-- The group and the place in it of a column. -/
def grp (j : Fin 1024) : Fin 4 := ⟨j.val / 256, by omega⟩
def lane (j : Fin 1024) : Fin 256 := ⟨j.val % 256, by omega⟩

theorem at_col {α : Type*} (F : Fin 4 → Fin 256 → α) (g : Fin 4) (k : Fin 256) (j : Fin 1024) (hj : j.val = 256 * g.val + k.val) :
    F (grp j) (lane j) = F g k := by
  have hg : grp j = g := Fin.ext (by show j.val / 256 = g.val; omega)
  have hk : lane j = k := Fin.ext (by show j.val % 256 = k.val; omega)
  rw [hg, hk]

theorem col_grp (j : Fin 1024) : col (grp j) (lane j) = j := Fin.ext (Nat.div_add_mod j.val 256)

/-- The rows a mean of group `g` runs over, and how many of them there are at row `n`. -/
def width (g : Fin 4) : ℕ := 2 ^ (g.val + 1)
def count (g : Fin 4) (n : ℕ) : EReal := (((min (n + 1) (width g) : ℕ) : ℝ) : EReal)

variable (H : (⟨2, ![8192, 7184]⟩ : Shape).Idx → EReal) (W : (⟨3, ![4, 256, 256]⟩ : Shape).Idx → EReal)
  (S : (⟨1, ![1024]⟩ : Shape).Idx → EReal) (Y : (⟨2, ![8192, 1024]⟩ : Shape).Idx → EReal)
  (P : Fin 8192 → Fin 4 → Fin 256 → EReal)

/-- The branch's input and gate columns of the projection. -/
def inp (r : Fin 8192) (j : Fin 1024) : EReal := H (ix2 r ⟨3088 + j.val, by omega⟩)
def gate (r : Fin 8192) (j : Fin 1024) : EReal := H (ix2 r ⟨4112 + j.val, by omega⟩)

/-- The column of the input summed over the rows up to and including `r`. -/
def cum (r : Fin 8192) (j : Fin 1024) : EReal :=
  ∑ n : Fin 8192, if hin : 8191 ≤ r.val + n.val ∧ r.val + n.val - 8191 < 8192 then inp H ⟨r.val + n.val - 8191, hin.2⟩ j else 0

/-- The causal mean over a window, less the input itself: the difference of two cumulative sums over the number of rows. -/
def pooled (r : Fin 8192) (g : Fin 4) (k : Fin 256) : EReal :=
  Ideal.div (cum H r (col g k) - (if hw : width g ≤ r.val then cum H ⟨r.val - width g, by omega⟩ (col g k) else 0)) (count g r.val)
    - inp H r (col g k)

/-- The pooled rows through the group's own weights. -/
def mixed (r : Fin 8192) (g : Fin 4) (o : Fin 256) : EReal := ∑ k : Fin 256, P r g k * W (ix3 g k o)

/-- The cotangent through the gate, and through the scale. -/
def dms (r : Fin 8192) (j : Fin 1024) : EReal := Y (ix2 r j) * (gate H r j * Ideal.logistic (gate H r j))
def dmixed (r : Fin 8192) (j : Fin 1024) : EReal := dms H Y r j * S (ix1 j)

/-- The gate's gradient. -/
def dgate (r : Fin 8192) (g : Fin 4) (o : Fin 256) : EReal :=
  Y (ix2 r (col g o)) * mixed W P r g o * S (ix1 (col g o))
    * (Ideal.logistic (gate H r (col g o)) * (1 + gate H r (col g o) * (1 - Ideal.logistic (gate H r (col g o)))))

/-- The gradient of the pooled rows, and its share of every row of a window. -/
def dpooled (r : Fin 8192) (g : Fin 4) (k : Fin 256) : EReal := ∑ o : Fin 256, dmixed H S Y r (col g o) * W (ix3 g k o)
def share (r : Fin 8192) (g : Fin 4) (k : Fin 256) : EReal := Ideal.div (dpooled H W S Y r g k) (count g r.val)
def shareAt (n : ℕ) (g : Fin 4) (k : Fin 256) : EReal := if hn : n < 8192 then share H W S Y ⟨n, hn⟩ g k else 0

/-- The input's gradient: the shares of the windows it is in, less its own. -/
def dinp (r : Fin 8192) (g : Fin 4) (k : Fin 256) : EReal :=
  ∑ d ∈ Finset.range (width g), shareAt H W S Y (r.val + d) g k - dpooled H W S Y r g k

/-- The weights' and the scale's gradients. -/
def dweight (g : Fin 4) (k o : Fin 256) : EReal := ∑ r : Fin 8192, P r g k * dmixed H S Y r (col g o)
def dscale (g : Fin 4) (o : Fin 256) : EReal := ∑ r : Fin 8192, dms H Y r (col g o) * mixed W P r g o

end Cert.PoolForm

end
-- ==== Proof.Pool.Blocks.lean ====
/-
  What the pooling branch's backward kernel reads at each of its points.
-/
module

public import proofs.«01_k».proof.Proof.Pool.Host
public import proofs.«01_k».proof.Proof.Pool.Form

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm

variable (m : (ℓ : Loc nD τ sig) → Buf (Elt Ideal) ℓ) (ρ : Dev nD → PrngReg)

/-- The row a point's block row stands at: the tiles are visited from the last to the first. -/
def row (t : Fin cfg0.N) (a : Fin 1024) : Fin 8192 :=
  ⟨1024 * (7 - t.val) + a.val, by have := a.isLt; omega⟩

/-- The pooled rows the kernel is launched on. -/
def saved (c : Dev nD) (r : Fin 8192) (g : Fin 4) (k : Fin 256) : EReal := V m c main_v61 (ix2 r (col g k))

theorem idx0 : ∀ t : Fin cfg0.N, win0_0.index t = ![7 - t.val, 1] := (by decide +kernel : ∀ t : Fin grid0.N, win0_0.index t = ![7 - t.val, 1])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0] := (by decide +kernel : ∀ t : Fin grid0.N, win0_2.index t = ![0, 0])
theorem idx3 : ∀ t : Fin cfg0.N, win0_3.index t = ![7 - t.val, 0] := (by decide +kernel : ∀ t : Fin grid0.N, win0_3.index t = ![7 - t.val, 0])
theorem idx4 : ∀ t : Fin cfg0.N, win0_4.index t = ![7 - t.val, 0] := (by decide +kernel : ∀ t : Fin grid0.N, win0_4.index t = ![7 - t.val, 0])
theorem idx5 : ∀ t : Fin cfg0.N, win0_5.index t = ![7 - t.val, 0] := (by decide +kernel : ∀ t : Fin grid0.N, win0_5.index t = ![7 - t.val, 0])
theorem coord : ∀ t : Fin cfg0.N, (grid0.coords t 0).val = t.val := (by decide +kernel : ∀ t : Fin grid0.N, (grid0.coords t 0).val = t.val)

/-! What a point reads. -/

theorem read0 (c : Dev nD) (t : Fin cfg0.N) (a b : Fin 1024) : X0_0 m c t (ix2 a b) = gate (h m c) (row t a) b := by
  refine Eq.trans ?_ (V_gate m c (row t a) b)
  unfold X0_0 Pipeline.Window.fill
  rw [dif_pos (moved0_0 t _)]
  blk_ext [iblk, idx0 t, row]

theorem read1 (c : Dev nD) (t : Fin cfg0.N) (g : Fin 4) (k o : Fin 256) : iblk m c 1 t (ix3 g k o) = w m c (ix3 g k o) := by
  refine Eq.trans ?_ (congrFun (V_w m c) _)
  blk_ext [iblk, idx1 t]

theorem read2 (c : Dev nD) (t : Fin cfg0.N) (b : Fin 1024) : iblk m c 2 t (ix2 0 b) = scale m c (ix1 b) := by
  refine Eq.trans ?_ (V_scale m c b)
  blk_ext [iblk, idx2 t]

theorem read3 (c : Dev nD) (t : Fin cfg0.N) (a b : Fin 1024) : iblk m c 3 t (ix2 a b) = V m c main_v61 (ix2 (row t a) b) := by
  blk_ext [iblk, idx3 t, row]

theorem read4 (c : Dev nD) (t : Fin cfg0.N) (a b : Fin 1024) : iblk m c 4 t (ix2 a b) = dy m c (ix2 (row t a) b) := by
  refine Eq.trans ?_ (congrFun (V_main_arg3 m c) _)
  blk_ext [iblk, idx4 t, row]

end Cert.PoolKernelIdeal.Closed

end
-- ==== Proof.Pool.Payloads.lean ====
/-
  The kernel's sums over the rows of a window, taken by doubling rotations, and its other values at an entry.
-/
module

public import proofs.«01_k».proof.Proof.Gen.PoolKernelIdeal.Skeleton
public import Idealize.ShloMosaic.Lib.Pipeline.ValueKit
public import proofs.«01_k».proof.Proof.Pool.Form

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm Cert.Sums

/-- A tile's column continued by the rows kept from the tile after it. -/
def ext (x : S1024x256.Idx → EReal) (y : S16x256.Idx → EReal) (k : Fin 256) (n : ℕ) : EReal :=
  if h : n < 1024 then x (ix2 ⟨n, h⟩ k) else if h' : n - 1024 < 16 then y (ix2 ⟨n - 1024, h'⟩ k) else 0

theorem stacked (x : FVec Ideal S1024x256 .f32) (y : Vec Ideal S16x256 .f32) (k : Fin 256) (r : Fin 1040) (_ : r.val + 1 ≤ 1040) :
    (concatenate S1040x256 0 [⟨S1024x256, x⟩, ⟨S16x256, y⟩] concatenates_S1024x256_S16x256_S1040x256_d0 : S1040x256.Idx → EReal) (ix2 r k)
      = ∑ d ∈ Finset.range 1, ext x y k (r.val + d) := by
  rw [Finset.sum_range_one, Nat.add_zero]
  unfold ext
  by_cases h : r.val < 1024
  · rw [dif_pos h]
    exact concatenate_pair_apply_left 0 x y _ (ix2 r k) rfl (ix2 ⟨r.val, h⟩ k) (Fin.forall_fin_two.2 ⟨rfl, rfl⟩)
  · rw [dif_neg h, dif_pos (by omega)]
    exact concatenate_pair_apply_right 0 x y _ (ix2 r k) rfl rfl (ix2 ⟨r.val - 1024, by omega⟩ k)
      (Fin.forall_fin_two.2 ⟨fun h => absurd rfl h, fun _ => rfl⟩) (by show r.val - 1024 + 1024 = r.val; omega)

theorem slice_rows (x : S1040x256.Idx → EReal) (r : Fin 1024) (k : Fin 256) :
    extractStridedSlice S1024x256 ![0, 0] x slices_S1040x256_o0_0_S1024x256 (ix2 r k) = x (ix2 ⟨r.val, by omega⟩ k) := by
  pointwise

variable (b : BitVec 32) (v0 v1 : FVec Ideal S1024x256 .f32) (sc : FVec Ideal S1x256 .f32) (v2 : Vec Ideal S1024x256 .f32)
  (w : Vec Ideal S1x256x256 .bf16) (y : Vec Ideal S16x256 .f32) (r : Fin 1024) (k : Fin 256)

/-- Doublings of a stacked column, read at one of the tile's own rows. -/
theorem doubled1 (x : FVec Ideal S1024x256 .f32) (r : Fin 1040) (hr : r.val + 2 ≤ 1040) :
    addf (F := Ideal) (φ := .f32) (concatenate S1040x256 0 [⟨S1024x256, x⟩, ⟨S16x256, y⟩] concatenates_S1024x256_S16x256_S1040x256_d0)
      (dynamicRotate 0 1039#32 none (concatenate S1040x256 0 [⟨S1024x256, x⟩, ⟨S16x256, y⟩] concatenates_S1024x256_S16x256_S1040x256_d0)
        rotates_S1040x256_d0) (ix2 r k) = ∑ d ∈ Finset.range 2, ext x y k (r.val + d) :=
  double_apply (n := 1040) _ _ k 1 1039#32 rfl (by decide) _ (stacked x y k) r hr

theorem run0 : k0_pay20 v0 (k0_pay19 b sc v1 w y) (ix2 r k)
    = ∑ d ∈ Finset.range (width 0), ext (k0_pay18 b sc v1 w) y k (r.val + d) - v0 (ix2 r k) :=
  congrArg₂ (· - ·) ((slice_rows _ r k).trans
    (doubled1 y k _ ⟨r.val, by omega⟩ (by show r.val + 2 ≤ 1040; omega))) rfl

theorem run1 (v3 : FVec Ideal S1024x256 .f32) : k0_pay35 v3 (k0_pay34 b v0 v1 sc v2 w y) (ix2 r k)
    = ∑ d ∈ Finset.range (width 1), ext (k0_pay33 b v0 v1 sc v2 w) y k (r.val + d) - v3 (ix2 r k) :=
  congrArg₂ (· - ·) ((slice_rows _ r k).trans
    (double_apply (n := 1040) _ _ k 2 1038#32 rfl (by decide) _ (doubled1 y k _)
      ⟨r.val, by omega⟩ (by show r.val + 4 ≤ 1040; omega))) rfl

theorem run2 (i j : IVec S1024x256 32) : k0_pay53 v0 i j y (ix2 r k)
    = ∑ d ∈ Finset.range (width 2), ext (k0_pay52 v0 i j) y k (r.val + d) - v0 (ix2 r k) :=
  congrArg₂ (· - ·) ((slice_rows _ r k).trans
    (double_apply (n := 1040) _ _ k 4 1036#32 rfl (by decide) _
      (double_apply (n := 1040) _ _ k 2 1038#32 rfl (by decide) _ (doubled1 y k _))
      ⟨r.val, by omega⟩ (by show r.val + 8 ≤ 1040; omega))) rfl

theorem run3 : k0_pay2 b v0 y (ix2 r k)
    = ∑ d ∈ Finset.range (width 3), ext (k0_pay1 b v0) y k (r.val + d) - v0 (ix2 r k) :=
  congrArg₂ (· - ·) ((slice_rows _ r k).trans
    (double_apply (n := 1040) _ _ k 8 1032#32 rfl (by decide) _
      (double_apply (n := 1040) _ _ k 4 1036#32 rfl (by decide) _
        (double_apply (n := 1040) _ _ k 2 1038#32 rfl (by decide) _ (doubled1 y k _)))
      ⟨r.val, by omega⟩ (by show r.val + 16 ≤ 1040; omega))) rfl

/-- The reciprocal count's word: the row's number, capped at the window. -/
theorem count_word (t : ℕ) (ht : t < 8) (r : Fin 1024) (g : Fin 4) (c : BitVec 32) (hc : c.toNat = width g) :
    FloatOps.sitofp (F := Ideal) .f32 (IntOp.minsi (IntOp.addi (IntOp.addi (Scalar.muli (Scalar.subi 7#32 (BitVec.ofNat 32 t)) 1024#32)
      (BitVec.ofNat 32 r.val)) 1#32) c) = count g (1024 * (7 - t) + r.val) := by
  have hr := r.isLt
  refine count_apply _ _ _ _ ?_ hc (by omega) (by unfold width; fin_cases g <;> decide)
  show (((7#32 - BitVec.ofNat 32 t) * 1024#32 + BitVec.ofNat 32 r.val) + 1#32).toNat = _
  simp only [BitVec.toNat_add, BitVec.toNat_mul, BitVec.toNat_sub, BitVec.toNat_ofNat]
  omega

end Cert.PoolKernelIdeal.Closed

end
-- ==== Proof.Pool.Kernel.lean ====
/-
  What the pooling branch's backward kernel leaves in its three outputs.
-/
module

public import proofs.«01_k».proof.Proof.Pool.Blocks
public import proofs.«01_k».proof.Proof.Pool.Payloads
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm Cert.Sums Cert.Pieces

variable (m : (ℓ : Loc nD τ sig) → Buf (Elt Ideal) ℓ) (ρ : Dev nD → PrngReg)

/-- The blocks a point reads, as arrays of extended reals. -/
abbrev gateB (c : Dev nD) (t : Fin cfg0.N) : S1024x1024.Idx → EReal := X0_0 m c t
abbrev wB (c : Dev nD) (t : Fin cfg0.N) : S4x256x256.Idx → EReal := iblk m c 1 t
abbrev scB (c : Dev nD) (t : Fin cfg0.N) : S1x1024.Idx → EReal := iblk m c 2 t
abbrev poB (c : Dev nD) (t : Fin cfg0.N) : S1024x1024.Idx → EReal := iblk m c 3 t
abbrev dyB (c : Dev nD) (t : Fin cfg0.N) : S1024x1024.Idx → EReal := iblk m c 4 t

/-- A column of group `g` as the pieces number it: the group's first column plus the place in it. -/
theorem place (g : Fin 4) {j : Fin 1024} {k : Fin 256} (h : j.val = 256 * g.val + k.val) : j = col g k := Fin.ext h

/-- One group's shares, from the blocks a point reads. -/
theorem share_of (c : Dev nD) (t : Fin cfg0.N) (g : Fin 4) (a : Fin 1024) (k : Fin 256) (j : Fin 1024)
    (cw : BitVec 32) (i : Fin 256 → Fin 1024) (hj : j.val = 256 * g.val + k.val) (hc : cw.toNat = width g)
    (hi : ∀ x, (i x).val = 256 * g.val + x.val) :
    Ideal.div (∑ x, dyB m c t (ix2 a (i x))
          * (gateB m c t (ix2 a (i x)) * Ideal.div 1 (1 + Ideal.exp (0 - gateB m c t (ix2 a (i x))))) * scB m c t (ix2 0 (i x))
          * wB m c t (ix3 g k x))
        (FloatOps.sitofp (F := Ideal) .f32 (IntOp.minsi (IntOp.addi (IntOp.addi
          (Scalar.muli (Scalar.subi 7#32 (BitVec.ofNat 32 (grid0.coords t 0).val)) 1024#32) (BitVec.ofNat 32 a.val)) 1#32) cw))
      = share (h m c) (w m c) (scale m c) (dy m c) (row t a) (grp j) (lane j) := by
  rw [at_col (fun g k => share (h m c) (w m c) (scale m c) (dy m c) (row t a) g k) g k j hj, coord t,
    count_word t.val (lt_of_lt_of_eq t.isLt N_0) a g cw hc]
  simp only [fun x => place g (hi x), sigmoid_eq, read0, read1, read2, read4]
  rfl

set_option maxHeartbeats 2000000 in
/-- The shares of a tile's rows: what the next tile down needs of its first rows. -/
theorem kept (c : Dev nD) (t : Fin cfg0.N) (a : Fin 16) (j : Fin 1024) :
    (outsAt0 m c t.val t.isLt).2.2.2 (ix2 a j)
      = share (h m c) (w m c) (scale m c) (dy m c) (row t ⟨a.val, by omega⟩) (grp j) (lane j) := by
  by_cases h0 : t.val % 8 = 0
  on_goal 1 =>
    rw [outsAt0_A m c t h0]
    frame_out
    refine (canon_dropLast (S := S16x1024) _ _ ![16, 256] (List.cons_ne_nil _ _) ?_).trans ?_
    · sl_kernel_rfl
    simp only [List.dropLast]
  on_goal 2 =>
    rw [outsAt0_B m c t h0]
    frame_out
  all_goals
    canon_tiles x hx
    all_goals
      idx_vars x
      pointwise [k0_pay1, k0_pay3, k0_pay7, k0_pay8, k0_pay9, k0_pay10, k0_pay11, k0_pay12, k0_pay13, k0_pay14, k0_pay15, k0_pay16, k0_pay17, k0_pay18, k0_pay21,
        k0_pay22, k0_pay23, k0_pay24, k0_pay25, k0_pay26, k0_pay27, k0_pay28, k0_pay29, k0_pay30, k0_pay31, k0_pay32, k0_pay33, k0_pay36, k0_pay37, k0_pay38,
        k0_pay39, k0_pay40, k0_pay41, k0_pay42, k0_pay43, k0_pay44, k0_pay45, k0_pay46, k0_pay47, k0_pay48, k0_pay49, k0_pay50, k0_pay51, k0_pay52, k0_pay54,
        k0_pay55, k0_pay56, k0_pay57, k0_pay58, k0_pay59, k0_pay60, k0_pay61, k0_pay62, k0_pay63, k0_pay64, k0_pay65]
      obtain rfl : a = x0 := Fin.ext hx0
      refine share_of m c t _ ⟨a.val, by omega⟩ x1 j _ _ ?_ rfl fun x => ?_
      all_goals first | exact hx1 | rfl | simpa using hx1 | exact (Nat.zero_add _).symm

end Cert.PoolKernelIdeal.Closed

end
-- ==== Proof.Pool.Accum.lean ====
/-
  The gradients the pooling branch's backward kernel sums over its tiles: the scale's.
-/
module

public import proofs.«01_k».proof.Proof.Pool.Kernel

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm Cert.Sums Cert.Pieces

variable (m : (ℓ : Loc nD τ sig) → Buf (Elt Ideal) ℓ) (ρ : Dev nD → PrngReg)

/-- A tile's part of the scale's gradient. -/
def scaleTerm (c : Dev nD) (t : Fin cfg0.N) (g : Fin 4) (o : Fin 256) : EReal :=
  ∑ a : Fin 1024, dms (h m c) (dy m c) (row t a) (col g o) * mixed (w m c) (saved m c) (row t a) g o

theorem scaleTerm_of (c : Dev nD) (t : Fin cfg0.N) (g : Fin 4) (o : Fin 256) (j j' : Fin 1024) (i : Fin 256 → Fin 1024)
    (hj : j.val = 256 * g.val + o.val) (hj' : j'.val = 256 * g.val + o.val) (hi : ∀ x, (i x).val = 256 * g.val + x.val) :
    ∑ a : Fin 1024, dyB m c t (ix2 a j') * (gateB m c t (ix2 a j') * Ideal.div 1 (1 + Ideal.exp (0 - gateB m c t (ix2 a j'))))
          * ∑ x, poB m c t (ix2 a (i x)) * wB m c t (ix3 g x o)
      = scaleTerm m c t (grp j) (lane j) := by
  rw [at_col (fun g k => scaleTerm m c t g k) g o j hj, place g hj']
  simp only [fun x => place g (hi x), sigmoid_eq, read0, read1, read3, read4]
  rfl

set_option maxHeartbeats 2000000 in
theorem scale_first (c : Dev nD) (t : Fin cfg0.N) (h0 : t.val % 8 = 0) (j : Fin 1024) :
    (outsAt0 m c t.val t.isLt).2.2.1 (ix2 0 j) = scaleTerm m c t (grp j) (lane j) := by
  rw [outsAt0_A m c t h0]
  frame_open
  simp (disch := decide) only [↓ View.readCov_skip, ↓ View.readCov_cons_toLoadRect, ↓ View.readCov_fill]
  frame_out
  refine (canon_dropLast (S := S1x1024) _ _ ![1, 256] (List.cons_ne_nil _ _) ?_).trans ?_
  · sl_kernel_rfl
  simp only [List.dropLast]
  canon_tiles x hx
  all_goals
    idx_vars x
    pointwise [k0_pay1, k0_pay3, k0_pay4, k0_pay5, k0_pay6, k0_pay7, k0_pay8, k0_pay9, k0_pay10, k0_pay11, k0_pay12, k0_pay13, k0_pay14, k0_pay15,
        k0_pay16, k0_pay17, k0_pay18, k0_pay21, k0_pay22, k0_pay23, k0_pay24, k0_pay25, k0_pay26, k0_pay27, k0_pay28, k0_pay29, k0_pay30, k0_pay31,
        k0_pay32, k0_pay33, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay54, k0_pay55, k0_pay56, k0_pay57, k0_pay58, k0_pay59, k0_pay60, k0_pay61, k0_pay62,
        k0_pay63, k0_pay64, k0_pay65]
  case piece0 => exact scaleTerm_of m c t 3 x1 j ⟨768 + x1.val, by omega⟩ (fun x => ⟨768 + x.val, by omega⟩) hx1 rfl fun x => rfl
  case piece1 => exact scaleTerm_of m c t 2 x1 j ⟨512 + x1.val, by omega⟩ (fun x => ⟨512 + x.val, by omega⟩) hx1 rfl fun x => rfl
  case piece2 => exact scaleTerm_of m c t 1 x1 j ⟨256 + x1.val, by omega⟩ (fun x => ⟨256 + x.val, by omega⟩) hx1 rfl fun x => rfl
  case piece3 => exact scaleTerm_of m c t 0 x1 j ⟨x1.val, by omega⟩ (fun x => ⟨x.val, by omega⟩) (by simpa using hx1) (by simp) fun x => by simp

set_option maxHeartbeats 2000000 in
theorem scale_next (c : Dev nD) (t : Fin cfg0.N) (h0 : ¬ t.val % 8 = 0) (j : Fin 1024) :
    (outsAt0 m c t.val t.isLt).2.2.1 (ix2 0 j) = (outsAt0 m c (t.val - 1) (by omega)).2.2.1 (ix2 0 j) + scaleTerm m c t (grp j) (lane j) := by
  rw [outsAt0_B m c t h0]
  frame_out
  canon_tiles x hx
  all_goals
    idx_vars x
    pointwise [k0_pay1, k0_pay3, k0_pay4, k0_pay5, k0_pay6, k0_pay7, k0_pay8, k0_pay9, k0_pay10, k0_pay11, k0_pay12, k0_pay13, k0_pay14, k0_pay15,
        k0_pay16, k0_pay17, k0_pay18, k0_pay21, k0_pay22, k0_pay23, k0_pay24, k0_pay25, k0_pay26, k0_pay27, k0_pay28, k0_pay29, k0_pay30, k0_pay31,
        k0_pay32, k0_pay33, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay54, k0_pay55, k0_pay56, k0_pay57, k0_pay58, k0_pay59, k0_pay60, k0_pay61, k0_pay62,
        k0_pay63, k0_pay64, k0_pay65]
  case piece0 => exact congrArg₂ (fun u v : EReal => u + v) (congrArg (fun q => (outsAt0 m c (t.val - 1) (by omega)).2.2.1 (ix2 0 q)) (Fin.ext (by simpa using hx1.symm))) (scaleTerm_of m c t 3 x1 j ⟨768 + x1.val, by omega⟩ (fun x => ⟨768 + x.val, by omega⟩) hx1 rfl fun x => rfl)
  case piece1 => exact congrArg₂ (fun u v : EReal => u + v) (congrArg (fun q => (outsAt0 m c (t.val - 1) (by omega)).2.2.1 (ix2 0 q)) (Fin.ext (by simpa using hx1.symm))) (scaleTerm_of m c t 2 x1 j ⟨512 + x1.val, by omega⟩ (fun x => ⟨512 + x.val, by omega⟩) hx1 rfl fun x => rfl)
  case piece2 => exact congrArg₂ (fun u v : EReal => u + v) (congrArg (fun q => (outsAt0 m c (t.val - 1) (by omega)).2.2.1 (ix2 0 q)) (Fin.ext (by simpa using hx1.symm))) (scaleTerm_of m c t 1 x1 j ⟨256 + x1.val, by omega⟩ (fun x => ⟨256 + x.val, by omega⟩) hx1 rfl fun x => rfl)
  case piece3 => exact congrArg₂ (fun u v : EReal => u + v) (congrArg (fun q => (outsAt0 m c (t.val - 1) (by omega)).2.2.1 (ix2 0 q)) (Fin.ext (by simpa using hx1.symm))) (scaleTerm_of m c t 0 x1 j ⟨x1.val, by omega⟩ (fun x => ⟨x.val, by omega⟩) (by simpa using hx1) (by simp) fun x => by simp)

end Cert.PoolKernelIdeal.Closed

end
-- ==== Proof.Pool.Weights.lean ====
/-
  The gradients the pooling branch's backward kernel sums over its tiles: the weights'.
-/
module

public import proofs.«01_k».proof.Proof.Pool.Kernel

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm Cert.Sums Cert.Pieces

variable (m : (ℓ : Loc nD τ sig) → Buf (Elt Ideal) ℓ) (ρ : Dev nD → PrngReg)

/-- A tile's part of the weights' gradient. -/
def weightTerm (c : Dev nD) (t : Fin cfg0.N) (g : Fin 4) (k o : Fin 256) : EReal :=
  ∑ a : Fin 1024, saved m c (row t a) g k * dmixed (h m c) (scale m c) (dy m c) (row t a) (col g o)

theorem weightTerm_of (c : Dev nD) (t : Fin cfg0.N) (g g' : Fin 4) (k k' o o' : Fin 256) (i j : Fin 1024) (hg : g' = g) (hk : k' = k)
    (ho : o' = o) (hi : i.val = 256 * g.val + k.val) (hj : j.val = 256 * g.val + o.val) :
    ∑ a : Fin 1024, poB m c t (ix2 a i)
          * (dyB m c t (ix2 a j) * (gateB m c t (ix2 a j) * Ideal.div 1 (1 + Ideal.exp (0 - gateB m c t (ix2 a j)))) * scB m c t (ix2 0 j))
      = weightTerm m c t g' k' o' := by
  subst hg hk ho
  rw [place _ hi, place _ hj]
  simp only [sigmoid_eq, read0, read2, read3, read4]
  rfl

set_option maxHeartbeats 2000000 in
theorem weight_first (c : Dev nD) (t : Fin cfg0.N) (h0 : t.val % 8 = 0) (g : Fin 4) (k o : Fin 256) :
    (outsAt0 m c t.val t.isLt).2.1 (ix3 g k o) = weightTerm m c t g k o := by
  rw [outsAt0_A m c t h0]
  frame_open
  simp (disch := decide) only [↓ View.readCov_skip, ↓ View.readCov_cons_toLoadRect, ↓ View.readCov_fill]
  frame_out
  refine (canon_dropLast (S := S4x256x256) _ _ ![1, 256, 256] (List.cons_ne_nil _ _) ?_).trans ?_
  · sl_kernel_rfl
  simp only [List.dropLast]
  canon_tiles x hx
  all_goals
    idx_vars x
    pointwise [k0_pay1, k0_pay3, k0_pay4, k0_pay5, k0_pay6, k0_pay7, k0_pay8, k0_pay9, k0_pay10, k0_pay11, k0_pay12, k0_pay13, k0_pay14, k0_pay15,
        k0_pay16, k0_pay17, k0_pay18, k0_pay21, k0_pay22, k0_pay23, k0_pay24, k0_pay25, k0_pay26, k0_pay27, k0_pay28, k0_pay29, k0_pay30, k0_pay31,
        k0_pay32, k0_pay33, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay54, k0_pay55, k0_pay56, k0_pay57, k0_pay58, k0_pay59, k0_pay60, k0_pay61, k0_pay62,
        k0_pay63, k0_pay64, k0_pay65]
  case piece0 => exact weightTerm_of m c t 3 g x1 k x2 o ⟨768 + x1.val, by omega⟩ ⟨768 + x2.val, by omega⟩ (Fin.ext (by have := x0.isLt; show g.val = 3; omega)) (Fin.ext (by simpa using hx1)) (Fin.ext (by simpa using hx2)) rfl rfl
  case piece1 => exact weightTerm_of m c t 2 g x1 k x2 o ⟨512 + x1.val, by omega⟩ ⟨512 + x2.val, by omega⟩ (Fin.ext (by have := x0.isLt; show g.val = 2; omega)) (Fin.ext (by simpa using hx1)) (Fin.ext (by simpa using hx2)) rfl rfl
  case piece2 => exact weightTerm_of m c t 1 g x1 k x2 o ⟨256 + x1.val, by omega⟩ ⟨256 + x2.val, by omega⟩ (Fin.ext (by have := x0.isLt; show g.val = 1; omega)) (Fin.ext (by simpa using hx1)) (Fin.ext (by simpa using hx2)) rfl rfl
  case piece3 => exact weightTerm_of m c t 0 g x1 k x2 o ⟨x1.val, by omega⟩ ⟨x2.val, by omega⟩ (Fin.ext (by have := x0.isLt; show g.val = 0; omega)) (Fin.ext (by simpa using hx1)) (Fin.ext (by simpa using hx2)) (by simp) (by simp)

set_option maxHeartbeats 2000000 in
theorem weight_next (c : Dev nD) (t : Fin cfg0.N) (h0 : ¬ t.val % 8 = 0) (g : Fin 4) (k o : Fin 256) :
    (outsAt0 m c t.val t.isLt).2.1 (ix3 g k o) = (outsAt0 m c (t.val - 1) (by omega)).2.1 (ix3 g k o) + weightTerm m c t g k o := by
  rw [outsAt0_B m c t h0]
  frame_out
  canon_tiles x hx
  all_goals
    idx_vars x
    pointwise [k0_pay1, k0_pay3, k0_pay4, k0_pay5, k0_pay6, k0_pay7, k0_pay8, k0_pay9, k0_pay10, k0_pay11, k0_pay12, k0_pay13, k0_pay14, k0_pay15,
        k0_pay16, k0_pay17, k0_pay18, k0_pay21, k0_pay22, k0_pay23, k0_pay24, k0_pay25, k0_pay26, k0_pay27, k0_pay28, k0_pay29, k0_pay30, k0_pay31,
        k0_pay32, k0_pay33, k0_pay36, k0_pay37, k0_pay38, k0_pay39, k0_pay40, k0_pay41, k0_pay42, k0_pay43, k0_pay44, k0_pay45, k0_pay46, k0_pay47,
        k0_pay48, k0_pay49, k0_pay50, k0_pay51, k0_pay52, k0_pay54, k0_pay55, k0_pay56, k0_pay57, k0_pay58, k0_pay59, k0_pay60, k0_pay61, k0_pay62,
        k0_pay63, k0_pay64, k0_pay65]
  case piece0 =>
    obtain rfl : g = 3 := Fin.ext (by have := x0.isLt; show g.val = 3; omega)
    obtain rfl : k = x1 := Fin.ext (by simpa using hx1)
    obtain rfl : o = x2 := Fin.ext (by simpa using hx2)
    exact congrArg (fun v : EReal => _ + v) (weightTerm_of m c t 3 3 k k o o ⟨768 + k.val, by omega⟩ ⟨768 + o.val, by omega⟩ rfl rfl rfl rfl rfl)
  case piece1 =>
    obtain rfl : g = 2 := Fin.ext (by have := x0.isLt; show g.val = 2; omega)
    obtain rfl : k = x1 := Fin.ext (by simpa using hx1)
    obtain rfl : o = x2 := Fin.ext (by simpa using hx2)
    exact congrArg (fun v : EReal => _ + v) (weightTerm_of m c t 2 2 k k o o ⟨512 + k.val, by omega⟩ ⟨512 + o.val, by omega⟩ rfl rfl rfl rfl rfl)
  case piece2 =>
    obtain rfl : g = 1 := Fin.ext (by have := x0.isLt; show g.val = 1; omega)
    obtain rfl : k = x1 := Fin.ext (by simpa using hx1)
    obtain rfl : o = x2 := Fin.ext (by simpa using hx2)
    exact congrArg (fun v : EReal => _ + v) (weightTerm_of m c t 1 1 k k o o ⟨256 + k.val, by omega⟩ ⟨256 + o.val, by omega⟩ rfl rfl rfl rfl rfl)
  case piece3 =>
    obtain rfl : g = 0 := Fin.ext (by have := x0.isLt; show g.val = 0; omega)
    obtain rfl : k = x1 := Fin.ext (by simpa using hx1)
    obtain rfl : o = x2 := Fin.ext (by simpa using hx2)
    exact congrArg (fun v : EReal => _ + v) (weightTerm_of m c t 0 0 k k o o ⟨k.val, by omega⟩ ⟨o.val, by omega⟩ rfl rfl rfl (by simp) (by simp))

end Cert.PoolKernelIdeal.Closed

end
-- ==== Proof.Pool.Tile.lean ====
/-
  The columns of the projection's gradient the pooling branch's backward kernel fills in, tile by tile.
-/
module

public import proofs.«01_k».proof.Proof.Pool.Kernel

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm Cert.Sums Cert.Pieces

variable (m : (ℓ : Loc nD τ sig) → Buf (Elt Ideal) ℓ) (ρ : Dev nD → PrngReg)

/-- The gradient of the branch's input and gate columns, side by side. -/
def left (c : Dev nD) (r : Fin 8192) (n : ℕ) : EReal :=
  if hn : n < 1024 then dinp (h m c) (w m c) (scale m c) (dy m c) r (grp ⟨n, hn⟩) (lane ⟨n, hn⟩)
  else if hn : n - 1024 < 1024 then
    dgate (h m c) (w m c) (scale m c) (dy m c) (saved m c) r (grp ⟨n - 1024, hn⟩) (lane ⟨n - 1024, hn⟩)
  else 0

theorem left_inp (c : Dev nD) (r : Fin 8192) (n : ℕ) (g : Fin 4) (k : Fin 256) (hn : n = 256 * g.val + k.val) :
    left m c r n = dinp (h m c) (w m c) (scale m c) (dy m c) r g k := by
  unfold left
  rw [dif_pos (by omega)]
  exact at_col (fun g k => dinp (h m c) (w m c) (scale m c) (dy m c) r g k) g k _ hn

theorem left_gate (c : Dev nD) (r : Fin 8192) (n : ℕ) (g : Fin 4) (k : Fin 256) (hn : n = 1024 + 256 * g.val + k.val) :
    left m c r n = dgate (h m c) (w m c) (scale m c) (dy m c) (saved m c) r g k := by
  unfold left
  rw [dif_neg (by omega), dif_pos (by omega)]
  exact at_col (fun g k => dgate (h m c) (w m c) (scale m c) (dy m c) (saved m c) r g k) g k _ (by show n - 1024 = _; omega)

theorem gate_piece (c : Dev nD) (t : Fin cfg0.N) (g : Fin 4) (a : Fin 1024) (o : Fin 256) (n : Fin 2048) (j : Fin 1024)
    (i : Fin 256 → Fin 1024) (hj : j.val = 256 * g.val + o.val) (hi : ∀ x, (i x).val = 256 * g.val + x.val)
    (hn : n.val = 1024 + 256 * g.val + o.val) :
    dyB m c t (ix2 a j) * (∑ x, poB m c t (ix2 a (i x)) * wB m c t (ix3 g x o)) * scB m c t (ix2 0 j)
        * (Ideal.div 1 (1 + Ideal.exp (0 - gateB m c t (ix2 a j)))
          * (1 + gateB m c t (ix2 a j) * (1 - Ideal.div 1 (1 + Ideal.exp (0 - gateB m c t (ix2 a j))))))
      = left m c (row t a) n.val := by
  rw [left_gate m c _ _ g o hn, place g hj]
  simp only [fun x => place g (hi x), sigmoid_eq, read0, read1, read2, read3, read4]
  rfl

theorem dpooled_at (c : Dev nD) (t : Fin cfg0.N) (g : Fin 4) (a : Fin 1024) (k : Fin 256)
    (i : Fin 256 → Fin 1024) (hi : ∀ x, (i x).val = 256 * g.val + x.val) :
    ∑ x, dyB m c t (ix2 a (i x))
          * (gateB m c t (ix2 a (i x)) * Ideal.div 1 (1 + Ideal.exp (0 - gateB m c t (ix2 a (i x))))) * scB m c t (ix2 0 (i x))
          * wB m c t (ix3 g k x)
      = dpooled (h m c) (w m c) (scale m c) (dy m c) (row t a) g k := by
  simp only [fun x => place g (hi x), sigmoid_eq, read0, read1, read2, read4]
  rfl

theorem share_at (c : Dev nD) (t : Fin cfg0.N) (g : Fin 4) (a : Fin 1024) (k : Fin 256) (cw : BitVec 32)
    (i : Fin 256 → Fin 1024) (hi : ∀ x, (i x).val = 256 * g.val + x.val) (hc : cw.toNat = width g) :
    Ideal.div (∑ x, dyB m c t (ix2 a (i x))
          * (gateB m c t (ix2 a (i x)) * Ideal.div 1 (1 + Ideal.exp (0 - gateB m c t (ix2 a (i x))))) * scB m c t (ix2 0 (i x))
          * wB m c t (ix3 g k x))
        (FloatOps.sitofp (F := Ideal) .f32 (IntOp.minsi (IntOp.addi (IntOp.addi
          (Scalar.muli (Scalar.subi 7#32 (BitVec.ofNat 32 (grid0.coords t 0).val)) 1024#32) (BitVec.ofNat 32 a.val)) 1#32) cw))
      = share (h m c) (w m c) (scale m c) (dy m c) (row t a) g k :=
  (share_of m c t g a k (col g k) cw i rfl hc hi).trans
    (at_col (fun g k => share (h m c) (w m c) (scale m c) (dy m c) (row t a) g k) g k _ rfl)

/-- The rows below a tile's last row, kept from the tile before. -/
theorem halo_next (c : Dev nD) (t : Fin cfg0.N) (h0 : ¬ t.val % 8 = 0) (g : Fin 4) (i : Fin 16) (k : Fin 256) (j : Fin 1024)
    (hj : j.val = 256 * g.val + k.val) :
    (outsAt0 m c (t.val - 1) (by omega)).2.2.2 (ix2 i j)
      = shareAt (h m c) (w m c) (scale m c) (dy m c) (1024 * (7 - t.val) + 1024 + i.val) g k := by
  have ht : t.val < 8 := lt_of_lt_of_eq t.isLt N_0
  refine (kept m c ⟨t.val - 1, by omega⟩ i j).trans ?_
  rw [at_col (fun g k => share (h m c) (w m c) (scale m c) (dy m c) _ g k) g k j hj]
  unfold shareAt
  rw [dif_pos (by omega)]
  refine congrArg (fun r => share (h m c) (w m c) (scale m c) (dy m c) r g k) (Fin.ext ?_)
  show 1024 * (7 - (t.val - 1)) + i.val = 1024 * (7 - t.val) + 1024 + i.val
  omega

theorem halo_first (c : Dev nD) (t : Fin cfg0.N) (h0 : t.val % 8 = 0) (g : Fin 4) (i : Fin 16) (k : Fin 256) :
    shareAt (h m c) (w m c) (scale m c) (dy m c) (1024 * (7 - t.val) + 1024 + i.val) g k = 0 := by
  have ht : t.val < 8 := lt_of_lt_of_eq t.isLt N_0
  unfold shareAt
  rw [dif_neg (by omega)]

theorem inp_piece (c : Dev nD) (t : Fin cfg0.N) (g : Fin 4) (a : Fin 1024) (k : Fin 256) (n : Fin 2048)
    (E v : FVec Ideal S1024x256 .f32) (y : Vec Ideal S16x256 .f32)
    (hE : ∀ b, E (ix2 b k) = share (h m c) (w m c) (scale m c) (dy m c) (row t b) g k)
    (hy : ∀ i, y (ix2 i k) = shareAt (h m c) (w m c) (scale m c) (dy m c) (1024 * (7 - t.val) + 1024 + i.val) g k)
    (hv : v (ix2 a k) = dpooled (h m c) (w m c) (scale m c) (dy m c) (row t a) g k)
    (hn : n.val = 256 * g.val + k.val) :
    (∑ d ∈ Finset.range (width g), ext E y k (a.val + d) - v (ix2 a k) : EReal) = left m c (row t a) n.val := by
  rw [left_inp m c _ _ g k hn, hv]
  unfold dinp
  refine congrArg (· - _) (Finset.sum_congr rfl fun d hd => ?_)
  have hd' : d < 16 := lt_of_lt_of_le (Finset.mem_range.mp hd) (by unfold width; fin_cases g <;> decide)
  have ht : t.val < 8 := lt_of_lt_of_eq t.isLt N_0
  unfold ext
  by_cases hb : a.val + d < 1024
  · rw [dif_pos hb, hE]
    unfold shareAt
    rw [dif_pos (by show 1024 * (7 - t.val) + a.val + d < 8192; omega)]
    exact congrArg (fun r => share (h m c) (w m c) (scale m c) (dy m c) r g k)
      (Fin.ext (by show 1024 * (7 - t.val) + (a.val + d) = 1024 * (7 - t.val) + a.val + d; omega))
  · rw [dif_neg hb, dif_pos (by omega), hy]
    exact congrArg (fun n => shareAt (h m c) (w m c) (scale m c) (dy m c) n g k)
      (by show 1024 * (7 - t.val) + 1024 + (a.val + d - 1024) = 1024 * (7 - t.val) + a.val + d; omega)

set_option maxHeartbeats 4000000 in
/-- What a point leaves of its tile. -/
theorem tile (c : Dev nD) (t : Fin cfg0.N) (a : Fin 1024) (j : Fin 2048) :
    (outsAt0 m c t.val t.isLt).1 (ix2 a j) = left m c (row t a) j.val := by
  by_cases h0 : t.val % 8 = 0
  on_goal 1 =>
    rw [outsAt0_A m c t h0]
    frame_open
    simp (disch := decide) only [↓ View.readCov_skip, ↓ View.readCov_cons_toLoadRect, ↓ View.readCov_fill]
    frame_out
  on_goal 2 =>
    rw [outsAt0_B m c t h0]
    frame_out
  all_goals
    canon_tiles x hx
    all_goals
      idx_vars x
      obtain rfl : a = x0 := Fin.ext hx0
    case piece0 =>
      rw [run3]
      refine inp_piece m c t 3 a x1 j _ _ _ (fun a => ?_) (fun a => ?_) ?_ (by simpa using hx1)
      · pointwise [k0_pay55, k0_pay56, k0_pay57, k0_pay58, k0_pay59, k0_pay60, k0_pay61, k0_pay62, k0_pay63, k0_pay64, k0_pay65, k0_pay1, k0_pay3]
        exact share_at m c t 3 a x1 16#32 (fun x => ⟨768 + x.val, by omega⟩) (fun x => rfl) rfl
      · try simp only [read_unread_whole]
        pointwise [k0_pay4]
        first
          | exact halo_next m c t h0 3 a x1 ⟨768 + x1.val, by omega⟩ rfl
          | exact (halo_first m c t h0 3 a x1).symm
      · pointwise [k0_pay55, k0_pay56, k0_pay57, k0_pay58, k0_pay59, k0_pay60, k0_pay61, k0_pay62, k0_pay63, k0_pay64, k0_pay65, k0_pay1, k0_pay3]
        exact dpooled_at m c t 3 a x1 (fun x => ⟨768 + x.val, by omega⟩) (fun x => rfl)
    case piece1 =>
      pointwise [k0_pay55, k0_pay56, k0_pay57, k0_pay58, k0_pay59, k0_pay60, k0_pay61, k0_pay62, k0_pay63, k0_pay64, k0_pay65, k0_pay1, k0_pay3]
      exact gate_piece m c t 3 a x1 j ⟨768 + x1.val, by omega⟩ (fun x => ⟨768 + x.val, by omega⟩) rfl (fun x => rfl) (by show _ = 1024 + 256 * 3 + x1.val; omega)
    case piece2 =>
      rw [run2]
      refine inp_piece m c t 2 a x1 j _ _ _ (fun a => ?_) (fun a => ?_) ?_ (by simpa using hx1)
      · pointwise [k0_pay37, k0_pay38, k0_pay39, k0_pay40, k0_pay41, k0_pay42, k0_pay43, k0_pay44, k0_pay45, k0_pay46, k0_pay47, k0_pay48, k0_pay49,
          k0_pay50, k0_pay51, k0_pay52, k0_pay54]
        exact share_at m c t 2 a x1 8#32 (fun x => ⟨512 + x.val, by omega⟩) (fun x => rfl) rfl
      · try simp only [read_unread_whole]
        pointwise [k0_pay4]
        first
          | exact halo_next m c t h0 2 a x1 ⟨512 + x1.val, by omega⟩ rfl
          | exact (halo_first m c t h0 2 a x1).symm
      · pointwise [k0_pay37, k0_pay38, k0_pay39, k0_pay40, k0_pay41, k0_pay42, k0_pay43, k0_pay44, k0_pay45, k0_pay46, k0_pay47, k0_pay48, k0_pay49,
          k0_pay50, k0_pay51, k0_pay52, k0_pay54]
        exact dpooled_at m c t 2 a x1 (fun x => ⟨512 + x.val, by omega⟩) (fun x => rfl)
    case piece3 =>
      pointwise [k0_pay37, k0_pay38, k0_pay39, k0_pay40, k0_pay41, k0_pay42, k0_pay43, k0_pay44, k0_pay45, k0_pay46, k0_pay47, k0_pay48, k0_pay49,
          k0_pay50, k0_pay51, k0_pay52, k0_pay54]
      exact gate_piece m c t 2 a x1 j ⟨512 + x1.val, by omega⟩ (fun x => ⟨512 + x.val, by omega⟩) rfl (fun x => rfl) (by show _ = 1024 + 256 * 2 + x1.val; omega)
    case piece4 =>
      rw [run1]
      refine inp_piece m c t 1 a x1 j _ _ _ (fun a => ?_) (fun a => ?_) ?_ (by simpa using hx1)
      · pointwise [k0_pay22, k0_pay23, k0_pay24, k0_pay25, k0_pay26, k0_pay27, k0_pay28, k0_pay29, k0_pay30, k0_pay31, k0_pay32, k0_pay33, k0_pay36]
        exact share_at m c t 1 a x1 4#32 (fun x => ⟨256 + x.val, by omega⟩) (fun x => rfl) rfl
      · try simp only [read_unread_whole]
        pointwise [k0_pay4]
        first
          | exact halo_next m c t h0 1 a x1 ⟨256 + x1.val, by omega⟩ rfl
          | exact (halo_first m c t h0 1 a x1).symm
      · pointwise [k0_pay22, k0_pay23, k0_pay24, k0_pay25, k0_pay26, k0_pay27, k0_pay28, k0_pay29, k0_pay30, k0_pay31, k0_pay32, k0_pay33, k0_pay36]
        exact dpooled_at m c t 1 a x1 (fun x => ⟨256 + x.val, by omega⟩) (fun x => rfl)
    case piece5 =>
      pointwise [k0_pay22, k0_pay23, k0_pay24, k0_pay25, k0_pay26, k0_pay27, k0_pay28, k0_pay29, k0_pay30, k0_pay31, k0_pay32, k0_pay33, k0_pay36]
      exact gate_piece m c t 1 a x1 j ⟨256 + x1.val, by omega⟩ (fun x => ⟨256 + x.val, by omega⟩) rfl (fun x => rfl) (by show _ = 1024 + 256 * 1 + x1.val; omega)
    case piece6 =>
      rw [run0]
      refine inp_piece m c t 0 a x1 j _ _ _ (fun a => ?_) (fun a => ?_) ?_ (by simpa using hx1)
      · pointwise [k0_pay7, k0_pay8, k0_pay9, k0_pay10, k0_pay11, k0_pay12, k0_pay13, k0_pay14, k0_pay15, k0_pay16, k0_pay17, k0_pay18, k0_pay21]
        exact share_at m c t 0 a x1 2#32 (fun x => ⟨x.val, by omega⟩) (fun x => (by simp)) rfl
      · try simp only [read_unread_whole]
        pointwise [k0_pay4]
        first
          | exact halo_next m c t h0 0 a x1 ⟨x1.val, by omega⟩ (by simp)
          | exact (halo_first m c t h0 0 a x1).symm
      · pointwise [k0_pay7, k0_pay8, k0_pay9, k0_pay10, k0_pay11, k0_pay12, k0_pay13, k0_pay14, k0_pay15, k0_pay16, k0_pay17, k0_pay18, k0_pay21]
        exact dpooled_at m c t 0 a x1 (fun x => ⟨x.val, by omega⟩) (fun x => (by simp))
    case piece7 =>
      pointwise [k0_pay7, k0_pay8, k0_pay9, k0_pay10, k0_pay11, k0_pay12, k0_pay13, k0_pay14, k0_pay15, k0_pay16, k0_pay17, k0_pay18, k0_pay21]
      exact gate_piece m c t 0 a x1 j ⟨x1.val, by omega⟩ (fun x => ⟨x.val, by omega⟩) (by simp) (fun x => (by simp)) (by show _ = 1024 + 256 * 0 + x1.val; omega)

end Cert.PoolKernelIdeal.Closed

end
-- ==== Proof.Pool.Outputs.lean ====
/-
  The three arrays the pooling branch's backward kernel leaves.
-/
module

public import proofs.«01_k».proof.Proof.Pool.Accum
public import proofs.«01_k».proof.Proof.Pool.Weights
public import proofs.«01_k».proof.Proof.Pool.Tile

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm Cert.Sums

variable (m : (ℓ : Loc nD τ sig) → Buf (Elt Ideal) ℓ) (ρ : Dev nD → PrngReg)

/-- The rows of the tiles, from the last tile to the first, are all the rows. -/
theorem sum_tiles (F : Fin 8192 → EReal) : ∑ t : Fin cfg0.N, ∑ a : Fin 1024, F (row t a) = ∑ r : Fin 8192, F r := by
  have e : ∀ t : Fin 8, ∀ a : Fin 1024, finProdFinEquiv (Fin.revPerm t, a) = row ⟨t.val, lt_of_lt_of_eq t.isLt N_0.symm⟩ a := fun t a =>
    Fin.ext (by show a.val + 1024 * (8 - (t.val + 1)) = 1024 * (7 - t.val) + a.val; omega)
  have hF : ∑ r : Fin 8192, F r = ∑ p : Fin 8 × Fin 1024, F (finProdFinEquiv p) :=
    (Fintype.sum_equiv finProdFinEquiv (fun p : Fin 8 × Fin 1024 => F (finProdFinEquiv p)) F fun _ => rfl).symm
  rw [hF, Fintype.sum_prod_type]
  refine Eq.trans ?_ (Equiv.sum_comp Fin.revPerm fun t : Fin 8 => ∑ a : Fin 1024, F (finProdFinEquiv (t, a)))
  exact Fintype.sum_equiv (finCongr N_0) _ _ fun t => Finset.sum_congr rfl fun a _ => congrArg F (e _ a).symm

/-- The scale's gradient. -/
theorem scale_total (c : Dev nD) : (dats m 0 c).arrAt 7 cfg0.N
    = fun i => dscale (h m c) (w m c) (dy m c) (saved m c) (grp (i 1)) (lane (i 1)) := by
  refine (dats m 0 c).arrAt_eq_of_after_last 7 t0_7 (by decide +kernel) _ fun y => ?_
  blk_simp
  rw [after0_7]
  idx_vars y
  refine (Pipeline.eq_sum_fin_of_reset_step_apply_last (fun n hn => (outsAt0 m c n hn).2.2.1) 8
    (fun _ => 0) (fun p i => scaleTerm m c p (grp (i 1)) (lane (i 1))) ?_ ?_ (le_of_eq N_0) t0_7 rfl _).trans ?_
  · intro t ht i
    idx_vars i
    obtain rfl : i0 = 0 := Subsingleton.elim _ _
    exact (scale_first m c t ht i1).trans (zero_add _).symm
  · intro t ht i
    idx_vars i
    obtain rfl : i0 = 0 := Subsingleton.elim _ _
    exact scale_next m c t ht i1
  · exact (zero_add _).trans (sum_tiles fun r => dms (h m c) (dy m c) r (col (grp y1) (lane y1)) * mixed (w m c) (saved m c) r (grp y1) (lane y1))

/-- The weights' gradient. -/
theorem weight_total (c : Dev nD) : (dats m 0 c).arrAt 6 cfg0.N
    = fun i => dweight (h m c) (scale m c) (dy m c) (saved m c) (i 0) (i 1) (i 2) := by
  refine (dats m 0 c).arrAt_eq_of_after_last 6 t0_7 (by decide +kernel) _ fun y => ?_
  blk_simp
  rw [after0_6]
  idx_vars y
  refine (Pipeline.eq_sum_fin_of_reset_step_apply_last (fun n hn => (outsAt0 m c n hn).2.1) 8
    (fun _ => 0) (fun p i => weightTerm m c p (i 0) (i 1) (i 2)) ?_ ?_ (le_of_eq N_0) t0_7 rfl _).trans ?_
  · intro t ht i
    idx_vars i
    exact (weight_first m c t ht i0 i1 i2).trans (zero_add _).symm
  · intro t ht i
    idx_vars i
    exact weight_next m c t ht i0 i1 i2
  · exact (zero_add _).trans (sum_tiles fun r => saved m c r y0 y1 * dmixed (h m c) (scale m c) (dy m c) r (col y0 y2))

theorem left_covers : (cfg0.win 5).CoversWhere (fun β => β 1 = 0) := by decide +kernel

theorem left_cell (j : (cfg0.win 5).shape.Idx) :
    (fun i : S8192x7680.Idx => (i 1).val < 2048) ((cfg0.win 5).arr.view.emb j) ↔ ((cfg0.win 5).cell j) 1 = 0 := by
  blk_simp [Pipeline.Window.cell_apply]
  omega

theorem left_row (t : Fin cfg0.N) (y : ((cfg0.win 5).xblock (cfg0.grid.coords t)).Idx) :
    (((cfg0.win 5).blk t).view.emb y 0).val = 1024 * (7 - t.val) + ((cfg0.win 5).xinj (cfg0.grid.coords t) y 0).val := by
  rw [Pipeline.Window.xinj_val]
  blk_simp [idx5 t]
  exact congrArg (· + _) (Nat.mul_comm _ _)

theorem left_col (t : Fin cfg0.N) (y : ((cfg0.win 5).xblock (cfg0.grid.coords t)).Idx) :
    (((cfg0.win 5).blk t).view.emb y 1).val = ((cfg0.win 5).xinj (cfg0.grid.coords t) y 1).val := by
  rw [Pipeline.Window.xinj_val]
  refine ((cfg0.win 5).rect_emb_val t y 1).trans ?_
  have e : (cfg0.win 5).index t 1 = 0 := congrFun (idx5 t) 1
  rw [e, Nat.zero_mul, Nat.zero_add]

/-- The projection's gradient: its first columns filled in, the others as they came. -/
theorem left_total (c : Dev nD) : (dats m 0 c).arrAt 5 cfg0.N
    = fun i => if (i 1).val < 2048 then left m c (i 0) (i 1).val else (dats m 0 c).A 5 i := by
  refine (dats m 0 c).arrAt_eq_of_coversWhere 5 (fun i => left m c (i 0) (i 1).val) (fun β => β 1 = 0) left_covers (fun t hf y => ?_) left_cell
  refine Eq.trans (b := (outsAt0 m c t.val t.isLt).1 ((cfg0.win 5).xinj (cfg0.grid.coords t) y)) ?_ ?_
  · show (dats m 0 c).after 5 t _ = _
    rw [after0_5]
  · have hz : (cfg0.win 5).xinj (cfg0.grid.coords t) y
        = ix2 ((cfg0.win 5).xinj (cfg0.grid.coords t) y 0) ((cfg0.win 5).xinj (cfg0.grid.coords t) y 1) := by
      funext a
      fin_cases a <;> rfl
    refine (congrArg (outsAt0 m c t.val t.isLt).1 hz).trans ((tile m c t _ _).trans ?_)
    exact congrArg₂ (left m c) (Fin.ext (left_row t y).symm) (left_col t y).symm

end Cert.PoolKernelIdeal.Closed

end
-- ==== Proof.Pool.Shared.lean ====
/-
  The pooled rows from the lines both programs compute them with.
-/
module

public import proofs.«01_k».proof.Proof.Pool.Form

@[expose] public section

set_option maxRecDepth 16384

noncomputable section

open Idealize.ShloMosaic Idealize.ShloMosaic.TcCoe Idealize.SL.Sem

namespace Cert.PoolForm

open Cert.Sums

variable (H : (⟨2, ![8192, 7184]⟩ : Shape).Idx → EReal)

theorem cum_of (x : (⟨3, ![8192, 4, 256]⟩ : Shape).Idx → EReal) (init : (⟨0, ![]⟩ : Shape).Idx → EReal)
    (hx : ∀ n g k, x (ix3 n g k) = inp H n (col g k)) (hinit : ∀ i, init i = 0)
    (hw : (⟨3, ![8192, 4, 256]⟩ : Shape).ReduceWindows (![8192, 1, 1] : Fin 3 → ℕ) ![1, 1, 1] ![8191, 0, 0] ![0, 0, 0]
      ⟨3, ![8192, 4, 256]⟩)
    (hu : 0 < (⟨0, ![]⟩ : Shape).numel) (r : Fin 8192) (g : Fin 4) (k : Fin 256) :
    Host.reduceWindowAdd (F := Ideal) (φ := .f32) ![8192, 1, 1] ![1, 1, 1] ![8191, 0, 0] ![0, 0, 0] x init hw hu (ix3 r g k)
      = cum H r (col g k) := by
  rw [window_apply x init hinit hw hu r g k]
  simp only [hx]
  rfl

/-- The window's count as the programs compute it, in 32-bit words. -/
theorem count_of (r : Fin 8192) (g : Fin 4) (cw : BitVec 32) (hc : cw.toNat = width g) :
    FloatOps.sitofp (F := Ideal) .f32 (IntOp.minsi (IntOp.addi 1#32 (BitVec.ofNat 32 r.val)) cw) = count g r.val := by
  have hr := r.isLt
  refine count_apply _ _ _ _ ?_ hc (by omega) (by unfold width; fin_cases g <;> decide)
  show (1#32 + BitVec.ofNat 32 r.val).toNat = r.val + 1
  simp only [BitVec.toNat_add, BitVec.toNat_ofNat]
  omega

theorem pooled_of (r : Fin 8192) (g : Fin 4) (k : Fin 256) (a b n u : EReal) (ha : a = cum H r (col g k))
    (hb : b = if hw : width g ≤ r.val then cum H ⟨r.val - width g, by omega⟩ (col g k) else 0) (hn : n = count g r.val)
    (hu : u = inp H r (col g k)) : Ideal.div (a - b) n - u = pooled H r g k := by
  rw [ha, hb, hn, hu]
  rfl

theorem pooled_if (r : Fin 8192) (g : Fin 4) (k : Fin 256) (n : ℕ) (u : EReal) (hn : n = width g) (hu : u = inp H r (col g k)) :
    Ideal.div (cum H r (col g k) - if hr : r.val < n then 0 else cum H ⟨r.val - n, by omega⟩ (col g k)) (count g r.val) - u
      = pooled H r g k := by
  subst hn
  refine pooled_of H r g k _ _ _ _ rfl ?_ rfl hu
  by_cases hr : r.val < width g
  · rw [dif_pos hr, dif_neg (by omega)]
  · rw [dif_neg hr, dif_pos (by omega)]

end Cert.PoolForm

end
-- ==== Proof.Pool.Pooled.lean ====
/-
  The pooled rows the pooling branch's backward kernel is launched on.
-/
module

public import proofs.«01_k».proof.Proof.Pool.Blocks
public import proofs.«01_k».proof.Proof.Pool.Shared

@[expose] public section

set_option maxRecDepth 16384

noncomputable section

open Idealize.ShloMosaic Idealize.ShloMosaic.TcCoe Idealize.SL.Sem

namespace Cert.PoolKernelIdeal.Closed

open Cert.PoolKernelIdeal Cert.PoolKernelIdeal.Gen Cert.PoolForm Cert.Sums

variable (m : (ℓ : Loc nD τ sig) → Buf (Elt Ideal) ℓ) (ρ : Dev nD → PrngReg)

theorem saved_0 (c : Dev nD) (r : Fin 8192) (k : Fin 256) :
    V m c main_v61 (ix2 r ⟨256 * 0 + k.val, by omega⟩) = pooled (h m c) r 0 k := by
  have e : (⟨(256 * 0 + k.val) % 256, by omega⟩ : Fin 256) = k := Fin.ext (by show (256 * 0 + k.val) % 256 = k.val; omega)
  rw [V_eq]
  after_reads_at
  refine (congrArg (fun z : EReal => z - _) (dif_pos (by omega))).trans ?_
  after_reads_at
  refine pooled_of (h m c) r 0 k _ _ _ _ ?_ ?_ (count_of r 0 _ rfl) ?_
  · refine (cum_of (h m c) _ _ (fun n g k => ?_) (fun i => Ideal.ofBits_zero_f32) _ _ r 0 _).trans ?_
    · exact congrArg (fun q => h m c (ix2 n q)) (Fin.ext (by show 3088 + (g.val * 256 + k.val) = 3088 + (256 * g.val + k.val); omega))
    · exact congrArg (fun q => cum (h m c) r (col 0 q)) (Fin.ext (by show _ % 256 = k.val; omega))
  · by_cases hr : r.val < 2
    · refine (dif_pos hr).trans (Eq.trans ?_ (dif_neg (by show ¬ 2 ≤ r.val; omega)).symm)
      after_reads_at
    · refine (dif_neg hr).trans (Eq.trans ?_ (dif_pos (show 2 ≤ r.val by omega)).symm)
      after_reads_at
      refine (cum_of (h m c) _ _ (fun n g k => ?_) (fun i => Ideal.ofBits_zero_f32) _ _ ⟨r.val - 2, by omega⟩ 0 _).trans ?_
      · exact congrArg (fun q => h m c (ix2 n q)) (Fin.ext (by show 3088 + (g.val * 256 + k.val) = 3088 + (256 * g.val + k.val); omega))
      · exact congrArg (fun q => cum (h m c) ⟨r.val - 2, by omega⟩ (col 0 q)) (Fin.ext (by show _ % 256 = k.val; omega))
  · exact congrArg (fun q => h m c (ix2 r q)) (Fin.ext (by show 3088 + (_ / 256 * 256 + _ % 256) = 3088 + (256 * 0 + k.val); omega))

theorem saved_1 (c : Dev nD) (r : Fin 8192) (k : Fin 256) :
    V m c main_v61 (ix2 r ⟨256 * 1 + k.val, by omega⟩) = pooled (h m c) r 1 k := by
  have e : (⟨(256 * 1 + k.val) % 256, by omega⟩ : Fin 256) = k := Fin.ext (by show (256 * 1 + k.val) % 256 = k.val; omega)
  rw [V_eq]
  after_reads_at
  refine (congrArg (fun z : EReal => z - _) (dif_neg (by omega))).trans ?_
  refine (congrArg (fun z : EReal => z - _) (dif_pos (by omega))).trans ?_
  after_reads_at
  refine pooled_of (h m c) r 1 k _ _ _ _ ?_ ?_ (count_of r 1 _ rfl) ?_
  · refine (cum_of (h m c) _ _ (fun n g k => ?_) (fun i => Ideal.ofBits_zero_f32) _ _ r 1 _).trans ?_
    · exact congrArg (fun q => h m c (ix2 n q)) (Fin.ext (by show 3088 + (g.val * 256 + k.val) = 3088 + (256 * g.val + k.val); omega))
    · exact congrArg (fun q => cum (h m c) r (col 1 q)) (Fin.ext (by show _ % 256 = k.val; omega))
  · by_cases hr : r.val < 4
    · refine (dif_pos hr).trans (Eq.trans ?_ (dif_neg (by show ¬ 4 ≤ r.val; omega)).symm)
      after_reads_at
    · refine (dif_neg hr).trans (Eq.trans ?_ (dif_pos (show 4 ≤ r.val by omega)).symm)
      after_reads_at
      refine (cum_of (h m c) _ _ (fun n g k => ?_) (fun i => Ideal.ofBits_zero_f32) _ _ ⟨r.val - 4, by omega⟩ 1 _).trans ?_
      · exact congrArg (fun q => h m c (ix2 n q)) (Fin.ext (by show 3088 + (g.val * 256 + k.val) = 3088 + (256 * g.val + k.val); omega))
      · exact congrArg (fun q => cum (h m c) ⟨r.val - 4, by omega⟩ (col 1 q)) (Fin.ext (by show _ % 256 = k.val; omega))
  · exact congrArg (fun q => h m c (ix2 r q)) (Fin.ext (by show 3088 + (_ / 256 * 256 + _ % 256) = 3088 + (256 * 1 + k.val); omega))

theorem saved_2 (c : Dev nD) (r : Fin 8192) (k : Fin 256) :
    V m c main_v61 (ix2 r ⟨256 * 2 + k.val, by omega⟩) = pooled (h m c) r 2 k := by
  have e : (⟨(256 * 2 + k.val) % 256, by omega⟩ : Fin 256) = k := Fin.ext (by show (256 * 2 + k.val) % 256 = k.val; omega)
  rw [V_eq]
  after_reads_at
  refine (congrArg (fun z : EReal => z - _) (dif_neg (by omega))).trans ?_
  refine (congrArg (fun z : EReal => z - _) (dif_neg (by omega))).trans ?_
  refine (congrArg (fun z : EReal => z - _) (dif_pos (by omega))).trans ?_
  after_reads_at
  refine pooled_of (h m c) r 2 k _ _ _ _ ?_ ?_ (count_of r 2 _ rfl) ?_
  · refine (cum_of (h m c) _ _ (fun n g k => ?_) (fun i => Ideal.ofBits_zero_f32) _ _ r 2 _).trans ?_
    · exact congrArg (fun q => h m c (ix2 n q)) (Fin.ext (by show 3088 + (g.val * 256 + k.val) = 3088 + (256 * g.val + k.val); omega))
    · exact congrArg (fun q => cum (h m c) r (col 2 q)) (Fin.ext (by show _ % 256 = k.val; omega))
  · by_cases hr : r.val < 8
    · refine (dif_pos hr).trans (Eq.trans ?_ (dif_neg (by show ¬ 8 ≤ r.val; omega)).symm)
      after_reads_at
    · refine (dif_neg hr).trans (Eq.trans ?_ (dif_pos (show 8 ≤ r.val by omega)).symm)
      after_reads_at
      refine (cum_of (h m c) _ _ (fun n g k => ?_) (fun i => Ideal.ofBits_zero_f32) _ _ ⟨r.val - 8, by omega⟩ 2 _).trans ?_
      · exact congrArg (fun q => h m c (ix2 n q)) (Fin.ext (by show 3088 + (g.val * 256 + k.val) = 3088 + (256 * g.val + k.val); omega))
      · exact congrArg (fun q => cum (h m c) ⟨r.val - 8, by omega⟩ (col 2 q)) (Fin.ext (by show _ % 256 = k.val; omega))
  · exact congrArg (fun q => h m c (ix2 r q)) (Fin.ext (by show 3088 + (_ / 256 * 256 + _ % 256) = 3088 + (256 * 2 + k.val); omega))

theorem saved_3 (c : Dev nD) (r : Fin 8192) (k : Fin 256) :
    V m c main_v61 (ix2 r ⟨256 * 3 + k.val, by omega⟩) = pooled (h m c) r 3 k := by
  have e : (⟨(256 * 3 + k.val) % 256, by omega⟩ : Fin 256) = k := Fin.ext (by show (256 * 3 + k.val) % 256 = k.val; omega)
  rw [V_eq]
  after_reads_at
  refine (congrArg (fun z : EReal => z - _) (dif_neg (by omega))).trans ?_
  refine (congrArg (fun z : EReal => z - _) (dif_neg (by omega))).trans ?_
  refine (congrArg (fun z : EReal => z - _) (dif_neg (by omega))).trans ?_
  after_reads_at
  refine pooled_of (h m c) r 3 k _ _ _ _ ?_ ?_ (count_of r 3 _ rfl) ?_
  · refine (cum_of (h m c) _ _ (fun n g k => ?_) (fun i => Ideal.ofBits_zero_f32) _ _ r 3 _).trans ?_
    · exact congrArg (fun q => h m c (ix2 n q)) (Fin.ext (by show 3088 + (g.val * 256 + k.val) = 3088 + (256 * g.val + k.val); omega))
    · exact congrArg (fun q => cum (h m c) r (col 3 q)) (Fin.ext (by show _ % 256 = k.val; omega))
  · by_cases hr : r.val < 16
    · refine (dif_pos hr).trans (Eq.trans ?_ (dif_neg (by show ¬ 16 ≤ r.val; omega)).symm)
      after_reads_at
    · refine (dif_neg hr).trans (Eq.trans ?_ (dif_pos (show 16 ≤ r.val by omega)).symm)
      after_reads_at
      refine (cum_of (h m c) _ _ (fun n g k => ?_) (fun i => Ideal.ofBits_zero_f32) _ _ ⟨r.val - 16, by omega⟩ 3 _).trans ?_
      · exact congrArg (fun q => h m c (ix2 n q)) (Fin.ext (by show 3088 + (g.val * 256 + k.val) = 3088 + (256 * g.val + k.val); omega))
      · exact congrArg (fun q => cum (h m c) ⟨r.val - 16, by omega⟩ (col 3 q)) (Fin.ext (by show _ % 256 = k.val; omega))
  · exact congrArg (fun q => h m c (ix2 r q)) (Fin.ext (by show 3088 + (_ / 256 * 256 + _ % 256) = 3088 + (256 * 3 + k.val); omega))

theorem saved_eq (c : Dev nD) : saved m c = pooled (h m c) := by
  funext r g k
  fin_cases g
  · exact saved_0 m c r k
  · exact saved_1 m c r k
  · exact saved_2 m c r k
  · exact saved_3 m c r k

end Cert.PoolKernelIdeal.Closed

end
-- ==== Proof.Pool.Reference.lean ====
/-
  The reference's gradients, entry by entry.
-/
module

public import proofs.«01_k».proof.Proof.Gen.PoolReferenceIdeal.Run
public import proofs.«01_k».proof.Proof.Pool.Shared
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.PoolReferenceIdeal.Closed

open Cert.PoolReferenceIdeal Cert.PoolReferenceIdeal.Gen Cert.PoolReferenceIdeal.Value Cert.PoolForm Cert.Sums

variable (V : Valuation τ sig (Elt Ideal))

/-- The arguments, read as arrays of extended reals. -/
abbrev h : S8192x7184.Idx → EReal := V (Proc.devRef .tc main_arg0)
abbrev w : S4x256x256.Idx → EReal := V (Proc.devRef .tc main_arg1)
abbrev scale : S1024.Idx → EReal := V (Proc.devRef .tc main_arg2)
abbrev dy : S8192x1024.Idx → EReal := V (Proc.devRef .tc main_arg3)

theorem cum_eq (r : Fin 8192) (g : Fin 4) (k : Fin 256) : res_main_v3 V (ix3 r g k) = cum (h V) r (col g k) := by
  refine cum_of (h V) _ _ (fun n g k => ?_) (fun i => Ideal.ofBits_zero_f32) _ _ r g k
  unfold res_main_v2
  pointwise
  exact congrArg (fun q => h V (ix2 n q)) (Fin.ext (by show 3088 + (g.val * 256 + k.val) = 3088 + (256 * g.val + k.val); omega))

theorem cum_0 (r : Fin 8192) (k : Fin 256) : res_main_v8 V (ix2 r k) = cum (h V) r (col 0 k) := by
  unfold res_main_v8
  pointwise
  exact cum_eq V r 0 k

theorem count_0 (r : Fin 8192) : res_main_v17 V (ix2 r 0) = count 0 r.val := by
  unfold res_main_v17 res_main_v6
  pointwise
  exact count_of r 0 _ rfl

theorem cum_1 (r : Fin 8192) (k : Fin 256) : res_main_v21 V (ix2 r k) = cum (h V) r (col 1 k) := by
  unfold res_main_v21
  pointwise
  exact cum_eq V r 1 k

theorem count_1 (r : Fin 8192) : res_main_v30 V (ix2 r 0) = count 1 r.val := by
  unfold res_main_v30 res_main_v6
  pointwise
  exact count_of r 1 _ rfl

theorem cum_2 (r : Fin 8192) (k : Fin 256) : res_main_v34 V (ix2 r k) = cum (h V) r (col 2 k) := by
  unfold res_main_v34
  pointwise
  exact cum_eq V r 2 k

theorem count_2 (r : Fin 8192) : res_main_v43 V (ix2 r 0) = count 2 r.val := by
  unfold res_main_v43 res_main_v6
  pointwise
  exact count_of r 2 _ rfl

theorem cum_3 (r : Fin 8192) (k : Fin 256) : res_main_v47 V (ix2 r k) = cum (h V) r (col 3 k) := by
  unfold res_main_v47
  pointwise
  exact cum_eq V r 3 k

theorem count_3 (r : Fin 8192) : res_main_v56 V (ix2 r 0) = count 3 r.val := by
  unfold res_main_v56 res_main_v6
  pointwise
  exact count_of r 3 _ rfl

theorem pooled_eq (r : Fin 8192) (g : Fin 4) (k : Fin 256) : res_main_v64 V (ix3 r g k) = pooled (h V) r g k := by
  unfold res_main_v64 res_main_v2
  pointwise
  simp only [cum_0, cum_1, cum_2, cum_3, count_0, count_1, count_2, count_3]
  fin_cases g
  · refine (congrArg (fun z : EReal => z - _) (dif_pos (by decide))).trans (pooled_if (h V) r 0 k _ _ rfl
      (congrArg (fun q => h V (ix2 r q)) (Fin.ext (by show 3088 + (0 * 256 + k.val) = 3088 + (256 * 0 + k.val); omega))))
  · refine (congrArg (fun z : EReal => z - _) (dif_neg (by decide))).trans ((congrArg (fun z : EReal => z - _) (dif_pos (by decide))).trans (pooled_if (h V) r 1 k _ _ rfl
      (congrArg (fun q => h V (ix2 r q)) (Fin.ext (by show 3088 + (1 * 256 + k.val) = 3088 + (256 * 1 + k.val); omega)))))
  · refine (congrArg (fun z : EReal => z - _) (dif_neg (by decide))).trans ((congrArg (fun z : EReal => z - _) (dif_neg (by decide))).trans ((congrArg (fun z : EReal => z - _) (dif_pos (by decide))).trans (pooled_if (h V) r 2 k _ _ rfl
      (congrArg (fun q => h V (ix2 r q)) (Fin.ext (by show 3088 + (2 * 256 + k.val) = 3088 + (256 * 2 + k.val); omega))))))
  · refine (congrArg (fun z : EReal => z - _) (dif_neg (by decide))).trans ((congrArg (fun z : EReal => z - _) (dif_neg (by decide))).trans ((congrArg (fun z : EReal => z - _) (dif_neg (by decide))).trans (pooled_if (h V) r 3 k _ _ rfl
      (congrArg (fun q => h V (ix2 r q)) (Fin.ext (by show 3088 + (3 * 256 + k.val) = 3088 + (256 * 3 + k.val); omega))))))

theorem gate_eq (r : Fin 8192) (j : Fin 1024) : res_main_v1 V (ix2 r j) = gate (h V) r j := by
  unfold res_main_v1
  pointwise
  rfl

theorem logistic_eq (r : Fin 8192) (j : Fin 1024) : res_main_v71_2 V (ix2 r j) = Ideal.logistic (gate (h V) r j) := by
  unfold res_main_v71_2
  pointwise
  simp only [gate_eq]
  rfl

theorem mixed_eq (r : Fin 8192) (j : Fin 1024) :
    res_main_v67 V (ix2 r j) = mixed (w V) (pooled (h V)) r (grp j) (lane j) := by
  unfold res_main_v67
  pointwise
  simp only [pooled_eq]
  exact Finset.sum_congr (M := EReal) rfl fun k _ => mul_comm (G := EReal) _ _

theorem dms_eq (r : Fin 8192) (j : Fin 1024) : res_main_v74 V (ix2 r j) = dms (h V) (dy V) r j := by
  unfold res_main_v74 res_main_v71_0
  pointwise
  simp only [gate_eq, logistic_eq]
  rfl

theorem dmixed_eq (r : Fin 8192) (g : Fin 4) (o : Fin 256) :
    res_main_v83 V (ix3 g o r) = dmixed (h V) (scale V) (dy V) r (col g o) := by
  unfold res_main_v83 res_main_v68
  pointwise
  simp only [dms_eq]
  have e : (⟨g.val * 256 + o.val, by omega⟩ : Fin 1024) = col g o := Fin.ext (by show g.val * 256 + o.val = 256 * g.val + o.val; omega)
  rw [e]
  rfl

theorem dpooled_eq (r : Fin 8192) (g : Fin 4) (k : Fin 256) :
    res_main_v85 V (ix3 r g k) = dpooled (h V) (w V) (scale V) (dy V) r g k := by
  unfold res_main_v85
  pointwise
  simp only [dmixed_eq]
  rfl

theorem share_3 (r : Fin 8192) (k : Fin 256) :
    res_main_v98 V (ix2 r k) = share (h V) (w V) (scale V) (dy V) r 3 k := by
  unfold res_main_v98
  pointwise
  simp only [dpooled_eq, count_3]
  rfl

theorem share_2 (r : Fin 8192) (k : Fin 256) :
    res_main_v107 V (ix2 r k) = share (h V) (w V) (scale V) (dy V) r 2 k := by
  unfold res_main_v107
  pointwise
  simp only [dpooled_eq, count_2]
  rfl

theorem share_1 (r : Fin 8192) (k : Fin 256) :
    res_main_v117 V (ix2 r k) = share (h V) (w V) (scale V) (dy V) r 1 k := by
  unfold res_main_v117
  pointwise
  simp only [dpooled_eq, count_1]
  rfl

theorem share_0 (r : Fin 8192) (k : Fin 256) :
    res_main_v127 V (ix2 r k) = share (h V) (w V) (scale V) (dy V) r 0 k := by
  unfold res_main_v127
  pointwise
  simp only [dpooled_eq, count_0]
  rfl

end Cert.PoolReferenceIdeal.Closed

end
-- ==== Proof.Common.Finite.lean ====
/-
  Arrays whose entries are all of finite magnitude hold real numbers.
-/
module

public import Idealize.ShloMosaic.Lib.ReduceAll
public import Idealize.ShloMosaic.Lib.Pointwise
public import Idealize.ShloMosaic.Lib.IdealHost
public import Idealize.ShloMosaic.Lib.WordCmp
public import proofs.«01_k».proof.Proof.Common.Real

@[expose] public section

set_option maxRecDepth 16384

noncomputable section

open Idealize.ShloMosaic Idealize.ShloMosaic.TcCoe Idealize.SL.Sem

namespace Cert.Reals

/-- One entry below infinity in magnitude is a real number. -/
theorem IsReal.of_olt {s : Shape} (x b : FVec Ideal s .f32) (i : s.Idx) (hb : b i = ⊤) (e : cmpf .olt (Host.absf x) b i = 1#1) :
    IsReal (x i) := by
  refine IsReal.of_abs_lt ?_
  have e' : BitVec.ofBool (decide (max (x i) (-x i) < b i)) = 1#1 := e
  rw [hb] at e'
  by_contra hn
  rw [decide_eq_false hn] at e'
  exact absurd e' (by decide)

/-- So are all entries of an array that are, all at once. -/
theorem IsReal.of_all {s t u : Shape} {axes : List (Fin s.rank)} [Subsingleton t.Idx] (x b : FVec Ideal s .f32) (init : u.Idx → BitVec 1)
    (h : s.ReducesTo axes t) (hu : 0 < u.numel) (j : t.Idx) (hb : ∀ i, b i = ⊤)
    (e : Host.reduce IntOp.andi (cmpf .olt (Host.absf x) b) init h hu j = 1#1) (i : s.Idx) : IsReal (x i) :=
  IsReal.of_olt x b i (hb i) (Host.reduce_andi_all _ init h hu j e i)

/-- Both halves of a conjunction hold where it does. -/
theorem both {s : Shape} {x y : IVec s 1} {i : s.Idx} (e : andi x y i = 1#1) : x i = 1#1 ∧ y i = 1#1 :=
  (by decide : ∀ a b : BitVec 1, IntOp.andi a b = 1#1 → a = 1#1 ∧ b = 1#1) _ _ e

/-- The infinity's word is the top of the line. -/
theorem inf_word : Ideal.ofBits .f32 0x7F800000#32 = ⊤ := by simp [Ideal.ofBits, Ideal.ieee]

end Cert.Reals

end
-- ==== Proof.Pool.Finite.lean ====
/-
  Where the four arrays are of finite magnitude their entries are real numbers.
-/
module

public import proofs.«01_k».proof.Defs
public import proofs.«01_k».proof.Proof.Common.Finite

@[expose] public section

set_option maxRecDepth 16384

noncomputable section

open Idealize.ShloMosaic Idealize.ShloMosaic.TcCoe Idealize.SL.Sem

namespace Cert.Proof.Pool

open Cert.Reals

instance : Subsingleton Cert.Pre_pool_finite.S_.Idx := ⟨fun a b => funext fun d => d.elim0⟩

variable [Cert.Pre_pool_finite.Facts]

theorem finite {x0 x1 x2 x3 x4} (e : Cert.Pre_pool_finite.fn (F := Ideal) x0 x1 x2 x3 x4 = fun _ => 1#1) :
    (∀ i, IsReal (x0 i)) ∧ (∀ i, IsReal (x1 i)) ∧ (∀ i, IsReal (x2 i)) ∧ (∀ i, IsReal (x3 i)) := by
  have e := congrFun e (fun d => d.elim0)
  unfold Cert.Pre_pool_finite.fn Cert.Pre_pool_finite.fn_part1 at e
  obtain ⟨e012, e3⟩ := both e
  obtain ⟨e01, e2⟩ := both e012
  obtain ⟨e0, e1⟩ := both e01
  exact ⟨IsReal.of_all _ _ _ _ _ _ (fun _ => inf_word) e0, IsReal.of_all _ _ _ _ _ _ (fun _ => inf_word) e1,
    IsReal.of_all _ _ _ _ _ _ (fun _ => inf_word) e2, IsReal.of_all _ _ _ _ _ _ (fun _ => inf_word) e3⟩

end Cert.Proof.Pool

end
-- ==== Proof.Pool.Real.lean ====
/-
  Where the arguments are real numbers so is all that the gradients are made of; the gate's gradient then has one form.
-/
module

public import proofs.«01_k».proof.Proof.Pool.Form
public import proofs.«01_k».proof.Proof.Common.Real
public import proofs.«01_k».proof.Proof.Pool.Sums
public import Idealize.ShloMosaic.Lib.IdealHost

@[expose] public section

set_option maxRecDepth 16384

noncomputable section

open Idealize.ShloMosaic Idealize.ShloMosaic.TcCoe Idealize.SL.Sem

namespace Cert.PoolForm

open Cert.Reals

variable {H : (⟨2, ![8192, 7184]⟩ : Shape).Idx → EReal} {W : (⟨3, ![4, 256, 256]⟩ : Shape).Idx → EReal}
  {S : (⟨1, ![1024]⟩ : Shape).Idx → EReal} {Y : (⟨2, ![8192, 1024]⟩ : Shape).Idx → EReal}

/-- A row's share, less that of the row a window's width on, where there is one. -/
theorem share_pair (n : Fin 8192) (g : Fin 4) (k : Fin 256) (M : ℕ) (hM : M + width g = 8192) {a : EReal} (ha : a = share H W S Y n g k)
    (b : n.val < M → EReal) (hb : ∀ hn, b hn = -share H W S Y ⟨width g + n.val, by omega⟩ g k) :
    a + (if hn : n.val < M then b hn else 0) = shareAt H W S Y n.val g k + -shareAt H W S Y (n.val + width g) g k := by
  unfold shareAt
  rw [ha, dif_pos n.isLt]
  by_cases hn : n.val < M
  · rw [dif_pos hn, dif_pos (by omega), hb hn]
    exact congrArg (fun q => _ + -share H W S Y q g k) (Fin.ext (Nat.add_comm _ _))
  · rw [dif_neg hn, dif_neg (by omega), neg_zero]

variable (hH : ∀ i, IsReal (H i)) (hW : ∀ i, IsReal (W i)) (hS : ∀ i, IsReal (S i)) (hY : ∀ i, IsReal (Y i))

include hH

theorem cum_real (r : Fin 8192) (j : Fin 1024) : IsReal (cum H r j) := by
  unfold cum
  refine IsReal.sum _ fun n _ => ?_
  split
  · exact hH _
  · exact zero

theorem over_count (g : Fin 4) (r : Fin 8192) {x : EReal} (hx : IsReal x) : IsReal (Ideal.div x (count g r.val)) :=
  IsReal.div (by
    have : 0 < width g := Nat.pow_pos (by decide)
    have : 0 < min (r.val + 1) (width g) := by omega
    exact_mod_cast this.ne') hx

theorem pooled_real (r : Fin 8192) (g : Fin 4) (k : Fin 256) : IsReal (pooled H r g k) := by
  unfold pooled
  refine IsReal.sub (over_count hH g r (IsReal.sub (cum_real hH r _) ?_)) (hH _)
  split
  · exact cum_real hH _ _
  · exact zero

include hY in
theorem dms_real (r : Fin 8192) (j : Fin 1024) : IsReal (dms H Y r j) := IsReal.mul (hY _) (IsReal.mul (hH _) (IsReal.logistic (hH _)))

include hW hS hY

theorem dpooled_real (r : Fin 8192) (g : Fin 4) (k : Fin 256) : IsReal (dpooled H W S Y r g k) :=
  IsReal.sum _ fun _ _ => IsReal.mul (IsReal.mul (dms_real hH hY r _) (hS _)) (hW _)

theorem shareAt_real (n : ℕ) (g : Fin 4) (k : Fin 256) : IsReal (shareAt H W S Y n g k) := by
  unfold shareAt
  split
  · exact over_count hH g _ (dpooled_real hH hW hS hY _ g k)
  · exact zero

theorem dinp_of (x : (⟨3, ![8192, 4, 256]⟩ : Shape).Idx → EReal) (init : (⟨0, ![]⟩ : Shape).Idx → EReal) (hinit : ∀ i, init i = 0)
    (h : (⟨3, ![8192, 4, 256]⟩ : Shape).ReduceWindows (![8192, 1, 1] : Fin 3 → ℕ) ![1, 1, 1] ![0, 0, 0] ![8191, 0, 0] ⟨3, ![8192, 4, 256]⟩)
    (hu : 0 < (⟨0, ![]⟩ : Shape).numel)
    (hx : ∀ n g k, x (ix3 n g k) = shareAt H W S Y n.val g k + -shareAt H W S Y (n.val + width g) g k)
    (r : Fin 8192) (g : Fin 4) (k : Fin 256) :
    -dpooled H W S Y r g k + Host.reduceWindowAdd (F := Ideal) (φ := .f32) ![8192, 1, 1] ![1, 1, 1] ![0, 0, 0] ![8191, 0, 0] x init h hu (ix3 r g k)
      = dinp H W S Y r g k := by
  rw [Cert.Sums.window_apply x init hinit h hu r g k, add_comm, ← sub_eq_add_neg]
  refine congrArg (· - dpooled H W S Y r g k) ?_
  refine Eq.trans (Finset.sum_congr rfl fun n _ => ?_)
    (Cert.Sums.window_telescope 8192 (fun s => shareAt H W S Y s g k) (fun s => shareAt_real hH hW hS hY s g k)
      (fun s hs => dif_neg (by omega)) r.val (width g) (by have := g.isLt; unfold width; exact le_trans (Nat.pow_le_pow_right (by decide) (show g.val + 1 ≤ 4 by omega)) (by decide)))
  by_cases hn : r.val + n.val < 8192
  · rw [dif_pos ⟨Nat.zero_le _, hn⟩, if_pos hn]
    exact hx _ g k
  · rw [dif_neg (fun hc => hn hc.2), if_neg hn]

theorem dgate_form (r : Fin 8192) (g : Fin 4) (o : Fin 256) :
    mixed W (pooled H) r g o * S (ix1 (col g o)) * Y (ix2 r (col g o)) * Ideal.logistic (gate H r (col g o))
      + gate H r (col g o) * (mixed W (pooled H) r g o * S (ix1 (col g o)) * Y (ix2 r (col g o)))
        * (Ideal.logistic (gate H r (col g o)) * (1 - Ideal.logistic (gate H r (col g o))))
      = dgate H W S Y (pooled H) r g o := by
  unfold dgate
  obtain ⟨x, ex⟩ : IsReal (mixed W (pooled H) r g o) := IsReal.sum _ fun _ _ => IsReal.mul (pooled_real hH r g _) (hW _)
  obtain ⟨s, es⟩ := hS (ix1 (col g o))
  obtain ⟨y, ey⟩ := hY (ix2 r (col g o))
  obtain ⟨z, ez⟩ : IsReal (gate H r (col g o)) := hH _
  obtain ⟨l, el⟩ : IsReal (Ideal.logistic (gate H r (col g o))) := IsReal.logistic (hH _)
  rw [el, ex, es, ey, ez]
  norm_cast
  ring

end Cert.PoolForm

end
-- ==== Proof.Pool.Algebra.lean ====
/-
  The pooling branch's gradients against the reference's.
-/
module

public import proofs.«01_k».proof.Defs
public import proofs.«01_k».proof.Proof.Pool.Outputs
public import proofs.«01_k».proof.Proof.Pool.Pooled
public import proofs.«01_k».proof.Proof.Pool.Reference
public import proofs.«01_k».proof.Proof.Pool.Finite
public import proofs.«01_k».proof.Proof.Pool.Real
public import proofs.«01_k».proof.Proof.Gen.Pre_pool_finite

@[expose] public section

set_option maxRecDepth 16384

noncomputable section

open Idealize.ShloMosaic Idealize.ShloMosaic.TcCoe Idealize.SL.Sem

namespace Cert.Proof.Pool

open Cert.PoolForm Cert.Reals

/-- The mixed rows through the scale. -/
theorem scaled (V : Valuation Cert.PoolReferenceIdeal.τ Cert.PoolReferenceIdeal.sig (Elt Ideal)) (r : Fin 8192) (j : Fin 1024) :
    Cert.PoolReferenceIdeal.Value.res_main_v70 V (ix2 r j)
      = mixed (Cert.PoolReferenceIdeal.Closed.w V) (pooled (Cert.PoolReferenceIdeal.Closed.h V)) r (grp j) (lane j)
        * Cert.PoolReferenceIdeal.Closed.scale V (ix1 j) := by
  unfold Cert.PoolReferenceIdeal.Value.res_main_v70 Cert.PoolReferenceIdeal.Value.res_main_v68
  pointwise
  rw [Cert.PoolReferenceIdeal.Closed.mixed_eq]

set_option maxHeartbeats 2000000 in
/-- The idealized kernel and the reference agree on the three gradients. -/
theorem algebraic : Cert.algebraic_PoolKernelIdeal_PoolReferenceIdeal_pre_pool_finite := by
  intro m g m' g' hpre hagree
  refine ⟨fun c => (Cert.PoolKernelIdeal.Gen.dats m 0 c).arrAt 5 Cert.PoolKernelIdeal.cfg0.N,
    fun c => (Cert.PoolKernelIdeal.Gen.dats m 0 c).arrAt 6 Cert.PoolKernelIdeal.cfg0.N,
    fun c => (Cert.PoolKernelIdeal.Gen.dats m 0 c).arrAt 7 Cert.PoolKernelIdeal.cfg0.N,
    Cert.PoolKernelIdeal.Value.run_blocks m g, ?_⟩
  refine (θ_run Cert.PoolReferenceIdeal.defs _ _).mono (fun r hr c => ⟨?_, ?_, ?_, (hr c).2.2.2⟩)
    (Cert.PoolReferenceIdeal.Value.run (F := Ideal) m' g')
  all_goals
    have e0 : Cert.PoolReferenceIdeal.Closed.h (StableHlo.launchContents m' c) = Cert.PoolKernelIdeal.Closed.h m c := (hagree c).1
    have e1 : Cert.PoolReferenceIdeal.Closed.w (StableHlo.launchContents m' c) = Cert.PoolKernelIdeal.Closed.w m c := (hagree c).2.1
    have e2 : Cert.PoolReferenceIdeal.Closed.scale (StableHlo.launchContents m' c) = Cert.PoolKernelIdeal.Closed.scale m c := (hagree c).2.2.1
    have e3 : Cert.PoolReferenceIdeal.Closed.dy (StableHlo.launchContents m' c) = Cert.PoolKernelIdeal.Closed.dy m c := (hagree c).2.2.2.1
    obtain ⟨hH, hW, hS, hY⟩ := finite (hpre c)
  · rw [(hr c).1]
    refine Eq.trans ?_ (Cert.PoolKernelIdeal.Closed.left_total m c).symm
    funext i
    idx_vars i
    pointwise
    have hl := fun g k => Cert.PoolKernelIdeal.Closed.left_inp m c i0 i1.val g k
    have hg := fun g k => Cert.PoolKernelIdeal.Closed.left_gate m c i0 i1.val g k
    rw [← e0, ← e1, ← e2, ← e3] at hl
    rw [Cert.PoolKernelIdeal.Closed.saved_eq, ← e0, ← e1, ← e2, ← e3] at hg
    replace hH : ∀ i, IsReal (Cert.PoolReferenceIdeal.Closed.h (StableHlo.launchContents m' c) i) := by rw [e0]; exact hH
    replace hW : ∀ i, IsReal (Cert.PoolReferenceIdeal.Closed.w (StableHlo.launchContents m' c) i) := by rw [e1]; exact hW
    replace hS : ∀ i, IsReal (Cert.PoolReferenceIdeal.Closed.scale (StableHlo.launchContents m' c) i) := by rw [e2]; exact hS
    replace hY : ∀ i, IsReal (Cert.PoolReferenceIdeal.Closed.dy (StableHlo.launchContents m' c) i) := by rw [e3]; exact hY
    by_cases hc : i1.val < 1024
    · refine (dif_pos hc).trans ?_
      refine Eq.trans ?_ ((if_pos (show i1.val < 2048 by omega)).trans
        (hl ⟨i1.val / 256, by omega⟩ ⟨i1.val % 256, by omega⟩ (Nat.div_add_mod _ _).symm)).symm
      rw [Cert.PoolReferenceIdeal.Closed.dpooled_eq]
      refine dinp_of hH hW hS hY _ _ (fun _ => Ideal.ofBits_zero_f32) _ _ (fun n g k => ?_) i0 ⟨i1.val / 256, by omega⟩ ⟨i1.val % 256, by omega⟩
      fin_cases g
      · pointwise
        exact share_pair n 0 k 8190 rfl (Cert.PoolReferenceIdeal.Closed.share_0 _ n k) _
          (fun hn => congrArg Neg.neg (Cert.PoolReferenceIdeal.Closed.share_0 _ ⟨2 + n.val, by omega⟩ k))
      · pointwise
        exact share_pair n 1 k 8188 rfl (Cert.PoolReferenceIdeal.Closed.share_1 _ n k) _
          (fun hn => congrArg Neg.neg (Cert.PoolReferenceIdeal.Closed.share_1 _ ⟨4 + n.val, by omega⟩ k))
      · pointwise
        exact share_pair n 2 k 8184 rfl (Cert.PoolReferenceIdeal.Closed.share_2 _ n k) _
          (fun hn => congrArg Neg.neg (Cert.PoolReferenceIdeal.Closed.share_2 _ ⟨8 + n.val, by omega⟩ k))
      · pointwise
        exact share_pair n 3 k 8176 rfl (Cert.PoolReferenceIdeal.Closed.share_3 _ n k) _
          (fun hn => congrArg Neg.neg (Cert.PoolReferenceIdeal.Closed.share_3 _ ⟨16 + n.val, by omega⟩ k))
    · refine (dif_neg hc).trans ?_
      by_cases hd : i1.val - 1024 < 1024
      · refine (dif_pos hd).trans ?_
        refine Eq.trans ?_ ((if_pos (show i1.val < 2048 by omega)).trans
          (hg ⟨(i1.val - 1024) / 256, by omega⟩ ⟨(i1.val - 1024) % 256, by omega⟩ (by
            show i1.val = 1024 + 256 * ((i1.val - 1024) / 256) + (i1.val - 1024) % 256; omega))).symm
        refine Eq.trans ?_ (dgate_form hH hW hS hY i0 ⟨(i1.val - 1024) / 256, by omega⟩ ⟨(i1.val - 1024) % 256, by omega⟩)
        rw [Cert.PoolReferenceIdeal.Closed.logistic_eq, Cert.PoolReferenceIdeal.Closed.gate_eq]
        unfold Cert.PoolReferenceIdeal.Value.res_main_v73
        clear hr hl hg
        pointwise
        have ej : col ⟨(i1.val - 1024) / 256, by omega⟩ ⟨(i1.val - 1024) % 256, by omega⟩ = ⟨i1.val - 1024, hd⟩ := col_grp ⟨i1.val - 1024, hd⟩
        rw [ej, scaled]
        rfl
      · refine (dif_neg hd).trans ?_
        refine Eq.trans ?_ (if_neg (show ¬ i1.val < 2048 by omega)).symm
        refine Eq.trans (b := Cert.PoolKernelIdeal.Gen.V m c Cert.PoolKernelIdeal.main_arg4 (ix2 i0 i1)) ?_ rfl
        rw [Cert.PoolKernelIdeal.Gen.V_main_arg4]
        refine (congrFun (hagree c).2.2.2.2 _).trans ?_
        exact congrArg (m ((c.tc : Thread Cert.PoolKernelIdeal.nD Cert.PoolKernelIdeal.τ).loc Cert.PoolKernelIdeal.main_arg4))
          (show (ix2 i0 ⟨2048 + (i1.val - 1024 - 1024), by omega⟩ : Cert.PoolKernelIdeal.S8192x7680.Idx) = ix2 i0 i1 from
            congrArg (ix2 i0) (Fin.ext (by show 2048 + (i1.val - 1024 - 1024) = i1.val; omega)))
  · rw [(hr c).2.1]
    refine Eq.trans ?_ (Cert.PoolKernelIdeal.Closed.weight_total m c).symm
    rw [Cert.PoolKernelIdeal.Closed.saved_eq, ← e0, ← e2, ← e3]
    funext i
    idx_vars i
    pointwise
    simp only [Cert.PoolReferenceIdeal.Closed.dmixed_eq, Cert.PoolReferenceIdeal.Closed.pooled_eq]
    exact Finset.sum_congr (M := EReal) rfl fun _ _ => mul_comm (G := EReal) _ _
  · rw [(hr c).2.2.1]
    refine Eq.trans ?_ (Cert.PoolKernelIdeal.Closed.scale_total m c).symm
    rw [Cert.PoolKernelIdeal.Closed.saved_eq, ← e0, ← e1, ← e3]
    funext i
    idx_vars i
    pointwise
    simp only [Cert.PoolReferenceIdeal.Closed.mixed_eq, Cert.PoolReferenceIdeal.Closed.dms_eq]
    unfold dscale
    rw [col_grp, Fin.sum_univ_one]
    exact Finset.sum_congr (M := EReal) rfl fun _ _ => mul_comm (G := EReal) _ _

end Cert.Proof.Pool

end
-- ==== Proof.Merge.Form.lean ====
/-
  The sigmoid merge, the output projection and the layer norm after it, and their gradients, entry by entry.
-/
module

public import Idealize.ShloMosaic.Lib.IdealHost
public import Idealize.ShloMosaic.Lib.Pointwise
public import proofs.«01_k».proof.Proof.Common.Scalars

@[expose] public section

set_option maxRecDepth 16384

noncomputable section

open Idealize.ShloMosaic Idealize.ShloMosaic.TcCoe Idealize.SL.Sem

namespace Cert.MergeForm

/-- The arguments: the projection, the residual input, the two branches, the cotangent, the three weights, the gates' bias, the norm's gain. -/
structure Args where
  h : (⟨2, ![8192, 7184]⟩ : Shape).Idx → EReal
  x : (⟨2, ![8192, 1024]⟩ : Shape).Idx → EReal
  ya : (⟨2, ![8192, 1024]⟩ : Shape).Idx → EReal
  yb : (⟨2, ![8192, 1024]⟩ : Shape).Idx → EReal
  dy : (⟨2, ![8192, 1024]⟩ : Shape).Idx → EReal
  wa : (⟨2, ![1024, 1024]⟩ : Shape).Idx → EReal
  wb : (⟨2, ![1024, 1024]⟩ : Shape).Idx → EReal
  wo : (⟨2, ![1024, 1024]⟩ : Shape).Idx → EReal
  bm : (⟨1, ![2048]⟩ : Shape).Idx → EReal
  g : (⟨1, ![1024]⟩ : Shape).Idx → EReal

variable (A : Args)

/-- The gates' columns: the first branch's and the second's. -/
def colA (j : Fin 1024) : Fin 2048 := ⟨j.val, by omega⟩
def colB (j : Fin 1024) : Fin 2048 := ⟨1024 + j.val, by omega⟩

/-- The gates. -/
def gate (e : Fin 8192) (q : Fin 2048) : EReal := Ideal.logistic (A.h (ix2 e ⟨5136 + q.val, by omega⟩) + A.bm (ix1 q))

/-- The two branches, projected. -/
def pa (e : Fin 8192) (j : Fin 1024) : EReal := ∑ k : Fin 1024, A.ya (ix2 e k) * A.wa (ix2 k j)
def pb (e : Fin 8192) (j : Fin 1024) : EReal := ∑ k : Fin 1024, A.yb (ix2 e k) * A.wb (ix2 k j)

/-- The merge, and the residual stream after the output projection. -/
def mix (e : Fin 8192) (j : Fin 1024) : EReal := gate A e (colA j) * pa A e j + gate A e (colB j) * pb A e j
def res (e : Fin 8192) (j : Fin 1024) : EReal :=
  Ideal.ofBits .f32 0x3FD744FD#32 * A.x (ix2 e j) + ∑ k : Fin 1024, mix A e k * A.wo (ix2 k j)

/-- The norm of a row: its mean, the row about it, the reciprocal deviation, the row so scaled. -/
def mean (e : Fin 8192) : EReal := Ideal.div (∑ k : Fin 1024, res A e k) (Ideal.ofBits .f32 0x44800000#32)
def cen (e : Fin 8192) (j : Fin 1024) : EReal := res A e j - mean A e
def spread (e : Fin 8192) : EReal :=
  Ideal.div (∑ k : Fin 1024, cen A e k * cen A e k) (Ideal.ofBits .f32 0x44800000#32) + Ideal.ofBits .f32 0x3727C5AC#32
def inv (e : Fin 8192) : EReal := Ideal.rsqrt (spread A e)
def hat (e : Fin 8192) (j : Fin 1024) : EReal := cen A e j * inv A e

/-- The gradient of the residual stream. -/
def dhat (e : Fin 8192) (j : Fin 1024) : EReal := A.dy (ix2 e j) * A.g (ix1 j)
def dres (e : Fin 8192) (j : Fin 1024) : EReal :=
  inv A e * (dhat A e j - Ideal.div (∑ k : Fin 1024, dhat A e k) (Ideal.ofBits .f32 0x44800000#32)
    - hat A e j * Ideal.div (∑ k : Fin 1024, dhat A e k * hat A e k) (Ideal.ofBits .f32 0x44800000#32))

/-- The gradients of the merge, of the projected branches and of the gates' inputs. -/
def dmix (e : Fin 8192) (j : Fin 1024) : EReal := ∑ k : Fin 1024, dres A e k * A.wo (ix2 j k)
def dpa (e : Fin 8192) (j : Fin 1024) : EReal := dmix A e j * gate A e (colA j)
def dpb (e : Fin 8192) (j : Fin 1024) : EReal := dmix A e j * gate A e (colB j)
def dga (e : Fin 8192) (j : Fin 1024) : EReal := dmix A e j * pa A e j * gate A e (colA j) * (1 - gate A e (colA j))
def dgb (e : Fin 8192) (j : Fin 1024) : EReal := dmix A e j * pb A e j * gate A e (colB j) * (1 - gate A e (colB j))

/-- The two side by side. -/
def dml (e : Fin 8192) (q : Fin 2048) : EReal :=
  if hq : q.val < 1024 then dga A e ⟨q.val, hq⟩ else dgb A e ⟨q.val - 1024, by omega⟩

theorem dml_A (e : Fin 8192) (j : Fin 1024) (q : Fin 2048) (hq : q.val = j.val) : dml A e q = dga A e j := by
  unfold dml
  rw [dif_pos (by omega)]
  exact congrArg (dga A e) (Fin.ext hq)

theorem dml_B (e : Fin 8192) (j : Fin 1024) (q : Fin 2048) (hq : q.val = 1024 + j.val) : dml A e q = dgb A e j := by
  unfold dml
  rw [dif_neg (by omega)]
  exact congrArg (dgb A e) (Fin.ext (by show q.val - 1024 = j.val; omega))

end Cert.MergeForm

end
-- ==== Proof.Merge.Host.lean ====
/-
  The arrays the merge's backward kernel is launched on, read off the host operations that prepare them.
-/
module

public import proofs.«01_k».proof.Proof.Common.Pieces
public import proofs.«01_k».proof.Proof.Gen.MergeKernelIdeal.Frame
public import proofs.«01_k».proof.Proof.Merge.Form
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.MergeKernelIdeal.Closed

open Cert.MergeKernelIdeal Cert.MergeKernelIdeal.Gen Cert.MergeForm Cert.Pieces

variable (m : (ℓ : Loc nD τ sig) → Buf (Elt Ideal) ℓ) (ρ : Dev nD → PrngReg)

/-- The arguments, read as arrays of extended reals. -/
def args (c : Dev nD) : Args where
  h := m ((c : Thread nD τ).loc main_arg0)
  x := m ((c : Thread nD τ).loc main_arg1)
  ya := m ((c : Thread nD τ).loc main_arg2)
  yb := m ((c : Thread nD τ).loc main_arg3)
  dy := m ((c : Thread nD τ).loc main_arg4)
  wa := m ((c : Thread nD τ).loc main_arg5)
  wb := m ((c : Thread nD τ).loc main_arg6)
  wo := m ((c : Thread nD τ).loc main_arg7)
  bm := m ((c : Thread nD τ).loc main_arg8)
  g := m ((c : Thread nD τ).loc main_arg9)

theorem V_eq (c : Dev nD) (b : Ref sig .tc) : V m c b = StableHlo.after hostOps0 (fun b => m (c, b)) (Proc.devRef .tc b) := by
  simp only [V, V0, List.flatten_cons, List.flatten_nil, List.append_nil]

theorem V_ya (c : Dev nD) : V m c main_v43 = (args m c).ya := by
  rw [V_eq]
  after_reads_simp
  rfl

theorem V_yb (c : Dev nD) : V m c main_v44 = (args m c).yb := by
  rw [V_eq]
  after_reads_simp
  rfl

theorem V_wa (c : Dev nD) : V m c main_v45 = (args m c).wa := by
  rw [V_eq]
  after_reads_simp
  rfl

theorem V_wb (c : Dev nD) : V m c main_v46 = (args m c).wb := by
  rw [V_eq]
  after_reads_simp
  rfl

theorem V_wo (c : Dev nD) : V m c main_v47 = (args m c).wo := by
  rw [V_eq]
  after_reads_simp
  rfl

theorem V_bm (c : Dev nD) (q : Fin 2048) : V m c main_v48 (ix2 0 q) = (args m c).bm (ix1 q) := by
  rw [V_eq]
  after_reads_at
  rfl

theorem V_g (c : Dev nD) (j : Fin 1024) : V m c main_v49 (ix2 0 j) = (args m c).g (ix1 j) := by
  rw [V_eq]
  after_reads_at
  rfl

/-- The residual stream, by the host's own lines. -/
theorem V_res (c : Dev nD) (e : Fin 8192) (j : Fin 1024) : V m c main_v20 (ix2 e j) = res (args m c) e j := by
  rw [V_eq]
  after_reads_at
  rfl

theorem V_ml (c : Dev nD) (e : Fin 8192) (q : Fin 2048) :
    V m c main_v42 (ix2 e ⟨2048 + q.val, by omega⟩) = (args m c).h (ix2 e ⟨5136 + q.val, by omega⟩) := by
  rw [V_eq]
  simp only [StableHlo.readAfter, StableHlo.binary_result']
  refine (concatenate_first (n := 8192) (p := 7040) (q := 7680) _ _ _ e ⟨2048 + q.val, by omega⟩ (by omega)).trans ?_
  simp only [StableHlo.readUpto, StableHlo.nary_result']
  refine (concatenate_first (n := 8192) (p := 4096) (q := 7040) _ _ _ e ⟨2048 + q.val, by omega⟩ (by omega)).trans ?_
  erw [StableHlo.unary_result']
  after_reads_at
  exact congrArg (fun k => (args m c).h (ix2 e k)) (Fin.ext (by show 3088 + (2048 + q.val) = 5136 + q.val; omega))

end Cert.MergeKernelIdeal.Closed

end
-- ==== Proof.Merge.Blocks.lean ====
/-
  What the merge's backward kernel reads at each of its points.
-/
module

public import proofs.«01_k».proof.Proof.Merge.Host

@[expose] public section

set_option maxRecDepth 16384

noncomputable section

open Idealize.ShloMosaic Idealize.ShloMosaic.TcCoe Idealize.SL.Sem

namespace Cert.MergeKernelIdeal.Closed

open Cert.MergeKernelIdeal Cert.MergeKernelIdeal.Gen Cert.MergeForm

variable (m : (ℓ : Loc nD τ sig) → Buf (Elt Ideal) ℓ) (ρ : Dev nD → PrngReg)

/-- The row a point's block row stands at. -/
def row (t : Fin cfg0.N) (a : Fin 256) : Fin 8192 :=
  ⟨256 * t.val + a.val, by have := lt_of_lt_of_eq t.isLt N_0; have := a.isLt; omega⟩

theorem idx0 : ∀ t : Fin cfg0.N, win0_0.index t = ![t.val, 1] := (by decide +kernel : ∀ t : Fin grid0.N, win0_0.index t = ![t.val, 1])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![t.val, 1] := (by decide +kernel : ∀ t : Fin grid0.N, win0_10.index t = ![t.val, 1])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])

/-! What a point reads. -/

theorem read0 (c : Dev nD) (t : Fin cfg0.N) (a : Fin 256) (q : Fin 2048) :
    X0_0 m c t (ix2 a q) = (args m c).h (ix2 (row t a) ⟨5136 + q.val, by omega⟩) := by
  refine Eq.trans ?_ (V_ml m c (row t a) q)
  unfold X0_0 Pipeline.Window.fill
  rw [dif_pos (moved0_0 t _)]
  blk_ext [iblk, idx0 t, row]

theorem read1 (c : Dev nD) (t : Fin cfg0.N) (a : Fin 256) (j : Fin 1024) : iblk m c 1 t (ix2 a j) = res (args m c) (row t a) j := by
  refine Eq.trans ?_ (V_res m c (row t a) j)
  blk_ext [iblk, idx1 t, row]

theorem read2 (c : Dev nD) (t : Fin cfg0.N) (a : Fin 256) (j : Fin 1024) : iblk m c 2 t (ix2 a j) = (args m c).ya (ix2 (row t a) j) := by
  refine Eq.trans ?_ (congrFun (V_ya m c) _)
  blk_ext [iblk, idx2 t, row]

theorem read3 (c : Dev nD) (t : Fin cfg0.N) (a : Fin 256) (j : Fin 1024) : iblk m c 3 t (ix2 a j) = (args m c).yb (ix2 (row t a) j) := by
  refine Eq.trans ?_ (congrFun (V_yb m c) _)
  blk_ext [iblk, idx3 t, row]

theorem read4 (c : Dev nD) (t : Fin cfg0.N) (a : Fin 256) (j : Fin 1024) : iblk m c 4 t (ix2 a j) = (args m c).dy (ix2 (row t a) j) := by
  refine Eq.trans ?_ (congrFun (V_main_arg4 m c) _)
  blk_ext [iblk, idx4 t, row]

theorem read5 (c : Dev nD) (t : Fin cfg0.N) (k j : Fin 1024) : iblk m c 5 t (ix2 k j) = (args m c).wa (ix2 k j) := by
  refine Eq.trans ?_ (congrFun (V_wa m c) _)
  blk_ext [iblk, idx5 t]

theorem read6 (c : Dev nD) (t : Fin cfg0.N) (k j : Fin 1024) : iblk m c 6 t (ix2 k j) = (args m c).wb (ix2 k j) := by
  refine Eq.trans ?_ (congrFun (V_wb m c) _)
  blk_ext [iblk, idx6 t]

theorem read7 (c : Dev nD) (t : Fin cfg0.N) (k j : Fin 1024) : iblk m c 7 t (ix2 k j) = (args m c).wo (ix2 k j) := by
  refine Eq.trans ?_ (congrFun (V_wo m c) _)
  blk_ext [iblk, idx7 t]

theorem read8 (c : Dev nD) (t : Fin cfg0.N) (q : Fin 2048) : iblk m c 8 t (ix2 0 q) = (args m c).bm (ix1 q) := by
  refine Eq.trans ?_ (V_bm m c q)
  blk_ext [iblk, idx8 t]

theorem read9 (c : Dev nD) (t : Fin cfg0.N) (j : Fin 1024) : iblk m c 9 t (ix2 0 j) = (args m c).g (ix1 j) := by
  refine Eq.trans ?_ (V_g m c j)
  blk_ext [iblk, idx9 t]

end Cert.MergeKernelIdeal.Closed

end
-- ==== Proof.Merge.Payloads.lean ====
/-
  The values the merge's backward kernel computes at a point, entry by entry.
-/
module

public import proofs.«01_k».proof.Proof.Merge.Blocks
public import Idealize.ShloMosaic.Lib.Pipeline.ReadBack

@[expose] public section

set_option maxRecDepth 16384

noncomputable section

open Idealize.ShloMosaic Idealize.ShloMosaic.TcCoe Idealize.SL.Sem

namespace Cert.MergeKernelIdeal.Closed

open Cert.MergeKernelIdeal Cert.MergeKernelIdeal.Gen Cert.MergeForm Cert.Pieces

variable (m : (ℓ : Loc nD τ sig) → Buf (Elt Ideal) ℓ) (ρ : Dev nD → PrngReg)

/-! The values of a point, as the kernel names them: the reciprocal deviations, the scaled rows, the residual's gradient, the gates, the
projected branches and the merge's gradient. -/

abbrev tInv (c : Dev nD) (t : Fin cfg0.N) : FVec Ideal S256x1 .f32 := k0_pay13 (iblk m c 1 t)
abbrev tHat (c : Dev nD) (t : Fin cfg0.N) : FVec Ideal S256x1024 .f32 := k0_pay14 (iblk m c 1 t)
abbrev tDres (c : Dev nD) (t : Fin cfg0.N) : FVec Ideal S256x1024 .f32 := k0_pay17 (tInv m c t) (tHat m c t) (iblk m c 4 t) (iblk m c 9 t)
abbrev tGa (c : Dev nD) (t : Fin cfg0.N) : FVec Ideal S256x1024 .f32 :=
  k0_pay18 (View.ld (X0_0 m c t) (Rect.unit ![0, 0] ![256, 1024] inb_S256x2048_S256x1024_0_0))
    (View.ld (iblk m c 8 t) (Rect.unit ![0, 0] ![1, 1024] inb_S1x2048_S1x1024_0_0))
abbrev tMb (c : Dev nD) (t : Fin cfg0.N) : FVec Ideal S256x1024 .f32 :=
  k0_pay19 (View.ld (X0_0 m c t) (Rect.unit ![0, 1024] ![256, 1024] inb_S256x2048_S256x1024_0_1024))
    (View.ld (iblk m c 8 t) (Rect.unit ![0, 1024] ![1, 1024] inb_S1x2048_S1x1024_0_1024))
abbrev tPa (c : Dev nD) (t : Fin cfg0.N) : FVec Ideal S256x1024 .f32 := k0_pay21 (iblk m c 2 t) (iblk m c 5 t)
abbrev tPb (c : Dev nD) (t : Fin cfg0.N) : FVec Ideal S256x1024 .f32 := k0_pay22 (iblk m c 3 t) (iblk m c 6 t)
abbrev tDm (c : Dev nD) (t : Fin cfg0.N) : FVec Ideal S256x1024 .f32 := k0_pay24 (tDres m c t) (iblk m c 7 t)

variable (c : Dev nD) (t : Fin cfg0.N) (a : Fin 256) (j : Fin 1024)

theorem at_cen : k0_pay12 (iblk m c 1 t) (ix2 a j) = cen (args m c) (row t a) j := by
  pointwise [k0_pay12]
  simp only [read1]
  rfl

theorem at_inv : tInv m c t (ix2 a 0) = inv (args m c) (row t a) := by
  pointwise [tInv, k0_pay13]
  simp only [at_cen]
  rfl

theorem at_hat : tHat m c t (ix2 a j) = hat (args m c) (row t a) j := by
  pointwise [tHat, k0_pay14]
  exact congrArg₂ (fun u v : EReal => u * v) (at_cen m c t a j) (at_inv m c t a)

theorem at_dres : tDres m c t (ix2 a j) = dres (args m c) (row t a) j := by
  pointwise [k0_pay17]
  simp only [at_hat, at_inv, read4, read9]
  rfl

theorem at_ga : tGa m c t (ix2 a j) = gate (args m c) (row t a) (colA j) := by
  pointwise [k0_pay18]
  refine (sigmoid_eq _).trans (congrArg Ideal.logistic ?_)
  exact congrArg₂ (fun u v : EReal => u + v) (read0 m c t a (colA j)) (read8 m c t (colA j))

theorem at_gb : k0_pay20 (tMb m c t) (ix2 a j) = gate (args m c) (row t a) (colB j) := by
  pointwise [k0_pay20, k0_pay19]
  refine (sigmoid_eq _).trans (congrArg Ideal.logistic ?_)
  exact congrArg₂ (fun u v : EReal => u + v) (read0 m c t a (colB j)) (read8 m c t (colB j))

theorem at_pa : tPa m c t (ix2 a j) = pa (args m c) (row t a) j := by
  pointwise [k0_pay21]
  simp only [read2, read5]
  rfl

theorem at_pb : tPb m c t (ix2 a j) = pb (args m c) (row t a) j := by
  pointwise [k0_pay22]
  simp only [read3, read6]
  rfl

theorem at_dm : tDm m c t (ix2 a j) = dmix (args m c) (row t a) j := by
  pointwise [k0_pay24]
  simp only [at_dres, read7]
  rfl

theorem at_dpa : k0_pay25 (tDres m c t) (tGa m c t) (iblk m c 7 t) (ix2 a j) = dpa (args m c) (row t a) j := by
  pointwise [k0_pay25]
  exact congrArg₂ (fun u v : EReal => u * v) (at_dm m c t a j) (at_ga m c t a j)

theorem at_dpb : k0_pay1 (k0_pay26 (tDres m c t) (tMb m c t) (iblk m c 7 t)) (ix2 a j) = dpb (args m c) (row t a) j := by
  pointwise [k0_pay1, k0_pay26]
  exact congrArg₂ (fun u v : EReal => u * v) (at_dm m c t a j) (at_gb m c t a j)

theorem at_dga : k0_pay2 (tGa m c t) (tPa m c t) (tDm m c t) (ix2 a j) = dga (args m c) (row t a) j := by
  pointwise [k0_pay2]
  simp only [at_dm, at_pa, at_ga]
  rfl

theorem at_dgb : k0_pay3 (k0_pay20 (tMb m c t)) (tPb m c t) (tDm m c t) (ix2 a j) = dgb (args m c) (row t a) j := by
  pointwise [k0_pay3]
  simp only [at_dm, at_pb, at_gb]
  rfl

/-! What a point adds to the sums over all rows. -/

variable (w : FVec Ideal S1024x1024 .f32) (r : FVec Ideal S1x1024 .f32) (i : Fin 1024)

theorem adds_dwo : k0_pay23 (tDres m c t) (tGa m c t) (tMb m c t) (iblk m c 2 t) (iblk m c 5 t) (iblk m c 3 t) (iblk m c 6 t) w (ix2 i j)
    = w (ix2 i j) + ∑ a : Fin 256, mix (args m c) (row t a) i * dres (args m c) (row t a) j := by
  pointwise [k0_pay23]
  simp only [at_ga, at_gb, at_pa, at_pb, at_dres]
  rfl

theorem adds_dg : k0_pay15 (iblk m c 1 t) (iblk m c 4 t) r (ix2 0 j)
    = r (ix2 0 j) + ∑ a : Fin 256, (args m c).dy (ix2 (row t a) j) * hat (args m c) (row t a) j := by
  pointwise [k0_pay15]
  simp only [at_hat, read4]

theorem adds_db : k0_pay16 (iblk m c 4 t) r (ix2 0 j) = r (ix2 0 j) + ∑ a : Fin 256, (args m c).dy (ix2 (row t a) j) := by
  pointwise [k0_pay16]
  simp only [read4]

theorem adds_dga : k0_pay6 (tGa m c t) (tPa m c t) (tDm m c t) r (ix2 0 j)
    = r (ix2 0 j) + ∑ a : Fin 256, dga (args m c) (row t a) j := by
  pointwise [k0_pay6]
  simp only [at_dga]

theorem adds_dgb : k0_pay7 (k0_pay20 (tMb m c t)) (tPb m c t) (tDm m c t) r (ix2 0 j)
    = r (ix2 0 j) + ∑ a : Fin 256, dgb (args m c) (row t a) j := by
  pointwise [k0_pay7]
  simp only [at_dgb]

end Cert.MergeKernelIdeal.Closed

end
-- ==== Proof.Merge.Kernel.lean ====
/-
  What the merge's backward kernel leaves at a point.
-/
module

public import proofs.«01_k».proof.Proof.Merge.Payloads
public import proofs.«01_k».proof.Proof.Common.Pieces
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem

namespace Cert.MergeKernelIdeal.Closed

open Cert.MergeKernelIdeal Cert.MergeKernelIdeal.Gen Cert.MergeForm Cert.Pieces

variable (m : (ℓ : Loc nD τ sig) → Buf (Elt Ideal) ℓ) (ρ : Dev nD → PrngReg)

section
variable (c : Dev nD) (t : Fin cfg0.N) (a : Fin 256) (j : Fin 1024)

set_option maxHeartbeats 2000000 in
theorem leaves_dres : (outsAt0 m c t.val t.isLt).2.1 (ix2 a j) = dres (args m c) (row t a) j := by
  by_cases h0 : t.val % 32 = 0
  · rw [outsAt0_A m c t h0]
    frame_out
    exact at_dres m c t a j
  · rw [outsAt0_B m c t h0]
    frame_out
    exact at_dres m c t a j

set_option maxHeartbeats 2000000 in
theorem leaves_dpa : (outsAt0 m c t.val t.isLt).2.2.1 (ix2 a j) = dpa (args m c) (row t a) j := by
  by_cases h0 : t.val % 32 = 0
  · rw [outsAt0_A m c t h0]
    frame_out
    exact at_dpa m c t a j
  · rw [outsAt0_B m c t h0]
    frame_out
    exact at_dpa m c t a j

set_option maxHeartbeats 2000000 in
theorem leaves_dpb : (outsAt0 m c t.val t.isLt).2.2.2.1 (ix2 a j) = dpb (args m c) (row t a) j := by
  by_cases h0 : t.val % 32 = 0
  · rw [outsAt0_A m c t h0]
    frame_out
    exact at_dpb m c t a j
  · rw [outsAt0_B m c t h0]
    frame_out
    exact at_dpb m c t a j

set_option maxHeartbeats 2000000 in
theorem leaves_dml (q : Fin 2048) : (outsAt0 m c t.val t.isLt).1 (ix2 a q) = dml (args m c) (row t a) q := by
  by_cases h0 : t.val % 32 = 0
  on_goal 1 => rw [outsAt0_A m c t h0]
  on_goal 2 => rw [outsAt0_B m c t h0]
  all_goals
    frame_out
    canon_tiles x hx
    all_goals
      idx_vars x
      obtain rfl : a = x0 := Fin.ext hx0
    case piece0 => exact (at_dgb m c t a x1).trans (dml_B (args m c) (row t a) x1 q hx1).symm
    case piece1 => exact (at_dga m c t a x1).trans (dml_A (args m c) (row t a) x1 q hx1).symm

variable (i : Fin 1024)

set_option maxHeartbeats 2000000 in
theorem dwo_first (h0 : t.val % 32 = 0) : (outsAt0 m c t.val t.isLt).2.2.2.2.1 (ix2 i j) = ∑ a : Fin 256, mix (args m c) (row t a) i * dres (args m c) (row t a) j := by
  rw [outsAt0_A m c t h0]
  frame_open
  simp (disch := decide) only [↓ View.readCov_skip, ↓ View.readCov_cons_toLoadRect, ↓ View.readCov_fill]
  frame_out
  refine (adds_dwo m c t j k0_pay8 i).trans ?_
  pointwise [k0_pay8]

set_option maxHeartbeats 2000000 in
theorem dwo_next (h0 : ¬ t.val % 32 = 0) : (outsAt0 m c t.val t.isLt).2.2.2.2.1 (ix2 i j) = (outsAt0 m c (t.val - 1) (by omega)).2.2.2.2.1 (ix2 i j) + ∑ a : Fin 256, mix (args m c) (row t a) i * dres (args m c) (row t a) j := by
  rw [outsAt0_B m c t h0]
  frame_out
  exact adds_dwo m c t j _ i

set_option maxHeartbeats 2000000 in
theorem dg_first (h0 : t.val % 32 = 0) : (outsAt0 m c t.val t.isLt).2.2.2.2.2.1 (ix2 0 j) = ∑ a : Fin 256, (args m c).dy (ix2 (row t a) j) * hat (args m c) (row t a) j := by
  rw [outsAt0_A m c t h0]
  frame_open
  simp (disch := decide) only [↓ View.readCov_skip, ↓ View.readCov_cons_toLoadRect, ↓ View.readCov_fill]
  frame_out
  refine (adds_dg m c t j k0_pay9).trans ?_
  pointwise [k0_pay9]

set_option maxHeartbeats 2000000 in
theorem dg_next (h0 : ¬ t.val % 32 = 0) : (outsAt0 m c t.val t.isLt).2.2.2.2.2.1 (ix2 0 j) = (outsAt0 m c (t.val - 1) (by omega)).2.2.2.2.2.1 (ix2 0 j) + ∑ a : Fin 256, (args m c).dy (ix2 (row t a) j) * hat (args m c) (row t a) j := by
  rw [outsAt0_B m c t h0]
  frame_out
  exact adds_dg m c t j _

set_option maxHeartbeats 2000000 in
theorem db_first (h0 : t.val % 32 = 0) : (outsAt0 m c t.val t.isLt).2.2.2.2.2.2.1 (ix2 0 j) = ∑ a : Fin 256, (args m c).dy (ix2 (row t a) j) := by
  rw [outsAt0_A m c t h0]
  frame_open
  simp (disch := decide) only [↓ View.readCov_skip, ↓ View.readCov_cons_toLoadRect, ↓ View.readCov_fill]
  frame_out
  refine (adds_db m c t j k0_pay10).trans ?_
  pointwise [k0_pay10]

set_option maxHeartbeats 2000000 in
theorem db_next (h0 : ¬ t.val % 32 = 0) : (outsAt0 m c t.val t.isLt).2.2.2.2.2.2.1 (ix2 0 j) = (outsAt0 m c (t.val - 1) (by omega)).2.2.2.2.2.2.1 (ix2 0 j) + ∑ a : Fin 256, (args m c).dy (ix2 (row t a) j) := by
  rw [outsAt0_B m c t h0]
  frame_out
  exact adds_db m c t j _

end

variable (c : Dev nD) (t : Fin cfg0.N) (q : Fin 2048)

/-- A column of the gates, in the half that holds it. -/
theorem half_A (x : Fin 1024) (hq : q.val = x.val) : (∑ a : Fin 256, dml (args m c) (row t a) q) = ∑ a : Fin 256, dga (args m c) (row t a) x :=
  Finset.sum_congr rfl fun a _ => dml_A (args m c) (row t a) x q hq

theorem half_B (x : Fin 1024) (hq : q.val = 1024 + x.val) :
    (∑ a : Fin 256, dml (args m c) (row t a) q) = ∑ a : Fin 256, dgb (args m c) (row t a) x :=
  Finset.sum_congr rfl fun a _ => dml_B (args m c) (row t a) x q hq

set_option maxHeartbeats 2000000 in
theorem dbm_first (h0 : t.val % 32 = 0) : (outsAt0 m c t.val t.isLt).2.2.2.2.2.2.2 (ix2 0 q) = ∑ a : Fin 256, dml (args m c) (row t a) q := by
  rw [outsAt0_A m c t h0]
  frame_open
  simp (disch := decide) only [↓ View.readCov_skip, ↓ View.readCov_cons_toLoadRect, ↓ View.readCov_fill]
  frame_out
  refine (canon_dropLast (S := S1x2048) _ _ ![1, 1024] (List.cons_ne_nil _ _) ?_).trans ?_
  · sl_kernel_rfl
  simp only [List.dropLast]
  canon_tiles x hx
  all_goals
    idx_vars x
    obtain rfl : (0 : Fin 1) = x0 := Fin.ext hx0
  case piece0 =>
    rw [half_B m c t q x1 hx1]
    refine (adds_dgb m c t x1 _).trans ?_
    pointwise [k0_pay11]
  case piece1 =>
    rw [half_A m c t q x1 hx1]
    refine (adds_dga m c t x1 _).trans ?_
    pointwise [k0_pay11]

set_option maxHeartbeats 2000000 in
theorem dbm_next (h0 : ¬ t.val % 32 = 0) :
    (outsAt0 m c t.val t.isLt).2.2.2.2.2.2.2 (ix2 0 q) = (outsAt0 m c (t.val - 1) (by omega)).2.2.2.2.2.2.2 (ix2 0 q) + ∑ a : Fin 256, dml (args m c) (row t a) q := by
  rw [outsAt0_B m c t h0]
  frame_out
  canon_tiles x hx
  all_goals
    idx_vars x
    obtain rfl : (0 : Fin 1) = x0 := Fin.ext hx0
  case piece0 =>
    rw [half_B m c t q x1 hx1]
    refine (adds_dgb m c t x1 _).trans (congrArg (fun u : EReal => u + _) ?_)
    refine Eq.trans ?_ (congrArg (fun k => (outsAt0 m c (t.val - 1) (by omega)).2.2.2.2.2.2.2 (ix2 0 k))
      (show (⟨1024 + x1.val, by omega⟩ : Fin 2048) = q from Fin.ext hx1.symm))
    pointwise []
  case piece1 =>
    rw [half_A m c t q x1 hx1]
    refine (adds_dga m c t x1 _).trans (congrArg (fun u : EReal => u + _) ?_)
    refine Eq.trans ?_ (congrArg (fun k => (outsAt0 m c (t.val - 1) (by omega)).2.2.2.2.2.2.2 (ix2 0 k))
      (show (⟨x1.val, by omega⟩ : Fin 2048) = q from Fin.ext hx1.symm))
    pointwise []

end Cert.MergeKernelIdeal.Closed

end
-- ==== Proof.Merge.Outputs.lean ====
/-
  The arrays the merge's backward kernel leaves.
-/
module

public import proofs.«01_k».proof.Proof.Merge.Kernel

@[expose] public section

set_option maxRecDepth 16384

noncomputable section

open Idealize.ShloMosaic Idealize.ShloMosaic.TcCoe Idealize.SL.Sem

namespace Cert.MergeKernelIdeal.Closed

open Cert.MergeKernelIdeal Cert.MergeKernelIdeal.Gen Cert.MergeForm

variable (m : (ℓ : Loc nD τ sig) → Buf (Elt Ideal) ℓ) (ρ : Dev nD → PrngReg)

/-- The last point. -/
def tLast : Fin cfg0.N := ⟨31, lt_of_lt_of_eq (by decide) N_0.symm⟩

/-- The rows of the tiles are all the rows. -/
theorem sum_tiles (F : Fin 8192 → EReal) : ∑ t : Fin cfg0.N, ∑ a : Fin 256, F (row t a) = ∑ e : Fin 8192, F e := by
  have e : ∀ t : Fin 32, ∀ a : Fin 256, finProdFinEquiv (t, a) = row ⟨t.val, lt_of_lt_of_eq t.isLt N_0.symm⟩ a := fun t a =>
    Fin.ext (Nat.add_comm _ _)
  have hF : ∑ r : Fin 8192, F r = ∑ p : Fin 32 × Fin 256, F (finProdFinEquiv p) :=
    (Fintype.sum_equiv finProdFinEquiv (fun p : Fin 32 × Fin 256 => F (finProdFinEquiv p)) F fun _ => rfl).symm
  rw [hF, Fintype.sum_prod_type]
  exact Fintype.sum_equiv (finCongr N_0) _ _ fun t => Finset.sum_congr rfl fun a _ => congrArg F (e _ a).symm

theorem dres_total (c : Dev nD) : (dats m 0 c).arrAt 11 cfg0.N = fun i => dres (args m c) (i 0) (i 1) := by
  refine (dats m 0 c).arrAt_eq_of_covers 11 _ (by decide +kernel) fun t hf y => ?_
  refine Eq.trans (b := (outsAt0 m c t.val t.isLt).2.1 ((cfg0.win 11).xinj (cfg0.grid.coords t) y)) ?_ ?_
  · show (dats m 0 c).after 11 t _ = _
    rw [after0_11]
  · have hz : (cfg0.win 11).xinj (cfg0.grid.coords t) y
        = ix2 ((cfg0.win 11).xinj (cfg0.grid.coords t) y 0) ((cfg0.win 11).xinj (cfg0.grid.coords t) y 1) := by
      funext a
      fin_cases a <;> rfl
    refine (congrArg (outsAt0 m c t.val t.isLt).2.1 hz).trans ((leaves_dres m c t _ _).trans ?_)
    refine congrArg₂ (dres (args m c)) (Fin.ext ?_) (Fin.ext ?_)
    · show 256 * t.val + ((cfg0.win 11).xinj (cfg0.grid.coords t) y 0).val = _
      rw [Pipeline.Window.xinj_val]
      refine Eq.trans ?_ ((cfg0.win 11).rect_emb_val t y 0).symm
      have e : (cfg0.win 11).index t 0 = t.val := congrFun (idx11 t) 0
      rw [e]
      exact congrArg (· + _) (Nat.mul_comm _ _)
    · rw [Pipeline.Window.xinj_val]
      refine Eq.trans ?_ ((cfg0.win 11).rect_emb_val t y 1).symm
      have e : (cfg0.win 11).index t 1 = 0 := congrFun (idx11 t) 1
      rw [e, Nat.zero_mul, Nat.zero_add]

theorem dpa_total (c : Dev nD) : (dats m 0 c).arrAt 12 cfg0.N = fun i => dpa (args m c) (i 0) (i 1) := by
  refine (dats m 0 c).arrAt_eq_of_covers 12 _ (by decide +kernel) fun t hf y => ?_
  refine Eq.trans (b := (outsAt0 m c t.val t.isLt).2.2.1 ((cfg0.win 12).xinj (cfg0.grid.coords t) y)) ?_ ?_
  · show (dats m 0 c).after 12 t _ = _
    rw [after0_12]
  · have hz : (cfg0.win 12).xinj (cfg0.grid.coords t) y
        = ix2 ((cfg0.win 12).xinj (cfg0.grid.coords t) y 0) ((cfg0.win 12).xinj (cfg0.grid.coords t) y 1) := by
      funext a
      fin_cases a <;> rfl
    refine (congrArg (outsAt0 m c t.val t.isLt).2.2.1 hz).trans ((leaves_dpa m c t _ _).trans ?_)
    refine congrArg₂ (dpa (args m c)) (Fin.ext ?_) (Fin.ext ?_)
    · show 256 * t.val + ((cfg0.win 12).xinj (cfg0.grid.coords t) y 0).val = _
      rw [Pipeline.Window.xinj_val]
      refine Eq.trans ?_ ((cfg0.win 12).rect_emb_val t y 0).symm
      have e : (cfg0.win 12).index t 0 = t.val := congrFun (idx12 t) 0
      rw [e]
      exact congrArg (· + _) (Nat.mul_comm _ _)
    · rw [Pipeline.Window.xinj_val]
      refine Eq.trans ?_ ((cfg0.win 12).rect_emb_val t y 1).symm
      have e : (cfg0.win 12).index t 1 = 0 := congrFun (idx12 t) 1
      rw [e, Nat.zero_mul, Nat.zero_add]

theorem dpb_total (c : Dev nD) : (dats m 0 c).arrAt 13 cfg0.N = fun i => dpb (args m c) (i 0) (i 1) := by
  refine (dats m 0 c).arrAt_eq_of_covers 13 _ (by decide +kernel) fun t hf y => ?_
  refine Eq.trans (b := (outsAt0 m c t.val t.isLt).2.2.2.1 ((cfg0.win 13).xinj (cfg0.grid.coords t) y)) ?_ ?_
  · show (dats m 0 c).after 13 t _ = _
    rw [after0_13]
  · have hz : (cfg0.win 13).xinj (cfg0.grid.coords t) y
        = ix2 ((cfg0.win 13).xinj (cfg0.grid.coords t) y 0) ((cfg0.win 13).xinj (cfg0.grid.coords t) y 1) := by
      funext a
      fin_cases a <;> rfl
    refine (congrArg (outsAt0 m c t.val t.isLt).2.2.2.1 hz).trans ((leaves_dpb m c t _ _).trans ?_)
    refine congrArg₂ (dpb (args m c)) (Fin.ext ?_) (Fin.ext ?_)
    · show 256 * t.val + ((cfg0.win 13).xinj (cfg0.grid.coords t) y 0).val = _
      rw [Pipeline.Window.xinj_val]
      refine Eq.trans ?_ ((cfg0.win 13).rect_emb_val t y 0).symm
      have e : (cfg0.win 13).index t 0 = t.val := congrFun (idx13 t) 0
      rw [e]
      exact congrArg (· + _) (Nat.mul_comm _ _)
    · rw [Pipeline.Window.xinj_val]
      refine Eq.trans ?_ ((cfg0.win 13).rect_emb_val t y 1).symm
      have e : (cfg0.win 13).index t 1 = 0 := congrFun (idx13 t) 1
      rw [e, Nat.zero_mul, Nat.zero_add]

theorem dwo_total (c : Dev nD) : (dats m 0 c).arrAt 14 cfg0.N = fun i => ∑ e : Fin 8192, mix (args m c) e (i 0) * dres (args m c) e (i 1) := by
  refine (dats m 0 c).arrAt_eq_of_after_last 14 tLast (by decide +kernel) _ fun y => ?_
  blk_simp
  rw [after0_14]
  idx_vars y
  refine (Pipeline.eq_sum_fin_of_reset_step_apply_last (fun n hn => (outsAt0 m c n hn).2.2.2.2.1) 32
    (fun _ => 0) (fun t i => ∑ a : Fin 256, mix (args m c) (row t a) (i 0) * dres (args m c) (row t a) (i 1)) ?_ ?_ (le_of_eq N_0) tLast rfl _).trans ?_
  · intro t ht i
    idx_vars i
    exact (dwo_first m c t i1 i0 ht).trans (zero_add _).symm
  · intro t ht i
    idx_vars i
    exact dwo_next m c t i1 i0 ht
  · exact (zero_add _).trans (sum_tiles fun e => mix (args m c) e y0 * dres (args m c) e y1)

theorem dg_total (c : Dev nD) : (dats m 0 c).arrAt 15 cfg0.N = fun i => ∑ e : Fin 8192, (args m c).dy (ix2 e (i 1)) * hat (args m c) e (i 1) := by
  refine (dats m 0 c).arrAt_eq_of_after_last 15 tLast (by decide +kernel) _ fun y => ?_
  blk_simp
  rw [after0_15]
  idx_vars y
  refine (Pipeline.eq_sum_fin_of_reset_step_apply_last (fun n hn => (outsAt0 m c n hn).2.2.2.2.2.1) 32
    (fun _ => 0) (fun t i => ∑ a : Fin 256, (args m c).dy (ix2 (row t a) (i 1)) * hat (args m c) (row t a) (i 1)) ?_ ?_ (le_of_eq N_0) tLast rfl _).trans ?_
  · intro t ht i
    idx_vars i
    obtain rfl : i0 = 0 := Subsingleton.elim _ _
    exact (dg_first m c t i1 ht).trans (zero_add _).symm
  · intro t ht i
    idx_vars i
    obtain rfl : i0 = 0 := Subsingleton.elim _ _
    exact dg_next m c t i1 ht
  · exact (zero_add _).trans (sum_tiles fun e => (args m c).dy (ix2 e y1) * hat (args m c) e y1)

theorem db_total (c : Dev nD) : (dats m 0 c).arrAt 16 cfg0.N = fun i => ∑ e : Fin 8192, (args m c).dy (ix2 e (i 1)) := by
  refine (dats m 0 c).arrAt_eq_of_after_last 16 tLast (by decide +kernel) _ fun y => ?_
  blk_simp
  rw [after0_16]
  idx_vars y
  refine (Pipeline.eq_sum_fin_of_reset_step_apply_last (fun n hn => (outsAt0 m c n hn).2.2.2.2.2.2.1) 32
    (fun _ => 0) (fun t i => ∑ a : Fin 256, (args m c).dy (ix2 (row t a) (i 1))) ?_ ?_ (le_of_eq N_0) tLast rfl _).trans ?_
  · intro t ht i
    idx_vars i
    obtain rfl : i0 = 0 := Subsingleton.elim _ _
    exact (db_first m c t i1 ht).trans (zero_add _).symm
  · intro t ht i
    idx_vars i
    obtain rfl : i0 = 0 := Subsingleton.elim _ _
    exact db_next m c t i1 ht
  · exact (zero_add _).trans (sum_tiles fun e => (args m c).dy (ix2 e y1))

theorem dbm_total (c : Dev nD) : (dats m 0 c).arrAt 17 cfg0.N = fun i => ∑ e : Fin 8192, dml (args m c) e (i 1) := by
  refine (dats m 0 c).arrAt_eq_of_after_last 17 tLast (by decide +kernel) _ fun y => ?_
  blk_simp
  rw [after0_17]
  idx_vars y
  refine (Pipeline.eq_sum_fin_of_reset_step_apply_last (fun n hn => (outsAt0 m c n hn).2.2.2.2.2.2.2) 32
    (fun _ => 0) (fun t i => ∑ a : Fin 256, dml (args m c) (row t a) (i 1)) ?_ ?_ (le_of_eq N_0) tLast rfl _).trans ?_
  · intro t ht i
    idx_vars i
    obtain rfl : i0 = 0 := Subsingleton.elim _ _
    exact (dbm_first m c t i1 ht).trans (zero_add _).symm
  · intro t ht i
    idx_vars i
    obtain rfl : i0 = 0 := Subsingleton.elim _ _
    exact dbm_next m c t i1 ht
  · exact (zero_add _).trans (sum_tiles fun e => dml (args m c) e y1)

theorem gates_covers : (cfg0.win 10).CoversWhere (fun β => β 1 = 1) := by decide +kernel

theorem gates_cell (j : (cfg0.win 10).shape.Idx) :
    (fun i : S8192x7680.Idx => 2048 ≤ (i 1).val ∧ (i 1).val < 4096) ((cfg0.win 10).arr.view.emb j) ↔ ((cfg0.win 10).cell j) 1 = 1 := by
  blk_simp [Pipeline.Window.cell_apply]
  omega

/-- The gradient of the projection: the gates' columns filled in, the others as they came. -/
theorem gates_total (c : Dev nD) : (dats m 0 c).arrAt 10 cfg0.N
    = fun i => if 2048 ≤ (i 1).val ∧ (i 1).val < 4096 then dml (args m c) (i 0) (Fin.ofNat 2048 ((i 1).val - 2048)) else (dats m 0 c).A 10 i := by
  refine (dats m 0 c).arrAt_eq_of_coversWhere 10 (fun i => dml (args m c) (i 0) (Fin.ofNat 2048 ((i 1).val - 2048))) (fun β => β 1 = 1)
    gates_covers (fun t hf y => ?_) gates_cell
  refine Eq.trans (b := (outsAt0 m c t.val t.isLt).1 ((cfg0.win 10).xinj (cfg0.grid.coords t) y)) ?_ ?_
  · show (dats m 0 c).after 10 t _ = _
    rw [after0_10]
  · have hz : (cfg0.win 10).xinj (cfg0.grid.coords t) y
        = ix2 ((cfg0.win 10).xinj (cfg0.grid.coords t) y 0) ((cfg0.win 10).xinj (cfg0.grid.coords t) y 1) := by
      funext a
      fin_cases a <;> rfl
    have hlt : ((cfg0.win 10).xinj (cfg0.grid.coords t) y 1).val < 2048 := ((cfg0.win 10).xinj (cfg0.grid.coords t) y 1).isLt
    refine (congrArg (outsAt0 m c t.val t.isLt).1 hz).trans ((leaves_dml m c t _ _).trans ?_)
    refine congrArg₂ (dml (args m c)) (Fin.ext ?_) (Fin.ext ?_)
    · show 256 * t.val + ((cfg0.win 10).xinj (cfg0.grid.coords t) y 0).val = _
      rw [Pipeline.Window.xinj_val]
      refine Eq.trans ?_ ((cfg0.win 10).rect_emb_val t y 0).symm
      have e : (cfg0.win 10).index t 0 = t.val := congrFun (idx10 t) 0
      rw [e]
      exact congrArg (· + _) (Nat.mul_comm _ _)
    · have e : (cfg0.win 10).index t 1 = 1 := congrFun (idx10 t) 1
      have hc : (((cfg0.win 10).blk t).view.emb y 1).val = 2048 + ((cfg0.win 10).xinj (cfg0.grid.coords t) y 1).val := by
        rw [Pipeline.Window.xinj_val]
        refine ((cfg0.win 10).rect_emb_val t y 1).trans ?_
        rw [e, Nat.one_mul]
        rfl
      show _ = ((((cfg0.win 10).blk t).view.emb y 1).val - 2048) % 2048
      rw [hc, Nat.add_sub_cancel_left, Nat.mod_eq_of_lt hlt]

/-- What the program returns of it. -/
theorem gates_slice (c : Dev nD) : Pipeline.afterTail₀ cfgs (dats m) 0 (V0 m) [hostOps1] c main_v51 = fun i => dml (args m c) (i 0) (i 1) := by
  refine Eq.trans (b := extractStridedSlice S8192x2048 ![0, 2048] ((dats m 0 c).arrAt 10 cfg0.N) slices_S8192x7680_S8192x2048_0_2048) ?_ ?_
  · unfold Pipeline.afterTail₀
    simp only [List.flatten_cons, List.flatten_nil, List.append_nil]
    after_reads_at
    exact congrArg (fun x => extractStridedSlice S8192x2048 ![0, 2048] x slices_S8192x7680_S8192x2048_0_2048)
      (Pipeline.withArrays_arr cfg0.spec winFacts0.arr_inj c (V0 m c) (fun w => (dats m 0 c).arrAt w cfg0.N) 10)
  · rw [gates_total]
    funext i
    idx_vars i
    pointwise
    refine (if_pos (by omega)).trans (congrArg (dml (args m c) i0) (Fin.ext ?_))
    exact Nat.mod_eq_of_lt i1.isLt

/-- The run: the eight arrays, and the arguments as they were. -/
theorem run : θ_run defs (onTc (τ := τ) (main (F := Ideal))) ⟨m, fun _ => 0, ρ⟩ (fun r => ∀ c : Dev nD,
      (r.2.mem ((c.tc : Thread nD τ).loc main_v51) = Pipeline.afterTail₀ cfgs (dats m) 0 (V0 m) [hostOps1] c main_v51
      ∧ r.2.mem ((c.tc : Thread nD τ).loc main_v50_1) = (dats m 0 c).arrAt 11 cfg0.N
      ∧ r.2.mem ((c.tc : Thread nD τ).loc main_v50_2) = (dats m 0 c).arrAt 12 cfg0.N
      ∧ r.2.mem ((c.tc : Thread nD τ).loc main_v50_3) = (dats m 0 c).arrAt 13 cfg0.N
      ∧ r.2.mem ((c.tc : Thread nD τ).loc main_v50_4) = (dats m 0 c).arrAt 14 cfg0.N
      ∧ r.2.mem ((c.tc : Thread nD τ).loc main_v50_5) = (dats m 0 c).arrAt 15 cfg0.N
      ∧ r.2.mem ((c.tc : Thread nD τ).loc main_v50_6) = (dats m 0 c).arrAt 16 cfg0.N
      ∧ r.2.mem ((c.tc : Thread nD τ).loc main_v50_7) = (dats m 0 c).arrAt 17 cfg0.N)) :=
  (θ_run defs _ _).mono (fun r h c => ⟨(h c).2 main_v51 (Pipeline.mem_restRefs_of main_v51 (by decide) (by decide)),
    (h c).1 11, (h c).1 12, (h c).1 13, (h c).1 14, (h c).1 15, (h c).1 16, (h c).1 17⟩) (run_main m ρ)

end Cert.MergeKernelIdeal.Closed

end
-- ==== Proof.Merge.Real.lean ====
/-
  The gradient of the layer norm, in the two forms it is computed in, over the real numbers.
-/
module

public import proofs.«01_k».proof.Proof.Merge.Form
public import proofs.«01_k».proof.Proof.Common.Real
public import proofs.«01_k».proof.Proof.Common.Scalars

@[expose] public section

set_option maxRecDepth 16384

noncomputable section

open Idealize.ShloMosaic Idealize.ShloMosaic.TcCoe Idealize.SL.Sem

namespace Cert.MergeForm

open Cert.Reals Cert.Scalars

/-- The arguments the norm's gradient needs are real numbers. -/
structure AllReal (A : Args) : Prop where
  x : ∀ i, IsReal (A.x i)
  ya : ∀ i, IsReal (A.ya i)
  yb : ∀ i, IsReal (A.yb i)
  dy : ∀ i, IsReal (A.dy i)
  wa : ∀ i, IsReal (A.wa i)
  wb : ∀ i, IsReal (A.wb i)
  wo : ∀ i, IsReal (A.wo i)
  g : ∀ i, IsReal (A.g i)

theorem eps_f32 : Ideal.ofBits .f32 0x3727C5AC#32 = ((10995116 / 1099511627776 : ℝ) : EReal) := by
  simp [Ideal.ofBits, Ideal.ieee, ← EReal.coe_mul]; norm_num
theorem skip_f32 : Ideal.ofBits .f32 0x3FD744FD#32 = ((14107901 / 8388608 : ℝ) : EReal) := by
  simp [Ideal.ofBits, Ideal.ieee, ← EReal.coe_mul]; norm_num
theorem neg_half_f32 : Ideal.ofBits .f32 0xBF000000#32 = ((-(1 / 2) : ℝ) : EReal) := by
  simp [Ideal.ofBits, Ideal.ieee, ← EReal.coe_mul, ← EReal.coe_neg]; norm_num

/-- The sigmoid is a real number everywhere. -/
theorem real_logistic (x : EReal) : IsReal (Ideal.logistic x) := by
  induction x using EReal.rec with
  | bot =>
    refine ⟨0, ?_⟩
    show Ideal.div 1 (1 + Ideal.exp (-⊥)) = _
    rw [EReal.neg_bot, Ideal.exp_top, EReal.add_top_of_ne_bot (by rw [← EReal.coe_one]; exact EReal.coe_ne_bot 1)]
    simp [Ideal.div]
  | top =>
    refine ⟨1, ?_⟩
    show Ideal.div 1 (1 + Ideal.exp (-⊤)) = _
    rw [EReal.neg_top, Ideal.exp_bot, add_zero, ← EReal.coe_one, Ideal.div_coe one_ne_zero]
    simp
  | coe a => exact ⟨_, Ideal.logistic_coe a⟩

variable {A : Args} (hA : AllReal A)
include hA

theorem real_mix (e : Fin 8192) (j : Fin 1024) : IsReal (mix A e j) :=
  ((real_logistic _).mul (IsReal.sum _ fun k _ => (hA.ya _).mul (hA.wa _))).add
    ((real_logistic _).mul (IsReal.sum _ fun k _ => (hA.yb _).mul (hA.wb _)))

theorem real_res (e : Fin 8192) (j : Fin 1024) : IsReal (res A e j) := by
  unfold res
  rw [skip_f32]
  exact ((coe _).mul (hA.x _)).add (IsReal.sum _ fun k _ => (real_mix hA e k).mul (hA.wo _))

theorem real_dhat (e : Fin 8192) (j : Fin 1024) : IsReal (dhat A e j) := (hA.dy _).mul (hA.g _)

omit hA in
/-- The two forms over the real numbers: `x` the row about its mean, `d` the cotangent through the gain, `v` the variance with what is added to it. -/
theorem norm_real (x d : Fin 1024 → ℝ) (v : ℝ) (hv : 0 < v) (hx : ∑ k, x k = 0) (j : Fin 1024) :
    (d j * (Real.sqrt v)⁻¹ + (∑ k, x k * d k) * (-(1 / 2) * ((Real.sqrt v)⁻¹ * (1 / v))) * (1 / 1024) * (2 * x j))
        + ((∑ k, -(d k * (Real.sqrt v)⁻¹))
          + (∑ k, -((∑ k, x k * d k) * (-(1 / 2) * ((Real.sqrt v)⁻¹ * (1 / v))) * (1 / 1024) * (2 * x k)))) * (1 / 1024)
      = (Real.sqrt v)⁻¹ * (d j - (∑ k, d k) * (1 / 1024) - x j * (Real.sqrt v)⁻¹ * ((∑ k, d k * (x k * (Real.sqrt v)⁻¹)) * (1 / 1024))) := by
  have hr : (Real.sqrt v)⁻¹ * (Real.sqrt v)⁻¹ = 1 / v := by
    rw [← mul_inv, Real.mul_self_sqrt hv.le, one_div]
  have e1 : ∑ k, -(d k * (Real.sqrt v)⁻¹) = -((∑ k, d k) * (Real.sqrt v)⁻¹) := by
    rw [Finset.sum_neg_distrib, Finset.sum_mul]
  have e2 : ∑ k, d k * (x k * (Real.sqrt v)⁻¹) = (∑ k, x k * d k) * (Real.sqrt v)⁻¹ := by
    rw [Finset.sum_mul]
    exact Finset.sum_congr rfl fun k _ => by ring
  have e3 : ∀ s : ℝ, ∑ k, -(s * (2 * x k)) = 0 := fun s => by
    have : ∀ k, -(s * (2 * x k)) = (-(2 * s)) * x k := fun k => by ring
    simp only [this, ← Finset.mul_sum, hx, mul_zero]
  rw [e1, e2, e3, ← hr]
  ring

/-- The form a reverse-mode pass gives the norm's gradient. -/
theorem dres_form (e : Fin 8192) (j : Fin 1024) :
    (dhat A e j * inv A e
        + Ideal.div ((∑ k : Fin 1024, cen A e k * dhat A e k)
            * (Ideal.ofBits .f32 0xBF000000#32 * Ideal.div (inv A e) (spread A e))) (Ideal.ofBits .f32 0x44800000#32)
          * (Ideal.ofBits .f32 0x40000000#32 * cen A e j))
      + Ideal.div ((∑ k : Fin 1024, -(dhat A e k * inv A e))
        + (∑ k : Fin 1024, -(Ideal.div ((∑ k : Fin 1024, cen A e k * dhat A e k)
            * (Ideal.ofBits .f32 0xBF000000#32 * Ideal.div (inv A e) (spread A e))) (Ideal.ofBits .f32 0x44800000#32)
          * (Ideal.ofBits .f32 0x40000000#32 * cen A e k)))) (Ideal.ofBits .f32 0x44800000#32)
      = dres A e j := by
  choose r hr using fun k => real_res hA e k
  choose d hd using fun k => real_dhat hA e k
  have h1024 : (1024 : ℝ) ≠ 0 := by norm_num
  have hm : mean A e = ((∑ k, r k) * (1 / 1024) : ℝ) := by
    unfold mean
    simp only [hr]
    rw [coe_sum, thousand_f32, Ideal.div_coe h1024, ← EReal.coe_mul]
  have hc : ∀ k, cen A e k = ((r k - (∑ k, r k) * (1 / 1024) : ℝ) : EReal) := fun k => by
    unfold cen
    rw [hr, hm, ← EReal.coe_sub]
  generalize hxd : (fun k => r k - (∑ k, r k) * (1 / 1024)) = x at hc
  replace hc : ∀ k, cen A e k = (x k : EReal) := fun k => by rw [hc k, ← hxd]
  have hx : ∑ k, x k = 0 := by
    rw [← hxd, Finset.sum_sub_distrib, Finset.sum_const, Finset.card_univ, Fintype.card_fin, nsmul_eq_mul]
    push_cast
    ring
  have hs : spread A e = (((∑ k, x k * x k) * (1 / 1024) + 10995116 / 1099511627776 : ℝ) : EReal) := by
    unfold spread
    simp only [hc, ← EReal.coe_mul]
    rw [coe_sum, thousand_f32, Ideal.div_coe h1024, ← EReal.coe_mul, eps_f32, ← EReal.coe_add]
  have hv : 0 < (∑ k, x k * x k) * (1 / 1024) + 10995116 / 1099511627776 := by
    have : 0 ≤ ∑ k, x k * x k := Finset.sum_nonneg fun k _ => mul_self_nonneg _
    positivity
  generalize (∑ k, x k * x k) * (1 / 1024) + 10995116 / 1099511627776 = v at hs hv
  have hi : inv A e = (((Real.sqrt v)⁻¹ : ℝ) : EReal) := by
    unfold inv
    rw [hs, Ideal.rsqrt_coe, if_neg (not_lt.2 hv.le), if_neg hv.ne']
  unfold dres hat
  simp only [hc, hd, hi, hs, Ideal.div_coe hv.ne', thousand_f32, Ideal.div_coe h1024, neg_half_f32, two_f32, ← EReal.coe_mul,
    ← EReal.coe_neg, coe_sum, ← EReal.coe_add, ← EReal.coe_sub]
  exact congrArg _ (norm_real x d v hv hx j)

end Cert.MergeForm

end
-- ==== Proof.Merge.Reference.lean ====
/-
  The reference's merge, its layer norm and their gradients, entry by entry.
-/
module

public import proofs.«01_k».proof.Proof.Gen.MergeReferenceIdeal.Run
public import proofs.«01_k».proof.Proof.Merge.Real
public import Idealize.ShloMosaic.Lib.Pipeline.ValueKit

@[expose] public section

set_option maxRecDepth 16384

noncomputable section

open Idealize.ShloMosaic Idealize.ShloMosaic.TcCoe Idealize.SL.Sem

namespace Cert.MergeReferenceIdeal.Closed

open Cert.MergeReferenceIdeal Cert.MergeReferenceIdeal.Gen Cert.MergeReferenceIdeal.Value Cert.MergeForm

variable (V : Valuation τ sig (Elt Ideal))

/-- The arguments, read as arrays of extended reals. -/
def args : Args where
  h := V (Proc.devRef .tc main_arg0)
  x := V (Proc.devRef .tc main_arg1)
  ya := V (Proc.devRef .tc main_arg2)
  yb := V (Proc.devRef .tc main_arg3)
  dy := V (Proc.devRef .tc main_arg4)
  wa := V (Proc.devRef .tc main_arg5)
  wb := V (Proc.devRef .tc main_arg6)
  wo := V (Proc.devRef .tc main_arg7)
  bm := V (Proc.devRef .tc main_arg8)
  g := V (Proc.devRef .tc main_arg9)

variable (e : Fin 8192) (j : Fin 1024)

theorem gate_13 (q : Fin 2048) : res_main_v13 V (ix2 e q) = gate (args V) e q := by
  unfold res_main_v13
  pointwise
  rfl

theorem gate_95 (q : Fin 2048) : res_main_v95 V (ix2 e q) = gate (args V) e q := gate_13 V e q

theorem res_20 : res_main_v20 V (ix2 e j) = res (args V) e j := by
  unfold res_main_v20
  pointwise
  simp only [gate_13]
  rfl

theorem mean_24 : res_main_v24 V (ix2 e 0) = mean (args V) e := by
  unfold res_main_v24
  pointwise
  simp only [res_20]
  rfl

theorem cen_26 : res_main_v26 V (ix2 e j) = cen (args V) e j := by
  unfold res_main_v26
  pointwise
  rw [res_20, mean_24]
  rfl

theorem cen_35 : res_main_v35 V (ix2 e j) = cen (args V) e j := cen_26 V e j

theorem spread_37 : res_main_v37 V (ix2 e 0) = spread (args V) e := by
  unfold res_main_v37
  pointwise
  simp only [cen_26]
  rfl

theorem inv_38 : res_main_v38 V (ix2 e 0) = inv (args V) e := by
  unfold res_main_v38
  pointwise
  rw [spread_37]
  rfl

theorem hat_43 : res_main_v43 V (ix2 e j) = hat (args V) e j := by
  unfold res_main_v43
  pointwise
  rw [cen_35, inv_38]
  rfl

theorem dhat_58 : res_main_v58 V (ix2 e j) = dhat (args V) e j := by
  unfold res_main_v58 res_main_v50 res_main_v44
  pointwise
  rfl

theorem dhat_64 : res_main_v64 V (ix2 e j) = dhat (args V) e j * inv (args V) e := by
  unfold res_main_v64
  pointwise
  rw [dhat_58, inv_38]

/-- What reaches the row through its variance. -/
theorem var_73 : res_main_v73 V (ix2 e j)
    = Ideal.div ((∑ k : Fin 1024, cen (args V) e k * dhat (args V) e k)
        * (Ideal.ofBits .f32 0xBF000000#32 * Ideal.div (inv (args V) e) (spread (args V) e))) (Ideal.ofBits .f32 0x44800000#32)
      * (Ideal.ofBits .f32 0x40000000#32 * cen (args V) e j) := by
  unfold res_main_v73
  pointwise
  simp only [cen_35, cen_26, dhat_58]
  rw [Fin.sum_univ_one, inv_38, spread_37]

variable {V} in
theorem dres_83 (hA : AllReal (args V)) : res_main_v83 V (ix2 e j) = dres (args V) e j := by
  refine Eq.trans ?_ (dres_form hA e j)
  unfold res_main_v83
  pointwise
  simp only [dhat_64, var_73]
  rw [Fin.sum_univ_one]

theorem pa_85 : res_main_v85 V (ix2 e j) = pa (args V) e j := by
  unfold res_main_v85
  pointwise
  rfl

theorem pb_86 : res_main_v86 V (ix2 e j) = pb (args V) e j := by
  unfold res_main_v86
  pointwise
  rfl

theorem ga_99 : res_main_v99 V (ix2 e j) = gate (args V) e (colA j) := by
  unfold res_main_v99
  pointwise
  exact gate_95 V e (colA j)

theorem gb_101 : res_main_v101 V (ix2 e j) = gate (args V) e (colB j) := by
  unfold res_main_v101
  pointwise
  exact gate_95 V e (colB j)

theorem mix_103 : res_main_v103 V (ix2 e j) = mix (args V) e j := by
  unfold res_main_v103
  pointwise
  rw [ga_99, pa_85, gb_101, pb_86]
  rfl

/-- The padded halves, read where they stand. -/
theorem pad_right (x : FVec Ideal S8192x1024 .f32) (q : Fin 2048) :
    pad S8192x2048 ![0, 1024] ![0, 0] ![0, 0] x (constant (F := Ideal) S_ .f32 0x00000000#32) pads_S8192x1024_S8192x2048_000_102400 h_S_ (ix2 e q)
      = if hq : 1024 ≤ q.val then x (ix2 e ⟨q.val - 1024, by omega⟩) else 0 := by
  pointwise
  by_cases hq : 1024 ≤ q.val
  · rw [dif_pos hq, dif_pos (by omega)]
  · rw [dif_neg hq, dif_neg (by omega)]

theorem pad_left (x : FVec Ideal S8192x1024 .f32) (q : Fin 2048) :
    pad S8192x2048 ![0, 0] ![0, 1024] ![0, 0] x (constant (F := Ideal) S_ .f32 0x00000000#32) pads_S8192x1024_S8192x2048_000_010240 h_S_ (ix2 e q)
      = if hq : q.val < 1024 then x (ix2 e ⟨q.val, hq⟩) else 0 := by
  pointwise

variable {V} (hA : AllReal (args V))
include hA

theorem dmix_107 : res_main_v107 V (ix2 e j) = dmix (args V) e j := by
  unfold res_main_v107
  pointwise
  simp only [dres_83 e _ hA]
  rfl

theorem dml_115 (q : Fin 2048) : res_main_v115 V (ix2 e q) = dml (args V) e q := by
  unfold res_main_v115
  refine (congrArg₂ (fun u v : EReal => u * v) (congrArg₂ (fun u v : EReal => u + v) (pad_right e _ q) (pad_left e _ q)) rfl).trans ?_
  by_cases hq : q.val < 1024
  · rw [dif_neg (by omega), dif_pos hq, zero_add, dml_A (args V) e ⟨q.val, hq⟩ q rfl]
    pointwise
    rw [dmix_107 e _ hA, pa_85, gate_95]
    unfold dga
    exact (mul_assoc (G := EReal) _ _ _).symm
  · rw [dif_pos (by omega), dif_neg hq, add_zero, dml_B (args V) e ⟨q.val - 1024, by omega⟩ q (by show q.val = 1024 + (q.val - 1024); omega)]
    have hc : colB ⟨q.val - 1024, by omega⟩ = q := Fin.ext (by show 1024 + (q.val - 1024) = q.val; omega)
    pointwise
    rw [dmix_107 e _ hA, pb_86, gate_95]
    unfold dgb
    rw [hc]
    exact (mul_assoc (G := EReal) _ _ _).symm

end Cert.MergeReferenceIdeal.Closed

end
-- ==== Proof.Merge.Finite.lean ====
/-
  Where the arrays are of finite magnitude their entries are real numbers.
-/
module

public import proofs.«01_k».proof.Defs
public import proofs.«01_k».proof.Proof.Common.Finite

@[expose] public section

set_option maxRecDepth 16384

noncomputable section

open Idealize.ShloMosaic Idealize.ShloMosaic.TcCoe Idealize.SL.Sem

namespace Cert.Proof.Merge

open Cert.Reals

instance : Subsingleton Cert.Pre_merge_finite.S_.Idx := ⟨fun a b => funext fun d => d.elim0⟩

variable [Cert.Pre_merge_finite.Facts]

theorem finite {x0 x1 x2 x3 x4 x5 x6 x7 x8 x9 x10} (e : Cert.Pre_merge_finite.fn (F := Ideal) x0 x1 x2 x3 x4 x5 x6 x7 x8 x9 x10 = fun _ => 1#1) :
    (∀ i, IsReal (x1 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x9 i)) := by
  have e := congrFun e (fun d => d.elim0)
  unfold Cert.Pre_merge_finite.fn Cert.Pre_merge_finite.fn_part1 at e
  try unfold Cert.Pre_merge_finite.fn_part2 at e
  obtain ⟨e, e9⟩ := both e
  obtain ⟨e, e7⟩ := both e
  obtain ⟨e, e6⟩ := both e
  obtain ⟨e, e5⟩ := both e
  obtain ⟨e, e4⟩ := both e
  obtain ⟨e, e3⟩ := both e
  obtain ⟨e1, e2⟩ := both e
  exact ⟨IsReal.of_all _ _ _ _ _ _ (fun _ => inf_word) e1, IsReal.of_all _ _ _ _ _ _ (fun _ => inf_word) e2, IsReal.of_all _ _ _ _ _ _ (fun _ => inf_word) e3, IsReal.of_all _ _ _ _ _ _ (fun _ => inf_word) e4, IsReal.of_all _ _ _ _ _ _ (fun _ => inf_word) e5, IsReal.of_all _ _ _ _ _ _ (fun _ => inf_word) e6, IsReal.of_all _ _ _ _ _ _ (fun _ => inf_word) e7, IsReal.of_all _ _ _ _ _ _ (fun _ => inf_word) e9⟩

end Cert.Proof.Merge

end
-- ==== Proof.Merge.Algebra.lean ====
/-
  The merge's gradients against the reference's.
-/
module

public import proofs.«01_k».proof.Defs
public import proofs.«01_k».proof.Proof.Merge.Outputs
public import proofs.«01_k».proof.Proof.Merge.Reference
public import proofs.«01_k».proof.Proof.Merge.Finite
public import proofs.«01_k».proof.Proof.Gen.Pre_merge_finite

@[expose] public section

set_option maxRecDepth 16384

noncomputable section

open Idealize.ShloMosaic Idealize.ShloMosaic.TcCoe Idealize.SL.Sem

namespace Cert.Proof.Merge

open Cert.MergeForm Cert.Reals

set_option maxHeartbeats 2000000 in
/-- The idealized kernel and the reference agree on the eight gradients. -/
theorem algebraic : Cert.algebraic_MergeKernelIdeal_MergeReferenceIdeal_pre_merge_finite := by
  intro m g m' g' hpre hagree
  refine ⟨fun c => Pipeline.afterTail₀ Cert.MergeKernelIdeal.cfgs (Cert.MergeKernelIdeal.Gen.dats m) 0 (Cert.MergeKernelIdeal.Gen.V0 m) [Cert.MergeKernelIdeal.Gen.hostOps1] c Cert.MergeKernelIdeal.main_v51,
    fun c => (Cert.MergeKernelIdeal.Gen.dats m 0 c).arrAt 11 Cert.MergeKernelIdeal.cfg0.N,
    fun c => (Cert.MergeKernelIdeal.Gen.dats m 0 c).arrAt 12 Cert.MergeKernelIdeal.cfg0.N,
    fun c => (Cert.MergeKernelIdeal.Gen.dats m 0 c).arrAt 13 Cert.MergeKernelIdeal.cfg0.N,
    fun c => (Cert.MergeKernelIdeal.Gen.dats m 0 c).arrAt 14 Cert.MergeKernelIdeal.cfg0.N,
    fun c => (Cert.MergeKernelIdeal.Gen.dats m 0 c).arrAt 15 Cert.MergeKernelIdeal.cfg0.N,
    fun c => (Cert.MergeKernelIdeal.Gen.dats m 0 c).arrAt 16 Cert.MergeKernelIdeal.cfg0.N,
    fun c => (Cert.MergeKernelIdeal.Gen.dats m 0 c).arrAt 17 Cert.MergeKernelIdeal.cfg0.N,
    (θ_run Cert.MergeKernelIdeal.defs _ _).mono (fun r h c => ?_) (θ_run_and (Cert.MergeKernelIdeal.Closed.run m g) (Cert.MergeKernelIdeal.Gen.unchanged m g)),
    (θ_run Cert.MergeReferenceIdeal.defs _ _).mono (fun r hr c => ?_) (Cert.MergeReferenceIdeal.Value.run (F := Ideal) m' g')⟩
  · obtain ⟨h0, h1, h2, h3, h4, h5, h6, h7⟩ := h.1 c
    exact ⟨h0, h1, h2, h3, h4, h5, h6, h7, h.2 c⟩
  have eA : Cert.MergeReferenceIdeal.Closed.args (StableHlo.launchContents m' c) = Cert.MergeKernelIdeal.Closed.args m c := by
    unfold Cert.MergeReferenceIdeal.Closed.args Cert.MergeKernelIdeal.Closed.args
    congr 1
    · exact (hagree c).1
    · exact (hagree c).2.1
    · exact (hagree c).2.2.1
    · exact (hagree c).2.2.2.1
    · exact (hagree c).2.2.2.2.1
    · exact (hagree c).2.2.2.2.2.1
    · exact (hagree c).2.2.2.2.2.2.1
    · exact (hagree c).2.2.2.2.2.2.2.1
    · exact (hagree c).2.2.2.2.2.2.2.2.1
    · exact (hagree c).2.2.2.2.2.2.2.2.2.1
  obtain ⟨f1, f2, f3, f4, f5, f6, f7, f9⟩ := finite (hpre c)
  have hA : AllReal (Cert.MergeReferenceIdeal.Closed.args (StableHlo.launchContents m' c)) := by
    rw [eA]
    exact ⟨f1, f2, f3, f4, f5, f6, f7, f9⟩
  obtain ⟨r0, r1, r2, r3, r4, r5, r6, r7, hargs⟩ := hr c
  refine ⟨r0.trans ?_, r1.trans ?_, r2.trans ?_, r3.trans ?_, r4.trans ?_, r5.trans ?_, r6.trans ?_, r7.trans ?_, hargs⟩
  · refine Eq.trans ?_ (Cert.MergeKernelIdeal.Closed.gates_slice m c).symm
    rw [← eA]
    funext i
    idx_vars i
    exact Cert.MergeReferenceIdeal.Closed.dml_115 i0 hA i1
  · refine Eq.trans ?_ (Cert.MergeKernelIdeal.Closed.dres_total m c).symm
    rw [← eA]
    funext i
    idx_vars i
    exact Cert.MergeReferenceIdeal.Closed.dres_83 i0 i1 hA
  · refine Eq.trans ?_ (Cert.MergeKernelIdeal.Closed.dpa_total m c).symm
    rw [← eA]
    funext i
    idx_vars i
    pointwise
    rw [Cert.MergeReferenceIdeal.Closed.ga_99, Cert.MergeReferenceIdeal.Closed.dmix_107 i0 i1 hA]
    exact mul_comm (G := EReal) _ _
  · refine Eq.trans ?_ (Cert.MergeKernelIdeal.Closed.dpb_total m c).symm
    rw [← eA]
    funext i
    idx_vars i
    pointwise
    rw [Cert.MergeReferenceIdeal.Closed.gb_101, Cert.MergeReferenceIdeal.Closed.dmix_107 i0 i1 hA]
    exact mul_comm (G := EReal) _ _
  · refine Eq.trans ?_ (Cert.MergeKernelIdeal.Closed.dwo_total m c).symm
    rw [← eA]
    funext i
    idx_vars i
    pointwise
    simp only [Cert.MergeReferenceIdeal.Closed.mix_103, fun e j => Cert.MergeReferenceIdeal.Closed.dres_83 e j hA]
    exact Finset.sum_congr (M := EReal) rfl fun _ _ => mul_comm (G := EReal) _ _
  · refine Eq.trans ?_ (Cert.MergeKernelIdeal.Closed.dg_total m c).symm
    rw [← eA]
    funext i
    idx_vars i
    unfold Cert.MergeReferenceIdeal.Value.res_main_v50
    pointwise
    simp only [Cert.MergeReferenceIdeal.Closed.hat_43]
    rw [Fin.sum_univ_one]
    exact Finset.sum_congr (M := EReal) rfl fun _ _ => mul_comm (G := EReal) _ _
  · refine Eq.trans ?_ (Cert.MergeKernelIdeal.Closed.db_total m c).symm
    rw [← eA]
    funext i
    idx_vars i
    pointwise
    rw [Fin.sum_univ_one]
    rfl
  · refine Eq.trans ?_ (Cert.MergeKernelIdeal.Closed.dbm_total m c).symm
    rw [← eA]
    funext i
    idx_vars i
    pointwise
    simp only [fun e q => Cert.MergeReferenceIdeal.Closed.dml_115 e hA q]
    rw [Fin.sum_univ_one]

end Cert.Proof.Merge

end
-- ==== Proof.MergeFwd.Kernel.lean ====
/-
  The arrays the merge's forward kernel leaves: the residual stream and its norm.
-/
module

public import proofs.«01_k».proof.Proof.Gen.MergeFwdKernelIdeal.Value
public import proofs.«01_k».proof.Proof.Merge.Form
public import proofs.«01_k».proof.Proof.Common.Pieces
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MergeFwdKernelIdeal.Closed

open Cert.MergeFwdKernelIdeal Cert.MergeFwdKernelIdeal.Gen Cert.MergeForm Cert.Pieces

variable (m : (ℓ : Loc nD τ sig) → Buf (Elt Ideal) ℓ) (ρ : Dev nD → PrngReg)

/-- The arguments, read as arrays of extended reals; a forward call has no cotangent. -/
def args (c : Dev nD) : Args where
  h := m ((c : Thread nD τ).loc main_arg0)
  x := m ((c : Thread nD τ).loc main_arg1)
  ya := m ((c : Thread nD τ).loc main_arg2)
  yb := m ((c : Thread nD τ).loc main_arg3)
  dy := fun _ => 0
  wa := m ((c : Thread nD τ).loc main_arg4)
  wb := m ((c : Thread nD τ).loc main_arg5)
  wo := m ((c : Thread nD τ).loc main_arg6)
  bm := m ((c : Thread nD τ).loc main_arg7)
  g := m ((c : Thread nD τ).loc main_arg8)

/-- The norm's bias. -/
abbrev bias (c : Dev nD) : S1024.Idx → EReal := m ((c : Thread nD τ).loc main_arg9)

theorem V_eq (c : Dev nD) (b : Ref sig .tc) : V m c b = StableHlo.after hostOps0 (fun b => m (c, b)) (Proc.devRef .tc b) := by
  simp only [V, List.flatten_cons, List.flatten_nil, List.append_nil]

theorem V_ya (c : Dev nD) : V m c main_v22 = (args m c).ya := by
  rw [V_eq]
  after_reads_simp
  rfl

theorem V_yb (c : Dev nD) : V m c main_v23 = (args m c).yb := by
  rw [V_eq]
  after_reads_simp
  rfl

theorem V_wa (c : Dev nD) : V m c main_v24 = (args m c).wa := by
  rw [V_eq]
  after_reads_simp
  rfl

theorem V_wb (c : Dev nD) : V m c main_v25 = (args m c).wb := by
  rw [V_eq]
  after_reads_simp
  rfl

theorem V_wo (c : Dev nD) : V m c main_v26 = (args m c).wo := by
  rw [V_eq]
  after_reads_simp
  rfl

theorem V_bm (c : Dev nD) (q : Fin 2048) : V m c main_v27 (ix2 0 q) = (args m c).bm (ix1 q) := by
  rw [V_eq]
  after_reads_at
  rfl

theorem V_g (c : Dev nD) (q : Fin 1024) : V m c main_v28 (ix2 0 q) = (args m c).g (ix1 q) := by
  rw [V_eq]
  after_reads_at
  rfl

theorem V_b (c : Dev nD) (q : Fin 1024) : V m c main_v29 (ix2 0 q) = bias m c (ix1 q) := by
  rw [V_eq]
  after_reads_at

theorem V_ml (c : Dev nD) (e : Fin 8192) (q : Fin 2048) :
    V m c main_v21 (ix2 e ⟨2048 + q.val, by omega⟩) = (args m c).h (ix2 e ⟨5136 + q.val, by omega⟩) := by
  rw [V_eq]
  simp only [StableHlo.readAfter, StableHlo.binary_result']
  refine (concatenate_first (n := 8192) (p := 7040) (q := 7680) _ _ _ e ⟨2048 + q.val, by omega⟩ (by omega)).trans ?_
  simp only [StableHlo.readUpto, StableHlo.nary_result']
  refine (concatenate_first (n := 8192) (p := 4096) (q := 7040) _ _ _ e ⟨2048 + q.val, by omega⟩ (by omega)).trans ?_
  erw [StableHlo.unary_result']
  after_reads_at
  exact congrArg (fun k => (args m c).h (ix2 e k)) (Fin.ext (by show 3088 + (2048 + q.val) = 5136 + q.val; omega))

/-- The row a point's block row stands at. -/
def row (t : Fin cfg0.N) (a : Fin 512) : Fin 8192 :=
  ⟨512 * t.val + a.val, by have := lt_of_lt_of_eq t.isLt N_0; have := a.isLt; omega⟩

theorem idx0 : ∀ t : Fin cfg0.N, win0_0.index t = ![t.val, 1] := (by decide +kernel : ∀ t : Fin grid0.N, win0_0.index t = ![t.val, 1])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])

/-! What a point reads. -/

theorem read0 (c : Dev nD) (t : Fin cfg0.N) (a : Fin 512) (q : Fin 2048) :
    X0_0 m c t (ix2 a q) = (args m c).h (ix2 (row t a) ⟨5136 + q.val, by omega⟩) := by
  refine Eq.trans ?_ (V_ml m c (row t a) q)
  unfold X0_0 Pipeline.Window.fill
  rw [dif_pos (moved0_0 t _)]
  blk_ext [iblk, idx0 t, row]

theorem read1 (c : Dev nD) (t : Fin cfg0.N) (a : Fin 512) (j : Fin 1024) : iblk m c 1 t (ix2 a j) = (args m c).x (ix2 (row t a) j) := by
  refine Eq.trans ?_ (congrFun (V_main_arg1 m c) _)
  blk_ext [iblk, idx1 t, row]

theorem read2 (c : Dev nD) (t : Fin cfg0.N) (a : Fin 512) (j : Fin 1024) : iblk m c 2 t (ix2 a j) = (args m c).ya (ix2 (row t a) j) := by
  refine Eq.trans ?_ (congrFun (V_ya m c) _)
  blk_ext [iblk, idx2 t, row]

theorem read3 (c : Dev nD) (t : Fin cfg0.N) (a : Fin 512) (j : Fin 1024) : iblk m c 3 t (ix2 a j) = (args m c).yb (ix2 (row t a) j) := by
  refine Eq.trans ?_ (congrFun (V_yb m c) _)
  blk_ext [iblk, idx3 t, row]

theorem read4 (c : Dev nD) (t : Fin cfg0.N) (k j : Fin 1024) : iblk m c 4 t (ix2 k j) = (args m c).wa (ix2 k j) := by
  refine Eq.trans ?_ (congrFun (V_wa m c) _)
  blk_ext [iblk, idx4 t]

theorem read5 (c : Dev nD) (t : Fin cfg0.N) (k j : Fin 1024) : iblk m c 5 t (ix2 k j) = (args m c).wb (ix2 k j) := by
  refine Eq.trans ?_ (congrFun (V_wb m c) _)
  blk_ext [iblk, idx5 t]

theorem read6 (c : Dev nD) (t : Fin cfg0.N) (k j : Fin 1024) : iblk m c 6 t (ix2 k j) = (args m c).wo (ix2 k j) := by
  refine Eq.trans ?_ (congrFun (V_wo m c) _)
  blk_ext [iblk, idx6 t]

theorem read7 (c : Dev nD) (t : Fin cfg0.N) (q : Fin 2048) : iblk m c 7 t (ix2 0 q) = (args m c).bm (ix1 q) := by
  refine Eq.trans ?_ (V_bm m c q)
  blk_ext [iblk, idx7 t]

theorem read8 (c : Dev nD) (t : Fin cfg0.N) (q : Fin 1024) : iblk m c 8 t (ix2 0 q) = (args m c).g (ix1 q) := by
  refine Eq.trans ?_ (V_g m c q)
  blk_ext [iblk, idx8 t]

theorem read9 (c : Dev nD) (t : Fin cfg0.N) (q : Fin 1024) : iblk m c 9 t (ix2 0 q) = bias m c (ix1 q) := by
  refine Eq.trans ?_ (V_b m c q)
  blk_ext [iblk, idx9 t]

/-! The values of a point, as the kernel names them: the second branch projected, the first gated, the second gate's divisor, the residual. -/

abbrev tPb (c : Dev nD) (t : Fin cfg0.N) : FVec Ideal S512x1024 .f32 := k0_pay1 (iblk m c 3 t) (iblk m c 5 t)
abbrev tMa (c : Dev nD) (t : Fin cfg0.N) : FVec Ideal S512x1024 .f32 :=
  k0_pay2 (iblk m c 2 t) (iblk m c 4 t) (View.ld (X0_0 m c t) (Rect.unit ![0, 0] ![512, 1024] inb_S512x2048_S512x1024_0_0))
    (View.ld (iblk m c 7 t) (Rect.unit ![0, 0] ![1, 1024] inb_S1x2048_S1x1024_0_0))
abbrev tDb (c : Dev nD) (t : Fin cfg0.N) : FVec Ideal S512x1024 .f32 :=
  k0_pay3 (View.ld (X0_0 m c t) (Rect.unit ![0, 1024] ![512, 1024] inb_S512x2048_S512x1024_0_1024))
    (View.ld (iblk m c 7 t) (Rect.unit ![0, 1024] ![1, 1024] inb_S1x2048_S1x1024_0_1024))
abbrev tRes (c : Dev nD) (t : Fin cfg0.N) : FVec Ideal S512x1024 .f32 :=
  k0_pay4 (tPb m c t) (tMa m c t) (tDb m c t) (Scalar.ofBits .f32 0x3F800000#32) (iblk m c 1 t) (iblk m c 6 t)

/-- The norm's output. -/
def norm (A : Args) (b : S1024.Idx → EReal) (e : Fin 8192) (j : Fin 1024) : EReal := hat A e j * A.g (ix1 j) + b (ix1 j)

/-- The norm's payload, where the residual's cells are the rows of a known array. -/
theorem pay5_of (u v w : FVec Ideal S512x1024 .f32) (one : Elt Ideal .f32) (x : FVec Ideal S512x1024 .f32) (wo : FVec Ideal S1024x1024 .bf16)
    (g b : FVec Ideal S1x1024 .f32) (R : Fin 8192 → Fin 1024 → EReal) (f : Fin 512 → Fin 8192)
    (hR : ∀ a j, k0_pay4 u v w one x wo (ix2 a j) = R (f a) j) (a : Fin 512) (j : Fin 1024) :
    k0_pay5 u v w one x wo g b (ix2 a j)
      = (R (f a) j - Ideal.div (∑ k : Fin 1024, R (f a) k) (Ideal.ofBits .f32 0x44800000#32))
          * Ideal.rsqrt (Ideal.div (∑ l : Fin 1024, (R (f a) l - Ideal.div (∑ k : Fin 1024, R (f a) k) (Ideal.ofBits .f32 0x44800000#32))
            * (R (f a) l - Ideal.div (∑ k : Fin 1024, R (f a) k) (Ideal.ofBits .f32 0x44800000#32))) (Ideal.ofBits .f32 0x44800000#32)
            + Ideal.ofBits .f32 0x3727C5AC#32) * g (ix2 0 j) + b (ix2 0 j) := by
  pointwise [k0_pay5]
  simp only [hR]

section
variable (c : Dev nD) (t : Fin cfg0.N) (a : Fin 512) (j : Fin 1024)

theorem at_pb : tPb m c t (ix2 a j) = pb (args m c) (row t a) j := by
  pointwise [k0_pay1]
  simp only [read3, read5]
  rfl

theorem at_ma : tMa m c t (ix2 a j) = gate (args m c) (row t a) (colA j) * pa (args m c) (row t a) j := by
  pointwise [k0_pay2]
  simp only [read2, read4]
  refine congrArg (fun u : EReal => u * _) ((sigmoid_eq _).trans (congrArg Ideal.logistic ?_))
  exact congrArg₂ (fun u v : EReal => u + v) (read0 m c t a (colA j)) (read7 m c t (colA j))

theorem at_gb : Ideal.div 1 (tDb m c t (ix2 a j)) = gate (args m c) (row t a) (colB j) := by
  pointwise [k0_pay3]
  refine (sigmoid_eq _).trans (congrArg Ideal.logistic ?_)
  exact congrArg₂ (fun u v : EReal => u + v) (read0 m c t a (colB j)) (read7 m c t (colB j))

theorem at_res : tRes m c t (ix2 a j) = res (args m c) (row t a) j := by
  pointwise [k0_pay4]
  simp only [at_pb, at_ma, at_gb, read1, read6]
  rfl

theorem at_norm : k0_pay5 (tPb m c t) (tMa m c t) (tDb m c t) (Scalar.ofBits .f32 0x3F800000#32) (iblk m c 1 t) (iblk m c 6 t) (iblk m c 8 t)
    (iblk m c 9 t) (ix2 a j) = norm (args m c) (bias m c) (row t a) j := by
  refine (pay5_of _ _ _ _ _ _ _ _ (res (args m c)) (row t) (fun a j => at_res m c t a j) a j).trans ?_
  simp only [read8, read9]
  rfl

set_option maxHeartbeats 2000000 in
theorem leaves_res : (outsAt0 m c t).1 (ix2 a j) = res (args m c) (row t a) j := by
  unfold outsAt0
  frame_out
  exact at_res m c t a j

set_option maxHeartbeats 2000000 in
theorem leaves_norm : (outsAt0 m c t).2.1 (ix2 a j) = norm (args m c) (bias m c) (row t a) j := by
  unfold outsAt0
  frame_out
  exact at_norm m c t a j

set_option maxHeartbeats 2000000 in
theorem leaves_normb : (outsAt0 m c t).2.2 (ix2 a j) = norm (args m c) (bias m c) (row t a) j := by
  unfold outsAt0
  frame_out
  exact at_norm m c t a j

end

theorem res_total (c : Dev nD) : (dats m 0 c).arrAt 10 cfg0.N = fun i => res (args m c) (i 0) (i 1) := by
  refine (dats m 0 c).arrAt_eq_of_covers 10 _ (by decide +kernel) fun t hf y => ?_
  blk_simp
  rw [after0_10]
  idx_vars y
  refine (leaves_res m c t _ _).trans ?_
  refine congrArg₂ (res (args m c)) (Fin.ext ?_) (Fin.ext ?_)
  · refine Eq.trans ?_ ((cfg0.win 10).rect_emb_val t (ix2 _ _) 0).symm
    rw [show (cfg0.win 10).index t 0 = t.val from congrFun (idx10 t) 0]
    show 512 * t.val + _ = t.val * 512 + _
    rw [Nat.mul_comm]
    rfl
  · refine Eq.trans ?_ ((cfg0.win 10).rect_emb_val t (ix2 _ _) 1).symm
    rw [show (cfg0.win 10).index t 1 = 0 from congrFun (idx10 t) 1]
    show _ = 0 * 1024 + _
    rw [Nat.zero_mul, Nat.zero_add]
    rfl

theorem norm_total (c : Dev nD) : (dats m 0 c).arrAt 11 cfg0.N = fun i => norm (args m c) (bias m c) (i 0) (i 1) := by
  refine (dats m 0 c).arrAt_eq_of_covers 11 _ (by decide +kernel) fun t hf y => ?_
  blk_simp
  rw [after0_11]
  idx_vars y
  refine (leaves_norm m c t _ _).trans ?_
  refine congrArg₂ (norm (args m c) (bias m c)) (Fin.ext ?_) (Fin.ext ?_)
  · refine Eq.trans ?_ ((cfg0.win 11).rect_emb_val t (ix2 _ _) 0).symm
    rw [show (cfg0.win 11).index t 0 = t.val from congrFun (idx11 t) 0]
    show 512 * t.val + _ = t.val * 512 + _
    rw [Nat.mul_comm]
    rfl
  · refine Eq.trans ?_ ((cfg0.win 11).rect_emb_val t (ix2 _ _) 1).symm
    rw [show (cfg0.win 11).index t 1 = 0 from congrFun (idx11 t) 1]
    show _ = 0 * 1024 + _
    rw [Nat.zero_mul, Nat.zero_add]
    rfl

theorem normb_total (c : Dev nD) : (dats m 0 c).arrAt 12 cfg0.N = fun i => norm (args m c) (bias m c) (i 0) (i 1) := by
  refine (dats m 0 c).arrAt_eq_of_covers 12 _ (by decide +kernel) fun t hf y => ?_
  blk_simp
  rw [after0_12]
  idx_vars y
  refine (leaves_normb m c t _ _).trans ?_
  refine congrArg₂ (norm (args m c) (bias m c)) (Fin.ext ?_) (Fin.ext ?_)
  · refine Eq.trans ?_ ((cfg0.win 12).rect_emb_val t (ix2 _ _) 0).symm
    rw [show (cfg0.win 12).index t 0 = t.val from congrFun (idx12 t) 0]
    show 512 * t.val + _ = t.val * 512 + _
    rw [Nat.mul_comm]
    rfl
  · refine Eq.trans ?_ ((cfg0.win 12).rect_emb_val t (ix2 _ _) 1).symm
    rw [show (cfg0.win 12).index t 1 = 0 from congrFun (idx12 t) 1]
    show _ = 0 * 1024 + _
    rw [Nat.zero_mul, Nat.zero_add]
    rfl

end Cert.MergeFwdKernelIdeal.Closed

end
-- ==== Proof.MergeFwd.Reference.lean ====
/-
  The merge's forward reference: the residual stream and its norm, read cell by cell.
-/
module

public import proofs.«01_k».proof.Proof.Gen.MergeFwdReferenceIdeal.Run
public import proofs.«01_k».proof.Proof.Merge.Form
public import proofs.«01_k».proof.Proof.Common.Pieces
public import Idealize.ShloMosaic.Lib.Pipeline.ValueKit

@[expose] public section

set_option maxRecDepth 16384

noncomputable section

open Idealize.ShloMosaic Idealize.ShloMosaic.TcCoe Idealize.SL.Sem

namespace Cert.MergeFwdReferenceIdeal.Closed

open Cert.MergeFwdReferenceIdeal Cert.MergeFwdReferenceIdeal.Value Cert.MergeForm Cert.Pieces

variable (m : (ℓ : Loc nD τ sig) → Buf (Elt Ideal) ℓ)

/-- The arguments, read as arrays of extended reals; a forward call has no cotangent. -/
def args (c : Dev nD) : Args where
  h := m ((c.tc : Thread nD τ).loc main_arg0)
  x := m ((c.tc : Thread nD τ).loc main_arg1)
  ya := m ((c.tc : Thread nD τ).loc main_arg2)
  yb := m ((c.tc : Thread nD τ).loc main_arg3)
  dy := fun _ => 0
  wa := m ((c.tc : Thread nD τ).loc main_arg4)
  wb := m ((c.tc : Thread nD τ).loc main_arg5)
  wo := m ((c.tc : Thread nD τ).loc main_arg6)
  bm := m ((c.tc : Thread nD τ).loc main_arg7)
  g := m ((c.tc : Thread nD τ).loc main_arg8)

set_option maxHeartbeats 4000000 in
theorem norm_44 (c : Dev nD) (e : Fin 8192) (j : Fin 1024) :
    res_main_v44 m c (ix2 e j) = hat (args m c) e j * (args m c).g (ix1 j) + m ((c.tc : Thread nD τ).loc main_arg9) (ix1 j) := by
  unfold res_main_v44
  pointwise
  rfl

theorem norm_45 (c : Dev nD) (e : Fin 8192) (j : Fin 1024) :
    res_main_v45 m c (ix2 e j) = hat (args m c) e j * (args m c).g (ix1 j) + m ((c.tc : Thread nD τ).loc main_arg9) (ix1 j) :=
  norm_44 m c e j

end Cert.MergeFwdReferenceIdeal.Closed

end
-- ==== Proof.MergeFwd.Algebra.lean ====
/-
  The merge's forward call against its reference: the two name the same sums, row by row.
-/
module

public import proofs.«01_k».proof.Defs
public import proofs.«01_k».proof.Proof.MergeFwd.Kernel
public import proofs.«01_k».proof.Proof.MergeFwd.Reference

@[expose] public section

set_option maxRecDepth 16384

noncomputable section

open Idealize.ShloMosaic Idealize.ShloMosaic.TcCoe Idealize.SL.Sem

namespace Cert.Proof.MergeFwd

open Cert.MergeForm

/-- The idealized kernel and the reference agree on the residual stream and on both copies of its norm. -/
theorem algebraic : Cert.algebraic_MergeFwdKernelIdeal_MergeFwdReferenceIdeal := by
  intro m g m' g' _ hagree
  have hA (c : _) : Cert.MergeFwdReferenceIdeal.Closed.args m' c = Cert.MergeFwdKernelIdeal.Closed.args m c := by
    obtain ⟨h0, h1, h2, h3, h4, h5, h6, h7, h8, h9⟩ := hagree c
    unfold Cert.MergeFwdReferenceIdeal.Closed.args Cert.MergeFwdKernelIdeal.Closed.args
    rw [h0, h1, h2, h3, h4, h5, h6, h7, h8]
  have hb (c : _) := (hagree c).2.2.2.2.2.2.2.2.2
  refine ⟨fun c => (Cert.MergeFwdKernelIdeal.Gen.dats m 0 c).arrAt 10 Cert.MergeFwdKernelIdeal.cfg0.N,
    fun c => (Cert.MergeFwdKernelIdeal.Gen.dats m 0 c).arrAt 11 Cert.MergeFwdKernelIdeal.cfg0.N,
    fun c => (Cert.MergeFwdKernelIdeal.Gen.dats m 0 c).arrAt 12 Cert.MergeFwdKernelIdeal.cfg0.N,
    Cert.MergeFwdKernelIdeal.Value.run_blocks m g, ?_⟩
  refine (θ_run Cert.MergeFwdReferenceIdeal.defs _ _).mono (fun r h c => ⟨?_, ?_, ?_, (h c).2.2.2⟩)
    (Cert.MergeFwdReferenceIdeal.Value.run (F := Ideal) m' g')
  · rw [(h c).1]
    refine Eq.trans ?_ (Cert.MergeFwdKernelIdeal.Closed.res_total m c).symm
    funext i
    idx_vars i
    rw [← hA]
    pointwise
    rfl
  · rw [(h c).2.1]
    refine Eq.trans ?_ (Cert.MergeFwdKernelIdeal.Closed.norm_total m c).symm
    funext i
    idx_vars i
    rw [Cert.MergeFwdReferenceIdeal.Closed.norm_44, hA, hb]
    rfl
  · rw [(h c).2.2.1]
    refine Eq.trans ?_ (Cert.MergeFwdKernelIdeal.Closed.normb_total m c).symm
    funext i
    idx_vars i
    rw [Cert.MergeFwdReferenceIdeal.Closed.norm_45, hA, hb]
    rfl

end Cert.Proof.MergeFwd

end
-- ==== Proof.PoolFwd.Windows.lean ====
/-
  A window's sum two ways: as the difference of two cumulative sums, and by doubling rotations that look back.
-/
module

public import proofs.«01_k».proof.Proof.Pool.Shared
public import proofs.«01_k».proof.Proof.Pool.Real

@[expose] public section

set_option maxRecDepth 16384

noncomputable section

open Idealize.ShloMosaic Idealize.ShloMosaic.TcCoe Idealize.SL.Sem

namespace Cert.PoolForm

open Cert.Reals

variable {H : (⟨2, ![8192, 7184]⟩ : Shape).Idx → EReal}

/-- A column of the input below sixteen rows of zeros. -/
def padded (H : (⟨2, ![8192, 7184]⟩ : Shape).Idx → EReal) (g : Fin 4) (k : Fin 256) (n : ℕ) : EReal :=
  if hn : 16 ≤ n ∧ n - 16 < 8192 then inp H ⟨n - 16, hn.2⟩ (col g k) else 0

theorem padded_below (g : Fin 4) (k : Fin 256) (n : ℕ) (hn : n < 16) : padded H g k n = 0 := dif_neg (by omega)

theorem padded_row (g : Fin 4) (k : Fin 256) (r : Fin 8192) (n : ℕ) (hn : n = r.val + 16) : padded H g k n = inp H r (col g k) := by
  unfold padded
  rw [dif_pos (by omega)]
  exact congrArg (fun q => inp H q (col g k)) (Fin.ext (by show n - 16 = r.val; omega))

/-- The cumulative sum counts from the row back to the first. -/
theorem cum_back (r : Fin 8192) (g : Fin 4) (k : Fin 256) :
    cum H r (col g k) = ∑ d ∈ Finset.range (r.val + 1), padded H g k (r.val + 16 - d) := by
  have e : ∀ n : Fin 8192, (if hin : 8191 ≤ r.val + n.val ∧ r.val + n.val - 8191 < 8192
      then inp H ⟨r.val + n.val - 8191, hin.2⟩ (col g k) else 0)
      = (fun n : ℕ => if 8191 ≤ r.val + n then padded H g k (r.val + n - 8191 + 16) else 0) n.val := fun n => by
    by_cases hn : 8191 ≤ r.val + n.val
    · rw [dif_pos (by omega)]
      exact (padded_row g k ⟨r.val + n.val - 8191, by omega⟩ _ rfl).symm.trans (if_pos hn).symm
    · rw [dif_neg (by omega)]
      exact (if_neg hn).symm
  unfold cum
  rw [Finset.sum_congr rfl fun n _ => e n, Fin.sum_univ_eq_sum_range (fun n : ℕ =>
    if 8191 ≤ r.val + n then padded H g k (r.val + n - 8191 + 16) else 0) 8192]
  obtain ⟨q, hq⟩ : ∃ q, 8192 = q + (r.val + 1) := ⟨8191 - r.val, by omega⟩
  refine (congrArg (fun N => ∑ n ∈ Finset.range N, if 8191 ≤ r.val + n then padded H g k (r.val + n - 8191 + 16) else 0) hq).trans ?_
  rw [Finset.sum_range_add, Finset.sum_eq_zero (fun n hn => if_neg (by have := Finset.mem_range.mp hn; omega)), zero_add,
    ← Finset.sum_range_reflect]
  refine Finset.sum_congr rfl fun d hd => ?_
  have hd := Finset.mem_range.mp hd
  rw [if_pos (by omega)]
  exact congrArg (padded H g k) (by omega)

/-- A window's sum is the difference of the cumulative sums at its two ends. -/
theorem window_eq (hH : ∀ i, IsReal (H i)) (r : Fin 8192) (g : Fin 4) (k : Fin 256) :
    cum H r (col g k) - (if hw : width g ≤ r.val then cum H ⟨r.val - width g, by omega⟩ (col g k) else 0)
      = ∑ d ∈ Finset.range (width g), padded H g k (r.val + 16 - d) := by
  have hreal : ∀ n, IsReal (padded H g k n) := fun n => by
    unfold padded
    split
    · exact hH _
    · exact zero
  have hw16 : width g ≤ 16 := by unfold width; fin_cases g <;> decide
  by_cases hw : width g ≤ r.val
  · rw [dif_pos hw, cum_back, cum_back]
    choose f hf using hreal
    simp only [hf, coe_sum]
    rw [← EReal.coe_sub]
    refine congrArg _ ?_
    rw [show r.val + 1 = width g + (r.val - width g + 1) by omega, Finset.sum_range_add]
    have e : ∀ d ∈ Finset.range (r.val - width g + 1), f (r.val + 16 - (width g + d)) = f (r.val - width g + 16 - d) := fun d hd => by
      have hd := Finset.mem_range.mp hd
      exact congrArg f (by omega)
    rw [Finset.sum_congr rfl e, add_sub_cancel_right]
  · rw [dif_neg hw, sub_zero, cum_back]
    obtain ⟨q, hq⟩ : ∃ q, width g = (r.val + 1) + q := ⟨width g - (r.val + 1), by omega⟩
    rw [hq, Finset.sum_range_add _ (r.val + 1) q, Finset.sum_eq_zero (s := Finset.range q) (fun d hd => padded_below g k _ (by
      have := Finset.mem_range.mp hd; omega)), add_zero]

/-- The branch's output: the mixed rows through the scale and the gate. -/
def branch (H : (⟨2, ![8192, 7184]⟩ : Shape).Idx → EReal) (W : (⟨3, ![4, 256, 256]⟩ : Shape).Idx → EReal) (S : (⟨1, ![1024]⟩ : Shape).Idx → EReal)
    (r : Fin 8192) (g : Fin 4) (o : Fin 256) : EReal :=
  mixed W (pooled H) r g o * S (ix1 (col g o)) * (gate H r (col g o) * Ideal.logistic (gate H r (col g o)))

/-- The pooled rows by windows. -/
theorem pooled_window (hH : ∀ i, IsReal (H i)) (r : Fin 8192) (g : Fin 4) (k : Fin 256) :
    pooled H r g k = Ideal.div (∑ d ∈ Finset.range (width g), padded H g k (r.val + 16 - d)) (count g r.val) - inp H r (col g k) := by
  unfold pooled
  rw [window_eq hH]

/-- One doubling that looks back: a window's sum plus that of the window before it. -/
theorem double_back {n p : ℕ} (x : (⟨2, ![n, p]⟩ : Shape).Idx → EReal) (f : ℕ → EReal) (k : Fin p) (w : ℕ) (s : BitVec 32)
    (hs : s.toNat = w) (hw : 0 < w) (hn : w < n) (h : (⟨2, ![n, p]⟩ : Shape).Rotates 0 none)
    (hx : ∀ r : Fin n, w ≤ r.val + 1 → x (ix2 r k) = ∑ d ∈ Finset.range w, f (r.val - d)) (r : Fin n) (hr : 2 * w ≤ r.val + 1) :
    addf (F := Ideal) (φ := .f32) x (dynamicRotate 0 s none x h) (ix2 r k) = ∑ d ∈ Finset.range (2 * w), f (r.val - d) := by
  have hrot : dynamicRotate 0 s none x h (ix2 r k) = x (ix2 ⟨r.val - w, by omega⟩ k) :=
    dynamicRotate_apply 0 s x h (ix2 r k) (ix2 ⟨r.val - w, by omega⟩ k) (Fin.forall_fin_two.2 ⟨by
      show r.val - w = if _ then (r.val + n - s.toNat % n) % n else _
      rw [if_pos rfl, hs, Nat.mod_eq_of_lt hn, show r.val + n - w = r.val - w + n by omega, Nat.add_mod_right, Nat.mod_eq_of_lt (by omega)], by
      show k.val = if (1 : Fin 2) = 0 then _ else k.val
      rw [if_neg one_ne_zero]⟩)
  show x (ix2 r k) + dynamicRotate 0 s none x h (ix2 r k) = _
  rw [hrot, hx r (by omega), hx ⟨r.val - w, by omega⟩ (by show w ≤ r.val - w + 1; omega), two_mul, Finset.sum_range_add]
  simp only [Nat.sub_sub]

end Cert.PoolForm

end
-- ==== Proof.PoolFwd.Kernel.lean ====
/-
  The pooled rows the forward kernel makes of a tile and the rows kept from the tile before it.
-/
module

public import proofs.«01_k».proof.Proof.Gen.PoolFwdKernelIdeal.Value
public import proofs.«01_k».proof.Proof.PoolFwd.Windows
public import proofs.«01_k».proof.Proof.Common.Pieces
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.PoolFwdKernelIdeal.Closed

open Cert.PoolFwdKernelIdeal Cert.PoolFwdKernelIdeal.Gen Cert.PoolForm Cert.Sums Cert.Pieces

variable (m : (ℓ : Loc nD τ sig) → Buf (Elt Ideal) ℓ) (ρ : Dev nD → PrngReg)

/-- The arguments, read as arrays of extended reals: the projection, the mixing weights, the scale. -/
abbrev h (c : Dev nD) : S8192x7184.Idx → EReal := m ((c : Thread nD τ).loc main_arg0)
abbrev w (c : Dev nD) : S4x256x256.Idx → EReal := m ((c : Thread nD τ).loc main_arg1)
abbrev scale (c : Dev nD) : S1024.Idx → EReal := m ((c : Thread nD τ).loc main_arg2)

theorem V_eq (c : Dev nD) (b : Ref sig .tc) : V m c b = StableHlo.after hostOps0 (fun b => m (c, b)) (Proc.devRef .tc b) := by
  simp only [V, List.flatten_cons, List.flatten_nil, List.append_nil]

theorem V_w (c : Dev nD) : V m c main_v22 = w m c := by
  rw [V_eq]
  after_reads_simp
  rfl

theorem V_scale (c : Dev nD) (j : Fin 1024) : V m c main_v23 (ix2 0 j) = scale m c (ix1 j) := by
  rw [V_eq]
  after_reads_at

theorem V_cols (c : Dev nD) (r : Fin 8192) (j : Fin 2048) :
    V m c main_v21 (ix2 r ⟨j.val, by omega⟩) = h m c (ix2 r ⟨3088 + j.val, by omega⟩) := by
  rw [V_eq]
  simp only [StableHlo.readAfter, StableHlo.binary_result']
  refine (concatenate_first (n := 8192) (p := 7040) (q := 7680) _ _ _ r ⟨j.val, by omega⟩ (by have := j.isLt; simp only; omega)).trans ?_
  simp only [StableHlo.readUpto, StableHlo.nary_result']
  refine (concatenate_first (n := 8192) (p := 4096) (q := 7040) _ _ _ r ⟨j.val, by omega⟩ (by have := j.isLt; simp only; omega)).trans ?_
  erw [StableHlo.unary_result']
  after_reads_at

/-- The row a point's block row stands at. -/
def row (t : Fin cfg0.N) (a : Fin 1024) : Fin 8192 :=
  ⟨1024 * t.val + a.val, by have := lt_of_lt_of_eq t.isLt N_0; have := a.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem coord : ∀ t : Fin cfg0.N, (grid0.coords t 0).val = t.val := (by decide +kernel : ∀ t : Fin grid0.N, (grid0.coords t 0).val = t.val)

/-! What a point reads. -/

theorem read0 (c : Dev nD) (t : Fin cfg0.N) (a : Fin 1024) (j : Fin 2048) :
    X0_0 m c t (ix2 a j) = h m c (ix2 (row t a) ⟨3088 + j.val, by omega⟩) := by
  refine Eq.trans ?_ (V_cols m c (row t a) j)
  unfold X0_0 Pipeline.Window.fill
  rw [dif_pos (moved0_0 t _)]
  blk_ext [iblk, idx0 t, row]

theorem read1 (c : Dev nD) (t : Fin cfg0.N) (g : Fin 4) (k o : Fin 256) : iblk m c 1 t (ix3 g k o) = w m c (ix3 g k o) := by
  refine Eq.trans ?_ (congrFun (V_w m c) _)
  blk_ext [iblk, idx1 t]

theorem read2 (c : Dev nD) (t : Fin cfg0.N) (b : Fin 1024) : iblk m c 2 t (ix2 0 b) = scale m c (ix1 b) := by
  refine Eq.trans ?_ (V_scale m c b)
  blk_ext [iblk, idx2 t]

/-- The blocks a point reads, as arrays of extended reals. -/
abbrev inB (c : Dev nD) (t : Fin cfg0.N) : S1024x2048.Idx → EReal := X0_0 m c t
abbrev wB (c : Dev nD) (t : Fin cfg0.N) : S4x256x256.Idx → EReal := iblk m c 1 t
abbrev scB (c : Dev nD) (t : Fin cfg0.N) : S1x1024.Idx → EReal := iblk m c 2 t

/-- A column of group `g`: the group's first column plus the place in it. -/
theorem place (g : Fin 4) {j : Fin 1024} {k : Fin 256} (h : j.val = 256 * g.val + k.val) : j = col g k := Fin.ext h

theorem read_inp (c : Dev nD) (t : Fin cfg0.N) (a : Fin 1024) (g : Fin 4) (k : Fin 256) (j : Fin 2048) (hj : j.val = 256 * g.val + k.val) :
    inB m c t (ix2 a j) = inp (h m c) (row t a) (col g k) :=
  (read0 m c t a j).trans (congrArg (fun q => h m c (ix2 (row t a) q)) (Fin.ext (by show 3088 + j.val = 3088 + (256 * g.val + k.val); omega)))

theorem read_gate (c : Dev nD) (t : Fin cfg0.N) (a : Fin 1024) (g : Fin 4) (k : Fin 256) (j : Fin 2048) (hj : j.val = 1024 + 256 * g.val + k.val) :
    inB m c t (ix2 a j) = gate (h m c) (row t a) (col g k) :=
  (read0 m c t a j).trans (congrArg (fun q => h m c (ix2 (row t a) q)) (Fin.ext (by show 3088 + j.val = 4112 + (256 * g.val + k.val); omega)))

/-- The row's number, capped at the window, as the kernel counts it in 32-bit words. -/
theorem count_word (t : ℕ) (ht : t < 8) (r : Fin 1024) (g : Fin 4) (c : BitVec 32) (hc : c.toNat = width g) :
    FloatOps.sitofp (F := Ideal) .f32 (IntOp.minsi (IntOp.addi (IntOp.addi (Scalar.muli (BitVec.ofNat 32 t) 1024#32)
      (BitVec.ofNat 32 r.val)) 1#32) c) = count g (1024 * t + r.val) := by
  have hr := r.isLt
  refine count_apply _ _ _ _ ?_ hc (by omega) (by unfold width; fin_cases g <;> decide)
  show ((BitVec.ofNat 32 t * 1024#32 + BitVec.ofNat 32 r.val) + 1#32).toNat = _
  simp only [BitVec.toNat_add, BitVec.toNat_mul, BitVec.toNat_ofNat]
  omega

section
variable (x : Vec Ideal S1024x256 .f32) (y : Vec Ideal S16x256 .f32) (F : ℕ → EReal) (k : Fin 256)
  (hxy : (∀ a : Fin 16, y (ix2 a k) = F a.val) ∧ ∀ a : Fin 1024, x (ix2 a k) = F (a.val + 16)) (r : Fin 1024)

include hxy

/-- A tile below the rows kept from the tile before it. -/
theorem stacked (r : Fin 1040) (_ : 1 ≤ r.val + 1) :
    (concatenate S1040x256 0 [⟨S16x256, y⟩, ⟨S1024x256, shapeCast S1024x256 x shapeCasts_S1024x256_S1024x256⟩]
      concatenates_S16x256_S1024x256_S1040x256_d0 : S1040x256.Idx → EReal) (ix2 r k) = ∑ d ∈ Finset.range 1, F (r.val - d) := by
  rw [Finset.sum_range_one, Nat.sub_zero]
  by_cases h : r.val < 16
  · exact (concatenate_pair_apply_left 0 y _ _ (ix2 r k) rfl (ix2 ⟨r.val, h⟩ k) (Fin.forall_fin_two.2 ⟨rfl, rfl⟩)).trans (hxy.1 ⟨r.val, h⟩)
  · refine (concatenate_pair_apply_right 0 y (shapeCast S1024x256 x shapeCasts_S1024x256_S1024x256) _ (ix2 r k) rfl rfl (ix2 ⟨r.val - 16, by omega⟩ k)
      (Fin.forall_fin_two.2 ⟨fun h => absurd rfl h, fun _ => rfl⟩) (by show r.val - 16 + 16 = r.val; omega)).trans ?_
    refine Eq.trans (b := x (ix2 ⟨r.val - 16, by omega⟩ k)) (by pointwise) ((hxy.2 ⟨r.val - 16, by omega⟩).trans (congrArg F ?_))
    show r.val - 16 + 16 = r.val
    omega

omit hxy in
theorem slice_rows (x : S1040x256.Idx → EReal) (r : Fin 1024) (k : Fin 256) :
    extractStridedSlice S1024x256 ![16, 0] x slices_S1040x256_o16_0_S1024x256 (ix2 r k) = x (ix2 ⟨r.val + 16, by omega⟩ k) := by
  pointwise
  exact congrArg (fun n => x (ix2 n k)) (Fin.ext (Nat.add_comm _ _))

theorem doubled (r : Fin 1040) (hr : 2 ≤ r.val + 1) :
    addf (F := Ideal) (φ := .f32) (concatenate S1040x256 0 [⟨S16x256, y⟩, ⟨S1024x256, shapeCast S1024x256 x shapeCasts_S1024x256_S1024x256⟩]
        concatenates_S16x256_S1024x256_S1040x256_d0)
      (dynamicRotate 0 1#32 none (concatenate S1040x256 0 [⟨S16x256, y⟩, ⟨S1024x256, shapeCast S1024x256 x shapeCasts_S1024x256_S1024x256⟩]
        concatenates_S16x256_S1024x256_S1040x256_d0) rotates_S1040x256_d0) (ix2 r k) = ∑ d ∈ Finset.range 2, F (r.val - d) :=
  double_back (n := 1040) _ F k 1 1#32 rfl (by decide) (by decide) _ (stacked x y F k hxy) r hr

theorem run0 (i : grid0.Coords) : k0_pay3 i x y (ix2 r k)
    = Ideal.div (∑ d ∈ Finset.range (width 0), F (r.val + 16 - d))
        (FloatOps.sitofp (F := Ideal) .f32 (IntOp.minsi (IntOp.addi (IntOp.addi (Scalar.muli (BitVec.ofNat 32 (i 0).val) 1024#32) (BitVec.ofNat 32 r.val)) 1#32) 2#32)) - x (ix2 r k) :=
  congrArg₂ (· - ·) (congrArg₂ Ideal.div ((slice_rows _ r k).trans (doubled x y F k hxy ⟨r.val + 16, by omega⟩ (by show 2 ≤ r.val + 16 + 1; omega)))
    (congrArg (fun n => FloatOps.sitofp (F := Ideal) .f32 (IntOp.minsi (IntOp.addi (IntOp.addi (Scalar.muli (BitVec.ofNat 32 (i 0).val) 1024#32) (BitVec.ofNat 32 n)) 1#32) 2#32)) (by simp))) (by pointwise)

theorem run1 (b : BitVec 32) : k0_pay9 b x y (ix2 r k)
    = Ideal.div (∑ d ∈ Finset.range (width 1), F (r.val + 16 - d))
        (FloatOps.sitofp (F := Ideal) .f32 (IntOp.minsi (IntOp.addi (IntOp.addi (Scalar.muli b 1024#32) (BitVec.ofNat 32 r.val)) 1#32) 4#32)) - x (ix2 r k) :=
  congrArg₂ (· - ·) (congrArg₂ Ideal.div ((slice_rows _ r k).trans (double_back (n := 1040) _ F k 2 2#32 rfl (by decide) (by decide) _ (doubled x y F k hxy) ⟨r.val + 16, by omega⟩ (by show 4 ≤ r.val + 16 + 1; omega)))
    (congrArg (fun n => FloatOps.sitofp (F := Ideal) .f32 (IntOp.minsi (IntOp.addi (IntOp.addi (Scalar.muli b 1024#32) (BitVec.ofNat 32 n)) 1#32) 4#32)) (by simp))) (by pointwise)

theorem run2 (b : BitVec 32) : k0_pay14 b x y (ix2 r k)
    = Ideal.div (∑ d ∈ Finset.range (width 2), F (r.val + 16 - d))
        (FloatOps.sitofp (F := Ideal) .f32 (IntOp.minsi (IntOp.addi (IntOp.addi (Scalar.muli b 1024#32) (BitVec.ofNat 32 r.val)) 1#32) 8#32)) - x (ix2 r k) :=
  congrArg₂ (· - ·) (congrArg₂ Ideal.div ((slice_rows _ r k).trans (double_back (n := 1040) _ F k 4 4#32 rfl (by decide) (by decide) _ (double_back (n := 1040) _ F k 2 2#32 rfl (by decide) (by decide) _ (doubled x y F k hxy)) ⟨r.val + 16, by omega⟩ (by show 8 ≤ r.val + 16 + 1; omega)))
    (congrArg (fun n => FloatOps.sitofp (F := Ideal) .f32 (IntOp.minsi (IntOp.addi (IntOp.addi (Scalar.muli b 1024#32) (BitVec.ofNat 32 n)) 1#32) 8#32)) (by simp))) (by pointwise)

theorem run3 (b : BitVec 32) : k0_pay20 (k0_pay17 x) (k0_pay18 x y) (k0_pay19 b) (ix2 r k)
    = Ideal.div (∑ d ∈ Finset.range (width 3), F (r.val + 16 - d))
        (FloatOps.sitofp (F := Ideal) .f32 (IntOp.minsi (IntOp.addi (IntOp.addi (Scalar.muli b 1024#32) (BitVec.ofNat 32 r.val)) 1#32) 16#32)) - x (ix2 r k) :=
  congrArg₂ (· - ·) (congrArg₂ Ideal.div ((slice_rows _ r k).trans (double_back (n := 1040) _ F k 8 8#32 rfl (by decide) (by decide) _ (double_back (n := 1040) _ F k 4 4#32 rfl (by decide) (by decide) _ (double_back (n := 1040) _ F k 2 2#32 rfl (by decide) (by decide) _ (doubled x y F k hxy))) ⟨r.val + 16, by omega⟩ (by show 16 ≤ r.val + 16 + 1; omega)))
    (congrArg (fun n => FloatOps.sitofp (F := Ideal) .f32 (IntOp.minsi (IntOp.addi (IntOp.addi (Scalar.muli b 1024#32) (BitVec.ofNat 32 n)) 1#32) 16#32)) (by simp))) (by pointwise [k0_pay17])

end

end Cert.PoolFwdKernelIdeal.Closed

end
-- ==== Proof.PoolFwd.Tile.lean ====
/-
  What a point of the forward kernel leaves: its tile of pooled rows, its tile of the branch, the tile's last sixteen rows.
-/
module

public import proofs.«01_k».proof.Proof.PoolFwd.Kernel

@[expose] public section

set_option maxRecDepth 16384

noncomputable section

open Idealize.ShloMosaic Idealize.ShloMosaic.TcCoe Idealize.SL.Sem

namespace Cert.PoolFwdKernelIdeal.Closed

open Cert.PoolFwdKernelIdeal Cert.PoolFwdKernelIdeal.Gen Cert.PoolForm Cert.Sums Cert.Pieces Cert.Reals

variable (m : (ℓ : Loc nD τ sig) → Buf (Elt Ideal) ℓ) (ρ : Dev nD → PrngReg)

set_option maxHeartbeats 2000000 in
/-- The last rows of a tile, kept for the next. -/
theorem kept (c : Dev nD) (t : Fin cfg0.N) (i : Fin 16) (j : Fin 1024) :
    (outsAt0 m c t.val t.isLt).2.2 (ix2 i j) = inp (h m c) (row t ⟨1008 + i.val, by omega⟩) j := by
  by_cases h0 : t.val % 8 = 0
  on_goal 1 =>
    rw [outsAt0_A m c t h0]
  on_goal 2 =>
    rw [outsAt0_B m c t h0]
  all_goals
    frame_out
    pointwise [k0_pay1, k0_pay23]
    exact read0 m c t ⟨1008 + i.val, by omega⟩ ⟨j.val, by omega⟩

/-- The sixteen rows above a tile, kept from the tile before it. -/
theorem halo_next (c : Dev nD) (t : Fin cfg0.N) (h0 : ¬ t.val % 8 = 0) (g : Fin 4) (i : Fin 16) (k : Fin 256) (j : Fin 1024)
    (hj : j.val = 256 * g.val + k.val) :
    (outsAt0 m c (t.val - 1) (by omega)).2.2 (ix2 i j) = padded (h m c) g k (1024 * t.val + i.val) := by
  have ht : t.val < 8 := lt_of_lt_of_eq t.isLt N_0
  refine (kept m c ⟨t.val - 1, by omega⟩ i j).trans ?_
  rw [place g hj]
  refine (padded_row g k _ _ ?_).symm
  show 1024 * t.val + i.val = 1024 * (t.val - 1) + (1008 + i.val) + 16
  omega

theorem halo_first (c : Dev nD) (t : Fin cfg0.N) (h0 : t.val % 8 = 0) (g : Fin 4) (i : Fin 16) (k : Fin 256) :
    padded (h m c) g k (1024 * t.val + i.val) = 0 := by
  have ht : t.val < 8 := lt_of_lt_of_eq t.isLt N_0
  exact padded_below g k _ (by omega)

theorem pooled_piece (c : Dev nD) (hH : ∀ i, IsReal (h m c i)) (t : Fin cfg0.N) (g : Fin 4) (a : Fin 1024) (k : Fin 256) (cw : BitVec 32) (hc : cw.toNat = width g)
    (u : EReal) (hu : u = inp (h m c) (row t a) (col g k)) :
    Ideal.div (∑ d ∈ Finset.range (width g), padded (h m c) g k (1024 * t.val + (a.val + 16 - d)))
        (FloatOps.sitofp (F := Ideal) .f32 (IntOp.minsi (IntOp.addi (IntOp.addi (Scalar.muli (BitVec.ofNat 32 (grid0.coords t 0).val) 1024#32)
          (BitVec.ofNat 32 a.val)) 1#32) cw)) - u = pooled (h m c) (row t a) g k := by
  rw [pooled_window hH, coord t, count_word t.val (lt_of_lt_of_eq t.isLt N_0) a g cw hc, hu]
  refine congrArg (fun s => Ideal.div s _ - _) (Finset.sum_congr rfl fun d hd => congrArg (padded (h m c) g k) ?_)
  have hd' : d < 16 := lt_of_lt_of_le (Finset.mem_range.mp hd) (by unfold width; fin_cases g <;> decide)
  show 1024 * t.val + (a.val + 16 - d) = 1024 * t.val + a.val + 16 - d
  omega

theorem below (c : Dev nD) (t : Fin cfg0.N) (g : Fin 4) (b : Fin 1024) (k : Fin 256) {u : EReal} (hu : u = inp (h m c) (row t b) (col g k)) :
    u = padded (h m c) g k (1024 * t.val + (b.val + 16)) :=
  hu.trans (padded_row g k (row t b) _ (by show 1024 * t.val + (b.val + 16) = 1024 * t.val + b.val + 16; omega)).symm

section
variable (c : Dev nD) (hH : ∀ i, IsReal (h m c i)) (t : Fin cfg0.N) (x : Vec Ideal S1024x256 .f32) (y : Vec Ideal S16x256 .f32)

include hH in
theorem cell0 (hx : ∀ b k, x (ix2 b k) = inp (h m c) (row t b) (col 0 k)) (hy : ∀ i : Fin 16, ∀ k, y (ix2 i k) = padded (h m c) 0 k (1024 * t.val + i.val))
    (a : Fin 1024) (k : Fin 256) : k0_pay3 (grid0.coords t) x y (ix2 a k) = pooled (h m c) (row t a) 0 k :=
  (run0 x y (fun n => padded (h m c) 0 k (1024 * t.val + n)) k ⟨fun i => hy i k, fun b => below m c t 0 b k (hx b k)⟩ a (grid0.coords t)).trans
    (pooled_piece m c hH t 0 a k 2#32 rfl _ (hx a k))

include hH in
theorem cell1 (hx : ∀ b k, x (ix2 b k) = inp (h m c) (row t b) (col 1 k)) (hy : ∀ i : Fin 16, ∀ k, y (ix2 i k) = padded (h m c) 1 k (1024 * t.val + i.val))
    (a : Fin 1024) (k : Fin 256) : k0_pay9 (BitVec.ofNat 32 (grid0.coords t 0).val) x y (ix2 a k) = pooled (h m c) (row t a) 1 k :=
  (run1 x y (fun n => padded (h m c) 1 k (1024 * t.val + n)) k ⟨fun i => hy i k, fun b => below m c t 1 b k (hx b k)⟩ a (BitVec.ofNat 32 (grid0.coords t 0).val)).trans
    (pooled_piece m c hH t 1 a k 4#32 rfl _ (hx a k))

include hH in
theorem cell2 (hx : ∀ b k, x (ix2 b k) = inp (h m c) (row t b) (col 2 k)) (hy : ∀ i : Fin 16, ∀ k, y (ix2 i k) = padded (h m c) 2 k (1024 * t.val + i.val))
    (a : Fin 1024) (k : Fin 256) : k0_pay14 (BitVec.ofNat 32 (grid0.coords t 0).val) x y (ix2 a k) = pooled (h m c) (row t a) 2 k :=
  (run2 x y (fun n => padded (h m c) 2 k (1024 * t.val + n)) k ⟨fun i => hy i k, fun b => below m c t 2 b k (hx b k)⟩ a (BitVec.ofNat 32 (grid0.coords t 0).val)).trans
    (pooled_piece m c hH t 2 a k 8#32 rfl _ (hx a k))

include hH in
theorem cell3 (hx : ∀ b k, x (ix2 b k) = inp (h m c) (row t b) (col 3 k)) (hy : ∀ i : Fin 16, ∀ k, y (ix2 i k) = padded (h m c) 3 k (1024 * t.val + i.val))
    (a : Fin 1024) (k : Fin 256) : k0_pay20 (k0_pay17 x) (k0_pay18 x y) (k0_pay19 (BitVec.ofNat 32 (grid0.coords t 0).val)) (ix2 a k) = pooled (h m c) (row t a) 3 k :=
  (run3 x y (fun n => padded (h m c) 3 k (1024 * t.val + n)) k ⟨fun i => hy i k, fun b => below m c t 3 b k (hx b k)⟩ a (BitVec.ofNat 32 (grid0.coords t 0).val)).trans
    (pooled_piece m c hH t 3 a k 16#32 rfl _ (hx a k))

end

theorem pay_branch0 (c : Dev nD) (t : Fin cfg0.N) (x : Vec Ideal S1024x256 .f32) (y : Vec Ideal S16x256 .f32)
    (hp : ∀ a k, k0_pay3 (grid0.coords t) x y (ix2 a k) = pooled (h m c) (row t a) 0 k) (a : Fin 1024) (o : Fin 256)
    (wb : Vec Ideal S1x256x256 .bf16) (sc : Vec Ideal S1x256 .f32) (gb : Vec Ideal S1024x256 .f32)
    (hw : ∀ k, wb (ix3 0 k o) = w m c (ix3 0 k o)) (hs : sc (ix2 0 o) = scale m c (ix1 (col 0 o)))
    (hg : gb (ix2 a o) = gate (h m c) (row t a) (col 0 o)) :
    k0_pay8 (k0_pay5 gb) (k0_pay6 (grid0.coords t) x y wb sc) (k0_pay7 gb) (ix2 a o) = branch (h m c) (w m c) (scale m c) (row t a) 0 o := by
  pointwise [k0_pay6, k0_pay8, k0_pay5, k0_pay7]
  simp only [hp, hw, hs, hg, sigmoid_eq]
  rfl

theorem pay_branch1 (c : Dev nD) (t : Fin cfg0.N) (x : Vec Ideal S1024x256 .f32) (y : Vec Ideal S16x256 .f32)
    (hp : ∀ a k, k0_pay9 (BitVec.ofNat 32 (grid0.coords t 0).val) x y (ix2 a k) = pooled (h m c) (row t a) 1 k) (a : Fin 1024) (o : Fin 256)
    (wb : Vec Ideal S1x256x256 .bf16) (sc : Vec Ideal S1x256 .f32) (gb : Vec Ideal S1024x256 .f32)
    (hw : ∀ k, wb (ix3 0 k o) = w m c (ix3 1 k o)) (hs : sc (ix2 0 o) = scale m c (ix1 (col 1 o)))
    (hg : gb (ix2 a o) = gate (h m c) (row t a) (col 1 o)) :
    k0_pay13 (k0_pay11 (BitVec.ofNat 32 (grid0.coords t 0).val) x y wb) (k0_pay12 gb) sc (ix2 a o) = branch (h m c) (w m c) (scale m c) (row t a) 1 o := by
  pointwise [k0_pay11, k0_pay12, k0_pay13]
  simp only [hp, hw, hs, hg, sigmoid_eq]
  rfl

theorem pay_branch2 (c : Dev nD) (t : Fin cfg0.N) (x : Vec Ideal S1024x256 .f32) (y : Vec Ideal S16x256 .f32)
    (hp : ∀ a k, k0_pay14 (BitVec.ofNat 32 (grid0.coords t 0).val) x y (ix2 a k) = pooled (h m c) (row t a) 2 k) (a : Fin 1024) (o : Fin 256)
    (wb : Vec Ideal S1x256x256 .bf16) (sc : Vec Ideal S1x256 .f32) (gb : Vec Ideal S1024x256 .f32)
    (hw : ∀ k, wb (ix3 0 k o) = w m c (ix3 2 k o)) (hs : sc (ix2 0 o) = scale m c (ix1 (col 2 o)))
    (hg : gb (ix2 a o) = gate (h m c) (row t a) (col 2 o)) :
    k0_pay16 (k0_pay14 (BitVec.ofNat 32 (grid0.coords t 0).val) x y) wb gb sc (ix2 a o) = branch (h m c) (w m c) (scale m c) (row t a) 2 o := by
  pointwise [k0_pay16]
  simp only [hp, hw, hs, hg, sigmoid_eq]
  rfl

theorem pay_branch3 (c : Dev nD) (t : Fin cfg0.N) (x : Vec Ideal S1024x256 .f32) (y : Vec Ideal S16x256 .f32)
    (hp : ∀ a k, k0_pay20 (k0_pay17 x) (k0_pay18 x y) (k0_pay19 (BitVec.ofNat 32 (grid0.coords t 0).val)) (ix2 a k) = pooled (h m c) (row t a) 3 k) (a : Fin 1024) (o : Fin 256)
    (wb : Vec Ideal S1x256x256 .bf16) (sc : Vec Ideal S1x256 .f32) (gb : Vec Ideal S1024x256 .f32)
    (hw : ∀ k, wb (ix3 0 k o) = w m c (ix3 3 k o)) (hs : sc (ix2 0 o) = scale m c (ix1 (col 3 o)))
    (hg : gb (ix2 a o) = gate (h m c) (row t a) (col 3 o)) :
    k0_pay22 (k0_pay17 x) (k0_pay18 x y) (k0_pay19 (BitVec.ofNat 32 (grid0.coords t 0).val)) wb gb sc (ix2 a o) = branch (h m c) (w m c) (scale m c) (row t a) 3 o := by
  pointwise [k0_pay22]
  simp only [hp, hw, hs, hg, sigmoid_eq]
  rfl

set_option maxHeartbeats 4000000 in
theorem tile (c : Dev nD) (hH : ∀ i, IsReal (h m c i)) (t : Fin cfg0.N) (a j : Fin 1024) :
    (outsAt0 m c t.val t.isLt).1 (ix2 a j) = pooled (h m c) (row t a) (grp j) (lane j) := by
  by_cases h0 : t.val % 8 = 0
  on_goal 1 =>
    rw [outsAt0_A m c t h0]
    frame_open
    simp (disch := decide) only [↓ View.readCov_skip, ↓ View.readCov_cons_toLoadRect, ↓ View.readCov_fill]
    frame_out
  on_goal 2 =>
    rw [outsAt0_B m c t h0]
    frame_out
  all_goals
    canon_tiles x hx
    all_goals
      idx_vars x
      obtain rfl : a = x0 := Fin.ext hx0
    case piece0 =>
      rw [at_col (fun g k => pooled (h m c) (row t a) g k) 3 x1 j (by simpa using hx1)]
      refine cell3 m c hH t _ _ ?_ ?_ a x1
      · intro b k
        pointwise
        exact read_inp m c t b 3 k _ (by simp)
      · intro i k
        try simp only [read_unread_whole]
        pointwise [k0_pay2]
        first
          | exact halo_next m c t h0 3 i k ⟨768 + k.val, by omega⟩ (by simp)
          | exact (Ideal.ofBits_zero_f32).trans (halo_first m c t h0 3 i k).symm
          | exact (halo_first m c t h0 3 i k).symm
          | (refine Eq.trans ?_ (halo_next m c t h0 3 i k ⟨768 + k.val, by omega⟩ (by simp)); exact congrArg _ (congrArg (ix2 i) (Fin.ext (by simp))))
    case piece1 =>
      rw [at_col (fun g k => pooled (h m c) (row t a) g k) 2 x1 j (by simpa using hx1)]
      refine cell2 m c hH t _ _ ?_ ?_ a x1
      · intro b k
        pointwise
        exact read_inp m c t b 2 k _ (by simp)
      · intro i k
        try simp only [read_unread_whole]
        pointwise [k0_pay2]
        first
          | exact halo_next m c t h0 2 i k ⟨512 + k.val, by omega⟩ (by simp)
          | exact (Ideal.ofBits_zero_f32).trans (halo_first m c t h0 2 i k).symm
          | exact (halo_first m c t h0 2 i k).symm
          | (refine Eq.trans ?_ (halo_next m c t h0 2 i k ⟨512 + k.val, by omega⟩ (by simp)); exact congrArg _ (congrArg (ix2 i) (Fin.ext (by simp))))
    case piece2 =>
      rw [at_col (fun g k => pooled (h m c) (row t a) g k) 1 x1 j (by simpa using hx1)]
      refine cell1 m c hH t _ _ ?_ ?_ a x1
      · intro b k
        pointwise
        exact read_inp m c t b 1 k _ (by simp)
      · intro i k
        try simp only [read_unread_whole]
        pointwise [k0_pay2]
        first
          | exact halo_next m c t h0 1 i k ⟨256 + k.val, by omega⟩ (by simp)
          | exact (Ideal.ofBits_zero_f32).trans (halo_first m c t h0 1 i k).symm
          | exact (halo_first m c t h0 1 i k).symm
          | (refine Eq.trans ?_ (halo_next m c t h0 1 i k ⟨256 + k.val, by omega⟩ (by simp)); exact congrArg _ (congrArg (ix2 i) (Fin.ext (by simp))))
    case piece3 =>
      rw [at_col (fun g k => pooled (h m c) (row t a) g k) 0 x1 j (by simpa using hx1)]
      refine cell0 m c hH t _ _ ?_ ?_ a x1
      · intro b k
        pointwise
        exact read_inp m c t b 0 k _ (by simp)
      · intro i k
        try simp only [read_unread_whole]
        pointwise [k0_pay2]
        first
          | exact halo_next m c t h0 0 i k ⟨0 + k.val, by omega⟩ (by simp)
          | exact (Ideal.ofBits_zero_f32).trans (halo_first m c t h0 0 i k).symm
          | exact (halo_first m c t h0 0 i k).symm
          | (refine Eq.trans ?_ (halo_next m c t h0 0 i k ⟨0 + k.val, by omega⟩ (by simp)); exact congrArg _ (congrArg (ix2 i) (Fin.ext (by simp))))

set_option maxHeartbeats 4000000 in
theorem branch_tile (c : Dev nD) (hH : ∀ i, IsReal (h m c i)) (t : Fin cfg0.N) (a j : Fin 1024) :
    (outsAt0 m c t.val t.isLt).2.1 (ix2 a j) = branch (h m c) (w m c) (scale m c) (row t a) (grp j) (lane j) := by
  by_cases h0 : t.val % 8 = 0
  on_goal 1 =>
    rw [outsAt0_A m c t h0]
    frame_open
    simp (disch := decide) only [↓ View.readCov_skip, ↓ View.readCov_cons_toLoadRect, ↓ View.readCov_fill]
    frame_out
  on_goal 2 =>
    rw [outsAt0_B m c t h0]
    frame_out
  all_goals
    canon_tiles x hx
    all_goals
      idx_vars x
      obtain rfl : a = x0 := Fin.ext hx0
    case piece0 =>
      rw [at_col (fun g k => branch (h m c) (w m c) (scale m c) (row t a) g k) 3 x1 j (by simpa using hx1)]
      refine (pay_branch3 m c t _ _ (cell3 m c hH t _ _ ?_ ?_) a x1 _ _ _ ?_ ?_ ?_)
      · intro b k
        pointwise
        exact read_inp m c t b 3 k _ (by simp)
      · intro i k
        try simp only [read_unread_whole]
        pointwise [k0_pay2]
        first
          | exact halo_next m c t h0 3 i k ⟨768 + k.val, by omega⟩ (by simp)
          | exact (Ideal.ofBits_zero_f32).trans (halo_first m c t h0 3 i k).symm
          | exact (halo_first m c t h0 3 i k).symm
          | (refine Eq.trans ?_ (halo_next m c t h0 3 i k ⟨768 + k.val, by omega⟩ (by simp)); exact congrArg _ (congrArg (ix2 i) (Fin.ext (by simp))))
      · intro k
        pointwise
        exact read1 m c t 3 k x1
      · pointwise
        exact (read2 m c t _).trans (congrArg (fun q => scale m c (ix1 q)) (Fin.ext (by simp [col])))
      · pointwise
        exact read_gate m c t a 3 x1 _ (by simp)
    case piece1 =>
      rw [at_col (fun g k => branch (h m c) (w m c) (scale m c) (row t a) g k) 2 x1 j (by simpa using hx1)]
      refine (pay_branch2 m c t _ _ (cell2 m c hH t _ _ ?_ ?_) a x1 _ _ _ ?_ ?_ ?_)
      · intro b k
        pointwise
        exact read_inp m c t b 2 k _ (by simp)
      · intro i k
        try simp only [read_unread_whole]
        pointwise [k0_pay2]
        first
          | exact halo_next m c t h0 2 i k ⟨512 + k.val, by omega⟩ (by simp)
          | exact (Ideal.ofBits_zero_f32).trans (halo_first m c t h0 2 i k).symm
          | exact (halo_first m c t h0 2 i k).symm
          | (refine Eq.trans ?_ (halo_next m c t h0 2 i k ⟨512 + k.val, by omega⟩ (by simp)); exact congrArg _ (congrArg (ix2 i) (Fin.ext (by simp))))
      · intro k
        pointwise
        exact read1 m c t 2 k x1
      · pointwise
        exact (read2 m c t _).trans (congrArg (fun q => scale m c (ix1 q)) (Fin.ext (by simp [col])))
      · pointwise
        exact read_gate m c t a 2 x1 _ (by simp)
    case piece2 =>
      rw [at_col (fun g k => branch (h m c) (w m c) (scale m c) (row t a) g k) 1 x1 j (by simpa using hx1)]
      refine (pay_branch1 m c t _ _ (cell1 m c hH t _ _ ?_ ?_) a x1 _ _ _ ?_ ?_ ?_)
      · intro b k
        pointwise
        exact read_inp m c t b 1 k _ (by simp)
      · intro i k
        try simp only [read_unread_whole]
        pointwise [k0_pay2]
        first
          | exact halo_next m c t h0 1 i k ⟨256 + k.val, by omega⟩ (by simp)
          | exact (Ideal.ofBits_zero_f32).trans (halo_first m c t h0 1 i k).symm
          | exact (halo_first m c t h0 1 i k).symm
          | (refine Eq.trans ?_ (halo_next m c t h0 1 i k ⟨256 + k.val, by omega⟩ (by simp)); exact congrArg _ (congrArg (ix2 i) (Fin.ext (by simp))))
      · intro k
        pointwise
        exact read1 m c t 1 k x1
      · pointwise
        exact (read2 m c t _).trans (congrArg (fun q => scale m c (ix1 q)) (Fin.ext (by simp [col])))
      · pointwise
        exact read_gate m c t a 1 x1 _ (by simp)
    case piece3 =>
      rw [at_col (fun g k => branch (h m c) (w m c) (scale m c) (row t a) g k) 0 x1 j (by simpa using hx1)]
      refine (pay_branch0 m c t _ _ (cell0 m c hH t _ _ ?_ ?_) a x1 _ _ _ ?_ ?_ ?_)
      · intro b k
        pointwise
        exact read_inp m c t b 0 k _ (by simp)
      · intro i k
        try simp only [read_unread_whole]
        pointwise [k0_pay2]
        first
          | exact halo_next m c t h0 0 i k ⟨0 + k.val, by omega⟩ (by simp)
          | exact (Ideal.ofBits_zero_f32).trans (halo_first m c t h0 0 i k).symm
          | exact (halo_first m c t h0 0 i k).symm
          | (refine Eq.trans ?_ (halo_next m c t h0 0 i k ⟨0 + k.val, by omega⟩ (by simp)); exact congrArg _ (congrArg (ix2 i) (Fin.ext (by simp))))
      · intro k
        pointwise
        exact read1 m c t 0 k x1
      · pointwise
        exact (read2 m c t _).trans (congrArg (fun q => scale m c (ix1 q)) (Fin.ext (by simp [col])))
      · pointwise
        exact read_gate m c t a 0 x1 _ (by simp)

theorem pooled_total (c : Dev nD) (hH : ∀ i, IsReal (h m c i)) : (dats m 0 c).arrAt 3 cfg0.N = fun i => pooled (h m c) (i 0) (grp (i 1)) (lane (i 1)) := by
  refine (dats m 0 c).arrAt_eq_of_covers 3 _ (by decide +kernel) fun t hf y => ?_
  blk_simp
  rw [after0_3]
  idx_vars y
  refine (tile m c hH t _ _).trans ?_
  refine congrArg₂ (fun (r : Fin 8192) (q : Fin 1024) => pooled (h m c) r (grp q) (lane q)) (Fin.ext ?_) (Fin.ext ?_)
  · refine Eq.trans ?_ ((cfg0.win 3).rect_emb_val t (ix2 _ _) 0).symm
    rw [show (cfg0.win 3).index t 0 = t.val from congrFun (idx3 t) 0]
    show 1024 * t.val + _ = t.val * 1024 + _
    rw [Nat.mul_comm]
    rfl
  · refine Eq.trans ?_ ((cfg0.win 3).rect_emb_val t (ix2 _ _) 1).symm
    rw [show (cfg0.win 3).index t 1 = 0 from congrFun (idx3 t) 1]
    show _ = 0 * 1024 + _
    rw [Nat.zero_mul, Nat.zero_add]
    rfl

theorem branch_total (c : Dev nD) (hH : ∀ i, IsReal (h m c i)) : (dats m 0 c).arrAt 4 cfg0.N = fun i => branch (h m c) (w m c) (scale m c) (i 0) (grp (i 1)) (lane (i 1)) := by
  refine (dats m 0 c).arrAt_eq_of_covers 4 _ (by decide +kernel) fun t hf y => ?_
  blk_simp
  rw [after0_4]
  idx_vars y
  refine (branch_tile m c hH t _ _).trans ?_
  refine congrArg₂ (fun (r : Fin 8192) (q : Fin 1024) => branch (h m c) (w m c) (scale m c) r (grp q) (lane q)) (Fin.ext ?_) (Fin.ext ?_)
  · refine Eq.trans ?_ ((cfg0.win 4).rect_emb_val t (ix2 _ _) 0).symm
    rw [show (cfg0.win 4).index t 0 = t.val from congrFun (idx4 t) 0]
    show 1024 * t.val + _ = t.val * 1024 + _
    rw [Nat.mul_comm]
    rfl
  · refine Eq.trans ?_ ((cfg0.win 4).rect_emb_val t (ix2 _ _) 1).symm
    rw [show (cfg0.win 4).index t 1 = 0 from congrFun (idx4 t) 1]
    show _ = 0 * 1024 + _
    rw [Nat.zero_mul, Nat.zero_add]
    rfl

end Cert.PoolFwdKernelIdeal.Closed

end
-- ==== Proof.PoolFwd.Reference.lean ====
/-
  The pooling branch's forward reference, read cell by cell.
-/
module

public import proofs.«01_k».proof.Proof.Gen.PoolFwdReferenceIdeal.Run
public import proofs.«01_k».proof.Proof.PoolFwd.Windows
public import proofs.«01_k».proof.Proof.Common.Pieces
public import Idealize.ShloMosaic.Lib.Pipeline.ValueKit

@[expose] public section

set_option maxRecDepth 16384

noncomputable section

open Idealize.ShloMosaic Idealize.ShloMosaic.TcCoe Idealize.SL.Sem

namespace Cert.PoolFwdReferenceIdeal.Closed

open Cert.PoolFwdReferenceIdeal Cert.PoolFwdReferenceIdeal.Gen Cert.PoolFwdReferenceIdeal.Value Cert.PoolForm Cert.Sums Cert.Pieces

variable (m : (ℓ : Loc nD τ sig) → Buf (Elt Ideal) ℓ)

/-- The arguments, read as arrays of extended reals. -/
abbrev h (c : Dev nD) : S8192x7184.Idx → EReal := m ((c.tc : Thread nD τ).loc main_arg0)
abbrev w (c : Dev nD) : S4x256x256.Idx → EReal := m ((c.tc : Thread nD τ).loc main_arg1)
abbrev scale (c : Dev nD) : S1024.Idx → EReal := m ((c.tc : Thread nD τ).loc main_arg2)

/-- The cumulative sums as the reference computes them. -/
abbrev sums (c : Dev nD) : S8192x4x256.Idx → EReal :=
  Host.reduceWindowAdd (F := Ideal) (φ := .f32) ![8192, 1, 1] ![1, 1, 1] ![8191, 0, 0] ![0, 0, 0]
    (shapeCast _ (extractStridedSlice S8192x1024 ![0, 3088] (m ((c.tc : Thread nD τ).loc main_arg0)) slices_S8192x7184_S8192x1024_0_3088) shapeCasts_S8192x1024_S8192x4x256)
    (broadcastInDim S_ ![] bcast_S_S_ (constant S_ .f32 0x00000000#32)) reduceWindows_S8192x4x256_S8192x4x256_w8192s1p8191_0_w1s1p0_0_w1s1p0_0 h_S_

theorem cum_at (c : Dev nD) (r : Fin 8192) (g : Fin 4) (k : Fin 256) : sums m c (ix3 r g k)
      = cum (h m c) r (col g k) := by
  refine cum_of (h m c) _ _ (fun n g k => ?_) (fun i => Ideal.ofBits_zero_f32) _ _ r g k
  pointwise
  exact congrArg (fun q => h m c (ix2 n q)) (Fin.ext (by show 3088 + (g.val * 256 + k.val) = 3088 + (256 * g.val + k.val); omega))

theorem piece_at (c : Dev nD) (r : Fin 8192) (g : Fin 4) (k : Fin 256) (n : ℕ) (cw : BitVec 32) (hn : n = width g) (hc : cw.toNat = width g)
    (u : EReal) (hu : u = inp (h m c) r (col g k)) :
    Ideal.div (sums m c (ix3 r g k) - if hr : r.val < n then 0 else sums m c (ix3 ⟨r.val - n, by omega⟩ g k))
        (FloatOps.sitofp (F := Ideal) .f32 (IntOp.minsi (IntOp.addi 1#32 (BitVec.ofNat 32 r.val)) cw)) - u = pooled (h m c) r g k := by
  rw [count_of r g cw hc]
  simp only [cum_at]
  exact pooled_if (h m c) r g k n u hn hu

variable (X : FVec Ideal S8192x4x256 .f32) (P : Fin 8192 → Fin 4 → Fin 256 → EReal) (hX : ∀ r g k, X (ix3 r g k) = P r g k)

include hX

theorem flat_at (r : Fin 8192) (j : Fin 1024) :
    truncf .bf16 (shapeCast S8192x1024 X shapeCasts_S8192x4x256_S8192x1024) bitsLt_bf16_f32 (ix2 r j) = P r (grp j) (lane j) := by
  pointwise
  exact hX _ _ _

theorem branch_at (c : Dev nD) (r : Fin 8192) (j : Fin 1024) :
    truncf .bf16 (mulf (mulf (shapeCast _ (transpose S8192x4x256 [2, 0, 1] (Host.dotGeneral (φ₁ := .f32) dot_S4x256x256_S8192x4x256_S4x256x8192_1_2_2_0_0_1 none
      (m ((c.tc : Thread nD τ).loc main_arg1)) X) transposes_S4x256x8192_S8192x4x256_2_0_1) shapeCasts_S8192x4x256_S8192x1024)
      (broadcastInDim S8192x1024 ![0, 1] bcast_S1x1024_S8192x1024_0_1 (broadcastInDim S1x1024 ![1] bcast_S1024_S1x1024_1 (m ((c.tc : Thread nD τ).loc main_arg2)))))
      (mulf (extractStridedSlice S8192x1024 ![0, 4112] (m ((c.tc : Thread nD τ).loc main_arg0)) slices_S8192x7184_S8192x1024_0_4112)
        (Host.divf (broadcastInDim S8192x1024 ![] bcast_S_S8192x1024 (constant S_ .f32 0x3F800000#32))
          (addf (broadcastInDim S8192x1024 ![] bcast_S_S8192x1024 (constant S_ .f32 0x3F800000#32))
            (Host.exp (Host.negf (extractStridedSlice S8192x1024 ![0, 4112] (m ((c.tc : Thread nD τ).loc main_arg0)) slices_S8192x7184_S8192x1024_0_4112)))))))
      bitsLt_bf16_f32 (ix2 r j)
      = mixed (w m c) P r (grp j) (lane j) * scale m c (ix1 j) * (gate (h m c) r j * Ideal.logistic (gate (h m c) r j)) := by
  pointwise
  simp only [hX]
  refine congrArg (fun z : EReal => z * _ * _) ?_
  exact Finset.sum_congr (M := EReal) rfl fun _ _ => mul_comm (G := EReal) _ _

omit hX

set_option maxHeartbeats 4000000 in
theorem pooled_at (c : Dev nD) (r : Fin 8192) (j : Fin 1024) : res_main_v61 m c (ix2 r j) = pooled (h m c) r (grp j) (lane j) := by
  unfold res_main_v61
  refine flat_at _ _ (fun r g k => ?_) r j
  pointwise
  fin_cases g
  · exact (congrArg (fun z : EReal => z - _) (dif_pos (by decide))).trans (piece_at m c r 0 k 2 2#32 rfl rfl _
      (congrArg (fun q => h m c (ix2 r q)) (Fin.ext (by show 3088 + (0 * 256 + k.val) = 3088 + (256 * 0 + k.val); omega))))
  · exact (congrArg (fun z : EReal => z - _) (dif_neg (by decide))).trans ((congrArg (fun z : EReal => z - _) (dif_pos (by decide))).trans (piece_at m c r 1 k 4 4#32 rfl rfl _
      (congrArg (fun q => h m c (ix2 r q)) (Fin.ext (by show 3088 + (1 * 256 + k.val) = 3088 + (256 * 1 + k.val); omega)))))
  · exact (congrArg (fun z : EReal => z - _) (dif_neg (by decide))).trans ((congrArg (fun z : EReal => z - _) (dif_neg (by decide))).trans ((congrArg (fun z : EReal => z - _) (dif_pos (by decide))).trans (piece_at m c r 2 k 8 8#32 rfl rfl _
      (congrArg (fun q => h m c (ix2 r q)) (Fin.ext (by show 3088 + (2 * 256 + k.val) = 3088 + (256 * 2 + k.val); omega))))))
  · exact (congrArg (fun z : EReal => z - _) (dif_neg (by decide))).trans ((congrArg (fun z : EReal => z - _) (dif_neg (by decide))).trans ((congrArg (fun z : EReal => z - _) (dif_neg (by decide))).trans (piece_at m c r 3 k 16 16#32 rfl rfl _
      (congrArg (fun q => h m c (ix2 r q)) (Fin.ext (by show 3088 + (3 * 256 + k.val) = 3088 + (256 * 3 + k.val); omega))))))

set_option maxHeartbeats 4000000 in
theorem branch_eq (c : Dev nD) (r : Fin 8192) (j : Fin 1024) :
    res_main_v130 m c (ix2 r j) = branch (h m c) (w m c) (scale m c) r (grp j) (lane j) := by
  unfold res_main_v130
  refine (branch_at m _ (pooled (h m c)) (fun r g k => ?_) c r j).trans ?_
  · pointwise
    fin_cases g
    · exact (congrArg (fun z : EReal => z - _) (dif_pos (by decide))).trans (piece_at m c r 0 k 2 2#32 rfl rfl _
      (congrArg (fun q => h m c (ix2 r q)) (Fin.ext (by show 3088 + (0 * 256 + k.val) = 3088 + (256 * 0 + k.val); omega))))
    · exact (congrArg (fun z : EReal => z - _) (dif_neg (by decide))).trans ((congrArg (fun z : EReal => z - _) (dif_pos (by decide))).trans (piece_at m c r 1 k 4 4#32 rfl rfl _
      (congrArg (fun q => h m c (ix2 r q)) (Fin.ext (by show 3088 + (1 * 256 + k.val) = 3088 + (256 * 1 + k.val); omega)))))
    · exact (congrArg (fun z : EReal => z - _) (dif_neg (by decide))).trans ((congrArg (fun z : EReal => z - _) (dif_neg (by decide))).trans ((congrArg (fun z : EReal => z - _) (dif_pos (by decide))).trans (piece_at m c r 2 k 8 8#32 rfl rfl _
      (congrArg (fun q => h m c (ix2 r q)) (Fin.ext (by show 3088 + (2 * 256 + k.val) = 3088 + (256 * 2 + k.val); omega))))))
    · exact (congrArg (fun z : EReal => z - _) (dif_neg (by decide))).trans ((congrArg (fun z : EReal => z - _) (dif_neg (by decide))).trans ((congrArg (fun z : EReal => z - _) (dif_neg (by decide))).trans (piece_at m c r 3 k 16 16#32 rfl rfl _
      (congrArg (fun q => h m c (ix2 r q)) (Fin.ext (by show 3088 + (3 * 256 + k.val) = 3088 + (256 * 3 + k.val); omega))))))
  · unfold branch
    rw [col_grp]

end Cert.PoolFwdReferenceIdeal.Closed

end
-- ==== Proof.PoolFwd.Finite.lean ====
/-
  Where the projection is of finite magnitude its entries are real numbers.
-/
module

public import proofs.«01_k».proof.Defs
public import proofs.«01_k».proof.Proof.Common.Finite

@[expose] public section

set_option maxRecDepth 16384

noncomputable section

open Idealize.ShloMosaic Idealize.ShloMosaic.TcCoe Idealize.SL.Sem

namespace Cert.Proof.PoolFwd

open Cert.Reals

instance : Subsingleton Cert.Pre_projection_finite.S_.Idx := ⟨fun a b => funext fun d => d.elim0⟩

variable [Cert.Pre_projection_finite.Facts]

theorem finite {x0 x1 x2} (e : Cert.Pre_projection_finite.fn (F := Ideal) x0 x1 x2 = fun _ => 1#1) :
    ∀ i, IsReal (x0 i) := by
  have e := congrFun e (fun d => d.elim0)
  unfold Cert.Pre_projection_finite.fn at e
  exact IsReal.of_all _ _ _ _ _ _ (fun _ => inf_word) e

end Cert.Proof.PoolFwd

end
-- ==== Proof.PoolFwd.Algebra.lean ====
/-
  The pooling branch's forward results against the reference's.
-/
module

public import proofs.«01_k».proof.Defs
public import proofs.«01_k».proof.Proof.PoolFwd.Tile
public import proofs.«01_k».proof.Proof.PoolFwd.Reference
public import proofs.«01_k».proof.Proof.PoolFwd.Finite
public import proofs.«01_k».proof.Proof.Gen.Pre_projection_finite
public import proofs.«01_k».proof.Proof.Gen.PoolFwdKernelIdeal.Value

@[expose] public section

set_option maxRecDepth 16384

noncomputable section

open Idealize.ShloMosaic Idealize.ShloMosaic.TcCoe Idealize.SL.Sem

namespace Cert.Proof.PoolFwd

open Cert.PoolForm Cert.Reals

/-- The idealized kernel and the reference agree on the pooled rows and on the branch. -/
theorem algebraic : Cert.algebraic_PoolFwdKernelIdeal_PoolFwdReferenceIdeal_pre_projection_finite := by
  intro m g m' g' hpre hagree
  refine ⟨fun c => (Cert.PoolFwdKernelIdeal.Gen.dats m 0 c).arrAt 3 Cert.PoolFwdKernelIdeal.cfg0.N,
    fun c => (Cert.PoolFwdKernelIdeal.Gen.dats m 0 c).arrAt 4 Cert.PoolFwdKernelIdeal.cfg0.N,
    Cert.PoolFwdKernelIdeal.Value.run_blocks m g, ?_⟩
  refine (θ_run Cert.PoolFwdReferenceIdeal.defs _ _).mono (fun r hr c => ⟨?_, ?_, (hr c).2.2⟩)
    (Cert.PoolFwdReferenceIdeal.Value.run (F := Ideal) m' g')
  all_goals
    have e0 : Cert.PoolFwdReferenceIdeal.Closed.h m' c = Cert.PoolFwdKernelIdeal.Closed.h m c := (hagree c).1
    have hH := finite (hpre c)
  · rw [(hr c).1]
    refine Eq.trans ?_ (Cert.PoolFwdKernelIdeal.Closed.pooled_total m c hH).symm
    funext i
    idx_vars i
    refine (Cert.PoolFwdReferenceIdeal.Closed.pooled_at m' c i0 i1).trans ?_
    rw [e0]
  · have e1 : Cert.PoolFwdReferenceIdeal.Closed.w m' c = Cert.PoolFwdKernelIdeal.Closed.w m c := (hagree c).2.1
    have e2 : Cert.PoolFwdReferenceIdeal.Closed.scale m' c = Cert.PoolFwdKernelIdeal.Closed.scale m c := (hagree c).2.2
    rw [(hr c).2.1]
    refine Eq.trans ?_ (Cert.PoolFwdKernelIdeal.Closed.branch_total m c hH).symm
    funext i
    idx_vars i
    refine (Cert.PoolFwdReferenceIdeal.Closed.branch_eq m' c i0 i1).trans ?_
    rw [e0, e1, e2]

end Cert.Proof.PoolFwd

end
-- ==== Proof.Attn.Form.lean ====
/-
  The gated linear attention chunk by chunk: the state a chunk starts from, the scores inside it, its output.
-/
module

public import Idealize.ShloMosaic.PureOps.Ideal
public import proofs.«01_k».proof.Proof.Common.Real

@[expose] public section

set_option maxRecDepth 16384

noncomputable section

open Idealize.ShloMosaic Idealize.ShloMosaic.TcCoe Idealize.SL.Sem

namespace Cert.AttnForm

open Cert.Reals

/-- The attention's arrays at a row, a head and a column: scaled queries, keys, values, and the rates' running sums inside the row's chunk. -/
structure Data where
  q : ℕ → ℕ → Fin 128 → EReal
  k : ℕ → ℕ → Fin 128 → EReal
  v : ℕ → ℕ → Fin 256 → EReal
  g : ℕ → ℕ → Fin 128 → EReal

variable (D : Data)

/-- The state after a chunk: the old one decayed, and the chunk's keys on its values. -/
def next (h C : ℕ) (S : Fin 256 → Fin 128 → EReal) (e : Fin 256) (d : Fin 128) : EReal :=
  S e d * Ideal.exp (D.g (64 * C + 63) h d)
    + ∑ s : Fin 64, D.v (64 * C + s.val) h e * (D.k (64 * C + s.val) h d * Ideal.exp (D.g (64 * C + 63) h d - D.g (64 * C + s.val) h d))

/-- The state a chunk starts from. -/
def state (h : ℕ) : ℕ → Fin 256 → Fin 128 → EReal
  | 0 => fun _ _ => 0
  | C + 1 => next D h C (state h C)

/-- A score inside a chunk. -/
def score (h C : ℕ) (t s : Fin 64) : EReal :=
  ∑ d : Fin 128, D.q (64 * C + t.val) h d * D.k (64 * C + s.val) h d
    * Ideal.exp (-(max (D.g (64 * C + t.val) h d - D.g (64 * C + s.val) h d) (-(D.g (64 * C + t.val) h d - D.g (64 * C + s.val) h d))))

/-- A chunk's output. -/
def out (h C : ℕ) (t : Fin 64) (e : Fin 256) : EReal :=
  (∑ s : Fin 64, score D h C t s * D.v (64 * C + s.val) h e)
    + ∑ d : Fin 128, D.q (64 * C + t.val) h d * Ideal.exp (D.g (64 * C + t.val) h d) * state D h C e d

/-- Two decays measured from a common mark multiply to the decay between them. -/
theorem decay_mul {a b x y z : EReal} (hx : IsReal x) (hy : IsReal y) (hz : IsReal z) :
    a * Ideal.exp (x - z) * (b * Ideal.exp (z - y)) = a * b * Ideal.exp (x - y) := by
  obtain ⟨x, rfl⟩ := hx
  obtain ⟨y, rfl⟩ := hy
  obtain ⟨z, rfl⟩ := hz
  rw [← EReal.coe_sub, ← EReal.coe_sub, ← EReal.coe_sub, mul_mul_mul_comm (G := EReal)]
  refine congrArg (fun u => a * b * u) ?_
  show ((Real.exp (x - z) : ℝ) : EReal) * ((Real.exp (z - y) : ℝ) : EReal) = ((Real.exp (x - y) : ℝ) : EReal)
  rw [← EReal.coe_mul, ← Real.exp_add, sub_add_sub_cancel]

/-- Where the sums do not grow the distance between two of them is a difference. -/
theorem neg_abs_of_le {x y : EReal} (hx : IsReal x) (hy : IsReal y) (h : x ≤ y) : -(max (x - y) (-(x - y))) = x - y := by
  obtain ⟨x, rfl⟩ := hx
  obtain ⟨y, rfl⟩ := hy
  have h : x ≤ y := EReal.coe_le_coe_iff.mp h
  rw [← EReal.coe_sub, ← EReal.coe_neg, max_eq_right (EReal.coe_le_coe_iff.mpr (by linarith)), ← EReal.coe_neg, neg_neg]

theorem neg_abs_of_ge {x y : EReal} (hx : IsReal x) (hy : IsReal y) (h : y ≤ x) : -(max (x - y) (-(x - y))) = y - x := by
  obtain ⟨x, rfl⟩ := hx
  obtain ⟨y, rfl⟩ := hy
  have h : y ≤ x := EReal.coe_le_coe_iff.mp h
  rw [← EReal.coe_sub, ← EReal.coe_neg, max_eq_left (EReal.coe_le_coe_iff.mpr (by linarith)), ← EReal.coe_neg, neg_sub, EReal.coe_sub]

/-- Real running sums that do not grow inside a chunk. -/
structure Decaying : Prop where
  real : ∀ r h d, IsReal (D.g r h d)
  anti : ∀ C h d (s t : Fin 64), s.val ≤ t.val → D.g (64 * C + t.val) h d ≤ D.g (64 * C + s.val) h d

variable {D}

/-- A score by the two decays from a mark, whichever row is the later one. -/
theorem score_mark (hD : Decaying D) (h C : ℕ) (ρ : Fin 128 → EReal) (hρ : ∀ d, IsReal (ρ d)) (t s : Fin 64) :
    (if s.val ≤ t.val then ∑ d : Fin 128, D.q (64 * C + t.val) h d * Ideal.exp (D.g (64 * C + t.val) h d - ρ d)
          * (D.k (64 * C + s.val) h d * Ideal.exp (ρ d - D.g (64 * C + s.val) h d))
      else ∑ d : Fin 128, D.q (64 * C + t.val) h d * Ideal.exp (ρ d - D.g (64 * C + t.val) h d)
          * (D.k (64 * C + s.val) h d * Ideal.exp (D.g (64 * C + s.val) h d - ρ d))) = score D h C t s := by
  unfold score
  split
  next hs =>
    refine Finset.sum_congr rfl fun d _ => ?_
    rw [decay_mul (hD.real _ _ _) (hD.real _ _ _) (hρ d), neg_abs_of_le (hD.real _ _ _) (hD.real _ _ _) (hD.anti C h d s t hs)]
  next hs =>
    refine Finset.sum_congr rfl fun d _ => ?_
    rw [mul_mul_mul_comm (G := EReal), mul_comm (G := EReal) (Ideal.exp _), ← mul_mul_mul_comm (G := EReal),
      decay_mul (hD.real _ _ _) (hD.real _ _ _) (hρ d), neg_abs_of_ge (hD.real _ _ _) (hD.real _ _ _) (hD.anti C h d t s (by omega))]

end Cert.AttnForm

end
-- ==== Proof.Attn.Model.lean ====
/-
  The attention's arrays from the call's arguments, and what the call returns over them.
-/
module

public import proofs.«01_k».proof.Proof.Attn.Form
public import proofs.«01_k».proof.Proof.Common.Scalars
public import Idealize.ShloMosaic.Lib.Pipeline.ValueKit

@[expose] public section

set_option maxRecDepth 16384

noncomputable section

open Idealize.ShloMosaic Idealize.ShloMosaic.TcCoe Idealize.SL.Sem

namespace Cert.AttnForm

open Cert.Reals Cert.Scalars

/-- The call's arguments: the projected columns, the rates' second projection and its bias, the norm's gains. -/
structure Args where
  h : (⟨2, ![8192, 7184]⟩ : Shape).Idx → EReal
  up : (⟨2, ![16, 512]⟩ : Shape).Idx → EReal
  b : (⟨1, ![512]⟩ : Shape).Idx → EReal
  n : (⟨2, ![4, 256]⟩ : Shape).Idx → EReal

variable (A : Args)

/-- A matrix read at numbers, zero outside. -/
def cell {n m : ℕ} (f : (⟨2, ![n, m]⟩ : Shape).Idx → EReal) (r j : ℕ) : EReal := if h : r < n ∧ j < m then f (ix2 ⟨r, h.1⟩ ⟨j, h.2⟩) else 0

theorem cell_of {n m : ℕ} (f : (⟨2, ![n, m]⟩ : Shape).Idx → EReal) (r : Fin n) (j : Fin m) (r' j' : ℕ) (hr : r.val = r') (hj : j.val = j') :
    f (ix2 r j) = cell f r' j' := by
  subst hr hj
  unfold cell
  rw [dif_pos (⟨r.isLt, j.isLt⟩ : r.val < n ∧ j.val < m)]

/-- The bias read at a number. -/
def bias (j : ℕ) : EReal := if h : j < 512 then A.b (ix1 ⟨j, h⟩) else 0

theorem bias_of (j : Fin 512) (j' : ℕ) (hj : j.val = j') : A.b (ix1 j) = bias A j' := by
  subst hj
  unfold bias
  rw [dif_pos j.isLt]

/-- What the rates are taken of. -/
def logit (r j : ℕ) : EReal := ∑ k : Fin 16, cell A.h r (3072 + k.val) * cell A.up k.val j + bias A j

/-- A rate: a log-sigmoid over sixteen. -/
def rate (z : EReal) : EReal := (min z 0 - Ideal.log (1 + Ideal.exp (0 - max z (-z)))) * Ideal.ofBits .f32 0x3D800000#32

/-- The rates' running sums inside a chunk. -/
def sums (r j : ℕ) : EReal := ∑ s : Fin 64, if s.val ≤ r % 64 then rate (logit A (64 * (r / 64) + s.val) j) else 0

/-- The attention's arrays. -/
def data : Data where
  q := fun r h d => cell A.h r (128 * h + d.val) * Ideal.ofBits .f32 0x3DB504F3#32
  k := fun r h d => cell A.h r (512 + 128 * h + d.val)
  v := fun r h e => cell A.h r (1024 + 256 * h + e.val)
  g := fun r h d => sums A r (128 * h + d.val)

/-- A head's row normed, scaled and gated. -/
def normed (o g x : Fin 256 → EReal) (e : Fin 256) : EReal :=
  o e * Ideal.rsqrt (Ideal.div (∑ j : Fin 256, o j * o j) (Ideal.ofBits .f32 0x43800000#32) + Ideal.ofBits .f32 0x3727C5AC#32) * g e
    * (x e * Ideal.logistic (x e))

/-- What the call returns: the attention's output, its norm gated, the states the chunks start from. -/
def outAt (r h : ℕ) (e : Fin 256) : EReal := out (data A) h (r / 64) ⟨r % 64, by omega⟩ e
def normAt (r h : ℕ) (e : Fin 256) : EReal := normed (outAt A r h) (fun j => cell A.n h j.val) (fun j => cell A.h r (2048 + 256 * h + j.val)) e

/-- The entries the rates are taken of are real numbers. -/
structure Tame : Prop where
  h : ∀ (r : Fin 8192) (k : Fin 16), IsReal (A.h (ix2 r ⟨3072 + k.val, by omega⟩))
  up : ∀ i, IsReal (A.up i)
  b : ∀ i, IsReal (A.b i)

variable {A}

theorem Tame.logit (T : Tame A) (r j : ℕ) : IsReal (logit A r j) := by
  refine (IsReal.sum _ fun k _ => IsReal.mul ?_ ?_).add ?_
  · unfold cell
    split
    · next h => exact T.h ⟨r, h.1⟩ k
    · exact Reals.zero
  · unfold cell
    split
    · exact T.up _
    · exact Reals.zero
  · unfold bias
    split
    · exact T.b _
    · exact Reals.zero

theorem sixteenth_f32 : Ideal.ofBits .f32 0x3D800000#32 = ((1 / 16 : ℝ) : EReal) := by
  simp [Ideal.ofBits, Ideal.ieee, ← EReal.coe_mul]; norm_num
theorem sixteen_f32 : Ideal.ofBits .f32 0x41800000#32 = ((16 : ℝ) : EReal) := by
  simp [Ideal.ofBits, Ideal.ieee, ← EReal.coe_mul]; norm_num

/-- A real number's softplus past its positive part. -/
theorem log_exp (z : ℝ) : Ideal.log (1 + Ideal.exp (((-|z| : ℝ)) : EReal)) = ((Real.log (1 + Real.exp (-|z|)) : ℝ) : EReal) := by
  show Ideal.log (1 + ((Real.exp (-|z|) : ℝ) : EReal)) = _
  rw [← EReal.coe_one, ← EReal.coe_add]
  show (if 1 + Real.exp (-|z|) ≤ 0 then (⊥ : EReal) else _) = _
  rw [if_neg (by have := Real.exp_pos (-|z|); linarith)]

theorem max_neg (z : ℝ) : max (z : EReal) (-(z : EReal)) = ((|z| : ℝ) : EReal) := by
  rw [← EReal.coe_neg]
  exact (EReal.coe_strictMono.monotone.map_max (a := z) (b := -z)).symm

theorem min_zero (z : ℝ) : min (z : EReal) 0 = ((min z 0 : ℝ) : EReal) := (EReal.coe_strictMono.monotone.map_min (a := z) (b := 0)).symm

theorem rate_coe (z : ℝ) : rate (z : EReal) = (((min z 0 - Real.log (1 + Real.exp (-|z|))) * (1 / 16) : ℝ) : EReal) := by
  unfold rate
  rw [max_neg, min_zero, sixteenth_f32, zero_sub, ← EReal.coe_neg, log_exp, ← EReal.coe_sub, ← EReal.coe_mul]

/-- The same rate as a softplus of the negated entry, negated. -/
theorem rate_softplus {z : EReal} (hz : IsReal z) :
    Ideal.div (-(max (-z) 0 + Ideal.log (1 + Ideal.exp (-(max (-z - 0) (-(-z - 0))))))) (Ideal.ofBits .f32 0x41800000#32) = rate z := by
  obtain ⟨z, rfl⟩ := hz
  rw [rate_coe, sixteen_f32, sub_zero, ← EReal.coe_neg, max_neg, ← EReal.coe_neg, abs_neg, log_exp, Ideal.div_coe (by norm_num),
    show max ((-z : ℝ) : EReal) 0 = ((max (-z) 0 : ℝ) : EReal) from (EReal.coe_strictMono.monotone.map_max (a := -z) (b := 0)).symm, ← EReal.coe_add, ← EReal.coe_neg, ← EReal.coe_mul]
  refine congrArg Real.toEReal ?_
  have : min z 0 = -max (-z) 0 := by
    rcases le_total z 0 with h | h
    · rw [min_eq_left h, max_eq_left (by linarith), neg_neg]
    · rw [min_eq_right h, max_eq_right (by linarith), neg_zero]
  rw [this]
  ring

theorem rate_real {z : EReal} (hz : IsReal z) : IsReal (rate z) := by
  obtain ⟨z, rfl⟩ := hz
  exact ⟨_, rate_coe z⟩

theorem rate_nonpos {z : EReal} (hz : IsReal z) : rate z ≤ 0 := by
  obtain ⟨z, rfl⟩ := hz
  rw [rate_coe, ← EReal.coe_zero, EReal.coe_le_coe_iff]
  have h1 : 0 ≤ Real.log (1 + Real.exp (-|z|)) := Real.log_nonneg (by have := Real.exp_pos (-|z|); linarith)
  have h2 : min z 0 ≤ 0 := min_le_right _ _
  nlinarith

theorem Tame.decaying (T : Tame A) : Decaying (data A) where
  real := fun r h d => by
    show IsReal (sums A _ _)
    exact IsReal.sum _ fun s _ => IsReal.ite (rate_real (T.logit _ _)) Reals.zero
  anti := fun C h d s t hst => by
    show sums A _ _ ≤ sums A _ _
    unfold sums
    refine Finset.sum_le_sum fun u _ => ?_
    have e1 : (64 * C + t.val) / 64 = C := by omega
    have e2 : (64 * C + s.val) / 64 = C := by omega
    have e3 : (64 * C + t.val) % 64 = t.val := by omega
    have e4 : (64 * C + s.val) % 64 = s.val := by omega
    rw [e1, e2, e3, e4]
    by_cases hs : u.val ≤ s.val
    · rw [if_pos hs, if_pos (hs.trans hst)]
    · rw [if_neg hs]
      split
      · exact rate_nonpos (T.logit _ _)
      · exact le_refl _

end Cert.AttnForm

end
-- ==== Proof.Attn.Host.lean ====
/-
  What the host hands the attention's forward kernel.
-/
module

public import proofs.«01_k».proof.Proof.Gen.AttnKernelIdeal.Value
public import proofs.«01_k».proof.Proof.Attn.Model
public import proofs.«01_k».proof.Proof.Common.Pieces
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.AttnKernelIdeal.Closed

open Cert.AttnKernelIdeal Cert.AttnKernelIdeal.Gen Cert.AttnForm Cert.Pieces

variable (m : (ℓ : Loc nD τ sig) → Buf (Elt Ideal) ℓ)

/-- The arguments, read as arrays of extended reals. -/
def args (c : Dev nD) : Args where
  h := m ((c : Thread nD τ).loc main_arg0)
  up := m ((c : Thread nD τ).loc main_arg1)
  b := m ((c : Thread nD τ).loc main_arg2)
  n := m ((c : Thread nD τ).loc main_arg3)

theorem V_eq (c : Dev nD) (b : Ref sig .tc) : V m c b = StableHlo.after hostOps0 (fun b => m (c, b)) (Proc.devRef .tc b) := by
  simp only [V, List.flatten_cons, List.flatten_nil, List.append_nil]

theorem V_b (c : Dev nD) (j : Fin 512) : V m c main_v25 (ix2 0 j) = (args m c).b (ix1 j) := by
  rw [V_eq]
  after_reads_at
  rfl

theorem V_n (c : Dev nD) (j : Fin 1024) : V m c main_v26 (ix2 0 j) = (args m c).n (ix2 ⟨j.val / 256, by omega⟩ ⟨j.val % 256, by omega⟩) := by
  rw [V_eq]
  after_reads_at
  rfl

theorem V_up (c : Dev nD) (k j : Fin 512) : V m c main_v24 (ix2 k j) = cell (args m c).up k.val j.val := by
  rw [V_eq]
  after_reads_at
  pointwise
  split
  · next h =>
    after_reads_at
    exact cell_of (args m c).up ⟨k.val, h⟩ j _ _ rfl rfl
  · next h =>
    after_reads_at
    unfold cell
    rw [dif_neg (fun h' => h h'.1)]

/-- The pieces of the packed columns, in order: the last one splits in two lists. -/
def parts (f : S8192x7184.Idx → EReal) : List ((s : Shape) × (s.Idx → EReal)) :=
  [⟨S8192x4096, extractStridedSlice S8192x4096 ![0, 3088] f slices_S8192x7184_S8192x4096_0_3088⟩,
    ⟨S8192x16, extractStridedSlice S8192x16 ![0, 3072] f slices_S8192x7184_S8192x16_0_3072⟩,
    ⟨S8192x496, fun _ => Ideal.ofBits .f32 0x00000000#32⟩,
    ⟨S8192x128, extractStridedSlice S8192x128 ![0, 0] f slices_S8192x7184_S8192x128_0_0⟩,
    ⟨S8192x128, extractStridedSlice S8192x128 ![0, 512] f slices_S8192x7184_S8192x128_0_512⟩,
    ⟨S8192x256, extractStridedSlice S8192x256 ![0, 1024] f slices_S8192x7184_S8192x256_0_1024⟩,
    ⟨S8192x256, extractStridedSlice S8192x256 ![0, 2048] f slices_S8192x7184_S8192x256_0_2048⟩,
    ⟨S8192x128, extractStridedSlice S8192x128 ![0, 128] f slices_S8192x7184_S8192x128_0_128⟩,
    ⟨S8192x128, extractStridedSlice S8192x128 ![0, 640] f slices_S8192x7184_S8192x128_0_640⟩,
    ⟨S8192x256, extractStridedSlice S8192x256 ![0, 1280] f slices_S8192x7184_S8192x256_0_1280⟩,
    ⟨S8192x256, extractStridedSlice S8192x256 ![0, 2304] f slices_S8192x7184_S8192x256_0_2304⟩,
    ⟨S8192x128, extractStridedSlice S8192x128 ![0, 256] f slices_S8192x7184_S8192x128_0_256⟩,
    ⟨S8192x128, extractStridedSlice S8192x128 ![0, 768] f slices_S8192x7184_S8192x128_0_768⟩,
    ⟨S8192x256, extractStridedSlice S8192x256 ![0, 1536] f slices_S8192x7184_S8192x256_0_1536⟩,
    ⟨S8192x256, extractStridedSlice S8192x256 ![0, 2560] f slices_S8192x7184_S8192x256_0_2560⟩,
    ⟨S8192x128, extractStridedSlice S8192x128 ![0, 384] f slices_S8192x7184_S8192x128_0_384⟩]
def rest (f : S8192x7184.Idx → EReal) : List ((s : Shape) × (s.Idx → EReal)) :=
  [⟨S8192x128, extractStridedSlice S8192x128 ![0, 896] f slices_S8192x7184_S8192x128_0_896⟩,
    ⟨S8192x256, extractStridedSlice S8192x256 ![0, 1792] f slices_S8192x7184_S8192x256_0_1792⟩,
    ⟨S8192x256, extractStridedSlice S8192x256 ![0, 2816] f slices_S8192x7184_S8192x256_0_2816⟩]

theorem V_h (c : Dev nD) : V m c main_v21 = concatenate S8192x7680 1
    [⟨S8192x7040, concatenate S8192x7040 1 (parts (args m c).h) concatenates_S8192x4096_S8192x16_S8192x496_S8192x128_S8192x128_S8192x256_S8192x256_S8192x128_S8192x128_S8192x256_S8192x256_S8192x128_S8192x128_S8192x256_S8192x256_S8192x128_S8192x7040_d1⟩,
      ⟨S8192x640, concatenate S8192x640 1 (rest (args m c).h) concatenates_S8192x128_S8192x256_S8192x256_S8192x640_d1⟩] concatenates_S8192x7040_S8192x640_S8192x7680_d1 := by
  sl_kernel_rfl

/-- A piece of a concatenation along the columns, read where it stands. -/
theorem concatenate_piece {n q : ℕ} (xs : List ((s : Shape) × (s.Idx → EReal))) (hc : Shape.Concatenates (xs.map (·.1)) ⟨2, ![n, q]⟩ 1)
    (k : ℕ) (hk : k < xs.length) (w : ℕ) (x : (⟨2, ![n, w]⟩ : Shape).Idx → EReal) (hx : xs[k] = ⟨⟨2, ![n, w]⟩, x⟩) (off : ℕ)
    (hoff : (((xs.take k).map (·.1)).map fun s => if h : s.rank = 2 then s.size ((1 : Fin 2).cast h.symm) else 0).sum = off)
    (r : Fin n) (j : Fin w) (J : Fin q) (hJ : off + j.val = J.val) :
    concatenate (⟨2, ![n, q]⟩ : Shape) 1 xs hc (ix2 r J) = x (ix2 r j) :=
  concatenate_apply_piece 1 xs hc _ k hk _ x hx rfl off hoff (ix2 r j) (Fin.forall_fin_two.2 ⟨fun _ => rfl, fun h => absurd rfl h⟩) hJ

section
variable (c : Dev nD) (e : Fin 8192)

theorem left_at (k : ℕ) (hk : k < (parts (args m c).h).length) (w : ℕ) (x : (⟨2, ![8192, w]⟩ : Shape).Idx → EReal) (hx : (parts (args m c).h)[k]'hk = ⟨⟨2, ![8192, w]⟩, x⟩) (off : ℕ)
    (hoff : ((((parts (args m c).h).take k).map (·.1)).map fun s => if h : s.rank = 2 then s.size ((1 : Fin 2).cast h.symm) else 0).sum = off)
    (j : Fin w) (J : ℕ) (hJ : off + j.val = J) (hJ' : J < 7040) : V m c main_v21 (ix2 e ⟨J, by omega⟩) = x (ix2 e j) := by
  rw [V_h]
  refine (concatenate_piece (q := 7680) _ _ 0 ?_ 7040 (concatenate S8192x7040 1 (parts (args m c).h) concatenates_S8192x4096_S8192x16_S8192x496_S8192x128_S8192x128_S8192x256_S8192x256_S8192x128_S8192x128_S8192x256_S8192x256_S8192x128_S8192x128_S8192x256_S8192x256_S8192x128_S8192x7040_d1) ?_ 0 ?_ e ⟨J, hJ'⟩ ⟨J, by omega⟩ (Nat.zero_add _)).trans
    (concatenate_piece _ _ k hk w x hx off hoff e j _ hJ)
  · exact Nat.succ_pos _
  · rfl
  · rfl

theorem right_at (k : ℕ) (hk : k < (rest (args m c).h).length) (w : ℕ) (x : (⟨2, ![8192, w]⟩ : Shape).Idx → EReal) (hx : (rest (args m c).h)[k]'hk = ⟨⟨2, ![8192, w]⟩, x⟩) (off : ℕ)
    (hoff : ((((rest (args m c).h).take k).map (·.1)).map fun s => if h : s.rank = 2 then s.size ((1 : Fin 2).cast h.symm) else 0).sum = off)
    (j : Fin w) (J : ℕ) (hJ : 7040 + (off + j.val) = J) (hJ' : J < 7680) : V m c main_v21 (ix2 e ⟨J, hJ'⟩) = x (ix2 e j) := by
  rw [V_h]
  refine (concatenate_piece (q := 7680) _ _ 1 ?_ 640 (concatenate S8192x640 1 (rest (args m c).h) concatenates_S8192x128_S8192x256_S8192x256_S8192x640_d1) ?_ 7040 ?_ e ⟨off + j.val, by omega⟩ ⟨J, hJ'⟩ hJ).trans
    (concatenate_piece _ _ k hk w x hx off hoff e j _ rfl)
  · exact Nat.succ_lt_succ (Nat.succ_pos _)
  · rfl
  · rfl

/-- A slice of the columns, read at numbers. -/
theorem slice_at (w o : ℕ) (hs : Shape.Slices S8192x7184 ![0, o] (⟨2, ![8192, w]⟩ : Shape)) (j : Fin w) (r' j' : ℕ) (hr : e.val = r') (hj : o + j.val = j') :
    extractStridedSlice (⟨2, ![8192, w]⟩ : Shape) ![0, o] (args m c).h hs (ix2 e j) = cell (args m c).h r' j' := by
  pointwise
  exact cell_of (args m c).h _ _ _ _ hr hj

theorem V_alpha (k : Fin 512) : V m c main_v21 (ix2 e ⟨4096 + k.val, by omega⟩) = if k.val < 16 then cell (args m c).h e.val (3072 + k.val) else 0 := by
  split
  · next h =>
    exact (left_at m c e 1 (show 1 < 16 by decide) 16 _ rfl 4096 (by sl_kernel_rfl) ⟨k.val, h⟩ _ (by dsimp only) (by omega)).trans (slice_at m c e _ _ _ _ _ _ rfl (by dsimp only))
  · next h =>
    refine (left_at m c e 2 (show 2 < 16 by decide) 496 _ rfl 4112 (by sl_kernel_rfl) ⟨k.val - 16, by omega⟩ _ (by dsimp only; omega) (by omega)).trans ?_
    pointwise

theorem V_query (i : ℕ) (hi : i < 4) (j : Fin 128) : V m c main_v21 (ix2 e ⟨4608 + 768 * i + j.val, by omega⟩) = cell (args m c).h e.val (0 + 128 * i + j.val) := by
  interval_cases i
  · exact (left_at m c e 3 (show 3 < 16 by decide) 128 _ rfl 4608 (by sl_kernel_rfl) j _ (by omega) (by omega)).trans (slice_at m c e _ _ _ _ _ _ rfl (by omega))
  · exact (left_at m c e 7 (show 7 < 16 by decide) 128 _ rfl 5376 (by sl_kernel_rfl) j _ (by omega) (by omega)).trans (slice_at m c e _ _ _ _ _ _ rfl (by omega))
  · exact (left_at m c e 11 (show 11 < 16 by decide) 128 _ rfl 6144 (by sl_kernel_rfl) j _ (by omega) (by omega)).trans (slice_at m c e _ _ _ _ _ _ rfl (by omega))
  · exact (left_at m c e 15 (show 15 < 16 by decide) 128 _ rfl 6912 (by sl_kernel_rfl) j _ (by omega) (by omega)).trans (slice_at m c e _ _ _ _ _ _ rfl (by omega))

theorem V_key (i : ℕ) (hi : i < 4) (j : Fin 128) : V m c main_v21 (ix2 e ⟨4736 + 768 * i + j.val, by omega⟩) = cell (args m c).h e.val (512 + 128 * i + j.val) := by
  interval_cases i
  · exact (left_at m c e 4 (show 4 < 16 by decide) 128 _ rfl 4736 (by sl_kernel_rfl) j _ (by omega) (by omega)).trans (slice_at m c e _ _ _ _ _ _ rfl (by omega))
  · exact (left_at m c e 8 (show 8 < 16 by decide) 128 _ rfl 5504 (by sl_kernel_rfl) j _ (by omega) (by omega)).trans (slice_at m c e _ _ _ _ _ _ rfl (by omega))
  · exact (left_at m c e 12 (show 12 < 16 by decide) 128 _ rfl 6272 (by sl_kernel_rfl) j _ (by omega) (by omega)).trans (slice_at m c e _ _ _ _ _ _ rfl (by omega))
  · exact (right_at m c e 0 (show 0 < 3 by decide) 128 _ rfl 0 (by sl_kernel_rfl) j _ (by omega) (by omega)).trans (slice_at m c e _ _ _ _ _ _ rfl (by omega))

theorem V_value (i : ℕ) (hi : i < 4) (j : Fin 256) : V m c main_v21 (ix2 e ⟨4864 + 768 * i + j.val, by omega⟩) = cell (args m c).h e.val (1024 + 256 * i + j.val) := by
  interval_cases i
  · exact (left_at m c e 5 (show 5 < 16 by decide) 256 _ rfl 4864 (by sl_kernel_rfl) j _ (by omega) (by omega)).trans (slice_at m c e _ _ _ _ _ _ rfl (by omega))
  · exact (left_at m c e 9 (show 9 < 16 by decide) 256 _ rfl 5632 (by sl_kernel_rfl) j _ (by omega) (by omega)).trans (slice_at m c e _ _ _ _ _ _ rfl (by omega))
  · exact (left_at m c e 13 (show 13 < 16 by decide) 256 _ rfl 6400 (by sl_kernel_rfl) j _ (by omega) (by omega)).trans (slice_at m c e _ _ _ _ _ _ rfl (by omega))
  · exact (right_at m c e 1 (show 1 < 3 by decide) 256 _ rfl 128 (by sl_kernel_rfl) j _ (by omega) (by omega)).trans (slice_at m c e _ _ _ _ _ _ rfl (by omega))

theorem V_gate (i : ℕ) (hi : i < 4) (j : Fin 256) : V m c main_v21 (ix2 e ⟨5120 + 768 * i + j.val, by omega⟩) = cell (args m c).h e.val (2048 + 256 * i + j.val) := by
  interval_cases i
  · exact (left_at m c e 6 (show 6 < 16 by decide) 256 _ rfl 5120 (by sl_kernel_rfl) j _ (by omega) (by omega)).trans (slice_at m c e _ _ _ _ _ _ rfl (by omega))
  · exact (left_at m c e 10 (show 10 < 16 by decide) 256 _ rfl 5888 (by sl_kernel_rfl) j _ (by omega) (by omega)).trans (slice_at m c e _ _ _ _ _ _ rfl (by omega))
  · exact (left_at m c e 14 (show 14 < 16 by decide) 256 _ rfl 6656 (by sl_kernel_rfl) j _ (by omega) (by omega)).trans (slice_at m c e _ _ _ _ _ _ rfl (by omega))
  · exact (right_at m c e 2 (show 2 < 3 by decide) 256 _ rfl 384 (by sl_kernel_rfl) j _ (by omega) (by omega)).trans (slice_at m c e _ _ _ _ _ _ rfl (by omega))

end

end Cert.AttnKernelIdeal.Closed

end
-- ==== Proof.Attn.Lists.lean ====
/-
  What a point's stores amount to: per buffer the list of rectangles written, newest first, as a function of the step's number.

  A point runs over sixteen chunks of sixty-four rows and, in each, over the two heads of its pair: step `n` is chunk `n / 2`
  of head `n % 2`.
-/
module

public import proofs.«01_k».proof.Proof.Gen.AttnKernelIdeal.Frame
public import Idealize.ShloMosaic.Lib.Pipeline.ValueKit

@[expose] public section

set_option maxRecDepth 16384

noncomputable section

open Idealize.ShloMosaic Idealize.ShloMosaic.TcCoe Idealize.SL.Sem

namespace Cert.AttnKernelIdeal.Closed

open Cert.AttnKernelIdeal Cert.AttnKernelIdeal.Gen

variable {F : FTy → Type} [FloatOps F]

/-- Pieces of one size stacked newest first over a base list. -/
def tileL {S : Shape} {e : EltTy} (size : Fin S.rank → ℕ) (off : ℕ → Fin S.rank → ℕ) (inb : ∀ n a, off n a + size a ≤ S.size a)
    (P : ∀ n, (Rect.unit (s := S) (off n) size (inb n)).shape.Idx → Elt F e) (n : ℕ) : List (View.Piece (Elt F) S e) :=
  Nat.rec [] (fun n L => ⟨Rect.unit (off n) size (inb n), P n⟩ :: L) n

/-! Where step `n` reads and writes. -/

theorem inbV (n : ℕ) : ∀ a, ![64 * (n / 2 % 16), 256 + 768 * (n % 2)] a + S64x256.size a ≤ S1024x1536.size a :=
  Fin.forall_fin_two.2 ⟨by show 64 * (n / 2 % 16) + 64 ≤ 1024; omega, by show 256 + 768 * (n % 2) + 256 ≤ 1536; omega⟩
theorem inbO (n : ℕ) : ∀ a, ![64 * (n / 2 % 16), 256 * (n % 2)] a + S64x256.size a ≤ S1024x512.size a :=
  Fin.forall_fin_two.2 ⟨by show 64 * (n / 2 % 16) + 64 ≤ 1024; omega, by show 256 * (n % 2) + 256 ≤ 512; omega⟩
theorem inbG (n : ℕ) : ∀ a, ![64 * (n / 2 % 16) + 63, 128 * (n % 2)] a + S1x128.size a ≤ S1024x256.size a :=
  Fin.forall_fin_two.2 ⟨by show 64 * (n / 2 % 16) + 63 + 1 ≤ 1024; omega, by show 128 * (n % 2) + 128 ≤ 256; omega⟩
theorem inbR (c r : ℕ) : ∀ a, ![64 * (c % 16) + r % 64, 0] a + S1x256.size a ≤ S1024x256.size a :=
  Fin.forall_fin_two.2 ⟨by show 64 * (c % 16) + r % 64 + 1 ≤ 1024; omega, by show 0 + 256 ≤ 256; omega⟩
theorem inbQ (j p : ℕ) : ∀ a, ![0, 128 * (j % 2) + 768 * (p % 2)] a + S1024x128.size a ≤ S1024x1536.size a :=
  Fin.forall_fin_two.2 ⟨by show 0 + 1024 ≤ 1024; omega, by show 128 * (j % 2) + 768 * (p % 2) + 128 ≤ 1536; omega⟩
theorem inbX (p : ℕ) : ∀ a, ![0, 512 + 768 * (p % 2)] a + S1024x256.size a ≤ S1024x1536.size a :=
  Fin.forall_fin_two.2 ⟨by show 0 + 1024 ≤ 1024; omega, by show 512 + 768 * (p % 2) + 256 ≤ 1536; omega⟩
theorem inbY (p : ℕ) : ∀ a, ![0, 256 * (p % 2)] a + S1024x256.size a ≤ S1024x512.size a :=
  Fin.forall_fin_two.2 ⟨by show 0 + 1024 ≤ 1024; omega, by show 256 * (p % 2) + 256 ≤ 512; omega⟩
theorem inbN (p : ℕ) : ∀ a, ![0, 256 * (p % 2)] a + S1x256.size a ≤ S1x512.size a :=
  Fin.forall_fin_two.2 ⟨by show 0 + 1 ≤ 1; omega, by show 256 * (p % 2) + 256 ≤ 512; omega⟩

theorem forall_three {P : Fin 3 → Prop} (h0 : P 0) (h1 : P 1) (h2 : P 2) : ∀ a, P a := fun a => by
  fin_cases a
  exacts [h0, h1, h2]
theorem forall_four {P : Fin 4 → Prop} (h0 : P 0) (h1 : P 1) (h2 : P 2) (h3 : P 3) : ∀ a, P a := fun a => by
  fin_cases a
  exacts [h0, h1, h2, h3]

theorem inbS (n : ℕ) : ∀ a, ![n % 2, 0, 0] a + S1x256x128.size a ≤ S2x256x128.size a :=
  forall_three (by show n % 2 + 1 ≤ 2; omega) (by show 0 + 256 ≤ 256; omega) (by show 0 + 128 ≤ 128; omega)
theorem inbB (j n : ℕ) : ∀ a, ![j % 6, 64 * (n / 2 % 16), 128 * (n % 2)] a + S1x64x128.size a ≤ S6x1024x256.size a :=
  forall_three (by show j % 6 + 1 ≤ 6; omega) (by show 64 * (n / 2 % 16) + 64 ≤ 1024; omega) (by show 128 * (n % 2) + 128 ≤ 256; omega)
theorem inbW (n : ℕ) : ∀ a, ![n % 6, 0, 128 * (n / 6 % 2)] a + S1x1024x128.size a ≤ S6x1024x256.size a :=
  forall_three (by show n % 6 + 1 ≤ 6; omega) (by show 0 + 1024 ≤ 1024; omega) (by show 128 * (n / 6 % 2) + 128 ≤ 256; omega)
theorem inbZ (n : ℕ) : ∀ a, ![n % 2, n / 2 % 16, 0, 0] a + S1x1x256x128.size a ≤ S2x16x256x128.size a :=
  forall_four (by show n % 2 + 1 ≤ 2; omega) (by show n / 2 % 16 + 1 ≤ 16; omega) (by show 0 + 256 ≤ 256; omega) (by show 0 + 128 ≤ 128; omega)

/-! The operations of a step. -/

/-- A chunk's output: the masked scores on the values, and the decayed queries on the state. -/
def outOf (v : FVec F S64x256 .f32) (st : FVec F S256x128 .f32) (O : ℕ → Vec F S1x64x128 .bf16) : FVec F S64x256 .f32 :=
  addf (matmul dot_S64x64_S64x256_S64x256_1_0_0_1_n_n none
      (truncf .bf16 (select k0_pay74
        (matmul dot_S64x128_S64x128_S64x64_1_1_0_0_n_n none (shapeCast S64x128 (O 0) shapeCasts_S1x64x128_S64x128)
          (shapeCast S64x128 (O 1) shapeCasts_S1x64x128_S64x128) (constant S64x64 .f32 0x00000000#32))
        (matmul dot_S64x128_S64x128_S64x64_1_1_0_0_n_n none (shapeCast S64x128 (O 2) shapeCasts_S1x64x128_S64x128)
          (shapeCast S64x128 (O 3) shapeCasts_S1x64x128_S64x128) (constant S64x64 .f32 0x00000000#32))) bitsLt_bf16_f32)
      (truncf .bf16 v bitsLt_bf16_f32) (constant S64x256 .f32 0x00000000#32))
    (matmul dot_S64x128_S256x128_S64x256_1_1_0_0_n_n none (shapeCast S64x128 (O 4) shapeCasts_S1x64x128_S64x128)
      (truncf .bf16 st bitsLt_bf16_f32) (constant S64x256 .f32 0x00000000#32))

/-- A chunk's new state: the old one decayed, and the chunk's keys on its values. -/
def stateOf (v : FVec F S64x256 .f32) (st : FVec F S256x128 .f32) (O : ℕ → Vec F S1x64x128 .bf16) (gl : FVec F S1x128 .f32) : FVec F S256x128 .f32 :=
  addf (mulf st (broadcastTo S256x128 (exp gl) broadcasts_S1x128_S256x128))
    (matmul dot_S64x256_S64x128_S256x128_0_0_1_1_n_n none (truncf .bf16 v bitsLt_bf16_f32)
      (shapeCast S64x128 (O 5) shapeCasts_S1x64x128_S64x128) (constant S256x128 .f32 0x00000000#32))

/-- The running sums of one chunk: the triangle of ones on the high and on the low half of the rates. -/
def sumsOf (w : FVec F S1024x512 .bf16) (c : Fin 16) : FVec F S64x256 .f32 :=
  addf (extractStridedSlice S64x256 ![0, 0] (matmul dot_S64x64_S64x512_S64x512_1_0_0_1_n_n none (k0_pay4 (F := F))
      (extractStridedSlice S64x512 ![64 * c.val, 0] w (by revert c; decide)) (constant S64x512 .f32 0x00000000#32)) slices_S64x512_o0_0_S64x256)
    (extractStridedSlice S64x256 ![0, 256] (matmul dot_S64x64_S64x512_S64x512_1_0_0_1_n_n none (k0_pay4 (F := F))
      (extractStridedSlice S64x512 ![64 * c.val, 0] w (by revert c; decide)) (constant S64x512 .f32 0x00000000#32)) slices_S64x512_o0_256_S64x256)

theorem cat16 {α : Type} (f : Fin 16 → S64x256.Idx → α) :
    Shape.Concatenates ((List.ofFn fun n : Fin 16 => (⟨S64x256, f n⟩ : (s : Shape) × (s.Idx → α))).map (·.1)) S1024x256 0 := by
  rw [List.map_ofFn]
  exact concatenates_S64x256_S64x256_S64x256_S64x256_S64x256_S64x256_S64x256_S64x256_S64x256_S64x256_S64x256_S64x256_S64x256_S64x256_S64x256_S64x256_S1024x256_d0

/-- Sixteen chunks one below the other. -/
def stack (f : Fin 16 → FVec F S64x256 .f32) : FVec F S1024x256 .f32 :=
  concatenate S1024x256 0 (List.ofFn fun n : Fin 16 => (⟨S64x256, f n⟩ : (s : Shape) × (s.Idx → F .f32))) (cat16 f)

/-- The state's pieces: each step writes its head's state anew, from what the list before it holds. -/
def stateL (ld : ℕ → List (View.Piece (Elt F) S2x256x128 .f32) → Vec F S1x256x128 .f32) (V : ℕ → FVec F S64x256 .f32)
    (O : ℕ → ℕ → Vec F S1x64x128 .bf16) (Gl : ℕ → FVec F S1x128 .f32) (base : List (View.Piece (Elt F) S2x256x128 .f32)) (n : ℕ) :
    List (View.Piece (Elt F) S2x256x128 .f32) :=
  Nat.rec base (fun n L => ⟨Rect.unit (s := S2x256x128) ![n % 2, 0, 0] S1x256x128.size (inbS n),
    shapeCast S1x256x128 (stateOf (V n) (shapeCast S256x128 (ld n L) shapeCasts_S1x256x128_S256x128) (O n) (Gl n)) shapeCasts_S256x128_S1x256x128⟩ :: L) n

section
variable (arg2 : Memref sig .tc .vmem S1024x1536 .f32) (harg2 : arg2.IsWhole) (arg3 : Memref sig .tc .vmem S1024x128 .f32) (harg3 : arg3.IsWhole)
  (arg4 : Memref sig .tc .vmem S128x256 .bf16) (harg4 : arg4.IsWhole) (arg5 : Memref sig .tc .vmem S1x256 .f32) (harg5 : arg5.IsWhole)
  (arg6 : Memref sig .tc .vmem S1x512 .f32) (harg6 : arg6.IsWhole) (arg7 : Memref sig .tc .vmem S1024x512 .f32) (harg7 : arg7.IsWhole)
  (arg8 : Memref sig .tc .vmem S1024x512 .bf16) (harg8 : arg8.IsWhole) (arg9 : Memref sig .tc .vmem S2x16x256x128 .f32) (harg9 : arg9.IsWhole)
  (arg10 : Memref sig .tc .vmem S2x256x128 .f32) (harg10 : arg10.IsWhole) (arg11 : Memref sig .tc .vmem S1024x256 .f32) (harg11 : arg11.IsWhole)
  (arg12 : Memref sig .tc .vmem S6x1024x256 .bf16) (harg12 : arg12.IsWhole)
  (x0 : Vec F S1024x1536 .f32) (x1 : Vec F S1024x128 .f32) (x2 : Vec F S128x256 .bf16) (x3 : Vec F S1x256 .f32) (x4 : Vec F S1x512 .f32)
  (xs0 : Vec F S2x256x128 .f32)

/-- The rates' running sums. -/
def gOf : FVec F S1024x256 .f32 :=
  shapeCast S1024x256 (stack (sumsOf (k0_pay3
    (View.readAt (Elt F) arg3.view (Rect.unit (s := S1024x128) ![0, 0] S1024x128.size inb_S1024x128_S1024x128_0_0).toLoadRect (harg3.unread x1))
    (View.readAt (Elt F) arg4.view (Rect.unit (s := S128x256) ![0, 0] S128x256.size inb_S128x256_S128x256_0_0).toLoadRect (harg4.unread x2))
    (View.readAt (Elt F) arg5.view (Rect.unit (s := S1x256) ![0, 0] S1x256.size inb_S1x256_S1x256_0_0).toLoadRect (harg5.unread x3)))))
    shapeCasts_S1024x256_S1024x256

def gL : List (View.Piece (Elt F) S1024x256 .f32) :=
  [⟨Rect.unit (s := S1024x256) ![0, 0] S1024x256.size inb_S1024x256_S1024x256_0_0, gOf arg3 harg3 arg4 harg4 arg5 harg5 x1 x2 x3⟩]

/-- The running sums read back, and the row `r` of every chunk repeated down the chunk. -/
def gRead : FVec F S1024x256 .f32 := arg11.view.readCov (gL arg3 harg3 arg4 harg4 arg5 harg5 x1 x2 x3)
  (Rect.unit (s := S1024x256) ![0, 0] S1024x256.size inb_S1024x256_S1024x256_0_0).toLoadRect
def rowOf (r : ℕ) : FVec F S1024x256 .f32 := stack fun c =>
  broadcastTo S64x256 (shapeCast S1x256 (arg11.view.readCov (gL arg3 harg3 arg4 harg4 arg5 harg5 x1 x2 x3)
    (Rect.unit (s := S1024x256) ![64 * (c.val % 16) + r % 64, 0] S1x256.size (inbR c.val r)).toLoadRect) shapeCasts_S1x256_S1x256) broadcasts_S1x256_S64x256
def refOf : FVec F S1024x256 .f32 := mulf (broadcast S1024x256 (Scalar.ofBits .f32 0x3F000000#32))
  (addf (rowOf arg3 harg3 arg4 harg4 arg5 harg5 arg11 x1 x2 x3 0) (rowOf arg3 harg3 arg4 harg4 arg5 harg5 arg11 x1 x2 x3 63))

/-- The decay an operand carries. -/
def decayOf (j : ℕ) : FVec F S1024x256 .f32 :=
  match j with
  | 0 => exp (subf (gRead arg3 harg3 arg4 harg4 arg5 harg5 arg11 x1 x2 x3) (refOf arg3 harg3 arg4 harg4 arg5 harg5 arg11 x1 x2 x3))
  | 1 => exp (subf (refOf arg3 harg3 arg4 harg4 arg5 harg5 arg11 x1 x2 x3) (gRead arg3 harg3 arg4 harg4 arg5 harg5 arg11 x1 x2 x3))
  | 2 => exp (subf (refOf arg3 harg3 arg4 harg4 arg5 harg5 arg11 x1 x2 x3) (gRead arg3 harg3 arg4 harg4 arg5 harg5 arg11 x1 x2 x3))
  | 3 => exp (subf (gRead arg3 harg3 arg4 harg4 arg5 harg5 arg11 x1 x2 x3) (refOf arg3 harg3 arg4 harg4 arg5 harg5 arg11 x1 x2 x3))
  | 4 => exp (gRead arg3 harg3 arg4 harg4 arg5 harg5 arg11 x1 x2 x3)
  | _ => exp (subf (rowOf arg3 harg3 arg4 harg4 arg5 harg5 arg11 x1 x2 x3 63) (gRead arg3 harg3 arg4 harg4 arg5 harg5 arg11 x1 x2 x3))

/-- The columns an operand is made of: the scaled queries for the even ones, the keys for the odd ones. -/
def baseOf (j p : ℕ) : FVec F S1024x128 .f32 :=
  let x := shapeCast S1024x128 (View.readAt (Elt F) arg2.view
    (Rect.unit (s := S1024x1536) ![0, 128 * (j % 2) + 768 * (p % 2)] S1024x128.size (inbQ j p)).toLoadRect (harg2.unread x0)) shapeCasts_S1024x128_S1024x128
  bif Nat.beq (j % 2) 0 then mulf x (broadcast S1024x128 (Scalar.ofBits .f32 0x3DB504F3#32)) else x

/-- The operands' pieces, six per head. -/
def operandL : List (View.Piece (Elt F) S6x1024x256 .bf16) :=
  tileL (S := S6x1024x256) S1x1024x128.size (fun n => ![n % 6, 0, 128 * (n / 6 % 2)]) inbW (fun n =>
    shapeCast S1x1024x128 (truncf .bf16 (mulf (baseOf arg2 harg2 x0 (n % 6) (n / 6))
      (extractStridedSlice S1024x128 ![0, 128 * (n / 6 % 2)] (decayOf arg3 harg3 arg4 harg4 arg5 harg5 arg11 x1 x2 x3 (n % 6))
        (by rcases Nat.mod_two_eq_zero_or_one (n / 6) with h | h <;> rw [h] <;> decide))) bitsLt_bf16_f32) shapeCasts_S1024x128_S1x1024x128) 12

def opOf (n j : ℕ) : Vec F S1x64x128 .bf16 :=
  arg12.view.readCov (operandL arg2 harg2 arg3 harg3 arg4 harg4 arg5 harg5 arg11 x0 x1 x2 x3)
    (Rect.unit (s := S6x1024x256) ![j % 6, 64 * (n / 2 % 16), 128 * (n % 2)] S1x64x128.size (inbB j n)).toLoadRect

def lastOf (n : ℕ) : FVec F S1x128 .f32 := arg11.view.readCov (gL arg3 harg3 arg4 harg4 arg5 harg5 x1 x2 x3)
  (Rect.unit (s := S1024x256) ![64 * (n / 2 % 16) + 63, 128 * (n % 2)] S1x128.size (inbG n)).toLoadRect

def valOf (n : ℕ) : FVec F S64x256 .f32 := shapeCast S64x256 (View.readAt (Elt F) arg2.view
  (Rect.unit (s := S1024x1536) ![64 * (n / 2 % 16), 256 + 768 * (n % 2)] S64x256.size (inbV n)).toLoadRect (harg2.unread x0)) shapeCasts_S64x256_S64x256

/-- The state read back from the pieces; at a head's first step of a later point, from what the point before left. -/
def ldA (n : ℕ) (L : List (View.Piece (Elt F) S2x256x128 .f32)) : Vec F S1x256x128 .f32 :=
  arg10.view.readCov L (Rect.unit (s := S2x256x128) ![n % 2, 0, 0] S1x256x128.size (inbS n)).toLoadRect
def ldB (n : ℕ) (L : List (View.Piece (Elt F) S2x256x128 .f32)) : Vec F S1x256x128 .f32 :=
  bif Nat.ble 2 n then ldA arg10 n L else View.readAt (Elt F) arg10.view
    (Rect.unit (s := S2x256x128) ![n % 2, 0, 0] S1x256x128.size (inbS n)).toLoadRect (harg10.unread xs0)

/-- The state's pieces at step `n`, over the two ways to read it back. -/
abbrev stL (ld : ℕ → List (View.Piece (Elt F) S2x256x128 .f32) → Vec F S1x256x128 .f32) (base : List (View.Piece (Elt F) S2x256x128 .f32)) (n : ℕ) :
    List (View.Piece (Elt F) S2x256x128 .f32) :=
  stateL ld (valOf arg2 harg2 x0) (opOf arg2 harg2 arg3 harg3 arg4 harg4 arg5 harg5 arg11 arg12 x0 x1 x2 x3)
    (lastOf arg3 harg3 arg4 harg4 arg5 harg5 arg11 x1 x2 x3) base n

/-- The state a step starts from. -/
abbrev stAt (ld : ℕ → List (View.Piece (Elt F) S2x256x128 .f32) → Vec F S1x256x128 .f32) (base : List (View.Piece (Elt F) S2x256x128 .f32)) (n : ℕ) :
    FVec F S256x128 .f32 :=
  shapeCast S256x128 (ld n (stL arg2 harg2 arg3 harg3 arg4 harg4 arg5 harg5 arg11 arg12 x0 x1 x2 x3 ld base n)) shapeCasts_S1x256x128_S256x128

/-- The three outputs' pieces. -/
def outL (ld : ℕ → List (View.Piece (Elt F) S2x256x128 .f32) → Vec F S1x256x128 .f32) (base : List (View.Piece (Elt F) S2x256x128 .f32)) :
    List (View.Piece (Elt F) S1024x512 .f32) :=
  tileL (S := S1024x512) S64x256.size (fun n => ![64 * (n / 2 % 16), 256 * (n % 2)]) inbO (fun n =>
    outOf (valOf arg2 harg2 x0 n) (stAt arg2 harg2 arg3 harg3 arg4 harg4 arg5 harg5 arg11 arg12 x0 x1 x2 x3 ld base n)
      (opOf arg2 harg2 arg3 harg3 arg4 harg4 arg5 harg5 arg11 arg12 x0 x1 x2 x3 n)) 32
def saveL (ld : ℕ → List (View.Piece (Elt F) S2x256x128 .f32) → Vec F S1x256x128 .f32) (base : List (View.Piece (Elt F) S2x256x128 .f32)) :
    List (View.Piece (Elt F) S2x16x256x128 .f32) :=
  tileL (S := S2x16x256x128) S1x1x256x128.size (fun n => ![n % 2, n / 2 % 16, 0, 0]) inbZ (fun n =>
    shapeCast S1x1x256x128 (stAt arg2 harg2 arg3 harg3 arg4 harg4 arg5 harg5 arg11 arg12 x0 x1 x2 x3 ld base n) shapeCasts_S256x128_S1x1x256x128) 32
def normL (ld : ℕ → List (View.Piece (Elt F) S2x256x128 .f32) → Vec F S1x256x128 .f32) (base : List (View.Piece (Elt F) S2x256x128 .f32)) :
    List (View.Piece (Elt F) S1024x512 .bf16) :=
  tileL (S := S1024x512) S1024x256.size (fun p => ![0, 256 * (p % 2)]) inbY (fun p =>
    k0_pay300 (arg7.view.readCov (outL arg2 harg2 arg3 harg3 arg4 harg4 arg5 harg5 arg11 arg12 x0 x1 x2 x3 ld base)
        (Rect.unit (s := S1024x512) ![0, 256 * (p % 2)] S1024x256.size (inbY p)).toLoadRect)
      (View.readAt (Elt F) arg2.view (Rect.unit (s := S1024x1536) ![0, 512 + 768 * (p % 2)] S1024x256.size (inbX p)).toLoadRect (harg2.unread x0))
      (View.readAt (Elt F) arg6.view (Rect.unit (s := S1x512) ![0, 256 * (p % 2)] S1x256.size (inbN p)).toLoadRect (harg6.unread x4))) 2

/-- The first point's state starts from zeros. -/
def baseA : List (View.Piece (Elt F) S2x256x128 .f32) :=
  [⟨Rect.unit (s := S2x256x128) ![0, 0, 0] S2x256x128.size inb_S2x256x128_S2x256x128_0_0_0, k0_pay2⟩]

theorem state_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4).2.2.2.1 = stL arg2 harg2 arg3 harg3 arg4 harg4 arg5 harg5 arg11 arg12 x0 x1 x2 x3 (ldA arg10) baseA 32 := by
  sl_kernel_rfl

theorem out_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4).1 = outL arg2 harg2 arg3 harg3 arg4 harg4 arg5 harg5 arg11 arg12 x0 x1 x2 x3 (ldA arg10) baseA := by
  sl_kernel_rfl

theorem save_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4).2.2.1 = saveL arg2 harg2 arg3 harg3 arg4 harg4 arg5 harg5 arg11 arg12 x0 x1 x2 x3 (ldA arg10) baseA := by
  sl_kernel_rfl

theorem norm_A (c : Dev nD) (i : grid0.Coords) (hc0 : cond0_0 i) :
    (kernelRun0_A c i arg2 harg2 arg3 harg3 arg4 harg4 arg5 harg5 arg6 harg6 arg7 harg7 arg8 harg8 arg9 harg9 arg10 harg10 arg11 harg11 arg12 harg12 hc0 x0 x1 x2 x3 x4).2.1 = normL arg2 harg2 arg3 harg3 arg4 harg4 arg5 harg5 arg6 harg6 arg7 arg11 arg12 x0 x1 x2 x3 x4 (ldA arg10) baseA := by
  sl_kernel_rfl

theorem state_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 xs0).2.2.2.1 = stL arg2 harg2 arg3 harg3 arg4 harg4 arg5 harg5 arg11 arg12 x0 x1 x2 x3 (ldB arg10 harg10 xs0) [] 32 := by
  sl_kernel_rfl

theorem out_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 xs0).1 = outL arg2 harg2 arg3 harg3 arg4 harg4 arg5 harg5 arg11 arg12 x0 x1 x2 x3 (ldB arg10 harg10 xs0) [] := by
  sl_kernel_rfl

theorem save_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 xs0).2.2.1 = saveL arg2 harg2 arg3 harg3 arg4 harg4 arg5 harg5 arg11 arg12 x0 x1 x2 x3 (ldB arg10 harg10 xs0) [] := by
  sl_kernel_rfl

theorem norm_B (c : Dev nD) (i : grid0.Coords) (hc0 : ¬cond0_0 i) :
    (kernelRun0_B c i arg2 harg2 arg3 harg3 arg4 harg4 arg5 harg5 arg6 harg6 arg7 harg7 arg8 harg8 arg9 harg9 arg10 harg10 arg11 harg11 arg12 harg12 hc0 x0 x1 x2 x3 x4 xs0).2.1 = normL arg2 harg2 arg3 harg3 arg4 harg4 arg5 harg5 arg6 harg6 arg7 arg11 arg12 x0 x1 x2 x3 x4 (ldB arg10 harg10 xs0) [] := by
  sl_kernel_rfl

end

end Cert.AttnKernelIdeal.Closed

end
-- ==== Proof.Attn.Reads.lean ====
/-
  The operations of a step, read cell by cell.
-/
module

public import proofs.«01_k».proof.Proof.Attn.Lists
public import proofs.«01_k».proof.Proof.Common.Pieces
public import proofs.«01_k».proof.Proof.Attn.Model
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.AttnKernelIdeal.Closed

open Cert.AttnKernelIdeal Cert.AttnKernelIdeal.Gen
open Cert.AttnForm (rate)

/-- A whole buffer holding `x`, read through a box. -/
theorem readAt_whole {S : Shape} {e : EltTy} (arg : Memref sig .tc .vmem S e) (harg : arg.IsWhole) (x : Vec Ideal S e) (B : LoadRect S) (j : B.shape.Idx) :
    View.readAt (Elt Ideal) arg.view B (harg.unread x) j = x (B.idx j) := congrFun (harg.read_unread x) _

/-- A stack of pieces of one size read inside the piece `n` where no later piece reaches. -/
theorem canon_tileL {S : Shape} {e : EltTy} (size : Fin S.rank → ℕ) (off : ℕ → Fin S.rank → ℕ) (inb : ∀ n a, off n a + size a ≤ S.size a)
    (P : ∀ n, (Rect.unit (s := S) (off n) size (inb n)).shape.Idx → Elt Ideal e) (n : ℕ) (y : S.Idx)
    (x : (Rect.unit (s := S) (off n) size (inb n)).shape.Idx) (hx : ∀ a, (y a).val = off n a + (x a).val) :
    ∀ N, n < N → (∀ k, n < k → k < N → ∃ a, (y a).val < off k a ∨ off k a + size a ≤ (y a).val) →
      View.canon (tileL size off inb P N) y = P n x
  | 0, h, _ => absurd h (Nat.not_lt_zero _)
  | N + 1, h, hd => by
    by_cases hn : n = N
    · subst hn
      have e : (Rect.unit (s := S) (off n) size (inb n)).emb x = y := funext fun a => Fin.ext (by
        show off n a + 1 * (x a).val = (y a).val
        rw [hx a, Nat.one_mul])
      rw [← e]
      exact View.canon_cons_emb _ _ _ _
    · refine (View.canon_cons_of_not_mem _ _ fun hm => ?_).trans (canon_tileL size off inb P n y x hx N (by omega) fun k hk hkN => hd k hk (by omega))
      obtain ⟨a, ha⟩ := hd N (by omega) (by omega)
      have := (Rect.mem_set_unit (inb := inb N)).mp hm a
      omega

section
variable (v : FVec Ideal S64x256 .f32) (st : FVec Ideal S256x128 .f32) (O : ℕ → Vec Ideal S1x64x128 .bf16) (gl : FVec Ideal S1x128 .f32)

theorem sge_at (t s : Fin 64) : IntOp.cmpi .sge (BitVec.ofNat 32 t.val) (BitVec.ofNat 32 s.val) = if s.val ≤ t.val then 1#1 else 0#1 := by
  revert t s
  decide +kernel

theorem select_ite {α : Type} (p : Prop) [Decidable p] (a b : α) : Scalar.select (if p then 1#1 else 0#1) a b = if p then a else b := by
  split <;> rfl

theorem mask_at (t s : Fin 64) : (k0_pay74 : IVec S64x64 1) (ix2 t s) = if s.val ≤ t.val then 1#1 else 0#1 := by
  pointwise [k0_pay74]
  exact sge_at t s

theorem outOf_at (t : Fin 64) (e : Fin 256) : outOf v st O (ix2 t e)
    = (∑ s : Fin 64, (if s.val ≤ t.val then ∑ d : Fin 128, O 0 (ix3 0 t d) * O 1 (ix3 0 s d) else ∑ d : Fin 128, O 2 (ix3 0 t d) * O 3 (ix3 0 s d)) * v (ix2 s e))
      + ∑ d : Fin 128, O 4 (ix3 0 t d) * st (ix2 e d) := by
  pointwise [outOf]
  simp only [mask_at, select_ite]

theorem stateOf_at (e : Fin 256) (d : Fin 128) : stateOf v st O gl (ix2 e d)
    = st (ix2 e d) * Ideal.exp (gl (ix2 0 d)) + ∑ s : Fin 64, v (ix2 s e) * O 5 (ix3 0 s d) := by
  pointwise [stateOf]

theorem tri_at (t s : Fin 64) : (k0_pay4 : FVec Ideal S64x64 .bf16) (ix2 t s) = if s.val ≤ t.val then 1 else 0 := by
  pointwise [k0_pay4]
  rw [sge_at, select_ite]

theorem sumsOf_at (w : FVec Ideal S1024x512 .bf16) (c : Fin 16) (t : Fin 64) (j : Fin 256) : sumsOf w c (ix2 t j)
    = (∑ s : Fin 64, (if s.val ≤ t.val then 1 else 0) * w (ix2 ⟨64 * c.val + s.val, by omega⟩ ⟨j.val, by omega⟩))
      + ∑ s : Fin 64, (if s.val ≤ t.val then 1 else 0) * w (ix2 ⟨64 * c.val + s.val, by omega⟩ ⟨256 + j.val, by omega⟩) := by
  pointwise [sumsOf]
  simp only [tri_at]

theorem stack_at (f : Fin 16 → FVec Ideal S64x256 .f32) (r : Fin 1024) (j : Fin 256) :
    stack f (ix2 r j) = f ⟨r.val / 64, by omega⟩ (ix2 ⟨r.val % 64, by omega⟩ j) := by
  unfold stack
  refine concatenate_ofFn_apply 0 f (cat16 f) rfl 64 rfl (ix2 r j) ⟨r.val / 64, by omega⟩ rfl (ix2 ⟨r.val % 64, by omega⟩ j) rfl (Fin.forall_fin_two.2 ⟨fun h => absurd rfl h, fun _ => rfl⟩)

end

section
variable (x1 : FVec Ideal S1024x128 .f32) (x2 : FVec Ideal S128x256 .bf16) (x3 : FVec Ideal S1x256 .f32)

def pre (r : Fin 1024) (j : Fin 256) : EReal := ∑ k : Fin 128, x1 (ix2 r k) * x2 (ix2 k j) + x3 (ix2 0 j)

theorem hi_at (r : Fin 1024) (j : Fin 256) : k0_pay3 (F := Ideal) x1 x2 x3 (ix2 r ⟨j.val, by omega⟩) = rate (pre x1 x2 x3 r j) := by
  pointwise [k0_pay3]
  rfl

theorem lo_at (r : Fin 1024) (j : Fin 256) : k0_pay3 (F := Ideal) x1 x2 x3 (ix2 r ⟨256 + j.val, by omega⟩) = rate (pre x1 x2 x3 r j) - rate (pre x1 x2 x3 r j) := by
  pointwise [k0_pay3]
  rfl

end

end Cert.AttnKernelIdeal.Closed

end
-- ==== Proof.Attn.Point.lean ====
/-
  What a point leaves in its outputs and in the state, from what its inputs hold.
-/
module

public import proofs.«01_k».proof.Proof.Attn.Reads
public import proofs.«01_k».proof.Proof.Attn.Form

@[expose] public section

set_option maxRecDepth 16384

noncomputable section

open Idealize.ShloMosaic Idealize.ShloMosaic.TcCoe Idealize.SL.Sem

namespace Cert.AttnKernelIdeal.Closed

open Cert.AttnKernelIdeal Cert.AttnKernelIdeal.Gen Cert.AttnForm Cert.Reals Cert.Pieces

/-- The scale of the queries and the half of the mark. -/
abbrev scale : EReal := Ideal.ofBits .f32 0x3DB504F3#32
abbrev half : EReal := Ideal.ofBits .f32 0x3F000000#32

section
variable (arg2 : Memref sig .tc .vmem S1024x1536 .f32) (harg2 : arg2.IsWhole) (arg3 : Memref sig .tc .vmem S1024x128 .f32) (harg3 : arg3.IsWhole)
  (arg4 : Memref sig .tc .vmem S128x256 .bf16) (harg4 : arg4.IsWhole) (arg5 : Memref sig .tc .vmem S1x256 .f32) (harg5 : arg5.IsWhole)
  (arg6 : Memref sig .tc .vmem S1x512 .f32) (harg6 : arg6.IsWhole) (arg7 : Memref sig .tc .vmem S1024x512 .f32)
  (arg10 : Memref sig .tc .vmem S2x256x128 .f32) (harg10 : arg10.IsWhole) (arg11 : Memref sig .tc .vmem S1024x256 .f32)
  (arg12 : Memref sig .tc .vmem S6x1024x256 .bf16)
  (x0 : FVec Ideal S1024x1536 .f32) (x1 : FVec Ideal S1024x128 .f32) (x2 : FVec Ideal S128x256 .bf16) (x3 : FVec Ideal S1x256 .f32)
  (x4 : FVec Ideal S1x512 .f32) (xs0 : FVec Ideal S2x256x128 .f32)

/-- The running sums of a point, cell by cell. -/
theorem gOf_at (r : Fin 1024) (j : Fin 256) : gOf (F := Ideal) arg3 harg3 arg4 harg4 arg5 harg5 x1 x2 x3 (ix2 r j)
    = (∑ s : Fin 64, (if s.val ≤ r.val % 64 then 1 else 0) * rate (pre x1 x2 x3 ⟨64 * (r.val / 64) + s.val, by omega⟩ j))
      + ∑ s : Fin 64, (if s.val ≤ r.val % 64 then 1 else 0) * (rate (pre x1 x2 x3 ⟨64 * (r.val / 64) + s.val, by omega⟩ j)
        - rate (pre x1 x2 x3 ⟨64 * (r.val / 64) + s.val, by omega⟩ j)) := by
  have e3 : View.readAt (Elt Ideal) arg3.view (Rect.unit (s := S1024x128) ![0, 0] S1024x128.size inb_S1024x128_S1024x128_0_0).toLoadRect (harg3.unread x1) = x1 := by
    funext y
    idx_vars y
    refine (readAt_whole arg3 harg3 x1 _ _).trans (congrArg x1 ?_)
    funext a
    fin_cases a <;> exact Fin.ext (by show 0 + 1 * _ = _; omega)
  have e4 : View.readAt (Elt Ideal) arg4.view (Rect.unit (s := S128x256) ![0, 0] S128x256.size inb_S128x256_S128x256_0_0).toLoadRect (harg4.unread x2) = x2 := by
    funext y
    idx_vars y
    refine (readAt_whole arg4 harg4 x2 _ _).trans (congrArg x2 ?_)
    funext a
    fin_cases a <;> exact Fin.ext (by show 0 + 1 * _ = _; omega)
  have e5 : View.readAt (Elt Ideal) arg5.view (Rect.unit (s := S1x256) ![0, 0] S1x256.size inb_S1x256_S1x256_0_0).toLoadRect (harg5.unread x3) = x3 := by
    funext y
    idx_vars y
    refine (readAt_whole arg5 harg5 x3 _ _).trans (congrArg x3 ?_)
    funext a
    fin_cases a <;> exact Fin.ext (by show 0 + 1 * _ = _; omega)
  unfold gOf
  rw [e3, e4, e5]
  pointwise
  rw [stack_at, sumsOf_at]
  simp only [hi_at, lo_at]

theorem canon_g (r : Fin 1024) (j : Fin 256) (y : S1024x256.Idx) (hy0 : (y 0).val = r.val) (hy1 : (y 1).val = j.val) :
    View.canon (gL (F := Ideal) arg3 harg3 arg4 harg4 arg5 harg5 x1 x2 x3) y = gOf (F := Ideal) arg3 harg3 arg4 harg4 arg5 harg5 x1 x2 x3 (ix2 r j) := by
  have e : (Rect.unit (s := S1024x256) ![0, 0] S1024x256.size inb_S1024x256_S1024x256_0_0).emb (ix2 r j) = y := by
    funext a
    fin_cases a
    · exact Fin.ext (by show 0 + 1 * r.val = (y 0).val; omega)
    · exact Fin.ext (by show 0 + 1 * j.val = (y 1).val; omega)
  rw [← e]
  exact View.canon_cons_emb _ _ _ _

theorem gRead_at (r : Fin 1024) (j : Fin 256) : gRead (F := Ideal) arg3 harg3 arg4 harg4 arg5 harg5 arg11 x1 x2 x3 (ix2 r j) = gOf (F := Ideal) arg3 harg3 arg4 harg4 arg5 harg5 x1 x2 x3 (ix2 r j) := by
  unfold gRead
  rw [View.readCov_eq_canon']
  exact canon_g _ _ _ _ _ _ _ _ _ r j _ (by show 0 + 1 * r.val = _; omega) (by show 0 + 1 * j.val = _; omega)

theorem rowOf_at (q : ℕ) (hq : q < 64) (r : Fin 1024) (j : Fin 256) : rowOf (F := Ideal) arg3 harg3 arg4 harg4 arg5 harg5 arg11 x1 x2 x3 q (ix2 r j)
    = gOf (F := Ideal) arg3 harg3 arg4 harg4 arg5 harg5 x1 x2 x3 (ix2 ⟨64 * (r.val / 64) + q, by omega⟩ j) := by
  unfold rowOf
  rw [stack_at]
  pointwise
  rw [View.readCov_eq_canon']
  exact canon_g _ _ _ _ _ _ _ _ _ ⟨64 * (r.val / 64) + q, by omega⟩ j _ (by show 64 * (r.val / 64 % 16) + q % 64 + 1 * 0 = 64 * (r.val / 64) + q; omega)
    (by show 0 + 1 * j.val = _; omega)

theorem refOf_at (r : Fin 1024) (j : Fin 256) : refOf (F := Ideal) arg3 harg3 arg4 harg4 arg5 harg5 arg11 x1 x2 x3 (ix2 r j)
    = half * (gOf (F := Ideal) arg3 harg3 arg4 harg4 arg5 harg5 x1 x2 x3 (ix2 ⟨64 * (r.val / 64) + 0, by omega⟩ j) + gOf (F := Ideal) arg3 harg3 arg4 harg4 arg5 harg5 x1 x2 x3 (ix2 ⟨64 * (r.val / 64) + 63, by omega⟩ j)) := by
  pointwise [refOf]
  rw [rowOf_at (hq := by omega), rowOf_at (hq := by omega)]
  rfl

theorem lastOf_at (n : ℕ) (d : Fin 128) : lastOf (F := Ideal) arg3 harg3 arg4 harg4 arg5 harg5 arg11 x1 x2 x3 n (ix2 0 d)
    = gOf (F := Ideal) arg3 harg3 arg4 harg4 arg5 harg5 x1 x2 x3 (ix2 ⟨64 * (n / 2 % 16) + 63, by omega⟩ ⟨128 * (n % 2) + d.val, by omega⟩) := by
  unfold lastOf
  rw [View.readCov_eq_canon']
  exact canon_g _ _ _ _ _ _ _ _ _ _ _ _ (by show 64 * (n / 2 % 16) + 63 + 1 * 0 = 64 * (n / 2 % 16) + 63; omega)
    (by show 128 * (n % 2) + 1 * d.val = 128 * (n % 2) + d.val; omega)

theorem valOf_at (n : ℕ) (t : Fin 64) (e : Fin 256) : valOf (F := Ideal) arg2 harg2 x0 n (ix2 t e)
    = x0 (ix2 ⟨64 * (n / 2 % 16) + t.val, by omega⟩ ⟨256 + 768 * (n % 2) + e.val, by omega⟩) := by
  pointwise [valOf]
  refine (readAt_whole arg2 harg2 x0 _ _).trans (congrArg x0 ?_)
  funext a
  fin_cases a
  · exact Fin.ext (by show 64 * (n / 2 % 16) + 1 * t.val = 64 * (n / 2 % 16) + t.val; omega)
  · exact Fin.ext (by show 256 + 768 * (n % 2) + 1 * e.val = 256 + 768 * (n % 2) + e.val; omega)

theorem baseOf_at (j p : ℕ) (r : Fin 1024) (d : Fin 128) : baseOf (F := Ideal) arg2 harg2 x0 j p (ix2 r d)
    = if j % 2 = 0 then x0 (ix2 r ⟨768 * (p % 2) + d.val, by omega⟩) * scale else x0 (ix2 r ⟨128 + 768 * (p % 2) + d.val, by omega⟩) := by
  have e : View.readAt (Elt Ideal) arg2.view (Rect.unit (s := S1024x1536) ![0, 128 * (j % 2) + 768 * (p % 2)] S1024x128.size (inbQ j p)).toLoadRect
      (harg2.unread x0) (ix2 r d) = x0 (ix2 r ⟨128 * (j % 2) + 768 * (p % 2) + d.val, by omega⟩) := by
    refine (readAt_whole arg2 harg2 x0 _ _).trans (congrArg x0 ?_)
    funext a
    fin_cases a
    · exact Fin.ext (by show 0 + 1 * r.val = r.val; omega)
    · exact Fin.ext (by show 128 * (j % 2) + 768 * (p % 2) + 1 * d.val = 128 * (j % 2) + 768 * (p % 2) + d.val; omega)
  unfold baseOf
  dsimp only
  rcases Nat.mod_two_eq_zero_or_one j with hj | hj
  · rw [show Nat.beq (j % 2) 0 = true by rw [hj]; rfl, cond_true, if_pos hj]
    pointwise
    refine congrArg (fun u : EReal => u * scale) (e.trans (congrArg x0 (congrArg (ix2 r) (Fin.ext ?_))))
    show 128 * (j % 2) + 768 * (p % 2) + d.val = 768 * (p % 2) + d.val
    omega
  · rw [show Nat.beq (j % 2) 0 = false by rw [hj]; rfl, cond_false, if_neg (by omega)]
    pointwise
    refine e.trans (congrArg x0 (congrArg (ix2 r) (Fin.ext ?_)))
    show 128 * (j % 2) + 768 * (p % 2) + d.val = 128 + 768 * (p % 2) + d.val
    omega

/-- An operand's cell: its columns by its decay. -/
theorem opOf_at (n j : ℕ) (hj : j < 6) (t : Fin 64) (d : Fin 128) : opOf (F := Ideal) arg2 harg2 arg3 harg3 arg4 harg4 arg5 harg5 arg11 arg12 x0 x1 x2 x3 n j (ix3 0 t d)
    = baseOf (F := Ideal) arg2 harg2 x0 j (n % 2) (ix2 ⟨64 * (n / 2 % 16) + t.val, by omega⟩ d)
      * decayOf (F := Ideal) arg3 harg3 arg4 harg4 arg5 harg5 arg11 x1 x2 x3 j (ix2 ⟨64 * (n / 2 % 16) + t.val, by omega⟩ ⟨128 * (n % 2) + d.val, by omega⟩) := by
  have h1 : (6 * (n % 2) + j) % 6 = j := by omega
  have h2 : (6 * (n % 2) + j) / 6 = n % 2 := by omega
  unfold opOf
  rw [View.readCov_eq_canon']
  unfold operandL
  refine (canon_tileL _ _ _ _ (6 * (n % 2) + j) _ (ix3 0 ⟨64 * (n / 2 % 16) + t.val, by omega⟩ d) (forall_three ?_ ?_ ?_) 12 (by omega) fun k hk hk12 => ?_).trans ?_
  · show j % 6 + 1 * 0 = (6 * (n % 2) + j) % 6 + 0
    omega
  · show 64 * (n / 2 % 16) + 1 * t.val = 0 + (64 * (n / 2 % 16) + t.val)
    omega
  · show 128 * (n % 2) + 1 * d.val = 128 * ((6 * (n % 2) + j) / 6 % 2) + d.val
    omega
  · by_cases hkj : k % 6 = j
    · refine ⟨2, Or.inl ?_⟩
      show 128 * (n % 2) + 1 * d.val < 128 * (k / 6 % 2)
      omega
    · refine ⟨0, ?_⟩
      show j % 6 + 1 * 0 < k % 6 ∨ k % 6 + 1 ≤ j % 6 + 1 * 0
      omega
  · pointwise
    refine congrArg₂ (fun u v : EReal => u * v) ?_ ?_
    · rw [h1, h2]
    · rw [h1]
      refine congrArg (fun q => decayOf (F := Ideal) arg3 harg3 arg4 harg4 arg5 harg5 arg11 x1 x2 x3 j (ix2 ⟨64 * (n / 2 % 16) + t.val, by omega⟩ q)) (Fin.ext ?_)
      show 128 * ((6 * (n % 2) + j) / 6 % 2) + d.val = 128 * (n % 2) + d.val
      omega

end

end Cert.AttnKernelIdeal.Closed

end
-- ==== Proof.Attn.Steps.lean ====
/-
  A point's steps in turn: the states they start from, and what the outputs hold when they are done.
-/
module

public import proofs.«01_k».proof.Proof.Attn.Point
public import proofs.«01_k».proof.Proof.Common.Scalars

@[expose] public section

set_option maxRecDepth 16384

noncomputable section

open Idealize.ShloMosaic Idealize.ShloMosaic.TcCoe Idealize.SL.Sem

namespace Cert.AttnKernelIdeal.Closed

open Cert.AttnKernelIdeal Cert.AttnKernelIdeal.Gen Cert.AttnForm Cert.Reals Cert.Pieces

theorem norm_at (o x : FVec Ideal S1024x256 .f32) (g : FVec Ideal S1x256 .f32) (r : Fin 1024) (e : Fin 256) : k0_pay300 (F := Ideal) o x g (ix2 r e)
    = normed (fun j => o (ix2 r j)) (fun j => g (ix2 0 j)) (fun j => x (ix2 r j)) e := by
  pointwise [k0_pay300]
  unfold normed
  rw [sigmoid_eq]

section
variable (arg2 : Memref sig .tc .vmem S1024x1536 .f32) (harg2 : arg2.IsWhole) (arg3 : Memref sig .tc .vmem S1024x128 .f32) (harg3 : arg3.IsWhole)
  (arg4 : Memref sig .tc .vmem S128x256 .bf16) (harg4 : arg4.IsWhole) (arg5 : Memref sig .tc .vmem S1x256 .f32) (harg5 : arg5.IsWhole)
  (arg6 : Memref sig .tc .vmem S1x512 .f32) (harg6 : arg6.IsWhole) (arg7 : Memref sig .tc .vmem S1024x512 .f32)
  (arg10 : Memref sig .tc .vmem S2x256x128 .f32) (harg10 : arg10.IsWhole) (arg11 : Memref sig .tc .vmem S1024x256 .f32)
  (arg12 : Memref sig .tc .vmem S6x1024x256 .bf16)
  (x0 : FVec Ideal S1024x1536 .f32) (x1 : FVec Ideal S1024x128 .f32) (x2 : FVec Ideal S128x256 .bf16) (x3 : FVec Ideal S1x256 .f32)
  (x4 : FVec Ideal S1x512 .f32) (xs0 : FVec Ideal S2x256x128 .f32)

/-- A point's inputs are the attention's arrays from chunk `C` and head `h` on. -/
structure Holds (D : Data) (C h : ℕ) : Prop where
  q : ∀ (r : Fin 1024) (p : ℕ) (d : Fin 128), x0 (ix2 r ⟨768 * (p % 2) + d.val, by omega⟩) * scale = D.q (64 * C + r.val) (h + p % 2) d
  k : ∀ (r : Fin 1024) (p : ℕ) (d : Fin 128), x0 (ix2 r ⟨128 + 768 * (p % 2) + d.val, by omega⟩) = D.k (64 * C + r.val) (h + p % 2) d
  v : ∀ (r : Fin 1024) (p : ℕ) (e : Fin 256), x0 (ix2 r ⟨256 + 768 * (p % 2) + e.val, by omega⟩) = D.v (64 * C + r.val) (h + p % 2) e
  g : ∀ (r : Fin 1024) (p : ℕ) (d : Fin 128), gOf (F := Ideal) arg3 harg3 arg4 harg4 arg5 harg5 x1 x2 x3 (ix2 r ⟨128 * (p % 2) + d.val, by omega⟩)
    = D.g (64 * C + r.val) (h + p % 2) d

variable {arg2 harg2 arg3 harg3 arg4 harg4 arg5 harg5 arg6 harg6 arg7 arg10 harg10 arg11 arg12 x0 x1 x2 x3 x4 xs0}
variable {D : Data} {C h : ℕ} (H : Holds arg3 harg3 arg4 harg4 arg5 harg5 x0 x1 x2 x3 D C h)

/-- The mark a chunk's decays are measured from. -/
def mark (D : Data) (h C : ℕ) (d : Fin 128) : EReal := half * (D.g (64 * C + 0) h d + D.g (64 * C + 63) h d)

theorem mark_real (hD : Decaying D) (d : Fin 128) : IsReal (mark D h C d) := by
  unfold mark
  refine IsReal.mul ?_ ((hD.real _ _ _).add (hD.real _ _ _))
  rw [half, Cert.Scalars.half_f32]
  exact coe _

include H

theorem Holds.mark (n : ℕ) (hn : n < 32) (t : Fin 64) (d : Fin 128) :
    refOf (F := Ideal) arg3 harg3 arg4 harg4 arg5 harg5 arg11 x1 x2 x3 (ix2 ⟨64 * (n / 2 % 16) + t.val, by omega⟩ ⟨128 * (n % 2) + d.val, by omega⟩) = mark D (h + n % 2) (C + n / 2) d := by
  rw [refOf_at, H.g, H.g]
  unfold Closed.mark
  refine congrArg₂ (fun a b : EReal => half * (a + b)) (congrArg (fun r => D.g r _ d) ?_) (congrArg (fun r => D.g r _ d) ?_)
  · show 64 * C + (64 * ((64 * (n / 2 % 16) + t.val) / 64) + 0) = 64 * (C + n / 2) + 0
    omega
  · show 64 * C + (64 * ((64 * (n / 2 % 16) + t.val) / 64) + 63) = 64 * (C + n / 2) + 63
    omega

theorem Holds.sum (n : ℕ) (hn : n < 32) (t : Fin 64) (d : Fin 128) :
    gRead (F := Ideal) arg3 harg3 arg4 harg4 arg5 harg5 arg11 x1 x2 x3 (ix2 ⟨64 * (n / 2 % 16) + t.val, by omega⟩ ⟨128 * (n % 2) + d.val, by omega⟩)
      = D.g (64 * (C + n / 2) + t.val) (h + n % 2) d := by
  rw [gRead_at, H.g]
  refine congrArg (fun r => D.g r _ d) ?_
  show 64 * C + (64 * (n / 2 % 16) + t.val) = 64 * (C + n / 2) + t.val
  omega

theorem Holds.last (n : ℕ) (hn : n < 32) (t : Fin 64) (d : Fin 128) :
    rowOf (F := Ideal) arg3 harg3 arg4 harg4 arg5 harg5 arg11 x1 x2 x3 63 (ix2 ⟨64 * (n / 2 % 16) + t.val, by omega⟩ ⟨128 * (n % 2) + d.val, by omega⟩)
      = D.g (64 * (C + n / 2) + 63) (h + n % 2) d := by
  rw [rowOf_at (hq := by omega), H.g]
  refine congrArg (fun r => D.g r _ d) ?_
  show 64 * C + (64 * ((64 * (n / 2 % 16) + t.val) / 64) + 63) = 64 * (C + n / 2) + 63
  omega

theorem Holds.lastD (n : ℕ) (hn : n < 32) (d : Fin 128) : lastOf (F := Ideal) arg3 harg3 arg4 harg4 arg5 harg5 arg11 x1 x2 x3 n (ix2 0 d)
    = D.g (64 * (C + n / 2) + 63) (h + n % 2) d := by
  rw [lastOf_at, H.g]
  refine congrArg (fun r => D.g r _ d) ?_
  show 64 * C + (64 * (n / 2 % 16) + 63) = 64 * (C + n / 2) + 63
  omega

theorem Holds.query (n : ℕ) (hn : n < 32) (j : ℕ) (hj : j % 2 = 0) (t : Fin 64) (d : Fin 128) :
    baseOf (F := Ideal) arg2 harg2 x0 j (n % 2) (ix2 ⟨64 * (n / 2 % 16) + t.val, by omega⟩ d) = D.q (64 * (C + n / 2) + t.val) (h + n % 2) d := by
  rw [baseOf_at, if_pos hj, H.q]
  refine congrArg₂ (fun r p => D.q r p d) ?_ ?_
  · show 64 * C + (64 * (n / 2 % 16) + t.val) = 64 * (C + n / 2) + t.val
    omega
  · show h + n % 2 % 2 = h + n % 2
    omega

theorem Holds.key (n : ℕ) (hn : n < 32) (j : ℕ) (hj : j % 2 = 1) (t : Fin 64) (d : Fin 128) :
    baseOf (F := Ideal) arg2 harg2 x0 j (n % 2) (ix2 ⟨64 * (n / 2 % 16) + t.val, by omega⟩ d) = D.k (64 * (C + n / 2) + t.val) (h + n % 2) d := by
  rw [baseOf_at, if_neg (by omega), H.k]
  refine congrArg₂ (fun r p => D.k r p d) ?_ ?_
  · show 64 * C + (64 * (n / 2 % 16) + t.val) = 64 * (C + n / 2) + t.val
    omega
  · show h + n % 2 % 2 = h + n % 2
    omega

theorem Holds.val (n : ℕ) (hn : n < 32) (t : Fin 64) (e : Fin 256) :
    valOf (F := Ideal) arg2 harg2 x0 n (ix2 t e) = D.v (64 * (C + n / 2) + t.val) (h + n % 2) e := by
  rw [valOf_at, H.v]
  refine congrArg (fun r => D.v r _ e) ?_
  show 64 * C + (64 * (n / 2 % 16) + t.val) = 64 * (C + n / 2) + t.val
  omega

/-- A step's output over the state it starts from. -/
theorem Holds.outAt (hD : Decaying D) (n : ℕ) (hn : n < 32) (st : FVec Ideal S256x128 .f32)
    (hst : ∀ e d, st (ix2 e d) = state D (h + n % 2) (C + n / 2) e d) (t : Fin 64) (e : Fin 256) :
    outOf (valOf (F := Ideal) arg2 harg2 x0 n) st (opOf (F := Ideal) arg2 harg2 arg3 harg3 arg4 harg4 arg5 harg5 arg11 arg12 x0 x1 x2 x3 n) (ix2 t e)
      = AttnForm.out D (h + n % 2) (C + n / 2) t e := by
  rw [outOf_at]
  unfold AttnForm.out
  refine congrArg₂ (fun a b : EReal => a + b) (Finset.sum_congr rfl fun s _ => ?_) (Finset.sum_congr rfl fun d _ => ?_)
  · rw [H.val n hn]
    refine congrArg (fun a : EReal => a * _) (Eq.trans ?_ (score_mark hD (h + n % 2) (C + n / 2) (Closed.mark D (h + n % 2) (C + n / 2)) (mark_real hD) t s))
    split
    · refine Finset.sum_congr rfl fun d _ => ?_
      rw [opOf_at _ _ _ _ _ _ _ _ _ _ _ _ _ _ n 0 (by omega), opOf_at _ _ _ _ _ _ _ _ _ _ _ _ _ _ n 1 (by omega), H.query n hn 0 rfl, H.key n hn 1 rfl]
      refine congrArg₂ (fun a b : EReal => _ * a * (_ * b)) ?_ ?_
      · show Ideal.exp (gRead (F := Ideal) arg3 harg3 arg4 harg4 arg5 harg5 arg11 x1 x2 x3 _ - refOf (F := Ideal) arg3 harg3 arg4 harg4 arg5 harg5 arg11 x1 x2 x3 _) = _
        rw [H.sum n hn, H.mark n hn]
      · show Ideal.exp (refOf (F := Ideal) arg3 harg3 arg4 harg4 arg5 harg5 arg11 x1 x2 x3 _ - gRead (F := Ideal) arg3 harg3 arg4 harg4 arg5 harg5 arg11 x1 x2 x3 _) = _
        rw [H.sum n hn, H.mark n hn]
    · refine Finset.sum_congr rfl fun d _ => ?_
      rw [opOf_at _ _ _ _ _ _ _ _ _ _ _ _ _ _ n 2 (by omega), opOf_at _ _ _ _ _ _ _ _ _ _ _ _ _ _ n 3 (by omega), H.query n hn 2 rfl, H.key n hn 3 rfl]
      refine congrArg₂ (fun a b : EReal => _ * a * (_ * b)) ?_ ?_
      · show Ideal.exp (refOf (F := Ideal) arg3 harg3 arg4 harg4 arg5 harg5 arg11 x1 x2 x3 _ - gRead (F := Ideal) arg3 harg3 arg4 harg4 arg5 harg5 arg11 x1 x2 x3 _) = _
        rw [H.sum n hn, H.mark n hn]
      · show Ideal.exp (gRead (F := Ideal) arg3 harg3 arg4 harg4 arg5 harg5 arg11 x1 x2 x3 _ - refOf (F := Ideal) arg3 harg3 arg4 harg4 arg5 harg5 arg11 x1 x2 x3 _) = _
        rw [H.sum n hn, H.mark n hn]
  · rw [opOf_at _ _ _ _ _ _ _ _ _ _ _ _ _ _ n 4 (by omega), H.query n hn 4 rfl, hst]
    refine congrArg (fun a : EReal => _ * a * _) ?_
    show Ideal.exp (gRead (F := Ideal) arg3 harg3 arg4 harg4 arg5 harg5 arg11 x1 x2 x3 _) = _
    rw [H.sum n hn]

/-- A step's new state over the one it starts from. -/
theorem Holds.nextAt (n : ℕ) (hn : n < 32) (st : FVec Ideal S256x128 .f32)
    (hst : ∀ e d, st (ix2 e d) = state D (h + n % 2) (C + n / 2) e d) (e : Fin 256) (d : Fin 128) :
    stateOf (valOf (F := Ideal) arg2 harg2 x0 n) st (opOf (F := Ideal) arg2 harg2 arg3 harg3 arg4 harg4 arg5 harg5 arg11 arg12 x0 x1 x2 x3 n) (lastOf (F := Ideal) arg3 harg3 arg4 harg4 arg5 harg5 arg11 x1 x2 x3 n) (ix2 e d)
      = state D (h + n % 2) (C + n / 2 + 1) e d := by
  rw [stateOf_at]
  show _ = AttnForm.next D (h + n % 2) (C + n / 2) (state D (h + n % 2) (C + n / 2)) e d
  unfold AttnForm.next
  rw [hst, H.lastD n hn]
  refine congrArg (fun a : EReal => _ + a) (Finset.sum_congr rfl fun s _ => ?_)
  rw [H.val n hn, opOf_at _ _ _ _ _ _ _ _ _ _ _ _ _ _ n 5 (by omega), H.key n hn 5 rfl]
  refine congrArg (fun a : EReal => _ * (_ * a)) ?_
  show Ideal.exp (rowOf (F := Ideal) arg3 harg3 arg4 harg4 arg5 harg5 arg11 x1 x2 x3 63 _ - gRead (F := Ideal) arg3 harg3 arg4 harg4 arg5 harg5 arg11 x1 x2 x3 _) = _
  rw [H.sum n hn, H.last n hn]

variable {ld : ℕ → List (View.Piece (Elt Ideal) S2x256x128 .f32) → Vec Ideal S1x256x128 .f32} {base : List (View.Piece (Elt Ideal) S2x256x128 .f32)}
  (hld : ∀ n L, 2 ≤ n → ld n L = ldA (F := Ideal) arg10 n L)
  (h0 : ∀ p, p < 2 → ∀ e d, ld p (stL (F := Ideal) arg2 harg2 arg3 harg3 arg4 harg4 arg5 harg5 arg11 arg12 x0 x1 x2 x3 ld base p) (ix3 0 e d) = state D (h + p) C e d)

omit H in
/-- The state's pieces after one more step, inside and outside that step's head. -/
theorem canon_hit (n : ℕ) (y : S2x256x128.Idx) (e : Fin 256) (d : Fin 128) (y0 : (y 0).val = n % 2) (y1 : (y 1).val = e.val) (y2 : (y 2).val = d.val) :
    View.canon (stL (F := Ideal) arg2 harg2 arg3 harg3 arg4 harg4 arg5 harg5 arg11 arg12 x0 x1 x2 x3 ld base (n + 1)) y
      = stateOf (valOf (F := Ideal) arg2 harg2 x0 n) (stAt (F := Ideal) arg2 harg2 arg3 harg3 arg4 harg4 arg5 harg5 arg11 arg12 x0 x1 x2 x3 ld base n) (opOf (F := Ideal) arg2 harg2 arg3 harg3 arg4 harg4 arg5 harg5 arg11 arg12 x0 x1 x2 x3 n)
        (lastOf (F := Ideal) arg3 harg3 arg4 harg4 arg5 harg5 arg11 x1 x2 x3 n) (ix2 e d) := by
  have ey : (Rect.unit (s := S2x256x128) ![n % 2, 0, 0] S1x256x128.size (inbS n)).emb (ix3 0 e d) = y := funext (forall_three
    (Fin.ext (by show n % 2 + 1 * 0 = (y 0).val; omega)) (Fin.ext (by show 0 + 1 * e.val = (y 1).val; omega))
    (Fin.ext (by show 0 + 1 * d.val = (y 2).val; omega)))
  rw [← ey]
  refine (View.canon_cons_emb _ _ _ _).trans ?_
  pointwise
  rfl

omit H in
theorem canon_miss (n : ℕ) (y : S2x256x128.Idx) (y0 : (y 0).val ≠ n % 2) :
    View.canon (stL (F := Ideal) arg2 harg2 arg3 harg3 arg4 harg4 arg5 harg5 arg11 arg12 x0 x1 x2 x3 ld base (n + 1)) y = View.canon (stL (F := Ideal) arg2 harg2 arg3 harg3 arg4 harg4 arg5 harg5 arg11 arg12 x0 x1 x2 x3 ld base n) y := by
  refine View.canon_cons_of_not_mem _ _ fun hm => ?_
  have := (Rect.mem_set_unit (inb := inbS n)).mp hm 0
  have h1 : n % 2 ≤ (y 0).val := this.1
  have h2 : (y 0).val < n % 2 + 1 := this.2
  omega

include hld h0

/-- The state step `2 c + p` starts from. -/
theorem Holds.steady (p : ℕ) (hp : p < 2) : ∀ c, c < 16 → ∀ e d, stAt (F := Ideal) arg2 harg2 arg3 harg3 arg4 harg4 arg5 harg5 arg11 arg12 x0 x1 x2 x3 ld base (2 * c + p) (ix2 e d) = state D (h + p) (C + c) e d
  | 0, _, e, d => by
    rw [show 2 * 0 + p = p by omega]
    pointwise
    exact h0 p hp e d
  | c + 1, hc, e, d => by
    have ih := Holds.steady p hp c (by omega)
    rw [show 2 * (c + 1) + p = 2 * c + p + 1 + 1 by omega]
    pointwise
    rw [hld _ _ (by omega)]
    unfold ldA
    rw [View.readCov_eq_canon']
    refine (canon_miss _ _ ?_).trans ((canon_hit _ _ e d ?_ ?_ ?_).trans ?_)
    · show (2 * c + p + 1 + 1) % 2 + 1 * 0 ≠ (2 * c + p + 1) % 2
      omega
    · show (2 * c + p + 1 + 1) % 2 + 1 * 0 = (2 * c + p) % 2
      omega
    · show 0 + 1 * e.val = e.val
      omega
    · show 0 + 1 * d.val = d.val
      omega
    · have e1 : (2 * c + p) % 2 = p := by omega
      have e2 : (2 * c + p) / 2 = c := by omega
      refine (H.nextAt (2 * c + p) (by omega) _ (by rw [e1, e2]; exact ih) e d).trans ?_
      rw [e1, e2]
      rfl

theorem Holds.stateAt (n : ℕ) (hn : n < 32) (e : Fin 256) (d : Fin 128) : stAt (F := Ideal) arg2 harg2 arg3 harg3 arg4 harg4 arg5 harg5 arg11 arg12 x0 x1 x2 x3 ld base n (ix2 e d)
    = AttnForm.state D (h + n % 2) (C + n / 2) e d := by
  have := H.steady hld h0 (n % 2) (by omega) (n / 2) (by omega) e d
  rwa [show 2 * (n / 2) + n % 2 = n by omega] at this

/-- The state a point hands on. -/
theorem Holds.state_end (p : Fin 2) (e : Fin 256) (d : Fin 128) :
    View.canon (stL (F := Ideal) arg2 harg2 arg3 harg3 arg4 harg4 arg5 harg5 arg11 arg12 x0 x1 x2 x3 ld base 32) (ix3 p e d) = AttnForm.state D (h + p.val) (C + 16) e d := by
  have fin (n : ℕ) (hn : n < 32) (hn' : n / 2 = 15) (hp : p.val = n % 2) : View.canon (stL (F := Ideal) arg2 harg2 arg3 harg3 arg4 harg4 arg5 harg5 arg11 arg12 x0 x1 x2 x3 ld base (n + 1)) (ix3 p e d)
      = AttnForm.state D (h + p.val) (C + 16) e d := by
    refine (canon_hit n _ e d hp rfl rfl).trans ((H.nextAt n hn _ (H.stateAt hld h0 n hn) e d).trans ?_)
    rw [hn', hp]
  by_cases hp : p.val = 0
  · exact (canon_miss 31 _ (by show p.val ≠ 31 % 2; omega)).trans (fin 30 (by omega) rfl (by omega))
  · exact fin 31 (by omega) rfl (by omega)

/-- The saved states. -/
theorem Holds.saved (p : Fin 2) (c : Fin 16) (e : Fin 256) (d : Fin 128) :
    View.canon (saveL (F := Ideal) arg2 harg2 arg3 harg3 arg4 harg4 arg5 harg5 arg11 arg12 x0 x1 x2 x3 ld base) (ix4 p c e d) = AttnForm.state D (h + p.val) (C + c.val) e d := by
  unfold saveL
  refine (canon_tileL _ _ _ _ (2 * c.val + p.val) _ (ix4 0 0 e d) (forall_four ?_ ?_ ?_ ?_) 32 (by omega) fun k hk hk32 => ?_).trans ?_
  · show p.val = (2 * c.val + p.val) % 2 + 0
    omega
  · show c.val = (2 * c.val + p.val) / 2 % 16 + 0
    omega
  · show e.val = 0 + e.val
    omega
  · show d.val = 0 + d.val
    omega
  · by_cases hkp : k % 2 = p.val
    · refine ⟨1, ?_⟩
      show c.val < k / 2 % 16 ∨ k / 2 % 16 + 1 ≤ c.val
      omega
    · refine ⟨0, ?_⟩
      show p.val < k % 2 ∨ k % 2 + 1 ≤ p.val
      omega
  · refine Eq.trans ?_ (H.steady hld h0 p.val p.isLt c.val c.isLt e d)
    pointwise

/-- The outputs. -/
theorem Holds.outs (hD : Decaying D) (r : Fin 1024) (p : ℕ) (hp : p < 2) (e : Fin 256) (y : S1024x512.Idx) (y0 : (y 0).val = r.val) (y1 : (y 1).val = 256 * p + e.val) :
    View.canon (outL (F := Ideal) arg2 harg2 arg3 harg3 arg4 harg4 arg5 harg5 arg11 arg12 x0 x1 x2 x3 ld base) y = AttnForm.out D (h + p) (C + r.val / 64) ⟨r.val % 64, by omega⟩ e := by
  have e1 : (2 * (r.val / 64) + p) % 2 = p := by omega
  have e2 : (2 * (r.val / 64) + p) / 2 = r.val / 64 := by omega
  unfold outL
  refine (canon_tileL _ _ _ _ (2 * (r.val / 64) + p) _ (ix2 ⟨r.val % 64, by omega⟩ e) (Fin.forall_fin_two.2 ⟨?_, ?_⟩) 32 (by omega) fun k hk hk32 => ?_).trans ?_
  · show (y 0).val = 64 * ((2 * (r.val / 64) + p) / 2 % 16) + r.val % 64
    omega
  · show (y 1).val = 256 * ((2 * (r.val / 64) + p) % 2) + e.val
    omega
  · by_cases hkp : k % 2 = p
    · refine ⟨0, ?_⟩
      show (y 0).val < 64 * (k / 2 % 16) ∨ 64 * (k / 2 % 16) + 64 ≤ (y 0).val
      omega
    · refine ⟨1, ?_⟩
      show (y 1).val < 256 * (k % 2) ∨ 256 * (k % 2) + 256 ≤ (y 1).val
      omega
  · refine (H.outAt hD (2 * (r.val / 64) + p) (by omega) _ (H.stateAt hld h0 _ (by omega)) _ _).trans ?_
    rw [e1, e2]

/-- The normed and gated outputs. -/
theorem Holds.norms (hD : Decaying D) (r : Fin 1024) (p : ℕ) (hp : p < 2) (e : Fin 256) (y : S1024x512.Idx) (y0 : (y 0).val = r.val) (y1 : (y 1).val = 256 * p + e.val) :
    View.canon (normL (F := Ideal) arg2 harg2 arg3 harg3 arg4 harg4 arg5 harg5 arg6 harg6 arg7 arg11 arg12 x0 x1 x2 x3 x4 ld base) y
      = normed (fun j => AttnForm.out D (h + p) (C + r.val / 64) ⟨r.val % 64, by omega⟩ j) (fun j => x4 (ix2 0 ⟨256 * p + j.val, by omega⟩))
          (fun j => x0 (ix2 r ⟨512 + 768 * p + j.val, by omega⟩)) e := by
  have hx (j : Fin 256) : View.readAt (Elt Ideal) arg2.view (Rect.unit (s := S1024x1536) ![0, 512 + 768 * (p % 2)] S1024x256.size (inbX p)).toLoadRect
      (harg2.unread x0) (ix2 r j) = x0 (ix2 r ⟨512 + 768 * p + j.val, by omega⟩) := by
    refine (readAt_whole arg2 harg2 x0 _ _).trans (congrArg x0 (funext (Fin.forall_fin_two.2 ⟨Fin.ext ?_, Fin.ext ?_⟩)))
    · show 0 + 1 * r.val = r.val
      omega
    · show 512 + 768 * (p % 2) + 1 * j.val = 512 + 768 * p + j.val
      omega
  have hg (j : Fin 256) : View.readAt (Elt Ideal) arg6.view (Rect.unit (s := S1x512) ![0, 256 * (p % 2)] S1x256.size (inbN p)).toLoadRect
      (harg6.unread x4) (ix2 0 j) = x4 (ix2 0 ⟨256 * p + j.val, by omega⟩) := by
    refine (readAt_whole arg6 harg6 x4 _ _).trans (congrArg x4 (funext (Fin.forall_fin_two.2 ⟨Fin.ext ?_, Fin.ext ?_⟩)))
    · show 0 + 1 * 0 = 0
      omega
    · show 256 * (p % 2) + 1 * j.val = 256 * p + j.val
      omega
  have ho (j : Fin 256) : arg7.view.readCov (outL (F := Ideal) arg2 harg2 arg3 harg3 arg4 harg4 arg5 harg5 arg11 arg12 x0 x1 x2 x3 ld base)
      (Rect.unit (s := S1024x512) ![0, 256 * (p % 2)] S1024x256.size (inbY p)).toLoadRect (ix2 r j)
      = AttnForm.out D (h + p) (C + r.val / 64) ⟨r.val % 64, by omega⟩ j := by
    rw [View.readCov_eq_canon']
    refine H.outs hld h0 hD r p hp j _ ?_ ?_
    · show 0 + 1 * r.val = r.val
      omega
    · show 256 * (p % 2) + 1 * j.val = 256 * p + j.val
      omega
  unfold normL
  refine (canon_tileL _ _ _ _ p _ (ix2 r e) (Fin.forall_fin_two.2 ⟨?_, ?_⟩) 2 hp fun k hk hk2 => ⟨1, ?_⟩).trans ?_
  · show (y 0).val = 0 + r.val
    omega
  · show (y 1).val = 256 * (p % 2) + e.val
    omega
  · show (y 1).val < 256 * (k % 2) ∨ 256 * (k % 2) + 256 ≤ (y 1).val
    omega
  · rw [norm_at]
    simp only [hx, hg, ho]

end

end Cert.AttnKernelIdeal.Closed

end
-- ==== Proof.Attn.Kernel.lean ====
/-
  The arrays the attention's forward kernel leaves: its output, the norm gated, the states the chunks start from.
-/
module

public import proofs.«01_k».proof.Proof.Attn.Host
public import proofs.«01_k».proof.Proof.Attn.Steps

@[expose] public section

set_option maxRecDepth 16384

noncomputable section

open Idealize.ShloMosaic Idealize.ShloMosaic.TcCoe Idealize.SL.Sem

namespace Cert.AttnKernelIdeal.Closed

open Cert.AttnKernelIdeal Cert.AttnKernelIdeal.Gen Cert.AttnForm Cert.Pieces Cert.Reals

variable (m : (ℓ : Loc nD τ sig) → Buf (Elt Ideal) ℓ)

theorem lt16 (t : Fin cfg0.N) : t.val < 16 := lt_of_lt_of_eq t.isLt N_0

theorem idx0 : ∀ t : Fin cfg0.N, win0_0.index t = ![t.val % 8, 3 + t.val / 8] := (by decide +kernel : ∀ t : Fin grid0.N, win0_0.index t = ![t.val % 8, 3 + t.val / 8])
theorem idx1 : ∀ t : Fin cfg0.N, win0_1.index t = ![t.val % 8, 32] := (by decide +kernel : ∀ t : Fin grid0.N, win0_1.index t = ![t.val % 8, 32])
theorem idx2 : ∀ t : Fin cfg0.N, win0_2.index t = ![0, t.val / 8] := (by decide +kernel : ∀ t : Fin grid0.N, win0_2.index t = ![0, t.val / 8])
theorem idx3 : ∀ t : Fin cfg0.N, win0_3.index t = ![0, t.val / 8] := (by decide +kernel : ∀ t : Fin grid0.N, win0_3.index t = ![0, t.val / 8])
theorem idx4 : ∀ t : Fin cfg0.N, win0_4.index t = ![0, t.val / 8] := (by decide +kernel : ∀ t : Fin grid0.N, win0_4.index t = ![0, t.val / 8])
theorem idx5 : ∀ t : Fin cfg0.N, win0_5.index t = ![t.val % 8, t.val / 8] := (by decide +kernel : ∀ t : Fin grid0.N, win0_5.index t = ![t.val % 8, t.val / 8])
theorem idx6 : ∀ t : Fin cfg0.N, win0_6.index t = ![t.val % 8, t.val / 8] := (by decide +kernel : ∀ t : Fin grid0.N, win0_6.index t = ![t.val % 8, t.val / 8])
theorem idx7 : ∀ t : Fin cfg0.N, win0_7.index t = ![t.val / 8, t.val % 8, 0, 0] := (by decide +kernel : ∀ t : Fin grid0.N, win0_7.index t = ![t.val / 8, t.val % 8, 0, 0])

section
variable (c : Dev nD) (t : Fin cfg0.N)

theorem row_lt (r : Fin 1024) : 1024 * (t.val % 8) + r.val < 8192 := by omega

/-! What a point reads. -/

theorem read0 (r : Fin 1024) (j : Fin 1536) : iblk m c 0 t (ix2 r j)
    = V m c main_v21 (ix2 ⟨1024 * (t.val % 8) + r.val, row_lt t r⟩ ⟨1536 * (3 + t.val / 8) + j.val, by have := lt16 t; omega⟩) := by
  blk_ext [iblk, idx0 t]

theorem read1 (r : Fin 1024) (j : Fin 128) : iblk m c 1 t (ix2 r j)
    = V m c main_v21 (ix2 ⟨1024 * (t.val % 8) + r.val, row_lt t r⟩ ⟨4096 + j.val, by omega⟩) := by
  blk_ext [iblk, idx1 t]

theorem read2 (k : Fin 128) (j : Fin 256) : iblk m c 2 t (ix2 k j)
    = V m c main_v24 (ix2 ⟨k.val, by omega⟩ ⟨256 * (t.val / 8) + j.val, by have := lt16 t; omega⟩) := by
  blk_ext [iblk, idx2 t]

theorem read3 (j : Fin 256) : iblk m c 3 t (ix2 0 j) = V m c main_v25 (ix2 0 ⟨256 * (t.val / 8) + j.val, by have := lt16 t; omega⟩) := by
  blk_ext [iblk, idx3 t]

theorem read4 (j : Fin 512) : iblk m c 4 t (ix2 0 j) = V m c main_v26 (ix2 0 ⟨512 * (t.val / 8) + j.val, by have := lt16 t; omega⟩) := by
  blk_ext [iblk, idx4 t]

/-- A sum whose terms past the sixteenth vanish. -/
theorem sum_first (f : ℕ → EReal) (hf : ∀ k, 16 ≤ k → f k = 0) : ∑ k : Fin 128, f k.val = ∑ k : Fin 16, f k.val := by
  rw [Fin.sum_univ_eq_sum_range, Fin.sum_univ_eq_sum_range]
  refine (Finset.sum_subset (Finset.range_subset_range.2 (by omega)) fun k _ hk => hf k ?_).symm
  simpa using hk

theorem pre_at (r : Fin 1024) (j : Fin 256) : pre (iblk m c 1 t) (iblk m c 2 t) (iblk m c 3 t) r j
    = logit (args m c) (1024 * (t.val % 8) + r.val) (256 * (t.val / 8) + j.val) := by
  unfold pre logit
  refine congrArg₂ (fun a b : EReal => a + b) ?_ ?_
  · refine Eq.trans (Finset.sum_congr rfl fun k _ => ?_) ((sum_first (fun k => (if k < 16 then cell (args m c).h (1024 * (t.val % 8) + r.val) (3072 + k) else 0)
      * cell (args m c).up k (256 * (t.val / 8) + j.val)) fun k hk => ?_).trans (Finset.sum_congr rfl fun k _ => ?_))
    · rw [read1, read2, V_up]
      exact congrArg (fun a : EReal => a * _) (V_alpha m c ⟨1024 * (t.val % 8) + r.val, row_lt t r⟩ ⟨k.val, by omega⟩)
    · rw [if_neg (by omega), zero_mul]
    · rw [if_pos k.isLt]
  · rw [read3, V_b]
    exact bias_of (args m c) _ _ rfl

variable (T : Tame (args m c))

include T in
theorem sums_at (r : Fin 1024) (j : Fin 256) : gOf (F := Ideal) (ms0_1 t) (hs0_1 t) (ms0_2 t) (hs0_2 t) (ms0_3 t) (hs0_3 t) (iblk m c 1 t) (iblk m c 2 t) (iblk m c 3 t) (ix2 r j)
    = sums (args m c) (64 * (16 * (t.val % 8)) + r.val) (256 * (t.val / 8) + j.val) := by
  rw [gOf_at]
  simp only [pre_at]
  refine (congrArg₂ (fun a b : EReal => a + b) (Finset.sum_congr rfl fun s _ => ?_) (Finset.sum_eq_zero fun s _ => ?_)).trans (add_zero _)
  · rw [ite_mul, one_mul, zero_mul]
    have e1 : (64 * (16 * (t.val % 8)) + r.val) % 64 = r.val % 64 := by omega
    rw [e1]
    refine congrArg (fun z => if s.val ≤ r.val % 64 then rate (logit (args m c) z _) else 0) ?_
    show 1024 * (t.val % 8) + (64 * (r.val / 64) + s.val) = 64 * ((64 * (16 * (t.val % 8)) + r.val) / 64) + s.val
    omega
  · obtain ⟨z, hz⟩ := rate_real (T.logit (1024 * (t.val % 8) + (64 * (r.val / 64) + s.val)) (256 * (t.val / 8) + j.val))
    show _ * (rate (logit (args m c) (1024 * (t.val % 8) + (64 * (r.val / 64) + s.val)) (256 * (t.val / 8) + j.val))
      - rate (logit (args m c) (1024 * (t.val % 8) + (64 * (r.val / 64) + s.val)) (256 * (t.val / 8) + j.val))) = 0
    rw [hz, ← EReal.coe_sub, sub_self, EReal.coe_zero, mul_zero]

theorem V_congr (e e' : Fin 8192) (j j' : Fin 7680) (he : e.val = e'.val) (hj : j.val = j'.val) : V m c main_v21 (ix2 e j) = V m c main_v21 (ix2 e' j') := by
  rw [Fin.ext he, Fin.ext hj]

include T in
/-- A point's blocks are the attention's arrays from its first chunk and head on. -/
theorem holds : Holds (ms0_1 t) (hs0_1 t) (ms0_2 t) (hs0_2 t) (ms0_3 t) (hs0_3 t) (iblk m c 0 t) (iblk m c 1 t) (iblk m c 2 t) (iblk m c 3 t) (data (args m c)) (16 * (t.val % 8)) (2 * (t.val / 8)) where
  q := fun r p d => by
    have ht := lt16 t
    rw [read0]
    refine congrArg (fun a : EReal => a * _) ((V_congr m c _ ⟨64 * (16 * (t.val % 8)) + r.val, by omega⟩ _ ⟨4608 + 768 * (2 * (t.val / 8) + p % 2) + d.val, by omega⟩ ?_ ?_).trans
      (V_query m c ⟨64 * (16 * (t.val % 8)) + r.val, by omega⟩ (2 * (t.val / 8) + p % 2) (by omega) d |>.trans (congrArg (fun z => cell (args m c).h _ (z + d.val)) (Nat.zero_add _))))
    · dsimp only
      omega
    · dsimp only
      omega
  k := fun r p d => by
    have ht := lt16 t
    rw [read0]
    refine (V_congr m c _ ⟨64 * (16 * (t.val % 8)) + r.val, by omega⟩ _ ⟨4736 + 768 * (2 * (t.val / 8) + p % 2) + d.val, by omega⟩ ?_ ?_).trans
      (V_key m c ⟨64 * (16 * (t.val % 8)) + r.val, by omega⟩ (2 * (t.val / 8) + p % 2) (by omega) d)
    · dsimp only
      omega
    · dsimp only
      omega
  v := fun r p e => by
    have ht := lt16 t
    rw [read0]
    refine (V_congr m c _ ⟨64 * (16 * (t.val % 8)) + r.val, by omega⟩ _ ⟨4864 + 768 * (2 * (t.val / 8) + p % 2) + e.val, by omega⟩ ?_ ?_).trans
      (V_value m c ⟨64 * (16 * (t.val % 8)) + r.val, by omega⟩ (2 * (t.val / 8) + p % 2) (by omega) e)
    · dsimp only
      omega
    · dsimp only
      omega
  g := fun r p d => by
    rw [sums_at m c t T]
    refine congrArg (sums (args m c) (64 * (16 * (t.val % 8)) + r.val)) ?_
    show 256 * (t.val / 8) + (128 * (p % 2) + d.val) = 128 * (2 * (t.val / 8) + p % 2) + d.val
    omega

/-- A point's stores, over the state it starts from. -/
structure Point (ld : ℕ → List (View.Piece (Elt Ideal) S2x256x128 .f32) → Vec Ideal S1x256x128 .f32) (base : List (View.Piece (Elt Ideal) S2x256x128 .f32)) : Prop where
  late : ∀ n L, 2 ≤ n → ld n L = ldA (F := Ideal) scM0_0 n L
  start : ∀ p, p < 2 → ∀ e d, ld p (stL (F := Ideal) (ms0_0 t) (hs0_0 t) (ms0_1 t) (hs0_1 t) (ms0_2 t) (hs0_2 t) (ms0_3 t) (hs0_3 t) scM0_1 scM0_2 (iblk m c 0 t) (iblk m c 1 t) (iblk m c 2 t) (iblk m c 3 t) ld base p) (ix3 0 e d) = state (data (args m c)) (2 * (t.val / 8) + p) (16 * (t.val % 8)) e d
  outs : (outsAt0 m c t.val t.isLt).1 = View.canon (outL (F := Ideal) (ms0_0 t) (hs0_0 t) (ms0_1 t) (hs0_1 t) (ms0_2 t) (hs0_2 t) (ms0_3 t) (hs0_3 t) scM0_1 scM0_2 (iblk m c 0 t) (iblk m c 1 t) (iblk m c 2 t) (iblk m c 3 t) ld base)
  norms : (outsAt0 m c t.val t.isLt).2.1 = View.canon (normL (F := Ideal) (ms0_0 t) (hs0_0 t) (ms0_1 t) (hs0_1 t) (ms0_2 t) (hs0_2 t) (ms0_3 t) (hs0_3 t) (ms0_4 t) (hs0_4 t) (ms0_5 t) scM0_1 scM0_2 (iblk m c 0 t) (iblk m c 1 t) (iblk m c 2 t) (iblk m c 3 t) (iblk m c 4 t) ld base)
  saves : (outsAt0 m c t.val t.isLt).2.2.1 = View.canon (saveL (F := Ideal) (ms0_0 t) (hs0_0 t) (ms0_1 t) (hs0_1 t) (ms0_2 t) (hs0_2 t) (ms0_3 t) (hs0_3 t) scM0_1 scM0_2 (iblk m c 0 t) (iblk m c 1 t) (iblk m c 2 t) (iblk m c 3 t) ld base)
  state : (outsAt0 m c t.val t.isLt).2.2.2 = View.canon (stL (F := Ideal) (ms0_0 t) (hs0_0 t) (ms0_1 t) (hs0_1 t) (ms0_2 t) (hs0_2 t) (ms0_3 t) (hs0_3 t) scM0_1 scM0_2 (iblk m c 0 t) (iblk m c 1 t) (iblk m c 2 t) (iblk m c 3 t) ld base 32)

theorem canon_base (y : S2x256x128.Idx) : View.canon (baseA (F := Ideal)) y = 0 := by
  have ey : (Rect.unit (s := S2x256x128) ![0, 0, 0] S2x256x128.size inb_S2x256x128_S2x256x128_0_0_0).emb y = y := funext (forall_three
    (Fin.ext (by show 0 + 1 * (y 0).val = (y 0).val; omega)) (Fin.ext (by show 0 + 1 * (y 1).val = (y 1).val; omega))
    (Fin.ext (by show 0 + 1 * (y 2).val = (y 2).val; omega)))
  unfold baseA
  conv_lhs => rw [← ey]
  refine (View.canon_cons_emb _ _ _ _).trans ?_
  pointwise [k0_pay2]

theorem point_A (h : t.val % 8 = 0) : Point m c t (ldA scM0_0) baseA where
  late := fun _ _ _ => rfl
  start := fun p hp e d => by
    rw [h]
    unfold ldA
    rw [View.readCov_eq_canon']
    show _ = (0 : EReal)
    by_cases h0 : p = 0
    · subst h0
      exact canon_base _
    · obtain rfl : p = 1 := by omega
      refine (canon_miss 0 _ ?_).trans (canon_base _)
      show 1 % 2 + 1 * 0 ≠ 0 % 2
      decide
  outs := by
    refine (congrArg (fun o => o.1) (outsAt0_A m c t h)).trans ?_
    dsimp only
    unfold out0_A_5
    rw [View.read_writes_junk_eq_canon, out_A]
  norms := by
    refine (congrArg (fun o => o.2.1) (outsAt0_A m c t h)).trans ?_
    dsimp only
    unfold out0_A_6
    rw [View.read_writes_junk_eq_canon, norm_A]
  saves := by
    refine (congrArg (fun o => o.2.2.1) (outsAt0_A m c t h)).trans ?_
    dsimp only
    unfold out0_A_7
    rw [View.read_writes_junk_eq_canon, save_A]
  state := by
    refine (congrArg (fun o => o.2.2.2) (outsAt0_A m c t h)).trans ?_
    dsimp only
    unfold sout0_A_0
    rw [View.read_writes_junk_eq_canon, state_A]

theorem point_B (h : ¬t.val % 8 = 0) (S : Vec Ideal S2x256x128 .f32)
    (eS : (outsAt0 m c (t.val - 1) (Nat.lt_of_le_of_lt (Nat.sub_le _ _) t.isLt)).2.2.2 = S)
    (hS : ∀ p e d, S (ix3 p e d) = state (data (args m c)) (2 * (t.val / 8) + p.val) (16 * (t.val % 8)) e d) :
    Point m c t (ldB scM0_0 (Memref.isWhole_whole _) S) [] where
  late := fun n L hn => by
    unfold ldB
    rw [Nat.ble_eq_true_of_le hn, cond_true]
  start := fun p hp e d => by
    unfold ldB
    rw [show Nat.ble 2 p = false by interval_cases p <;> rfl, cond_false]
    refine (readAt_whole scM0_0 (Memref.isWhole_whole _) S _ _).trans (Eq.trans (congrArg S (funext (forall_three (Fin.ext ?_) (Fin.ext ?_) (Fin.ext ?_)))) (hS ⟨p, hp⟩ e d))
    · show p % 2 + 1 * 0 = p
      omega
    · show 0 + 1 * e.val = e.val
      omega
    · show 0 + 1 * d.val = d.val
      omega
  outs := by
    refine (congrArg (fun o => o.1) (outsAt0_B m c t h)).trans ?_
    dsimp only
    unfold out0_B_5
    rw [View.read_writes_junk_eq_canon, out_B, eS]
  norms := by
    refine (congrArg (fun o => o.2.1) (outsAt0_B m c t h)).trans ?_
    dsimp only
    unfold out0_B_6
    rw [View.read_writes_junk_eq_canon, norm_B, eS]
  saves := by
    refine (congrArg (fun o => o.2.2.1) (outsAt0_B m c t h)).trans ?_
    dsimp only
    unfold out0_B_7
    rw [View.read_writes_junk_eq_canon, save_B, eS]
  state := by
    refine (congrArg (fun o => o.2.2.2) (outsAt0_B m c t h)).trans ?_
    dsimp only
    unfold sout0_B_0
    rw [View.read_writes_junk_eq_canon, state_B, eS]

end

theorem out_congr (D : Data) {h h' C C' : ℕ} {s s' : Fin 64} {e e' : Fin 256} (hh : h = h') (hC : C = C') (hs : s.val = s'.val) (he : e.val = e'.val) :
    out D h C s e = out D h' C' s' e' := by
  rw [hh, hC, Fin.ext hs, Fin.ext he]

theorem outAt_congr (A : Args) {r r' h h' : ℕ} {e e' : Fin 256} (hr : r = r') (hh : h = h') (he : e.val = e'.val) : outAt A r h e = outAt A r' h' e' := by
  rw [hr, hh, Fin.ext he]
theorem normAt_congr (A : Args) {r r' h h' : ℕ} {e e' : Fin 256} (hr : r = r') (hh : h = h') (he : e.val = e'.val) : normAt A r h e = normAt A r' h' e' := by
  rw [hr, hh, Fin.ext he]

theorem state_congr (D : Data) {h h' C C' : ℕ} {e e' : Fin 256} {d d' : Fin 128} (hh : h = h') (hC : C = C') (he : e.val = e'.val) (hd : d.val = d'.val) :
    state D h C e d = state D h' C' e' d' := by
  rw [hh, hC, Fin.ext he, Fin.ext hd]

section
variable (c : Dev nD) (T : Tame (args m c))
include T

/-- Every point starts from the state of its first chunk. -/
theorem points : ∀ (n : ℕ) (hn : n < cfg0.N), ∃ ld base, Point m c ⟨n, hn⟩ ld base
  | 0, hn => ⟨_, _, point_A m c ⟨0, hn⟩ rfl⟩
  | n + 1, hn => by
    by_cases h : (n + 1) % 8 = 0
    · exact ⟨_, _, point_A m c ⟨n + 1, hn⟩ h⟩
    · obtain ⟨ld, base, Q⟩ := points n (Nat.lt_of_succ_lt hn)
      refine ⟨_, _, point_B m c ⟨n + 1, hn⟩ h _ rfl fun p e d => ?_⟩
      refine (congrFun Q.state _).trans (((holds m c _ T).state_end Q.late Q.start p e d).trans ?_)
      have e1 : n / 8 = (n + 1) / 8 := by omega
      have e2 : 16 * (n % 8) + 16 = 16 * ((n + 1) % 8) := by omega
      show state (data (args m c)) (2 * (n / 8) + p.val) (16 * (n % 8) + 16) e d = state (data (args m c)) (2 * ((n + 1) / 8) + p.val) (16 * ((n + 1) % 8)) e d
      rw [e1, e2]

variable (t : Fin cfg0.N)

theorem leaves_out (a : Fin 1024) (j : Fin 512) : (outsAt0 m c t.val t.isLt).1 (ix2 a j)
    = outAt (args m c) (1024 * (t.val % 8) + a.val) ((512 * (t.val / 8) + j.val) / 256) ⟨(512 * (t.val / 8) + j.val) % 256, by omega⟩ := by
  obtain ⟨ld, base, Q⟩ := points m c T t.val t.isLt
  refine (congrFun Q.outs _).trans (((holds m c t T).outs Q.late Q.start T.decaying a (j.val / 256) (by omega) ⟨j.val % 256, by omega⟩ _ rfl ?_).trans ?_)
  · show j.val = 256 * (j.val / 256) + j.val % 256
    omega
  · unfold outAt
    refine out_congr _ ?_ ?_ ?_ ?_ <;> first | omega | (dsimp only; omega)

theorem leaves_norm (a : Fin 1024) (j : Fin 512) : (outsAt0 m c t.val t.isLt).2.1 (ix2 a j)
    = normAt (args m c) (1024 * (t.val % 8) + a.val) ((512 * (t.val / 8) + j.val) / 256) ⟨(512 * (t.val / 8) + j.val) % 256, by omega⟩ := by
  have ht := lt16 t
  obtain ⟨ld, base, Q⟩ := points m c T t.val t.isLt
  refine (congrFun Q.norms _).trans (((holds m c t T).norms Q.late Q.start T.decaying a (j.val / 256) (by omega) ⟨j.val % 256, by omega⟩ _ rfl ?_).trans ?_)
  · show j.val = 256 * (j.val / 256) + j.val % 256
    omega
  · unfold normAt
    have e1 : (fun i => out (data (args m c)) (2 * (t.val / 8) + j.val / 256) (16 * (t.val % 8) + a.val / 64) ⟨a.val % 64, by omega⟩ i)
        = outAt (args m c) (1024 * (t.val % 8) + a.val) ((512 * (t.val / 8) + j.val) / 256) := funext fun i => by
      unfold outAt
      refine out_congr _ ?_ ?_ ?_ ?_ <;> first | omega | (dsimp only; omega)
    have e2 : (fun i : Fin 256 => iblk m c 4 t (ix2 0 ⟨256 * (j.val / 256) + i.val, by omega⟩))
        = fun i => cell (args m c).n ((512 * (t.val / 8) + j.val) / 256) i.val := funext fun i => by
      rw [read4, V_n]
      refine cell_of (args m c).n _ _ _ _ ?_ ?_ <;> first | omega | (dsimp only; omega)
    have e3 : (fun i : Fin 256 => iblk m c 0 t (ix2 a ⟨512 + 768 * (j.val / 256) + i.val, by omega⟩))
        = fun i => cell (args m c).h (1024 * (t.val % 8) + a.val) (2048 + 256 * ((512 * (t.val / 8) + j.val) / 256) + i.val) := funext fun i => by
      rw [read0]
      refine (V_congr m c _ ⟨1024 * (t.val % 8) + a.val, by omega⟩ _ ⟨5120 + 768 * ((512 * (t.val / 8) + j.val) / 256) + i.val, by omega⟩ rfl ?_).trans
        (V_gate m c ⟨1024 * (t.val % 8) + a.val, by omega⟩ ((512 * (t.val / 8) + j.val) / 256) (by omega) i)
      dsimp only
      omega
    rw [e1, e2, e3]
    refine congrArg _ (Fin.ext ?_)
    dsimp only
    omega

theorem leaves_state (p : Fin 2) (k : Fin 16) (e : Fin 256) (d : Fin 128) : (outsAt0 m c t.val t.isLt).2.2.1 (ix4 p k e d)
    = state (data (args m c)) (2 * (t.val / 8) + p.val) (16 * (t.val % 8) + k.val) e d := by
  obtain ⟨ld, base, Q⟩ := points m c T t.val t.isLt
  exact (congrFun Q.saves _).trans ((holds m c t T).saved Q.late Q.start p k e d)

theorem out_total : (dats m 0 c).arrAt 5 cfg0.N
    = fun i => outAt (args m c) (i 0).val ((i 1).val / 256) ⟨(i 1).val % 256, by omega⟩ := by
  refine (dats m 0 c).arrAt_eq_of_covers 5 _ (by decide +kernel) fun t hf y => ?_
  blk_simp
  rw [after0_5]
  idx_vars y
  have i0 : win0_5.index t 0 = t.val % 8 := congrFun (idx5 t) 0
  have i1 : win0_5.index t 1 = t.val / 8 := congrFun (idx5 t) 1
  refine (leaves_out m c T t _ _).trans (outAt_congr _ ?_ ?_ ?_)
  · show 1024 * (t.val % 8) + y0.val = win0_5.index t 0 * 1024 + y0.val
    rw [i0, Nat.mul_comm]
  · show (512 * (t.val / 8) + y1.val) / 256 = (win0_5.index t 1 * 512 + y1.val) / 256
    rw [i1, Nat.mul_comm]
  · show (512 * (t.val / 8) + y1.val) % 256 = (win0_5.index t 1 * 512 + y1.val) % 256
    rw [i1, Nat.mul_comm]

theorem norm_total : (dats m 0 c).arrAt 6 cfg0.N
    = fun i => normAt (args m c) (i 0).val ((i 1).val / 256) ⟨(i 1).val % 256, by omega⟩ := by
  refine (dats m 0 c).arrAt_eq_of_covers 6 _ (by decide +kernel) fun t hf y => ?_
  blk_simp
  rw [after0_6]
  idx_vars y
  have i0 : win0_6.index t 0 = t.val % 8 := congrFun (idx6 t) 0
  have i1 : win0_6.index t 1 = t.val / 8 := congrFun (idx6 t) 1
  refine (leaves_norm m c T t _ _).trans (normAt_congr _ ?_ ?_ ?_)
  · show 1024 * (t.val % 8) + y0.val = win0_6.index t 0 * 1024 + y0.val
    rw [i0, Nat.mul_comm]
  · show (512 * (t.val / 8) + y1.val) / 256 = (win0_6.index t 1 * 512 + y1.val) / 256
    rw [i1, Nat.mul_comm]
  · show (512 * (t.val / 8) + y1.val) % 256 = (win0_6.index t 1 * 512 + y1.val) % 256
    rw [i1, Nat.mul_comm]

theorem state_total : (dats m 0 c).arrAt 7 cfg0.N = fun i => state (data (args m c)) (i 0).val (i 1).val (i 2) (i 3) := by
  refine (dats m 0 c).arrAt_eq_of_covers 7 _ (by decide +kernel) fun t hf y => ?_
  blk_simp
  rw [after0_7]
  idx_vars y
  have i0 : win0_7.index t 0 = t.val / 8 := congrFun (idx7 t) 0
  have i1 : win0_7.index t 1 = t.val % 8 := congrFun (idx7 t) 1
  have i2 : win0_7.index t 2 = 0 := congrFun (idx7 t) 2
  have i3 : win0_7.index t 3 = 0 := congrFun (idx7 t) 3
  refine (leaves_state m c T t _ _ _ _).trans (state_congr _ ?_ ?_ ?_ ?_)
  · show 2 * (t.val / 8) + y0.val = win0_7.index t 0 * 2 + y0.val
    rw [i0, Nat.mul_comm]
  · show 16 * (t.val % 8) + y1.val = win0_7.index t 1 * 16 + y1.val
    rw [i1, Nat.mul_comm]
  · refine Eq.trans ?_ ((cfg0.win 7).rect_emb_val t (ix4 _ _ _ _) 2).symm
    rw [show (cfg0.win 7).index t 2 = 0 from i2]
    show y2.val = 0 * 256 + y2.val
    rw [Nat.zero_mul, Nat.zero_add]
  · refine Eq.trans ?_ ((cfg0.win 7).rect_emb_val t (ix4 _ _ _ _) 3).symm
    rw [show (cfg0.win 7).index t 3 = 0 from i3]
    show y3.val = 0 * 128 + y3.val
    rw [Nat.zero_mul, Nat.zero_add]

end

end Cert.AttnKernelIdeal.Closed

end
-- ==== Proof.Attn.Trip.lean ====
/-
  One turn of the reference's loop over chunks.
-/
module

public import proofs.«01_k».proof.Proof.Gen.AttnReferenceIdeal.Run
public import proofs.«01_k».proof.Proof.Attn.Form
public import proofs.«01_k».proof.Proof.Common.Pieces
public import Idealize.ShloMosaic.Lib.DynamicIndex
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.AttnReferenceIdeal.Closed

open Cert.AttnReferenceIdeal Cert.AttnReferenceIdeal.Gen Cert.AttnReferenceIdeal.Value Cert.AttnForm

/-- The starts of a chunk's block: the turn on the first axis. -/
abbrev startAt (i : IVec S_ 32) : Fin 4 → Int :=
  fun k => ((![i, constantI S_ 32 0#32, constantI S_ 32 0#32, constantI S_ 32 0#32] : Fin 4 → (⟨S_, .i32⟩ : BufTy).Contents (Elt Ideal)) k (Shape.Idx.first h_S_)).toInt

variable (i : IVec S_ 32) (k : ℕ) (hk : k < 128) (hi : i = fun _ => Scf.iv 0#32 1#32 k)

theorem forall_axes {p : Fin 4 → Prop} (h0 : p 0) (h1 : p 1) (h2 : p 2) (h3 : p 3) : ∀ a, p a
  | 0 => h0
  | 1 => h1
  | 2 => h2
  | 3 => h3

include hk hi in
theorem startAt_eq : ∀ a, startAt i a = ((![k, 0, 0, 0] : Fin 4 → ℕ) a : Int) := by
  refine forall_axes ?_ rfl rfl rfl
  show (i (Shape.Idx.first h_S_)).toInt = (k : Int)
  rw [hi]
  show (Scf.iv 0#32 1#32 k).toInt = (k : Int)
  unfold Scf.iv
  rw [BitVec.zero_add, BitVec.mul_one]
  exact toInt_ofNat_of_lt (by omega)

include hk in
theorem fits_small : S128x4x64x128.Slices ![k, 0, 0, 0] S1x4x64x128 :=
  ⟨rfl, forall_axes (by show k + 1 ≤ 128; omega) (by show 0 + 4 ≤ 4; omega) (by show 0 + 64 ≤ 64; omega) (by show 0 + 128 ≤ 128; omega)⟩
include hk in
theorem fits_wide : S128x4x64x256.Slices ![k, 0, 0, 0] S1x4x64x256 :=
  ⟨rfl, forall_axes (by show k + 1 ≤ 128; omega) (by show 0 + 4 ≤ 4; omega) (by show 0 + 64 ≤ 64; omega) (by show 0 + 256 ≤ 256; omega)⟩
include hk in
theorem fits_state : S128x4x128x256.Slices ![k, 0, 0, 0] S1x4x128x256 :=
  ⟨rfl, forall_axes (by show k + 1 ≤ 128; omega) (by show 0 + 4 ≤ 4; omega) (by show 0 + 128 ≤ 128; omega) (by show 0 + 256 ≤ 256; omega)⟩

include hi in
theorem chunk_small (x : Vec Ideal S128x4x64x128 .f32) (h : Fin 4) (t : Fin 64) (d : Fin 128) :
    shapeCast S4x64x128 (Host.dynamicSlice S1x4x64x128 x (startAt i) sliceFits_S128x4x64x128_S1x4x64x128) shapeCasts_S1x4x64x128_S4x64x128 (ix3 h t d)
      = x (ix4 ⟨k, hk⟩ h t d) := by
  rw [Host.dynamicSlice_eq_extractStridedSlice _ x (startAt i) ![k, 0, 0, 0] _ (fits_small k hk) (startAt_eq i k hk hi)]
  pointwise

include hi in
theorem chunk_wide (x : Vec Ideal S128x4x64x256 .f32) (h : Fin 4) (t : Fin 64) (d : Fin 256) :
    shapeCast S4x64x256 (Host.dynamicSlice S1x4x64x256 x (startAt i) sliceFits_S128x4x64x256_S1x4x64x256) shapeCasts_S1x4x64x256_S4x64x256 (ix3 h t d)
      = x (ix4 ⟨k, hk⟩ h t d) := by
  rw [Host.dynamicSlice_eq_extractStridedSlice _ x (startAt i) ![k, 0, 0, 0] _ (fits_wide k hk) (startAt_eq i k hk hi)]
  pointwise

include hk hi in
theorem put_wide (x : Vec Ideal S128x4x64x256 .f32) (u : Vec Ideal S1x4x64x256 .f32) (c : Fin 128) (h : Fin 4) (t : Fin 64) (e : Fin 256) :
    Host.dynamicUpdateSlice x u (startAt i) updateFits_S128x4x64x256_S1x4x64x256 (ix4 c h t e) = if c.val = k then u (ix4 0 h t e) else x (ix4 c h t e) := by
  rw [WordCmp.dynamicUpdateSlice_eq_update x u (startAt i) _ ![k, 0, 0, 0] (fits_wide k hk) (startAt_eq i k hk hi)]
  by_cases hc : c.val = k
  · rw [if_pos hc]
    unfold updateSlice
    rw [dif_pos (forall_axes ⟨le_of_eq hc.symm, by show c.val < k + 1; omega⟩ ⟨Nat.zero_le _, by show h.val < 0 + 4; omega⟩ ⟨Nat.zero_le _, by show t.val < 0 + 64; omega⟩
      ⟨Nat.zero_le _, by show e.val < 0 + 256; omega⟩)]
    refine congrArg u (funext (forall_axes (Fin.ext ?_) rfl rfl rfl))
    show c.val - k = 0
    omega
  · rw [if_neg hc]
    unfold updateSlice
    rw [dif_neg fun hin => hc ?_]
    have h0 := hin 0
    have h1 : k ≤ c.val ∧ c.val < k + 1 := h0
    omega

include hk hi in
theorem put_state (x : Vec Ideal S128x4x128x256 .f32) (u : Vec Ideal S1x4x128x256 .f32) (c : Fin 128) (h : Fin 4) (t : Fin 128) (e : Fin 256) :
    Host.dynamicUpdateSlice x u (startAt i) updateFits_S128x4x128x256_S1x4x128x256 (ix4 c h t e) = if c.val = k then u (ix4 0 h t e) else x (ix4 c h t e) := by
  rw [WordCmp.dynamicUpdateSlice_eq_update x u (startAt i) _ ![k, 0, 0, 0] (fits_state k hk) (startAt_eq i k hk hi)]
  by_cases hc : c.val = k
  · rw [if_pos hc]
    unfold updateSlice
    rw [dif_pos (forall_axes ⟨le_of_eq hc.symm, by show c.val < k + 1; omega⟩ ⟨Nat.zero_le _, by show h.val < 0 + 4; omega⟩ ⟨Nat.zero_le _, by show t.val < 0 + 128; omega⟩
      ⟨Nat.zero_le _, by show e.val < 0 + 256; omega⟩)]
    refine congrArg u (funext (forall_axes (Fin.ext ?_) rfl rfl rfl))
    show c.val - k = 0
    omega
  · rw [if_neg hc]
    unfold updateSlice
    rw [dif_neg fun hin => hc ?_]
    have h0 := hin 0
    have h1 : k ≤ c.val ∧ c.val < k + 1 := h0
    omega

theorem forall_three {p : Fin 3 → Prop} (h0 : p 0) (h1 : p 1) (h2 : p 2) : ∀ a, p a
  | 0 => h0
  | 1 => h1
  | 2 => h2

/-! The running sum inside a chunk. -/

theorem window_at : ∀ (n : Fin (⟨3, ![1, 64, 1]⟩ : Shape).numel) (a : Fin 3), ((⟨3, ![1, 64, 1]⟩ : Shape).rowMajor.symm n a).val = (![0, n.val, 0] : Fin 3 → ℕ) a := by
  decide +kernel

theorem foldl_sum {N : ℕ} (f : Fin N → EReal) (v : EReal) (l : List (Fin N)) : l.foldl (fun r n => r + f n) v = v + (l.map f).sum := by
  induction l generalizing v with
  | nil => exact (add_zero v).symm
  | cons a l ih => rw [List.foldl_cons, ih, List.map_cons, List.sum_cons, add_assoc]

theorem sum_running (a : ℕ → EReal) (t : ℕ) (ht : t < 64) :
    ∑ n ∈ Finset.range 64, (if 63 ≤ t + n then a (t + n - 63) else 0) = ∑ s ∈ Finset.range 64, if s ≤ t then a s else 0 := by
  have e1 : ∑ s ∈ Finset.range 64, (if s ≤ t then a s else 0) = ∑ s ∈ Finset.range (t + 1), a s := by
    rw [← Finset.sum_filter]
    refine Finset.sum_congr (Finset.ext fun s => ?_) fun _ _ => rfl
    simp only [Finset.mem_filter, Finset.mem_range]
    omega
  rw [e1, ← Finset.sum_range_reflect, ← Finset.sum_range_reflect (fun s => a s) (t + 1), ← Finset.sum_filter_add_sum_filter_not (Finset.range 64) (fun n => n ≤ t)]
  refine (congrArg₂ (fun x y : EReal => x + y) (Finset.sum_congr (Finset.ext fun s => ?_) fun n hn => ?_) (Finset.sum_eq_zero fun n hn => ?_)).trans (add_zero _)
  · simp only [Finset.mem_filter, Finset.mem_range]
    omega
  · simp only [Finset.mem_range] at hn
    rw [if_pos (by omega)]
    exact congrArg a (by omega)
  · simp only [Finset.mem_filter, Finset.mem_range] at hn
    rw [if_neg (by omega)]

/-- A window's sum: the start and what the window holds. -/
theorem window_sum {s t u : Shape} (window strides lo hi : Fin s.rank → Nat) (x : FVec Ideal s .f32) (init : FVec Ideal u .f32)
    (h : s.ReduceWindows window strides lo hi t) (hu : 0 < u.numel) (j : t.Idx) :
    Host.reduceWindowAdd (F := Ideal) (φ := .f32) window strides lo hi x init h hu j = (init (Shape.Idx.first hu) : EReal)
      + ∑ n : Fin (⟨s.rank, window⟩ : Shape).numel, (if hin : ∀ a, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a then
          x (fun a => ⟨(j (a.cast h.1.symm)).val * strides a + ((⟨s.rank, window⟩ : Shape).rowMajor.symm n a).val - lo a, (hin a).2⟩) else (init (Shape.Idx.first hu) : EReal)) := by
  refine (foldl_sum _ _ _).trans ?_
  rw [← List.ofFn_eq_map, List.sum_ofFn]
  refine congrArg₂ (fun a b : EReal => a + b) rfl (Finset.sum_congr (M := EReal) rfl fun n _ => ?_)
  congr

theorem sum_of_card {N : ℕ} (e : N = 64) (f : Fin N → EReal) (g : ℕ → EReal) (hf : ∀ n, f n = g n.val) : ∑ n, f n = ∑ n ∈ Finset.range 64, g n := by
  subst e
  rw [← Fin.sum_univ_eq_sum_range]
  exact Finset.sum_congr rfl fun n _ => hf n

/-- A chunk's row, zero past its end. -/
def at64 (x : Vec Ideal S4x64x128 .f32) (h : Fin 4) (d : Fin 128) (s : ℕ) : EReal := if hs : s < 64 then x (ix3 h ⟨s, hs⟩ d) else 0

theorem running (x : Vec Ideal S4x64x128 .f32) (h : Fin 4) (t : Fin 64) (d : Fin 128) :
    Host.reduceWindowAdd (F := Ideal) (φ := .f32) ![1, 64, 1] ![1, 1, 1] ![0, 63, 0] ![0, 0, 0] x (broadcastInDim S_ ![] bcast_S_S_ (constant S_ .f32 0x00000000#32)) reduceWindows_S4x64x128_S4x64x128_w1s1p0_0_w64s1p63_0_w1s1p0_0 h_S_ (ix3 h t d)
      = ∑ s : Fin 64, if s.val ≤ t.val then x (ix3 h s d) else 0 := by
  have z : (broadcastInDim S_ ![] bcast_S_S_ (constant (F := Ideal) S_ .f32 0x00000000#32)) (Shape.Idx.first h_S_) = (0 : EReal) := by
    pointwise
  rw [window_sum, z, zero_add]
  refine ((sum_of_card (by decide) _ (fun n => if 63 ≤ t.val + n then at64 x h d (t.val + n - 63) else 0) fun n => ?_).trans (sum_running _ t.val t.isLt)).trans
    ((Fin.sum_univ_eq_sum_range (fun s => if s ≤ t.val then at64 x h d s else 0) 64).symm.trans (Finset.sum_congr rfl fun s _ => ?_))
  · have hn : n.val < 64 := n.isLt
    have n0 := window_at n 0
    have n1 := window_at n 1
    have n2 := window_at n 2
    by_cases hin : 63 ≤ t.val + n.val
    · rw [dif_pos, if_pos hin]
      · unfold at64
        rw [dif_pos (show t.val + n.val - 63 < 64 by omega)]
        refine congrArg x (funext (forall_three (Fin.ext ?_) (Fin.ext ?_) (Fin.ext ?_)))
        · show h.val * 1 + (Shape.rowMajor _ |>.symm n 0).val - 0 = h.val
          rw [n0, Nat.mul_one]
          rfl
        · show t.val * 1 + (Shape.rowMajor _ |>.symm n 1).val - 63 = t.val + n.val - 63
          rw [n1, Nat.mul_one]
          rfl
        · show d.val * 1 + (Shape.rowMajor _ |>.symm n 2).val - 0 = d.val
          rw [n2, Nat.mul_one]
          rfl
      · refine forall_three ?_ ?_ ?_
        · show 0 ≤ h.val * 1 + (Shape.rowMajor _ |>.symm n 0).val ∧ h.val * 1 + (Shape.rowMajor _ |>.symm n 0).val - 0 < 4
          rw [n0]
          show 0 ≤ h.val * 1 + 0 ∧ h.val * 1 + 0 - 0 < 4
          omega
        · show 63 ≤ t.val * 1 + (Shape.rowMajor _ |>.symm n 1).val ∧ t.val * 1 + (Shape.rowMajor _ |>.symm n 1).val - 63 < 64
          rw [n1]
          show 63 ≤ t.val * 1 + n.val ∧ t.val * 1 + n.val - 63 < 64
          omega
        · show 0 ≤ d.val * 1 + (Shape.rowMajor _ |>.symm n 2).val ∧ d.val * 1 + (Shape.rowMajor _ |>.symm n 2).val - 0 < 128
          rw [n2]
          show 0 ≤ d.val * 1 + 0 ∧ d.val * 1 + 0 - 0 < 128
          omega
    · rw [dif_neg, if_neg hin]
      intro h'
      have h1 : 63 ≤ t.val * 1 + (Shape.rowMajor _ |>.symm n 1).val := (h' 1).1
      rw [n1] at h1
      have h2 : 63 ≤ t.val * 1 + n.val := h1
      omega
  · unfold at64
    rw [dif_pos s.isLt]

section
variable (D : Data) (V0 : Valuation τ sig (Elt Ideal)) (hV : V0 (Proc.devRef .tc main_v29_4) = fun _ => Scf.iv 0#32 1#32 k)

/-- A chunk's column. -/
def rowOf (x : Vec Ideal S128x4x64x128 .f32) (c : Fin 128) (h : Fin 4) (d : Fin 128) (s : Fin 64) : EReal := x (ix4 c h s d)

/-- The arrays the loop walks hold the attention's. -/
structure Walks : Prop where
  q : ∀ c h t d, (V0 (Proc.devRef .tc main_v29_0) : Vec Ideal S128x4x64x128 .f32) (ix4 c h t d) = D.q (64 * c.val + t.val) h.val d
  k : ∀ c h t d, (V0 (Proc.devRef .tc main_v29_1) : Vec Ideal S128x4x64x128 .f32) (ix4 c h t d) = D.k (64 * c.val + t.val) h.val d
  v : ∀ c h t e, (V0 (Proc.devRef .tc main_v29_2) : Vec Ideal S128x4x64x256 .f32) (ix4 c h t e) = D.v (64 * c.val + t.val) h.val e
  g : ∀ c h (t : Fin 64) d, (∑ s : Fin 64, if s.val ≤ t.val then rowOf (V0 (Proc.devRef .tc main_v29_3)) c h d s else 0) = D.g (64 * c.val + t.val) h.val d

variable (W : Walks D V0)

include W hV hk in
theorem q_at (h : Fin 4) (t : Fin 64) (d : Fin 128) : res_main_while0b_v51 V0 (ix3 h t d) = D.q (64 * k + t.val) h.val d := by
  unfold res_main_while0b_v51
  exact (chunk_small _ k hk hV _ h t d).trans (W.q ⟨k, hk⟩ h t d)

include W hV hk in
theorem k_at (h : Fin 4) (t : Fin 64) (d : Fin 128) : res_main_while0b_v52 V0 (ix3 h t d) = D.k (64 * k + t.val) h.val d := by
  unfold res_main_while0b_v52
  exact (chunk_small _ k hk hV _ h t d).trans (W.k ⟨k, hk⟩ h t d)

include W hV hk in
theorem v_at (h : Fin 4) (t : Fin 64) (e : Fin 256) : res_main_while0b_v53 V0 (ix3 h t e) = D.v (64 * k + t.val) h.val e := by
  unfold res_main_while0b_v53
  exact (chunk_wide _ k hk hV _ h t e).trans (W.v ⟨k, hk⟩ h t e)

include W hV hk in
theorem g_at (h : Fin 4) (t : Fin 64) (d : Fin 128) : res_main_while0b_v55 V0 (ix3 h t d) = D.g (64 * k + t.val) h.val d := by
  unfold res_main_while0b_v55
  refine (running _ h t d).trans (Eq.trans (Finset.sum_congr (M := EReal) rfl fun s _ => ?_) (W.g ⟨k, hk⟩ h t d))
  exact congrArg (fun z : EReal => if s.val ≤ t.val then z else 0) (chunk_small _ k hk hV _ h s d)

include W hV hk in
theorem last_at (h : Fin 4) (z : Fin 1) (d : Fin 128) : res_main_while0b_v75 V0 (ix3 h z d) = D.g (64 * k + 63) h.val d := by
  unfold res_main_while0b_v75
  refine Eq.trans ?_ (g_at k hk D V0 hV W h ⟨63, by decide⟩ d)
  pointwise

include W hV hk in
theorem step5 (h : Fin 4) (d : Fin 128) (e : Fin 256) : (step_main_v29_5 V0 : Vec Ideal S4x128x256 .f32) (ix3 h d e)
    = next D h.val k (fun e d => (V0 (Proc.devRef .tc main_v29_5) : Vec Ideal S4x128x256 .f32) (ix3 h d e)) e d := by
  unfold step_main_v29_5
  dsimp only [id_eq]
  pointwise
  refine congrArg₂ (fun a b : EReal => a + b) ?_ (Finset.sum_congr (M := EReal) rfl fun s _ => ?_)
  · rw [last_at k hk D V0 hV W]
    exact mul_comm (G := EReal) _ _
  · rw [k_at k hk D V0 hV W, last_at k hk D V0 hV W, g_at k hk D V0 hV W, v_at k hk D V0 hV W]
    exact mul_comm (G := EReal) _ _

include W hV hk in
theorem step6 (c : Fin 128) (h : Fin 4) (t : Fin 64) (e : Fin 256)
    (hS : ∀ h e d, (V0 (Proc.devRef .tc main_v29_5) : Vec Ideal S4x128x256 .f32) (ix3 h d e) = state D h.val k e d) :
    (step_main_v29_6 V0 : Vec Ideal S128x4x64x256 .f32) (ix4 c h t e)
    = if c.val = k then out D h.val k t e else (V0 (Proc.devRef .tc main_v29_6) : Vec Ideal S128x4x64x256 .f32) (ix4 c h t e) := by
  unfold step_main_v29_6
  refine (put_wide _ k hk hV _ _ c h t e).trans ?_
  refine if_congr Iff.rfl ?_ rfl
  pointwise
  refine congrArg₂ (fun a b : EReal => a + b) (Finset.sum_congr (M := EReal) rfl fun s _ => congrArg₂ (fun a b : EReal => a * b) (Finset.sum_congr (M := EReal) rfl fun d _ => ?_) ?_)
    (Finset.sum_congr (M := EReal) rfl fun d _ => ?_)
  · rw [q_at k hk D V0 hV W, k_at k hk D V0 hV W, g_at k hk D V0 hV W, g_at k hk D V0 hV W]
    rfl
  · exact v_at k hk D V0 hV W h s e
  · rw [q_at k hk D V0 hV W, g_at k hk D V0 hV W, hS]

include hV hk in
theorem step7 (c : Fin 128) (h : Fin 4) (d : Fin 128) (e : Fin 256) : (step_main_v29_7 V0 : Vec Ideal S128x4x128x256 .f32) (ix4 c h d e)
    = if c.val = k then (V0 (Proc.devRef .tc main_v29_5) : Vec Ideal S4x128x256 .f32) (ix3 h d e) else (V0 (Proc.devRef .tc main_v29_7) : Vec Ideal S128x4x128x256 .f32) (ix4 c h d e) := by
  unfold step_main_v29_7
  refine (put_state _ k hk hV _ _ c h d e).trans ?_
  refine if_congr Iff.rfl ?_ rfl
  pointwise

end

end Cert.AttnReferenceIdeal.Closed

end
-- ==== Proof.Attn.Entry.lean ====
/-
  What the reference's loop over chunks starts from.
-/
module

public import proofs.«01_k».proof.Proof.Attn.Trip
public import proofs.«01_k».proof.Proof.Attn.Model
public import Idealize.ShloMosaic.Lib.StableHlo.ReadAt

@[expose] public section

set_option maxRecDepth 16384

noncomputable section

open Idealize.ShloMosaic Idealize.ShloMosaic.TcCoe Idealize.SL.Sem

namespace Cert.AttnReferenceIdeal.Closed

open Cert.AttnReferenceIdeal Cert.AttnReferenceIdeal.Gen Cert.AttnReferenceIdeal.Value Cert.AttnForm Cert.Reals
open Idealize.ShloMosaic.StableHlo

variable (X : Valuation τ sig (Elt Ideal))

theorem id_transpose_small (x : S128x64x4x128.Idx → EReal) (c : Fin 128) (h : Fin 4) (t : Fin 64) (d : Fin 128) (z : EReal) (e : x (ix4 c t h d) = z) :
    id (transpose S128x4x64x128 [0, 2, 1, 3] x transposes_S128x64x4x128_S128x4x64x128_0_2_1_3) (ix4 c h t d) = z := by
  rw [← e, id_eq]
  pointwise

theorem id_transpose_wide (x : S128x64x4x256.Idx → EReal) (c : Fin 128) (h : Fin 4) (t : Fin 64) (d : Fin 256) (z : EReal) (e : x (ix4 c t h d) = z) :
    id (transpose S128x4x64x256 [0, 2, 1, 3] x transposes_S128x64x4x256_S128x4x64x256_0_2_1_3) (ix4 c h t d) = z := by
  rw [← e, id_eq]
  pointwise

/-! The host lines before the loop, from any contents. -/

theorem scaled_at (a : S8192x512.Idx → EReal) (ha : X (Proc.devRef .tc main_v0) = a) (c : Fin 128) (h : Fin 4) (t : Fin 64) (d : Fin 128) : after hostOps0_2 X (Proc.devRef .tc main_v29_0) (ix4 c h t d)
    = a (ix2 ⟨64 * c.val + t.val, by omega⟩ ⟨128 * h.val + d.val, by omega⟩) * Ideal.ofBits .f32 0x3DB504F3#32 := by
  after_reads_at
  rw [ha]
  refine id_transpose_small _ c h t d _ ?_
  refine congrArg₂ (fun x y => a (ix2 x y) * Ideal.ofBits .f32 0x3DB504F3#32) (Fin.ext ?_) (Fin.ext ?_)
  · show c.val * 64 + t.val = 64 * c.val + t.val
    rw [Nat.mul_comm]
  · show h.val * 128 + d.val = 128 * h.val + d.val
    rw [Nat.mul_comm]

theorem keys_at (a : S8192x512.Idx → EReal) (ha : X (Proc.devRef .tc main_v1) = a) (c : Fin 128) (h : Fin 4) (t : Fin 64) (d : Fin 128) : after hostOps0_2 X (Proc.devRef .tc main_v29_1) (ix4 c h t d)
    = a (ix2 ⟨64 * c.val + t.val, by omega⟩ ⟨128 * h.val + d.val, by omega⟩) := by
  after_reads_at
  rw [ha]
  refine id_transpose_small _ c h t d _ ?_
  refine congrArg₂ (fun x y => a (ix2 x y)) (Fin.ext ?_) (Fin.ext ?_)
  · show c.val * 64 + t.val = 64 * c.val + t.val
    rw [Nat.mul_comm]
  · show h.val * 128 + d.val = 128 * h.val + d.val
    rw [Nat.mul_comm]

theorem values_at (a : S8192x1024.Idx → EReal) (ha : X (Proc.devRef .tc main_v2) = a) (c : Fin 128) (h : Fin 4) (t : Fin 64) (d : Fin 256) : after hostOps0_2 X (Proc.devRef .tc main_v29_2) (ix4 c h t d)
    = a (ix2 ⟨64 * c.val + t.val, by omega⟩ ⟨256 * h.val + d.val, by omega⟩) := by
  after_reads_at
  rw [ha]
  refine id_transpose_wide _ c h t d _ ?_
  refine congrArg₂ (fun x y => a (ix2 x y)) (Fin.ext ?_) (Fin.ext ?_)
  · show c.val * 64 + t.val = 64 * c.val + t.val
    rw [Nat.mul_comm]
  · show h.val * 256 + d.val = 256 * h.val + d.val
    rw [Nat.mul_comm]

theorem rates_at (a : S8192x512.Idx → EReal) (ha : X (Proc.devRef .tc main_v9) = a) (c : Fin 128) (h : Fin 4) (t : Fin 64) (d : Fin 128) : after hostOps0_2 X (Proc.devRef .tc main_v29_3) (ix4 c h t d)
    = Ideal.div (a (ix2 ⟨64 * c.val + t.val, by omega⟩ ⟨128 * h.val + d.val, by omega⟩)) (Ideal.ofBits .f32 0x41800000#32) := by
  after_reads_at
  rw [ha]
  refine id_transpose_small _ c h t d _ ?_
  refine congrArg₂ (fun x y => Ideal.div (a (ix2 x y)) (Ideal.ofBits .f32 0x41800000#32)) (Fin.ext ?_) (Fin.ext ?_)
  · show c.val * 64 + t.val = 64 * c.val + t.val
    rw [Nat.mul_comm]
  · show h.val * 128 + d.val = 128 * h.val + d.val
    rw [Nat.mul_comm]

theorem zero_state (h : Fin 4) (d : Fin 128) (e : Fin 256) : after hostOps0_2 X (Proc.devRef .tc main_v29_5) (ix3 h d e) = (0 : EReal) := by
  after_reads_at
  rw [id_eq]
  pointwise

theorem log_sigmoid_at (r : Fin 8192) (j : Fin 512) (z : EReal) (hz : X (Proc.devRef .tc main_v8) (ix2 r j) = z) :
    after hostOps0_1 X (Proc.devRef .tc main_v9) (ix2 r j) = -(max (-z) 0 + Ideal.log1p (Ideal.exp (-(max (-z - 0) (-(-z - 0)))))) := by
  after_reads_at
  rw [hz, if_neg (fun h => h rfl)]
  rfl

theorem logit_at (a : S8192x7184.Idx → EReal) (ha : X (Proc.devRef .tc main_arg0) = a) (u : S16x512.Idx → EReal) (hu : X (Proc.devRef .tc main_arg1) = u)
    (b : S512.Idx → EReal) (hb : X (Proc.devRef .tc main_arg2) = b) (r : Fin 8192) (j : Fin 512) : after hostOps0 X (Proc.devRef .tc main_v8) (ix2 r j)
    = (∑ k : Fin 16, a (ix2 r ⟨3072 + k.val, by omega⟩) * u (ix2 k j)) + b (ix1 j) := by
  after_reads_at
  subst ha hu hb
  rfl

theorem slice0_at (r : Fin 8192) (j : Fin 512) : after hostOps0 X (Proc.devRef .tc main_v0) (ix2 r j) = X (Proc.devRef .tc main_arg0) (ix2 r ⟨0 + j.val, by omega⟩) := by
  after_reads_at

theorem slice1_at (r : Fin 8192) (j : Fin 512) : after hostOps0 X (Proc.devRef .tc main_v1) (ix2 r j) = X (Proc.devRef .tc main_arg0) (ix2 r ⟨512 + j.val, by omega⟩) := by
  after_reads_at

theorem slice2_at (r : Fin 8192) (j : Fin 1024) : after hostOps0 X (Proc.devRef .tc main_v2) (ix2 r j) = X (Proc.devRef .tc main_arg0) (ix2 r ⟨1024 + j.val, by omega⟩) := by
  after_reads_at

theorem slice4_at (r : Fin 8192) (j : Fin 1024) : after hostOps0 X (Proc.devRef .tc main_v4) (ix2 r j) = X (Proc.devRef .tc main_arg0) (ix2 r ⟨2048 + j.val, by omega⟩) := by
  after_reads_at

/-! The host lines after it. -/

theorem flat_at (o : S128x4x64x256.Idx → EReal) (ho : X (Proc.devRef .tc main_v29_6) = o) (r : Fin 8192) (j : Fin 1024) : after hostOps0_3 X (Proc.devRef .tc main_v32) (ix2 r j)
    = o (ix4 ⟨r.val / 64, by omega⟩ ⟨j.val / 256, by omega⟩ ⟨r.val % 64, by omega⟩ ⟨j.val % 256, by omega⟩) := by
  after_reads_at
  rw [ho]

theorem normed_at (o : S128x4x64x256.Idx → EReal) (ho : X (Proc.devRef .tc main_v29_6) = o) (n : S4x256.Idx → EReal) (hn : X (Proc.devRef .tc main_arg3) = n) (r : Fin 8192) (j : Fin 1024) :
    after hostOps0_3 X (Proc.devRef .tc main_v46) (ix2 r j)
    = o (ix4 ⟨r.val / 64, by omega⟩ ⟨j.val / 256, by omega⟩ ⟨r.val % 64, by omega⟩ ⟨j.val % 256, by omega⟩)
      * Ideal.rsqrt (Ideal.div (∑ x : Fin 256, o (ix4 ⟨r.val / 64, by omega⟩ ⟨j.val / 256, by omega⟩ ⟨r.val % 64, by omega⟩ x) * o (ix4 ⟨r.val / 64, by omega⟩ ⟨j.val / 256, by omega⟩ ⟨r.val % 64, by omega⟩ x))
        (Ideal.ofBits .f32 0x43800000#32) + Ideal.ofBits .f32 0x3727C5AC#32) * n (ix2 ⟨j.val / 256, by omega⟩ ⟨j.val % 256, by omega⟩) := by
  after_reads_at
  subst ho hn
  rfl

theorem silu_at (r : Fin 8192) (j : Fin 1024) (x : EReal) (hx : X (Proc.devRef .tc main_v4) (ix2 r j) = x) : after hostOps0_4 X (Proc.devRef .tc main_v47) (ix2 r j)
    = x * Ideal.logistic x := by
  after_reads_at
  rw [hx]
  rfl

theorem gated_at (r : Fin 8192) (j : Fin 1024) (x y : EReal) (hx : X (Proc.devRef .tc main_v46) (ix2 r j) = x) (hy : X (Proc.devRef .tc main_v47) (ix2 r j) = y) : after hostOps0_5 X (Proc.devRef .tc main_v49) (ix2 r j)
    = x * y := by
  after_reads_at
  subst hx hy
  rfl

theorem states_at (o : S128x4x128x256.Idx → EReal) (ho : X (Proc.devRef .tc main_v29_7) = o) (h : Fin 4) (c : Fin 128) (e : Fin 256) (d : Fin 128) : after hostOps0_5 X (Proc.devRef .tc main_v50) (ix4 h c e d)
    = o (ix4 c h d e) := by
  after_reads_at
  subst ho
  rfl

/-! The loop's entry. -/

variable (m : (ℓ : Loc nD τ sig) → Buf (Elt Ideal) ℓ) (c : Dev nD)

/-- The arguments, read as arrays of extended reals. -/
def args : Args where
  h := m ((c : Thread nD τ).loc main_arg0)
  up := m ((c : Thread nD τ).loc main_arg1)
  b := m ((c : Thread nD τ).loc main_arg2)
  n := m ((c : Thread nD τ).loc main_arg3)

/-- The contents after the first lines, and after the log-sigmoid's. -/
abbrev V0 : Valuation τ sig (Elt Ideal) := after hostOps0 (launchContents m c)
abbrev V1 : Valuation τ sig (Elt Ideal) := after hostOps0_1 (V0 m c)

theorem V1_keeps (r : Ref sig .tc) (h : r ∉ hostOps0_1_W) : V1 m c (Proc.devRef .tc r) = V0 m c (Proc.devRef .tc r) :=
  after_of_writes_sub hostOps0_1 _ hostOps0_1_writes h

variable (T : Tame (args m c))

theorem V0_logit (r : Fin 8192) (j : Fin 512) : V0 m c (Proc.devRef .tc main_v8) (ix2 r j) = logit (args m c) r.val j.val := by
  refine (logit_at _ (args m c).h rfl (args m c).up rfl (args m c).b rfl r j).trans ?_
  unfold logit
  refine congrArg₂ (fun a b : EReal => a + b) (Finset.sum_congr (M := EReal) rfl fun k _ => congrArg₂ (fun a b : EReal => a * b) ?_ ?_) ?_
  · exact cell_of (args m c).h _ _ _ _ rfl rfl
  · exact cell_of (args m c).up _ _ _ _ rfl rfl
  · exact bias_of (args m c) _ _ rfl

include T in
theorem entry_walks : Walks (data (args m c)) (entryContents preI m c) where
  q := fun C h t d => by
    refine (scaled_at (V1 m c) _ rfl C h t d).trans (congrArg (fun z : EReal => z * Ideal.ofBits .f32 0x3DB504F3#32) ?_)
    refine (congrFun (V1_keeps m c main_v0 (by decide)) _).trans ((slice0_at _ _ _).trans ?_)
    refine cell_of (args m c).h _ _ _ _ rfl ?_
    show 0 + (128 * h.val + d.val) = 128 * h.val + d.val
    rw [Nat.zero_add]
  k := fun C h t d => by
    refine (keys_at (V1 m c) _ rfl C h t d).trans ?_
    refine (congrFun (V1_keeps m c main_v1 (by decide)) _).trans ((slice1_at _ _ _).trans ?_)
    refine cell_of (args m c).h _ _ _ _ rfl ?_
    show 512 + (128 * h.val + d.val) = 512 + 128 * h.val + d.val
    omega
  v := fun C h t e => by
    refine (values_at (V1 m c) _ rfl C h t e).trans ?_
    refine (congrFun (V1_keeps m c main_v2 (by decide)) _).trans ((slice2_at _ _ _).trans ?_)
    refine cell_of (args m c).h _ _ _ _ rfl ?_
    show 1024 + (256 * h.val + e.val) = 1024 + 256 * h.val + e.val
    omega
  g := fun C h t d => by
    show _ = sums (args m c) (64 * C.val + t.val) (128 * h.val + d.val)
    unfold sums
    have e1 : (64 * C.val + t.val) % 64 = t.val := by omega
    have e2 : (64 * C.val + t.val) / 64 = C.val := by omega
    rw [e1, e2]
    refine Finset.sum_congr rfl fun s _ => congrArg (fun z : EReal => if s.val ≤ t.val then z else 0) ?_
    refine (rates_at (V1 m c) _ rfl C h s d).trans ?_
    rw [← rate_softplus (T.logit (64 * C.val + s.val) (128 * h.val + d.val))]
    refine congrArg (fun z : EReal => Ideal.div z (Ideal.ofBits .f32 0x41800000#32)) ?_
    exact log_sigmoid_at (V0 m c) _ _ _ (V0_logit m c _ _)

/-- The contents before a turn. -/
theorem ctr (k : ℕ) : atK m k c (Proc.devRef .tc main_v29_4) = fun _ => Scf.iv 0#32 1#32 k := atK_ctr m c k

include T in
theorem walks : ∀ k, Walks (data (args m c)) (atK m k c)
  | 0 => entry_walks m c T
  | k + 1 => by
    have W := walks k
    have hs := trip_agree (atK m k c)
    have e0 := (hs main_v29_0 (by decide)).trans (STEP_main_v29_0 _)
    have e1 := (hs main_v29_1 (by decide)).trans (STEP_main_v29_1 _)
    have e2 := (hs main_v29_2 (by decide)).trans (STEP_main_v29_2 _)
    have e3 := (hs main_v29_3 (by decide)).trans (STEP_main_v29_3 _)
    exact ⟨fun C h t d => (congrFun e0 _).trans (W.q C h t d), fun C h t d => (congrFun e1 _).trans (W.k C h t d), fun C h t e => (congrFun e2 _).trans (W.v C h t e),
      fun C h t d => (Finset.sum_congr rfl fun s _ => congrArg (fun z : EReal => if s.val ≤ t.val then z else 0) (congrFun e3 _)).trans (W.g C h t d)⟩

include T in
theorem state_before : ∀ k, k ≤ 128 → ∀ (h : Fin 4) (e : Fin 256) (d : Fin 128), atK m k c (Proc.devRef .tc main_v29_5) (ix3 h d e) = state (data (args m c)) h.val k e d
  | 0, _ => fun h e d => zero_state (V1 m c) h d e
  | k + 1, hk => fun h e d => by
    refine (congrFun ((trip_agree (atK m k c) main_v29_5 (by decide)).trans (STEP_main_v29_5 _)) _).trans ?_
    refine (step5 k (by omega) (data (args m c)) (atK m k c) (ctr m c k) (walks m c T k) h d e).trans ?_
    refine congrArg (fun S => next (data (args m c)) h.val k S e d) (funext fun e => funext fun d => ?_)
    exact state_before k (by omega) h e d

include T in
theorem out_before : ∀ k, k ≤ 128 → ∀ (C : Fin 128), C.val < k → ∀ (h : Fin 4) (t : Fin 64) (e : Fin 256), atK m k c (Proc.devRef .tc main_v29_6) (ix4 C h t e) = out (data (args m c)) h.val C.val t e
  | 0, _ => fun C hC => absurd hC (Nat.not_lt_zero _)
  | k + 1, hk => fun C hC h t e => by
    refine (congrFun ((trip_agree (atK m k c) main_v29_6 (by decide)).trans (STEP_main_v29_6 _)) _).trans ?_
    refine (step6 k (by omega) (data (args m c)) (atK m k c) (ctr m c k) (walks m c T k) C h t e (state_before m c T k (by omega))).trans ?_
    by_cases h' : C.val = k
    · rw [if_pos h', h']
    · rw [if_neg h']
      exact out_before k (by omega) C (by omega) h t e

include T in
theorem states_before : ∀ k, k ≤ 128 → ∀ (C : Fin 128), C.val < k → ∀ (h : Fin 4) (e : Fin 256) (d : Fin 128), atK m k c (Proc.devRef .tc main_v29_7) (ix4 C h d e) = state (data (args m c)) h.val C.val e d
  | 0, _ => fun C hC => absurd hC (Nat.not_lt_zero _)
  | k + 1, hk => fun C hC h e d => by
    refine (congrFun ((trip_agree (atK m k c) main_v29_7 (by decide)).trans (STEP_main_v29_7 _)) _).trans ?_
    refine (step7 k (by omega) (atK m k c) (ctr m c k) C h d e).trans ?_
    by_cases h' : C.val = k
    · rw [if_pos h', h']
      exact state_before m c T k (by omega) h e d
    · rw [if_neg h']
      exact states_before k (by omega) C (by omega) h e d

end Cert.AttnReferenceIdeal.Closed

end
-- ==== Proof.Attn.Reference.lean ====
/-
  The run of the reference of the attention's forward call: its three results, its arguments kept.
-/
module

public import proofs.«01_k».proof.Proof.Attn.Entry

@[expose] public section

set_option maxRecDepth 16384

noncomputable section

open Idealize.ShloMosaic Idealize.ShloMosaic.TcCoe Idealize.SL.Sem

namespace Cert.AttnReferenceIdeal.Closed

open Cert.AttnReferenceIdeal Cert.AttnReferenceIdeal.Gen Cert.AttnReferenceIdeal.Value Cert.AttnForm Cert.Reals
open Idealize.ShloMosaic.StableHlo

variable (m : (ℓ : Loc nD τ sig) → Buf (Elt Ideal) ℓ) (c : Dev nD)

/-- What a turn writes. -/
abbrev turn_W : List (List (Ref sig .tc)) := [condOps_W, while0Ops0_W, while0Ops0_1_W, while0Ops0_2_W, while0Ops0_3_W, while0Ops0_4_W, while0Ops0_5_W, while0Ops0_6_W, while0Ops0_7_W, while0Ops0_8_W]

/-- A buffer no turn writes. -/
def Outside (r : Ref sig .tc) : Prop := ∀ l ∈ turn_W, r ∉ l

theorem turn_keeps (X : Valuation τ sig (Elt Ideal)) (r : Ref sig .tc) (h : Outside r) : afterL bodyI (after condOps X) (Proc.devRef .tc r) = X (Proc.devRef .tc r) := by
  simp only [bodyI, afterL_cons, afterL_nil]
  rw [after_of_writes_sub while0Ops0_8 _ while0Ops0_8_writes (h while0Ops0_8_W (by simp)), after_of_writes_sub while0Ops0_7 _ while0Ops0_7_writes (h while0Ops0_7_W (by simp)), after_of_writes_sub while0Ops0_6 _ while0Ops0_6_writes (h while0Ops0_6_W (by simp)), after_of_writes_sub while0Ops0_5 _ while0Ops0_5_writes (h while0Ops0_5_W (by simp)), after_of_writes_sub while0Ops0_4 _ while0Ops0_4_writes (h while0Ops0_4_W (by simp)), after_of_writes_sub while0Ops0_3 _ while0Ops0_3_writes (h while0Ops0_3_W (by simp)), after_of_writes_sub while0Ops0_2 _ while0Ops0_2_writes (h while0Ops0_2_W (by simp)), after_of_writes_sub while0Ops0_1 _ while0Ops0_1_writes (h while0Ops0_1_W (by simp)), after_of_writes_sub while0Ops0 _ while0Ops0_writes (h while0Ops0_W (by simp)),
    after_of_writes_sub condOps _ condOps_writes (h condOps_W (by simp))]

theorem loop_keeps (r : Ref sig .tc) (h : Outside r) : ∀ k, atK m k c (Proc.devRef .tc r) = entryContents preI m c (Proc.devRef .tc r)
  | 0 => rfl
  | k + 1 => (turn_keeps (atK m k c) r h).trans (loop_keeps r h k)

/-- The contents after the loop. -/
abbrev Y : Valuation τ sig (Elt Ideal) := after condOps (atK m 128 c)

theorem Y_keeps (r : Ref sig .tc) (h : Outside r) : Y m c (Proc.devRef .tc r) = entryContents preI m c (Proc.devRef .tc r) :=
  (after_of_writes_sub condOps _ condOps_writes (h condOps_W (by simp))).trans (loop_keeps m c r h 128)

theorem final_eq (b : Ref sig .tc) : finalContents condOps preI bodyI postI 128 m c (Proc.devRef .tc b)
    = after hostOps0_5 (after hostOps0_4 (after hostOps0_3 (Y m c))) (Proc.devRef .tc b) := rfl

theorem outside_gate : Outside main_v4 := by unfold Outside; decide
theorem outside_0 : Outside main_arg0 := by unfold Outside; decide
theorem outside_1 : Outside main_arg1 := by unfold Outside; decide
theorem outside_2 : Outside main_arg2 := by unfold Outside; decide
theorem outside_3 : Outside main_arg3 := by unfold Outside; decide

theorem entry_eq : entryContents preI m c = after hostOps0_2 (V1 m c) := rfl

theorem entry_keeps (r : Ref sig .tc) (h0 : r ∉ hostOps0_W) (h1 : r ∉ hostOps0_1_W) (h2 : r ∉ hostOps0_2_W) :
    entryContents preI m c (Proc.devRef .tc r) = m ((c : Thread nD τ).loc r) :=
  (after_of_writes_sub hostOps0_2 _ hostOps0_2_writes h2).trans ((after_of_writes_sub hostOps0_1 _ hostOps0_1_writes h1).trans (after_of_writes_sub hostOps0 _ hostOps0_writes h0))

theorem Y_gate (r : Fin 8192) (j : Fin 1024) : Y m c (Proc.devRef .tc main_v4) (ix2 r j) = cell (args m c).h r.val (2048 + j.val) := by
  rw [Y_keeps m c main_v4 outside_gate, entry_eq, after_of_writes_sub hostOps0_2 _ hostOps0_2_writes (by decide), V1_keeps m c main_v4 (by decide)]
  exact (slice4_at _ r j).trans (cell_of (args m c).h _ _ _ _ rfl rfl)

theorem Y_norm : Y m c (Proc.devRef .tc main_arg3) = (args m c).n :=
  (Y_keeps m c main_arg3 outside_3).trans (entry_keeps m c main_arg3 (by decide) (by decide) (by decide))

theorem tail_keeps_arg0 (X : Valuation τ sig (Elt Ideal)) : after hostOps0_5 (after hostOps0_4 (after hostOps0_3 X)) (Proc.devRef .tc main_arg0) = X (Proc.devRef .tc main_arg0) := by
  after_results

theorem tail_keeps_arg1 (X : Valuation τ sig (Elt Ideal)) : after hostOps0_5 (after hostOps0_4 (after hostOps0_3 X)) (Proc.devRef .tc main_arg1) = X (Proc.devRef .tc main_arg1) := by
  after_results

theorem tail_keeps_arg2 (X : Valuation τ sig (Elt Ideal)) : after hostOps0_5 (after hostOps0_4 (after hostOps0_3 X)) (Proc.devRef .tc main_arg2) = X (Proc.devRef .tc main_arg2) := by
  after_results

theorem tail_keeps_arg3 (X : Valuation τ sig (Elt Ideal)) : after hostOps0_5 (after hostOps0_4 (after hostOps0_3 X)) (Proc.devRef .tc main_arg3) = X (Proc.devRef .tc main_arg3) := by
  after_results

theorem tail_keeps_out (X : Valuation τ sig (Elt Ideal)) : after hostOps0_5 (after hostOps0_4 X) (Proc.devRef .tc main_v32) = X (Proc.devRef .tc main_v32) := by
  after_results

theorem keeps_normed (X : Valuation τ sig (Elt Ideal)) : after hostOps0_4 X (Proc.devRef .tc main_v46) = X (Proc.devRef .tc main_v46) := by
  after_results

theorem keeps_gate (X : Valuation τ sig (Elt Ideal)) : after hostOps0_3 X (Proc.devRef .tc main_v4) = X (Proc.devRef .tc main_v4) := by
  after_results

theorem keeps_states (X : Valuation τ sig (Elt Ideal)) : after hostOps0_4 (after hostOps0_3 X) (Proc.devRef .tc main_v29_7) = X (Proc.devRef .tc main_v29_7) := by
  after_results

variable (T : Tame (args m c))

include T in
theorem Y_out (C : Fin 128) (h : Fin 4) (t : Fin 64) (e : Fin 256) : Y m c (Proc.devRef .tc main_v29_6) (ix4 C h t e) = out (data (args m c)) h.val C.val t e :=
  (congrFun (cond_keeps (atK m 128 c) main_v29_6 (by decide)) _).trans (out_before m c T 128 le_rfl C C.isLt h t e)

include T in
theorem Y_states (C : Fin 128) (h : Fin 4) (d : Fin 128) (e : Fin 256) : Y m c (Proc.devRef .tc main_v29_7) (ix4 C h d e) = state (data (args m c)) h.val C.val e d :=
  (congrFun (cond_keeps (atK m 128 c) main_v29_7 (by decide)) _).trans (states_before m c T 128 le_rfl C C.isLt h e d)

include T in
theorem final_out (r : Fin 8192) (j : Fin 1024) : finalContents condOps preI bodyI postI 128 m c (Proc.devRef .tc main_v32) (ix2 r j)
    = outAt (args m c) r.val (j.val / 256) ⟨j.val % 256, by omega⟩ := by
  rw [final_eq, tail_keeps_out]
  exact (flat_at (Y m c) _ rfl r j).trans (Y_out m c T _ _ _ _)

include T in
theorem final_norm (r : Fin 8192) (j : Fin 1024) : finalContents condOps preI bodyI postI 128 m c (Proc.devRef .tc main_v49) (ix2 r j)
    = normAt (args m c) r.val (j.val / 256) ⟨j.val % 256, by omega⟩ := by
  rw [final_eq]
  refine (gated_at _ r j _ _ (congrFun (keeps_normed _) _) (silu_at _ r j _ ((congrFun (keeps_gate _) _).trans (Y_gate m c r j)))).trans ?_
  unfold normAt normed
  refine congrArg₂ (fun a b : EReal => a * b) ?_ ?_
  · refine (normed_at (Y m c) _ rfl _ (Y_norm m c) r j).trans ?_
    have e (x : Fin 256) : Y m c (Proc.devRef .tc main_v29_6) (ix4 ⟨r.val / 64, by omega⟩ ⟨j.val / 256, by omega⟩ ⟨r.val % 64, by omega⟩ x)
      = outAt (args m c) r.val (j.val / 256) x := Y_out m c T _ _ _ _
    refine congrArg₂ (fun a b : EReal => a * b) (congrArg₂ (fun a b : EReal => a * Ideal.rsqrt (Ideal.div b (Ideal.ofBits .f32 0x43800000#32) + Ideal.ofBits .f32 0x3727C5AC#32))
      (e _) (Finset.sum_congr (M := EReal) rfl fun x _ => congrArg₂ (fun a b : EReal => a * b) (e x) (e x))) ?_
    exact cell_of (args m c).n _ _ _ _ rfl rfl
  · refine congrArg (fun z => cell (args m c).h r.val z * Ideal.logistic (cell (args m c).h r.val z)) ?_
    show 2048 + j.val = 2048 + 256 * (j.val / 256) + j.val % 256
    omega

include T in
theorem final_states (h : Fin 4) (C : Fin 128) (e : Fin 256) (d : Fin 128) : finalContents condOps preI bodyI postI 128 m c (Proc.devRef .tc main_v50) (ix4 h C e d)
    = state (data (args m c)) h.val C.val e d := by
  rw [final_eq]
  refine (states_at _ _ rfl h C e d).trans ?_
  exact (congrFun (keeps_states _) _).trans (Y_states m c T C h d e)

theorem final_arg0 : finalContents condOps preI bodyI postI 128 m c (Proc.devRef .tc main_arg0) = m ((c : Thread nD τ).loc main_arg0) :=
  by rw [final_eq, tail_keeps_arg0, Y_keeps m c main_arg0 outside_0, entry_keeps m c main_arg0 (by decide) (by decide) (by decide)]

theorem final_arg1 : finalContents condOps preI bodyI postI 128 m c (Proc.devRef .tc main_arg1) = m ((c : Thread nD τ).loc main_arg1) :=
  by rw [final_eq, tail_keeps_arg1, Y_keeps m c main_arg1 outside_1, entry_keeps m c main_arg1 (by decide) (by decide) (by decide)]

theorem final_arg2 : finalContents condOps preI bodyI postI 128 m c (Proc.devRef .tc main_arg2) = m ((c : Thread nD τ).loc main_arg2) :=
  by rw [final_eq, tail_keeps_arg2, Y_keeps m c main_arg2 outside_2, entry_keeps m c main_arg2 (by decide) (by decide) (by decide)]

theorem final_arg3 : finalContents condOps preI bodyI postI 128 m c (Proc.devRef .tc main_arg3) = m ((c : Thread nD τ).loc main_arg3) :=
  by rw [final_eq, tail_keeps_arg3, Y_keeps m c main_arg3 outside_3, entry_keeps m c main_arg3 (by decide) (by decide) (by decide)]

variable (ρ : Dev nD → PrngReg)

/-- The reference's run at a result and at its arguments. -/
theorem run : θ_run (defs (F := Ideal)) (onTc (τ := τ) (main (F := Ideal))) ⟨m, fun _ => 0, ρ⟩ fun r => ∀ c : Dev nD,
      r.2.mem ((c : Thread nD τ).loc main_v32) = finalContents condOps preI bodyI postI 128 m c (Proc.devRef .tc main_v32)
      ∧ r.2.mem ((c : Thread nD τ).loc main_v49) = finalContents condOps preI bodyI postI 128 m c (Proc.devRef .tc main_v49)
      ∧ r.2.mem ((c : Thread nD τ).loc main_v50) = finalContents condOps preI bodyI postI 128 m c (Proc.devRef .tc main_v50)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨h c main_v32 rfl, h c main_v49 rfl, h c main_v50 rfl, (h c main_arg0 rfl).trans (final_arg0 m c), (h c main_arg1 rfl).trans (final_arg1 m c),
    (h c main_arg2 rfl).trans (final_arg2 m c), (h c main_arg3 rfl).trans (final_arg3 m c)⟩) (run_fold m ρ)

end Cert.AttnReferenceIdeal.Closed

end
-- ==== Proof.Attn.Finite.lean ====
/-
  Where the gate's columns, its weights and its bias are of finite magnitude their entries are real numbers.
-/
module

public import proofs.«01_k».proof.Defs
public import proofs.«01_k».proof.Proof.Common.Finite
public import proofs.«01_k».proof.Proof.Attn.Model

@[expose] public section

set_option maxRecDepth 16384

noncomputable section

open Idealize.ShloMosaic Idealize.ShloMosaic.TcCoe Idealize.SL.Sem

namespace Cert.Proof.Attn

open Cert.Reals

instance : Subsingleton Cert.Pre_gates_finite.S_.Idx := ⟨fun a b => funext fun d => d.elim0⟩

variable [Cert.Pre_gates_finite.Facts]

theorem finite {x0 x1 x2 x3} (e : Cert.Pre_gates_finite.fn (F := Ideal) x0 x1 x2 x3 = fun _ => 1#1) : Cert.AttnForm.Tame ⟨x0, x1, x2, x3⟩ := by
  have e := congrFun e (fun d => d.elim0)
  unfold Cert.Pre_gates_finite.fn at e
  obtain ⟨e01, e2⟩ := both e
  obtain ⟨e0, e1⟩ := both e01
  refine ⟨fun r k => ?_, IsReal.of_all _ _ _ _ _ _ (fun _ => inf_word) e1, IsReal.of_all _ _ _ _ _ _ (fun _ => inf_word) e2⟩
  have a := IsReal.of_all _ _ _ _ _ _ (fun _ => inf_word) e0 (ix2 r k)
  have q : extractStridedSlice Cert.Pre_gates_finite.S8192x16 ![0, 3072] x0 Cert.Pre_gates_finite.Facts.slices_S8192x7184_S8192x16_0_3072 (ix2 r k) = x0 (ix2 r ⟨3072 + k.val, by omega⟩) := by
    pointwise
  exact (congrArg IsReal q).mp a

end Cert.Proof.Attn

end
-- ==== Proof.Attn.Algebra.lean ====
/-
  The attention's forward call: what the kernel computes is what reference.py's lines give.
-/
module

public import proofs.«01_k».proof.Proof.Attn.Kernel
public import proofs.«01_k».proof.Proof.Attn.Reference
public import proofs.«01_k».proof.Proof.Attn.Finite
public import proofs.«01_k».proof.Proof.Gen.Pre_gates_finite

@[expose] public section

set_option maxRecDepth 16384

noncomputable section

open Idealize.ShloMosaic Idealize.ShloMosaic.TcCoe Idealize.SL.Sem

namespace Cert.Proof.Attn

open Cert.AttnForm Cert.Reals

/-- The idealized kernel and the reference agree on the attention's output, on its gated norm and on the chunks' first states. -/
theorem algebraic : Cert.algebraic_AttnKernelIdeal_AttnReferenceIdeal_pre_gates_finite := by
  intro m g m' g' hpre hagree
  refine ⟨fun c => (Cert.AttnKernelIdeal.Gen.dats m 0 c).arrAt 5 Cert.AttnKernelIdeal.cfg0.N,
    fun c => (Cert.AttnKernelIdeal.Gen.dats m 0 c).arrAt 6 Cert.AttnKernelIdeal.cfg0.N,
    fun c => (Cert.AttnKernelIdeal.Gen.dats m 0 c).arrAt 7 Cert.AttnKernelIdeal.cfg0.N,
    Cert.AttnKernelIdeal.Value.run_blocks m g, ?_⟩
  have hA (c : _) : Cert.AttnReferenceIdeal.Closed.args m' c = Cert.AttnKernelIdeal.Closed.args m c := by
    obtain ⟨h0, h1, h2, h3⟩ := hagree c
    unfold Cert.AttnReferenceIdeal.Closed.args Cert.AttnKernelIdeal.Closed.args
    rw [h0, h1, h2, h3]
  have hT (c : _) : Tame (Cert.AttnKernelIdeal.Closed.args m c) := finite (hpre c)
  have hT' (c : _) : Tame (Cert.AttnReferenceIdeal.Closed.args m' c) := (hA c).symm ▸ hT c
  refine (θ_run Cert.AttnReferenceIdeal.defs _ _).mono (fun r hr c => ⟨?_, ?_, ?_, (hr c).2.2.2⟩)
    (Cert.AttnReferenceIdeal.Closed.run m' g')
  · rw [(hr c).1]
    refine Eq.trans ?_ (Cert.AttnKernelIdeal.Closed.out_total m c (hT c)).symm
    funext i
    idx_vars i
    refine (Cert.AttnReferenceIdeal.Closed.final_out m' c (hT' c) i0 i1).trans ?_
    rw [hA]
  · rw [(hr c).2.1]
    refine Eq.trans ?_ (Cert.AttnKernelIdeal.Closed.norm_total m c (hT c)).symm
    funext i
    idx_vars i
    refine (Cert.AttnReferenceIdeal.Closed.final_norm m' c (hT' c) i0 i1).trans ?_
    rw [hA]
  · rw [(hr c).2.2.1]
    refine Eq.trans ?_ (Cert.AttnKernelIdeal.Closed.state_total m c (hT c)).symm
    funext i
    idx_vars i
    refine (Cert.AttnReferenceIdeal.Closed.final_states m' c (hT' c) i0 i1 i2 i3).trans ?_
    rw [hA]

end Cert.Proof.Attn

end
-- ==== Proof.Proj.Form.lean ====
/-
  The gradients of a product: of its rows, of its weights.
-/
module

public import Idealize.ShloMosaic.Lib.Pointwise

@[expose] public section

set_option maxRecDepth 16384

noncomputable section

open Idealize.ShloMosaic Idealize.ShloMosaic.TcCoe Idealize.SL.Sem

namespace Cert.ProjForm

/-- The cotangent of the rows a matrix was applied to. -/
def back (d : (⟨2, ![8192, 1024]⟩ : Shape).Idx → EReal) (w : (⟨2, ![1024, 1024]⟩ : Shape).Idx → EReal) (e : Fin 8192) (j : Fin 1024) : EReal :=
  ∑ k : Fin 1024, d (ix2 e k) * w (ix2 j k)

/-- The cotangent of the matrix. -/
def grad (y d : (⟨2, ![8192, 1024]⟩ : Shape).Idx → EReal) (i j : Fin 1024) : EReal := ∑ e : Fin 8192, y (ix2 e i) * d (ix2 e j)

end Cert.ProjForm

end
-- ==== Proof.Proj.Kernel.lean ====
/-
  The arrays the projections' backward kernel leaves.
-/
module

public import proofs.«01_k».proof.Proof.Gen.ProjKernelIdeal.Value
public import proofs.«01_k».proof.Proof.Proj.Form
public import proofs.«01_k».proof.Proof.Common.Pieces
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ProjKernelIdeal.Closed

open Cert.ProjKernelIdeal Cert.ProjKernelIdeal.Gen Cert.ProjForm Cert.Pieces

variable (m : (ℓ : Loc nD τ sig) → Buf (Elt Ideal) ℓ) (c : Dev nD)

/-! The arguments, read as arrays of extended reals. -/

abbrev ya : S8192x1024.Idx → EReal := m ((c : Thread nD τ).loc main_arg0)
abbrev yb : S8192x1024.Idx → EReal := m ((c : Thread nD τ).loc main_arg1)
abbrev da : S8192x1024.Idx → EReal := m ((c : Thread nD τ).loc main_arg2)
abbrev db : S8192x1024.Idx → EReal := m ((c : Thread nD τ).loc main_arg3)
abbrev wa : S1024x1024.Idx → EReal := m ((c : Thread nD τ).loc main_arg4)
abbrev wb : S1024x1024.Idx → EReal := m ((c : Thread nD τ).loc main_arg5)

theorem V_eq (b : Ref sig .tc) : V m c b = StableHlo.after hostOps0 (fun b => m (c, b)) (Proc.devRef .tc b) := by
  simp only [V, List.flatten_cons, List.flatten_nil, List.append_nil]

theorem V_ya : V m c main_v0 = ya m c := by
  rw [V_eq]
  after_reads_simp
  rfl

theorem V_yb : V m c main_v1 = yb m c := by
  rw [V_eq]
  after_reads_simp
  rfl

theorem V_da : V m c main_v2 = da m c := by
  rw [V_eq]
  after_reads_simp
  rfl

theorem V_db : V m c main_v3 = db m c := by
  rw [V_eq]
  after_reads_simp
  rfl

theorem V_wa : V m c main_v4 = wa m c := by
  rw [V_eq]
  after_reads_simp
  rfl

theorem V_wb : V m c main_v5 = wb m c := by
  rw [V_eq]
  after_reads_simp
  rfl

/-- The row a point's block row stands at. -/
def row (t : Fin cfg0.N) (a : Fin 512) : Fin 8192 :=
  ⟨512 * t.val + a.val, by have := lt_of_lt_of_eq t.isLt N_0; have := a.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])

variable (t : Fin cfg0.N)

theorem read_ya (a : Fin 512) (j : Fin 1024) : iblk m c 0 t (ix2 a j) = ya m c (ix2 (row t a) j) := by
  refine Eq.trans ?_ (congrFun (V_ya m c) _)
  blk_ext [iblk, idx0 t, row]

theorem read_yb (a : Fin 512) (j : Fin 1024) : iblk m c 1 t (ix2 a j) = yb m c (ix2 (row t a) j) := by
  refine Eq.trans ?_ (congrFun (V_yb m c) _)
  blk_ext [iblk, idx1 t, row]

theorem read_da (a : Fin 512) (j : Fin 1024) : iblk m c 2 t (ix2 a j) = da m c (ix2 (row t a) j) := by
  refine Eq.trans ?_ (congrFun (V_da m c) _)
  blk_ext [iblk, idx2 t, row]

theorem read_db (a : Fin 512) (j : Fin 1024) : iblk m c 3 t (ix2 a j) = db m c (ix2 (row t a) j) := by
  refine Eq.trans ?_ (congrFun (V_db m c) _)
  blk_ext [iblk, idx3 t, row]

theorem read_wa (k j : Fin 1024) : iblk m c 4 t (ix2 k j) = wa m c (ix2 k j) := by
  refine Eq.trans ?_ (congrFun (V_wa m c) _)
  blk_ext [iblk, idx4 t]

theorem read_wb (k j : Fin 1024) : iblk m c 5 t (ix2 k j) = wb m c (ix2 k j) := by
  refine Eq.trans ?_ (congrFun (V_wb m c) _)
  blk_ext [iblk, idx5 t]

theorem at_a (a : Fin 512) (j : Fin 1024) : k0_pay5 (iblk m c 2 t) (iblk m c 4 t) (ix2 a j) = back (da m c) (wa m c) (row t a) j := by
  pointwise [k0_pay5, k0_pay4]
  simp only [read_da, read_wa]
  rfl

set_option maxHeartbeats 2000000 in
theorem leaves_a (a : Fin 512) (j : Fin 1024) : (outsAt0 m c t.val t.isLt).1 (ix2 a j) = back (da m c) (wa m c) (row t a) j := by
  by_cases h0 : t.val % 16 = 0
  · rw [outsAt0_A m c t h0]
    frame_out
    exact at_a m c t a j
  · rw [outsAt0_B m c t h0]
    frame_out
    exact at_a m c t a j

theorem at_b (a : Fin 512) (j : Fin 1024) : k0_pay8 (iblk m c 3 t) (iblk m c 5 t) (ix2 a j) = back (db m c) (wb m c) (row t a) j := by
  pointwise [k0_pay8, k0_pay7]
  simp only [read_db, read_wb]
  rfl

set_option maxHeartbeats 2000000 in
theorem leaves_b (a : Fin 512) (j : Fin 1024) : (outsAt0 m c t.val t.isLt).2.1 (ix2 a j) = back (db m c) (wb m c) (row t a) j := by
  by_cases h0 : t.val % 16 = 0
  · rw [outsAt0_A m c t h0]
    frame_out
    exact at_b m c t a j
  · rw [outsAt0_B m c t h0]
    frame_out
    exact at_b m c t a j

theorem adds_a (w : FVec Ideal S1024x1024 .f32) (i j : Fin 1024) : k0_pay6 (iblk m c 2 t) w (iblk m c 0 t) (ix2 i j)
    = w (ix2 i j) + ∑ a : Fin 512, ya m c (ix2 (row t a) i) * da m c (ix2 (row t a) j) := by
  pointwise [k0_pay6, k0_pay4]
  simp only [read_ya, read_da]

set_option maxHeartbeats 2000000 in
theorem first_a (h0 : t.val % 16 = 0) (i j : Fin 1024) : (outsAt0 m c t.val t.isLt).2.2.1 (ix2 i j)
    = ∑ a : Fin 512, ya m c (ix2 (row t a) i) * da m c (ix2 (row t a) j) := by
  rw [outsAt0_A m c t h0]
  frame_open
  simp (disch := decide) only [↓ View.readCov_skip, ↓ View.readCov_cons_toLoadRect, ↓ View.readCov_fill]
  frame_out
  refine (adds_a m c t k0_pay2 i j).trans ?_
  pointwise [k0_pay2]

set_option maxHeartbeats 2000000 in
theorem next_a (h0 : ¬ t.val % 16 = 0) (i j : Fin 1024) : (outsAt0 m c t.val t.isLt).2.2.1 (ix2 i j)
    = (outsAt0 m c (t.val - 1) (by omega)).2.2.1 (ix2 i j) + ∑ a : Fin 512, ya m c (ix2 (row t a) i) * da m c (ix2 (row t a) j) := by
  rw [outsAt0_B m c t h0]
  frame_out
  exact adds_a m c t _ i j

theorem adds_b (w : FVec Ideal S1024x1024 .f32) (i j : Fin 1024) : k0_pay1 (k0_pay9 w) (k0_pay10 (iblk m c 3 t) (iblk m c 1 t)) (ix2 i j)
    = w (ix2 i j) + ∑ a : Fin 512, yb m c (ix2 (row t a) i) * db m c (ix2 (row t a) j) := by
  pointwise [k0_pay1, k0_pay9, k0_pay10, k0_pay7]
  simp only [read_yb, read_db]

set_option maxHeartbeats 2000000 in
theorem first_b (h0 : t.val % 16 = 0) (i j : Fin 1024) : (outsAt0 m c t.val t.isLt).2.2.2 (ix2 i j)
    = ∑ a : Fin 512, yb m c (ix2 (row t a) i) * db m c (ix2 (row t a) j) := by
  rw [outsAt0_A m c t h0]
  frame_open
  simp (disch := decide) only [↓ View.readCov_skip, ↓ View.readCov_cons_toLoadRect, ↓ View.readCov_fill]
  frame_out
  refine (adds_b m c t k0_pay3 i j).trans ?_
  pointwise [k0_pay3]

set_option maxHeartbeats 2000000 in
theorem next_b (h0 : ¬ t.val % 16 = 0) (i j : Fin 1024) : (outsAt0 m c t.val t.isLt).2.2.2 (ix2 i j)
    = (outsAt0 m c (t.val - 1) (by omega)).2.2.2 (ix2 i j) + ∑ a : Fin 512, yb m c (ix2 (row t a) i) * db m c (ix2 (row t a) j) := by
  rw [outsAt0_B m c t h0]
  frame_out
  exact adds_b m c t _ i j

/-- The last point. -/
def tLast : Fin cfg0.N := ⟨15, lt_of_lt_of_eq (by decide) N_0.symm⟩

/-- The rows of the tiles are all the rows. -/
theorem sum_tiles (F : Fin 8192 → EReal) : ∑ t : Fin cfg0.N, ∑ a : Fin 512, F (row t a) = ∑ e : Fin 8192, F e := by
  have e : ∀ t : Fin 16, ∀ a : Fin 512, finProdFinEquiv (t, a) = row ⟨t.val, lt_of_lt_of_eq t.isLt N_0.symm⟩ a := fun t a =>
    Fin.ext (Nat.add_comm _ _)
  have hF : ∑ r : Fin 8192, F r = ∑ p : Fin 16 × Fin 512, F (finProdFinEquiv p) :=
    (Fintype.sum_equiv finProdFinEquiv (fun p : Fin 16 × Fin 512 => F (finProdFinEquiv p)) F fun _ => rfl).symm
  rw [hF, Fintype.sum_prod_type]
  exact Fintype.sum_equiv (finCongr N_0) _ _ fun t => Finset.sum_congr rfl fun a _ => congrArg F (e _ a).symm

theorem back_a : (dats m 0 c).arrAt 6 cfg0.N = fun i => back (da m c) (wa m c) (i 0) (i 1) := by
  refine (dats m 0 c).arrAt_eq_of_covers 6 _ (by decide +kernel) fun t hf y => ?_
  blk_simp
  rw [after0_6]
  idx_vars y
  refine (leaves_a m c t _ _).trans ?_
  refine congrArg₂ (back (da m c) (wa m c)) (Fin.ext ?_) (Fin.ext ?_)
  · refine Eq.trans ?_ ((cfg0.win 6).rect_emb_val t (ix2 _ _) 0).symm
    rw [show (cfg0.win 6).index t 0 = t.val from congrFun (idx6 t) 0]
    show 512 * t.val + _ = t.val * 512 + _
    rw [Nat.mul_comm]
    rfl
  · refine Eq.trans ?_ ((cfg0.win 6).rect_emb_val t (ix2 _ _) 1).symm
    rw [show (cfg0.win 6).index t 1 = 0 from congrFun (idx6 t) 1]
    show _ = 0 * 1024 + _
    rw [Nat.zero_mul, Nat.zero_add]
    rfl

theorem back_b : (dats m 0 c).arrAt 7 cfg0.N = fun i => back (db m c) (wb m c) (i 0) (i 1) := by
  refine (dats m 0 c).arrAt_eq_of_covers 7 _ (by decide +kernel) fun t hf y => ?_
  blk_simp
  rw [after0_7]
  idx_vars y
  refine (leaves_b m c t _ _).trans ?_
  refine congrArg₂ (back (db m c) (wb m c)) (Fin.ext ?_) (Fin.ext ?_)
  · refine Eq.trans ?_ ((cfg0.win 7).rect_emb_val t (ix2 _ _) 0).symm
    rw [show (cfg0.win 7).index t 0 = t.val from congrFun (idx7 t) 0]
    show 512 * t.val + _ = t.val * 512 + _
    rw [Nat.mul_comm]
    rfl
  · refine Eq.trans ?_ ((cfg0.win 7).rect_emb_val t (ix2 _ _) 1).symm
    rw [show (cfg0.win 7).index t 1 = 0 from congrFun (idx7 t) 1]
    show _ = 0 * 1024 + _
    rw [Nat.zero_mul, Nat.zero_add]
    rfl

theorem grad_a : (dats m 0 c).arrAt 8 cfg0.N = fun i => grad (ya m c) (da m c) (i 0) (i 1) := by
  refine (dats m 0 c).arrAt_eq_of_after_last 8 tLast (by decide +kernel) _ fun y => ?_
  blk_simp
  rw [after0_8]
  idx_vars y
  refine (Pipeline.eq_sum_fin_of_reset_step_apply_last (fun n hn => (outsAt0 m c n hn).2.2.1) 16
    (fun _ => 0) (fun t i => ∑ a : Fin 512, ya m c (ix2 (row t a) (i 0)) * da m c (ix2 (row t a) (i 1))) ?_ ?_ (le_of_eq N_0) tLast rfl _).trans ?_
  · intro t ht i
    idx_vars i
    exact (first_a m c t ht i0 i1).trans (zero_add _).symm
  · intro t ht i
    idx_vars i
    exact next_a m c t ht i0 i1
  · exact (zero_add _).trans (sum_tiles fun e => ya m c (ix2 e y0) * da m c (ix2 e y1))

theorem grad_b : (dats m 0 c).arrAt 9 cfg0.N = fun i => grad (yb m c) (db m c) (i 0) (i 1) := by
  refine (dats m 0 c).arrAt_eq_of_after_last 9 tLast (by decide +kernel) _ fun y => ?_
  blk_simp
  rw [after0_9]
  idx_vars y
  refine (Pipeline.eq_sum_fin_of_reset_step_apply_last (fun n hn => (outsAt0 m c n hn).2.2.2) 16
    (fun _ => 0) (fun t i => ∑ a : Fin 512, yb m c (ix2 (row t a) (i 0)) * db m c (ix2 (row t a) (i 1))) ?_ ?_ (le_of_eq N_0) tLast rfl _).trans ?_
  · intro t ht i
    idx_vars i
    exact (first_b m c t ht i0 i1).trans (zero_add _).symm
  · intro t ht i
    idx_vars i
    exact next_b m c t ht i0 i1
  · exact (zero_add _).trans (sum_tiles fun e => yb m c (ix2 e y0) * db m c (ix2 e y1))

end Cert.ProjKernelIdeal.Closed

end
-- ==== Proof.Proj.Algebra.lean ====
/-
  The projections' backward call: what the kernel computes is what the vjp of reference.py's two products gives.
-/
module

public import proofs.«01_k».proof.Proof.Proj.Kernel
public import proofs.«01_k».proof.Defs
public import proofs.«01_k».proof.Proof.Gen.ProjReferenceIdeal.Run

@[expose] public section

set_option maxRecDepth 16384

noncomputable section

open Idealize.ShloMosaic Idealize.ShloMosaic.TcCoe Idealize.SL.Sem

namespace Cert.Proof.Proj

open Cert.ProjForm

/-- The idealized kernel and the reference agree on the branches' cotangents and on the weights' gradients. -/
theorem algebraic : Cert.algebraic_ProjKernelIdeal_ProjReferenceIdeal := by
  intro m g m' g' _ hagree
  refine ⟨fun c => (Cert.ProjKernelIdeal.Gen.dats m 0 c).arrAt 6 Cert.ProjKernelIdeal.cfg0.N,
    fun c => (Cert.ProjKernelIdeal.Gen.dats m 0 c).arrAt 7 Cert.ProjKernelIdeal.cfg0.N,
    fun c => (Cert.ProjKernelIdeal.Gen.dats m 0 c).arrAt 8 Cert.ProjKernelIdeal.cfg0.N,
    fun c => (Cert.ProjKernelIdeal.Gen.dats m 0 c).arrAt 9 Cert.ProjKernelIdeal.cfg0.N,
    Cert.ProjKernelIdeal.Value.run_blocks m g, ?_⟩
  refine (θ_run Cert.ProjReferenceIdeal.defs _ _).mono (fun r h c => ⟨?_, ?_, ?_, ?_, (h c).2.2.2.2⟩)
    (Cert.ProjReferenceIdeal.Value.run (F := Ideal) m' g')
  all_goals obtain ⟨e0, e1, e2, e3, e4, e5⟩ := hagree c
  · rw [(h c).1, e2, e4]
    refine Eq.trans ?_ (Cert.ProjKernelIdeal.Closed.back_a m c).symm
    funext i
    idx_vars i
    pointwise
    rfl
  · rw [(h c).2.1, e3, e5]
    refine Eq.trans ?_ (Cert.ProjKernelIdeal.Closed.back_b m c).symm
    funext i
    idx_vars i
    pointwise
    rfl
  · rw [(h c).2.2.1, e2, e0]
    refine Eq.trans ?_ (Cert.ProjKernelIdeal.Closed.grad_a m c).symm
    funext i
    idx_vars i
    pointwise
    exact Finset.sum_congr (M := EReal) rfl fun e _ => mul_comm (G := EReal) _ _
  · rw [(h c).2.2.2.1, e3, e1]
    refine Eq.trans ?_ (Cert.ProjKernelIdeal.Closed.grad_b m c).symm
    funext i
    idx_vars i
    pointwise
    exact Finset.sum_congr (M := EReal) rfl fun e _ => mul_comm (G := EReal) _ _

end Cert.Proof.Proj

end
-- ==== Proof.In.Kernel.lean ====
/-
  The input projection: what the kernel leaves is the product of reference.py's line.
-/
module

public import proofs.«01_k».proof.Proof.Gen.InKernelIdeal.Value
public import proofs.«01_k».proof.Proof.Common.Pieces
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InKernelIdeal.Closed

open Cert.InKernelIdeal Cert.InKernelIdeal.Gen Cert.Pieces

variable (m : (ℓ : Loc nD τ sig) → Buf (Elt Ideal) ℓ) (c : Dev nD)

/-! The arguments, read as arrays of extended reals. -/

abbrev x : S8192x1024.Idx → EReal := m ((c : Thread nD τ).loc main_arg0)
abbrev w : S1024x7680.Idx → EReal := m ((c : Thread nD τ).loc main_arg1)

theorem V_eq (b : Ref sig .tc) : V m c b = StableHlo.after hostOps0 (fun b => m (c, b)) (Proc.devRef .tc b) := by
  simp only [V, List.flatten_cons, List.flatten_nil, List.append_nil]

theorem V_x : V m c main_v0 = x m c := by
  rw [V_eq]
  after_reads_simp
  rfl

/-- The weight reaches the kernel transposed. -/
theorem V_wt (b : Fin 7680) (k : Fin 1024) : V m c main_v2 (ix2 b k) = w m c (ix2 k b) := by
  rw [V_eq]
  after_reads_at

/-- The row a point's block row stands at. -/
def row (t : Fin cfg0.N) (a : Fin 1024) : Fin 8192 := ⟨t.val % 8 * 1024 + a.val, by have := a.isLt; omega⟩

/-- The column a point's block column stands at. -/
def col (t : Fin cfg0.N) (b : Fin 2560) : Fin 7680 :=
  ⟨t.val / 8 * 2560 + b.val, by have := lt_of_lt_of_eq t.isLt N_0; have := b.isLt; omega⟩

theorem idx0 : ∀ t : Fin cfg0.N, win0_0.index t = ![t.val % 8, 0] := (by decide +kernel : ∀ t : Fin grid0.N, win0_0.index t = ![t.val % 8, 0])
theorem idx1 : ∀ t : Fin cfg0.N, win0_1.index t = ![t.val / 8, 0] := (by decide +kernel : ∀ t : Fin grid0.N, win0_1.index t = ![t.val / 8, 0])
theorem idx2 : ∀ t : Fin cfg0.N, win0_2.index t = ![t.val % 8, t.val / 8] :=
  (by decide +kernel : ∀ t : Fin grid0.N, win0_2.index t = ![t.val % 8, t.val / 8])

variable (t : Fin cfg0.N)

theorem read_x (a k : Fin 1024) : iblk m c 0 t (ix2 a k) = x m c (ix2 (row t a) k) := by
  refine Eq.trans ?_ (congrFun (V_x m c) _)
  blk_ext [iblk, idx0 t, row]

theorem read_wt (b : Fin 2560) (k : Fin 1024) : iblk m c 1 t (ix2 b k) = w m c (ix2 k (col t b)) := by
  refine Eq.trans ?_ (V_wt m c _ _)
  blk_ext [iblk, idx1 t, col]

theorem leaves (a : Fin 1024) (b : Fin 2560) : out0_2 (iblk m c 0 t) (iblk m c 1 t) (ix2 a b)
    = ∑ k : Fin 1024, x m c (ix2 (row t a) k) * w m c (ix2 k (col t b)) := by
  frame_out
  show k0_pay1 (iblk m c 0 t) (iblk m c 1 t) (ix2 a b) = _
  pointwise [k0_pay1]
  simp only [read_x, read_wt]

theorem total : (dats m 0 c).arrAt 2 cfg0.N = fun i => ∑ k : Fin 1024, x m c (ix2 (i 0) k) * w m c (ix2 k (i 1)) := by
  refine (dats m 0 c).arrAt_eq_of_covers 2 _ (by decide +kernel) fun t hf y => ?_
  blk_simp
  rw [after0_2]
  idx_vars y
  refine (leaves m c t _ _).trans ?_
  refine congrArg₂ (fun e j => ∑ k : Fin 1024, x m c (ix2 e k) * w m c (ix2 k j)) (Fin.ext ?_) (Fin.ext ?_)
  · refine Eq.trans ?_ ((cfg0.win 2).rect_emb_val t (ix2 _ _) 0).symm
    rw [show (cfg0.win 2).index t 0 = t.val % 8 from congrFun (idx2 t) 0]
    rfl
  · refine Eq.trans ?_ ((cfg0.win 2).rect_emb_val t (ix2 _ _) 1).symm
    rw [show (cfg0.win 2).index t 1 = t.val / 8 from congrFun (idx2 t) 1]
    rfl

end Cert.InKernelIdeal.Closed

end
-- ==== Proof.In.Algebra.lean ====
/-
  The input projection: the kernel and reference.py's line agree on the projection.
-/
module

public import proofs.«01_k».proof.Proof.In.Kernel
public import proofs.«01_k».proof.Defs
public import proofs.«01_k».proof.Proof.Gen.InReferenceIdeal.Run

@[expose] public section

set_option maxRecDepth 16384

noncomputable section

open Idealize.ShloMosaic Idealize.ShloMosaic.TcCoe Idealize.SL.Sem

namespace Cert.Proof.In

theorem algebraic : Cert.algebraic_InKernelIdeal_InReferenceIdeal := by
  intro m g m' g' _ hagree
  refine ⟨fun c => (Cert.InKernelIdeal.Gen.dats m 0 c).arrAt 2 Cert.InKernelIdeal.cfg0.N, Cert.InKernelIdeal.Value.run_blocks m g, ?_⟩
  refine (θ_run Cert.InReferenceIdeal.defs _ _).mono (fun r h c => ⟨?_, (h c).2⟩) (Cert.InReferenceIdeal.Value.run (F := Ideal) m' g')
  obtain ⟨e0, e1⟩ := hagree c
  rw [(h c).1, e0, e1]
  refine Eq.trans ?_ (Cert.InKernelIdeal.Closed.total m c).symm
  funext i
  idx_vars i
  pointwise

end Cert.Proof.In

end
-- ==== Proof.InBwd.Kernel.lean ====
/-
  The input projection's backward call: what the kernel leaves is the input's cotangent.
-/
module

public import proofs.«01_k».proof.Proof.Gen.InBwdKernelIdeal.Value
public import proofs.«01_k».proof.Proof.Common.Pieces
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.InBwdKernelIdeal.Closed

open Cert.InBwdKernelIdeal Cert.InBwdKernelIdeal.Gen Cert.Pieces

variable (m : (ℓ : Loc nD τ sig) → Buf (Elt Ideal) ℓ) (c : Dev nD)

/-! The arguments, read as arrays of extended reals. -/

abbrev w : S1024x7680.Idx → EReal := m ((c : Thread nD τ).loc main_arg1)
abbrev dh : S8192x7680.Idx → EReal := m ((c : Thread nD τ).loc main_arg2)
abbrev dr : S8192x1024.Idx → EReal := m ((c : Thread nD τ).loc main_arg3)

/-- The cotangent of the layer's input: through the residual, and through the projection. -/
def back (e : Fin 8192) (j : Fin 1024) : EReal :=
  Ideal.ofBits .f32 0x3FD744FD#32 * dr m c (ix2 e j) + ∑ k : Fin 7680, dh m c (ix2 e k) * w m c (ix2 j k)

theorem V_eq (b : Ref sig .tc) : V m c b = StableHlo.after hostOps0 (fun b => m (c, b)) (Proc.devRef .tc b) := by
  simp only [V, List.flatten_cons, List.flatten_nil, List.append_nil]

theorem V_dh : V m c main_v0 = dh m c := by
  rw [V_eq]
  after_reads_simp
  rfl

theorem V_dr : V m c main_arg3 = dr m c := by
  rw [V_eq]
  after_reads_simp

/-- The weight reaches the kernel transposed. -/
theorem V_wt (b : Fin 7680) (k : Fin 1024) : V m c main_v2 (ix2 b k) = w m c (ix2 k b) := by
  rw [V_eq]
  after_reads_at

/-- The row a point's block row stands at. -/
def row (t : Fin cfg0.N) (a : Fin 256) : Fin 8192 :=
  ⟨t.val * 256 + a.val, by have := lt_of_lt_of_eq t.isLt N_0; have := a.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])

variable (t : Fin cfg0.N)

theorem read_dh (a : Fin 256) (k : Fin 7680) : iblk m c 0 t (ix2 a k) = dh m c (ix2 (row t a) k) := by
  refine Eq.trans ?_ (congrFun (V_dh m c) _)
  blk_ext [iblk, idx0 t, row]

theorem read_wt (k : Fin 7680) (j : Fin 1024) : iblk m c 1 t (ix2 k j) = w m c (ix2 j k) := by
  refine Eq.trans ?_ (V_wt m c _ _)
  blk_ext [iblk, idx1 t]

theorem read_dr (a : Fin 256) (j : Fin 1024) : iblk m c 2 t (ix2 a j) = dr m c (ix2 (row t a) j) := by
  refine Eq.trans ?_ (congrFun (V_dr m c) _)
  blk_ext [iblk, idx2 t, row]

theorem leaves (a : Fin 256) (j : Fin 1024) : out0_3 (iblk m c 0 t) (iblk m c 1 t) (iblk m c 2 t) (ix2 a j) = back m c (row t a) j := by
  frame_out
  show k0_pay1 (iblk m c 2 t) (iblk m c 0 t) (iblk m c 1 t) (ix2 a j) = _
  pointwise [k0_pay1]
  simp only [read_dh, read_wt, read_dr]
  rfl

theorem total : (dats m 0 c).arrAt 3 cfg0.N = fun i => back m c (i 0) (i 1) := by
  refine (dats m 0 c).arrAt_eq_of_covers 3 _ (by decide +kernel) fun t hf y => ?_
  blk_simp
  rw [after0_3]
  idx_vars y
  refine (leaves m c t _ _).trans ?_
  refine congrArg₂ (back m c) (Fin.ext ?_) (Fin.ext ?_)
  · refine Eq.trans ?_ ((cfg0.win 3).rect_emb_val t (ix2 _ _) 0).symm
    rw [show (cfg0.win 3).index t 0 = t.val from congrFun (idx3 t) 0]
    rfl
  · refine Eq.trans ?_ ((cfg0.win 3).rect_emb_val t (ix2 _ _) 1).symm
    rw [show (cfg0.win 3).index t 1 = 0 from congrFun (idx3 t) 1]
    show _ = 0 * 1024 + _
    rw [Nat.zero_mul, Nat.zero_add]
    rfl

end Cert.InBwdKernelIdeal.Closed

end
-- ==== Proof.InBwd.Algebra.lean ====
/-
  The input projection's backward call: the kernel and the vjp of reference.py's lines agree on the input's cotangent.
-/
module

public import proofs.«01_k».proof.Proof.InBwd.Kernel
public import proofs.«01_k».proof.Defs
public import proofs.«01_k».proof.Proof.Gen.InBwdReferenceIdeal.Run

@[expose] public section

set_option maxRecDepth 16384

noncomputable section

open Idealize.ShloMosaic Idealize.ShloMosaic.TcCoe Idealize.SL.Sem

namespace Cert.Proof.InBwd

theorem algebraic : Cert.algebraic_InBwdKernelIdeal_InBwdReferenceIdeal := by
  intro m g m' g' _ hagree
  refine ⟨fun c => (Cert.InBwdKernelIdeal.Gen.dats m 0 c).arrAt 3 Cert.InBwdKernelIdeal.cfg0.N, Cert.InBwdKernelIdeal.Value.run_blocks m g, ?_⟩
  refine (θ_run Cert.InBwdReferenceIdeal.defs _ _).mono (fun r h c => ⟨?_, (h c).2⟩) (Cert.InBwdReferenceIdeal.Value.run (F := Ideal) m' g')
  obtain ⟨e0, e1, e2, e3⟩ := hagree c
  rw [(h c).1, e1, e2, e3]
  refine Eq.trans ?_ (Cert.InBwdKernelIdeal.Closed.total m c).symm
  funext i
  idx_vars i
  pointwise
  rfl

end Cert.Proof.InBwd

end
-- ==== Proof.lean ====
/-
  The certificate: per program pair the generated frames, the idealization that rewrote nothing, and the value claim
  proved in the pair's own module.
-/
module

public import proofs.«01_k».proof.Defs
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Loss.Algebra
public import proofs.«01_k».proof.Proof.Gen.PoolKernel
public import proofs.«01_k».proof.Proof.Gen.PoolKernel.Frame
public import proofs.«01_k».proof.Proof.Gen.PoolKernelIdeal
public import proofs.«01_k».proof.Proof.Gen.PoolKernelIdeal.Frame
public import proofs.«01_k».proof.Proof.Gen.PoolKernelIdeal.Value
public import proofs.«01_k».proof.Proof.Gen.PoolReferenceIdeal
public import proofs.«01_k».proof.Proof.Gen.PoolReferenceIdeal.Run
public import proofs.«01_k».proof.Proof.Gen.Pre_pool_finite
public import proofs.«01_k».proof.Proof.Pool.Algebra
public import proofs.«01_k».proof.Proof.Gen.MergeKernel
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.Pre_merge_finite
public import proofs.«01_k».proof.Proof.Merge.Algebra
public import proofs.«01_k».proof.Proof.Gen.GlaKernel
public import proofs.«01_k».proof.Proof.Gen.GlaKernel.Frame
public import proofs.«01_k».proof.Proof.Gen.GlaKernelIdeal
public import proofs.«01_k».proof.Proof.Gen.GlaKernelIdeal.Frame
public import proofs.«01_k».proof.Proof.Gen.MergeFwdKernel
public import proofs.«01_k».proof.Proof.Gen.MergeFwdKernel.Frame
public import proofs.«01_k».proof.Proof.Gen.MergeFwdKernelIdeal
public import proofs.«01_k».proof.Proof.Gen.MergeFwdKernelIdeal.Frame
public import proofs.«01_k».proof.Proof.Gen.MergeFwdKernelIdeal.Value
public import proofs.«01_k».proof.Proof.Gen.MergeFwdReferenceIdeal
public import proofs.«01_k».proof.Proof.Gen.MergeFwdReferenceIdeal.Run
public import proofs.«01_k».proof.Proof.MergeFwd.Algebra
public import proofs.«01_k».proof.Proof.Gen.PoolFwdKernel
public import proofs.«01_k».proof.Proof.Gen.PoolFwdKernel.Frame
public import proofs.«01_k».proof.Proof.Gen.PoolFwdKernelIdeal
public import proofs.«01_k».proof.Proof.Gen.PoolFwdKernelIdeal.Frame
public import proofs.«01_k».proof.Proof.Gen.PoolFwdKernelIdeal.Value
public import proofs.«01_k».proof.Proof.Gen.PoolFwdReferenceIdeal
public import proofs.«01_k».proof.Proof.Gen.PoolFwdReferenceIdeal.Run
public import proofs.«01_k».proof.Proof.Gen.Pre_projection_finite
public import proofs.«01_k».proof.Proof.PoolFwd.Algebra
public import proofs.«01_k».proof.Proof.Gen.AttnKernel
public import proofs.«01_k».proof.Proof.Gen.AttnKernel.Frame
public import proofs.«01_k».proof.Proof.Gen.AttnKernelIdeal
public import proofs.«01_k».proof.Proof.Gen.AttnKernelIdeal.Frame
public import proofs.«01_k».proof.Proof.Gen.AttnKernelIdeal.Value
public import proofs.«01_k».proof.Proof.Gen.AttnReferenceIdeal
public import proofs.«01_k».proof.Proof.Gen.AttnReferenceIdeal.Run
public import proofs.«01_k».proof.Proof.Gen.Pre_gates_finite
public import proofs.«01_k».proof.Proof.Attn.Algebra
public import proofs.«01_k».proof.Proof.Gen.ProjKernel
public import proofs.«01_k».proof.Proof.Gen.ProjKernel.Frame
public import proofs.«01_k».proof.Proof.Gen.ProjKernelIdeal
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Proj.Algebra
public import proofs.«01_k».proof.Proof.Gen.InKernel
public import proofs.«01_k».proof.Proof.Gen.InKernel.Frame
public import proofs.«01_k».proof.Proof.Gen.InKernelIdeal
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.In.Algebra
public import proofs.«01_k».proof.Proof.Gen.InBwdKernel
public import proofs.«01_k».proof.Proof.Gen.InBwdKernel.Frame
public import proofs.«01_k».proof.Proof.Gen.InBwdKernelIdeal
public import proofs.«01_k».proof.Proof.Gen.InBwdKernelIdeal.Frame
public import proofs.«01_k».proof.Proof.Gen.InBwdKernelIdeal.Value
public import proofs.«01_k».proof.Proof.Gen.InBwdReferenceIdeal
public import proofs.«01_k».proof.Proof.Gen.InBwdReferenceIdeal.Run
public import proofs.«01_k».proof.Proof.InBwd.Algebra
public import Idealize.ShloMosaic.Lib.Quiescent

@[expose] public section

noncomputable section

namespace Cert.Proof

open Idealize.ShloMosaic Idealize.SL.Sem

/-- The frame of the reference of `LossKernel`: its host run read at the arguments; it declares no semaphore. -/
theorem frame_LossReference : Cert.quiescent_LossReferenceIdeal := fun m ρ _ =>
  (θ_run Cert.LossReferenceIdeal.defs _ _).mono (fun r h => ⟨fun c => (h c).2.2,
      Idealize.ShloMosaic.sem_eq_zero_of_no_sems (by decide) r.2⟩)
    (Cert.LossReferenceIdeal.Value.run (F := Ideal) m ρ)

/-- The frame of the reference of `PoolKernel`: its host run read at the arguments; it declares no semaphore. -/
theorem frame_PoolReference : Cert.quiescent_PoolReferenceIdeal := fun m ρ _ =>
  (θ_run Cert.PoolReferenceIdeal.defs _ _).mono (fun r h => ⟨fun c => (h c).2.2.2,
      Idealize.ShloMosaic.sem_eq_zero_of_no_sems (by decide) r.2⟩)
    (Cert.PoolReferenceIdeal.Value.run (F := Ideal) m ρ)

/-- The frame of the reference of `MergeKernel`: its host run read at the arguments; it declares no semaphore. -/
theorem frame_MergeReference : Cert.quiescent_MergeReferenceIdeal := fun m ρ _ =>
  (θ_run Cert.MergeReferenceIdeal.defs _ _).mono (fun r h => ⟨fun c => (h c).2.2.2.2.2.2.2.2,
      Idealize.ShloMosaic.sem_eq_zero_of_no_sems (by decide) r.2⟩)
    (Cert.MergeReferenceIdeal.Value.run (F := Ideal) m ρ)

/-- The frame of the reference of `MergeFwdKernel`: its host run read at the arguments; it declares no semaphore. -/
theorem frame_MergeFwdReference : Cert.quiescent_MergeFwdReferenceIdeal := fun m ρ _ =>
  (θ_run Cert.MergeFwdReferenceIdeal.defs _ _).mono (fun r h => ⟨fun c => (h c).2.2.2,
      Idealize.ShloMosaic.sem_eq_zero_of_no_sems (by decide) r.2⟩)
    (Cert.MergeFwdReferenceIdeal.Value.run (F := Ideal) m ρ)

/-- The frame of the reference of `PoolFwdKernel`: its host run read at the arguments; it declares no semaphore. -/
theorem frame_PoolFwdReference : Cert.quiescent_PoolFwdReferenceIdeal := fun m ρ _ =>
  (θ_run Cert.PoolFwdReferenceIdeal.defs _ _).mono (fun r h => ⟨fun c => (h c).2.2,
      Idealize.ShloMosaic.sem_eq_zero_of_no_sems (by decide) r.2⟩)
    (Cert.PoolFwdReferenceIdeal.Value.run (F := Ideal) m ρ)

/-- The frame of the reference of `AttnKernel`: its host run read at the arguments; it declares no semaphore. -/
theorem frame_AttnReference : Cert.quiescent_AttnReferenceIdeal := fun m ρ _ =>
  (θ_run Cert.AttnReferenceIdeal.defs _ _).mono (fun r h => ⟨fun c => (h c).2.2.2,
      Idealize.ShloMosaic.sem_eq_zero_of_no_sems (by decide) r.2⟩)
    (Cert.AttnReferenceIdeal.Closed.run m ρ)

/-- The frame of the reference of `ProjKernel`: its host run read at the arguments; it declares no semaphore. -/
theorem frame_ProjReference : Cert.quiescent_ProjReferenceIdeal := fun m ρ _ =>
  (θ_run Cert.ProjReferenceIdeal.defs _ _).mono (fun r h => ⟨fun c => (h c).2.2.2.2,
      Idealize.ShloMosaic.sem_eq_zero_of_no_sems (by decide) r.2⟩)
    (Cert.ProjReferenceIdeal.Value.run (F := Ideal) m ρ)

/-- The frame of the reference of `InKernel`: its host run read at the arguments; it declares no semaphore. -/
theorem frame_InReference : Cert.quiescent_InReferenceIdeal := fun m ρ _ =>
  (θ_run Cert.InReferenceIdeal.defs _ _).mono (fun r h => ⟨fun c => (h c).2,
      Idealize.ShloMosaic.sem_eq_zero_of_no_sems (by decide) r.2⟩)
    (Cert.InReferenceIdeal.Value.run (F := Ideal) m ρ)

/-- The frame of the reference of `InBwdKernel`: its host run read at the arguments; it declares no semaphore. -/
theorem frame_InBwdReference : Cert.quiescent_InBwdReferenceIdeal := fun m ρ _ =>
  (θ_run Cert.InBwdReferenceIdeal.defs _ _).mono (fun r h => ⟨fun c => (h c).2,
      Idealize.ShloMosaic.sem_eq_zero_of_no_sems (by decide) r.2⟩)
    (Cert.InBwdReferenceIdeal.Value.run (F := Ideal) m ρ)

theorem claim : Cert.Claim := ⟨Cert.LossKernel.Gen.facts, Cert.LossKernelIdeal.Gen.facts, Cert.LossReferenceIdeal.Gen.facts, Cert.PoolKernel.Gen.facts, Cert.PoolKernelIdeal.Gen.facts, Cert.PoolReferenceIdeal.Gen.facts, Cert.MergeKernel.Gen.facts, Cert.MergeKernelIdeal.Gen.facts, Cert.MergeReferenceIdeal.Gen.facts, Cert.GlaKernel.Gen.facts, Cert.GlaKernelIdeal.Gen.facts, Cert.MergeFwdKernel.Gen.facts, Cert.MergeFwdKernelIdeal.Gen.facts, Cert.MergeFwdReferenceIdeal.Gen.facts, Cert.PoolFwdKernel.Gen.facts, Cert.PoolFwdKernelIdeal.Gen.facts, Cert.PoolFwdReferenceIdeal.Gen.facts, Cert.AttnKernel.Gen.facts, Cert.AttnKernelIdeal.Gen.facts, Cert.AttnReferenceIdeal.Gen.facts, Cert.ProjKernel.Gen.facts, Cert.ProjKernelIdeal.Gen.facts, Cert.ProjReferenceIdeal.Gen.facts, Cert.InKernel.Gen.facts, Cert.InKernelIdeal.Gen.facts, Cert.InReferenceIdeal.Gen.facts, Cert.InBwdKernel.Gen.facts, Cert.InBwdKernelIdeal.Gen.facts, Cert.InBwdReferenceIdeal.Gen.facts, Cert.Pre_pool_finite.Gen.facts, Cert.Pre_merge_finite.Gen.facts, Cert.Pre_projection_finite.Gen.facts, Cert.Pre_gates_finite.Gen.facts,
  fun m ρ _ => Cert.LossKernel.Gen.frame m ρ,
  fun m ρ _ => Cert.LossKernelIdeal.Gen.frame m ρ,
  frame_LossReference,
  fun m ρ _ => Cert.PoolKernel.Gen.frame m ρ,
  fun m ρ _ => Cert.PoolKernelIdeal.Gen.frame m ρ,
  fun m ρ _ => Cert.PoolKernelIdeal.Gen.frame m ρ,
  frame_PoolReference,
  fun m ρ _ => frame_PoolReference m ρ trivial,
  fun m ρ _ => Cert.MergeKernel.Gen.frame m ρ,
  fun m ρ _ => Cert.MergeKernelIdeal.Gen.frame m ρ,
  fun m ρ _ => Cert.MergeKernelIdeal.Gen.frame m ρ,
  frame_MergeReference,
  fun m ρ _ => frame_MergeReference m ρ trivial,
  fun m ρ _ => Cert.GlaKernel.Gen.frame m ρ,
  fun m ρ _ => Cert.GlaKernelIdeal.Gen.frame m ρ,
  fun m ρ _ => Cert.MergeFwdKernel.Gen.frame m ρ,
  fun m ρ _ => Cert.MergeFwdKernelIdeal.Gen.frame m ρ,
  frame_MergeFwdReference,
  fun m ρ _ => Cert.PoolFwdKernel.Gen.frame m ρ,
  fun m ρ _ => Cert.PoolFwdKernelIdeal.Gen.frame m ρ,
  fun m ρ _ => Cert.PoolFwdKernelIdeal.Gen.frame m ρ,
  frame_PoolFwdReference,
  fun m ρ _ => frame_PoolFwdReference m ρ trivial,
  fun m ρ _ => Cert.AttnKernel.Gen.frame m ρ,
  fun m ρ _ => Cert.AttnKernelIdeal.Gen.frame m ρ,
  fun m ρ _ => Cert.AttnKernelIdeal.Gen.frame m ρ,
  frame_AttnReference,
  fun m ρ _ => frame_AttnReference m ρ trivial,
  fun m ρ _ => Cert.ProjKernel.Gen.frame m ρ,
  fun m ρ _ => Cert.ProjKernelIdeal.Gen.frame m ρ,
  frame_ProjReference,
  fun m ρ _ => Cert.InKernel.Gen.frame m ρ,
  fun m ρ _ => Cert.InKernelIdeal.Gen.frame m ρ,
  frame_InReference,
  fun m ρ _ => Cert.InBwdKernel.Gen.frame m ρ,
  fun m ρ _ => Cert.InBwdKernelIdeal.Gen.frame m ρ,
  frame_InBwdReference,
  trivial,
  Loss.algebraic,
  trivial,
  Pool.algebraic,
  trivial,
  Merge.algebraic,
  trivial,
  trivial,
  MergeFwd.algebraic,
  trivial,
  PoolFwd.algebraic,
  trivial,
  Attn.algebraic,
  trivial,
  Proj.algebraic,
  trivial,
  In.algebraic,
  trivial,
  InBwd.algebraic⟩

end Cert.Proof

end
